-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite2 [hPre_finite2 : Cert.Pre_finite2.Facts] (m : (ℓ : Loc Cert.PostIdeal.nD Cert.PostIdeal.τ Cert.PostIdeal.sig) → Buf (Elt Ideal) ℓ) : Prop :=
  ∀ c : Dev Cert.PostIdeal.nD,
    (Cert.Pre_finite2.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6))) = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_finite2 [hPre_finite2 : Cert.Pre_finite2.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_finite2.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite3 [hPre_finite3 : Cert.Pre_finite3.Facts] (m : (ℓ : Loc Cert.MidIdeal.nD Cert.MidIdeal.τ Cert.MidIdeal.sig) → Buf (Elt Ideal) ℓ) : Prop :=
  ∀ c : Dev Cert.MidIdeal.nD,
    (Cert.Pre_finite3.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5))) = (fun _ => 1#1)

def Pre_MidReferenceIdeal (m : (ℓ : Loc Cert.MidReferenceIdeal.nD Cert.MidReferenceIdeal.τ Cert.MidReferenceIdeal.sig) → Buf (Elt Ideal) ℓ) : Prop :=
  True

def Pre_MidReferenceIdeal_finite3 [hPre_finite3 : Cert.Pre_finite3.Facts] (m : (ℓ : Loc Cert.MidReferenceIdeal.nD Cert.MidReferenceIdeal.τ Cert.MidReferenceIdeal.sig) → Buf (Elt Ideal) ℓ) : Prop :=
  ∀ c : Dev Cert.MidReferenceIdeal.nD,
    (Cert.Pre_finite3.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_Tables (m : (ℓ : Loc Cert.Tables.nD Cert.Tables.τ Cert.Tables.sig) → Buf (Elt Bits) ℓ) : Prop :=
  True

def Pre_TablesIdeal (m : (ℓ : Loc Cert.TablesIdeal.nD Cert.TablesIdeal.τ Cert.TablesIdeal.sig) → Buf (Elt Ideal) ℓ) : Prop :=
  True

def Pre_TablesReferenceIdeal (m : (ℓ : Loc Cert.TablesReferenceIdeal.nD Cert.TablesReferenceIdeal.τ Cert.TablesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostIdeal_pre_finite2 [hPostIdeal : Cert.PostIdeal.Facts] [hPre_finite2 : Cert.Pre_finite2.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite2 m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6))
      ∧ r.2.sem = fun _ => 0)

def quiescent_PostReferenceIdeal_pre_finite2 [hPostReferenceIdeal : Cert.PostReferenceIdeal.Facts] [hPre_finite2 : Cert.Pre_finite2.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_finite2 m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidIdeal_pre_finite3 [hMidIdeal : Cert.MidIdeal.Facts] [hPre_finite3 : Cert.Pre_finite3.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite3 m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5))
      ∧ r.2.sem = fun _ => 0)

def quiescent_MidReferenceIdeal_pre_finite3 [hMidReferenceIdeal : Cert.MidReferenceIdeal.Facts] [hPre_finite3 : Cert.Pre_finite3.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal_finite3 m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3)
      ∧ r.2.mem ((c.tc : Thread Cert.Rope.nD Cert.Rope.τ).loc Cert.Rope.main_arg4) = m ((c.tc : Thread Cert.Rope.nD Cert.Rope.τ).loc Cert.Rope.main_arg4))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4))
      ∧ r.2.sem = fun _ => 0)

def quiescent_Tables [hTables : Cert.Tables.Facts] : Prop :=
  ∀ (m : (ℓ : Loc Cert.Tables.nD Cert.Tables.τ Cert.Tables.sig) → Buf (Elt Bits) ℓ) (g : Dev Cert.Tables.nD → PrngReg), Pre_Tables m →
    θ_run (Cert.Tables.defs (F := Bits)) (onTc (τ := Cert.Tables.τ) (Cert.Tables.main (F := Bits))) ⟨m, fun _ => 0, g⟩ (fun r => (∀ c : Dev Cert.Tables.nD,
      r.2.mem ((c.tc : Thread Cert.Tables.nD Cert.Tables.τ).loc Cert.Tables.main_arg0) = m ((c.tc : Thread Cert.Tables.nD Cert.Tables.τ).loc Cert.Tables.main_arg0))
      ∧ r.2.sem = fun _ => 0)

def quiescent_TablesIdeal [hTablesIdeal : Cert.TablesIdeal.Facts] : Prop :=
  ∀ (m : (ℓ : Loc Cert.TablesIdeal.nD Cert.TablesIdeal.τ Cert.TablesIdeal.sig) → Buf (Elt Ideal) ℓ) (g : Dev Cert.TablesIdeal.nD → PrngReg), Pre_TablesIdeal m →
    θ_run (Cert.TablesIdeal.defs (F := Ideal)) (onTc (τ := Cert.TablesIdeal.τ) (Cert.TablesIdeal.main (F := Ideal))) ⟨m, fun _ => 0, g⟩ (fun r => (∀ c : Dev Cert.TablesIdeal.nD,
      r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0))
      ∧ r.2.sem = fun _ => 0)

def quiescent_TablesReferenceIdeal [hTablesReferenceIdeal : Cert.TablesReferenceIdeal.Facts] : Prop :=
  ∀ (m : (ℓ : Loc Cert.TablesReferenceIdeal.nD Cert.TablesReferenceIdeal.τ Cert.TablesReferenceIdeal.sig) → Buf (Elt Ideal) ℓ) (g : Dev Cert.TablesReferenceIdeal.nD → PrngReg), Pre_TablesReferenceIdeal m →
    θ_run (Cert.TablesReferenceIdeal.defs (F := Ideal)) (onTc (τ := Cert.TablesReferenceIdeal.τ) (Cert.TablesReferenceIdeal.main (F := Ideal))) ⟨m, fun _ => 0, g⟩ (fun r => (∀ c : Dev Cert.TablesReferenceIdeal.nD,
      r.2.mem ((c.tc : Thread Cert.TablesReferenceIdeal.nD Cert.TablesReferenceIdeal.τ).loc Cert.TablesReferenceIdeal.main_arg0) = m ((c.tc : Thread Cert.TablesReferenceIdeal.nD Cert.TablesReferenceIdeal.τ).loc Cert.TablesReferenceIdeal.main_arg0))
      ∧ r.2.sem = fun _ => 0)

def preserves_Kernel_KernelIdeal : Prop :=
  IdealRules.named_const.Statement Cert.KernelIdeal.κ "mask" .f32 0xFF7F0000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Post_PostIdeal : Prop :=
  True

def algebraic_PostIdeal_PostReferenceIdeal_pre_finite2 [hPostIdeal : Cert.PostIdeal.Facts] [hPostReferenceIdeal : Cert.PostReferenceIdeal.Facts] [hPre_finite2 : Cert.Pre_finite2.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal_finite2 m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)) →
    ∃ (v0 : (c : Dev Cert.PostIdeal.nD) → Buf (Elt Ideal) ((c.tc : Thread Cert.PostIdeal.nD Cert.PostIdeal.τ).loc Cert.PostIdeal.main_v5)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v5) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v35) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6))

def preserves_Mid_MidIdeal : Prop :=
  True

def algebraic_MidIdeal_MidReferenceIdeal_pre_finite3 [hMidIdeal : Cert.MidIdeal.Facts] [hMidReferenceIdeal : Cert.MidReferenceIdeal.Facts] [hPre_finite3 : Cert.Pre_finite3.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal_finite3 m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v4)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v4) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v22) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v14) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Rope_RopeIdeal : Prop :=
  IdealRules.named_const.Statement Cert.RopeIdeal.κ "q_scale" .f32 0x3E38AA3B#32 (((8 * (Real.log 2))⁻¹ : ℝ) : EReal)

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)
      ∧ m' ((c.tc : Thread Cert.RopeReferenceIdeal.nD Cert.RopeReferenceIdeal.τ).loc Cert.RopeReferenceIdeal.main_arg1) = m ((c.tc : Thread Cert.RopeIdeal.nD Cert.RopeIdeal.τ).loc Cert.RopeIdeal.main_arg1)
      ∧ m' ((c.tc : Thread Cert.RopeReferenceIdeal.nD Cert.RopeReferenceIdeal.τ).loc Cert.RopeReferenceIdeal.main_arg2) = m ((c.tc : Thread Cert.RopeIdeal.nD Cert.RopeIdeal.τ).loc Cert.RopeIdeal.main_arg2)
      ∧ m' ((c.tc : Thread Cert.RopeReferenceIdeal.nD Cert.RopeReferenceIdeal.τ).loc Cert.RopeReferenceIdeal.main_arg3) = m ((c.tc : Thread Cert.RopeIdeal.nD Cert.RopeIdeal.τ).loc Cert.RopeIdeal.main_arg3)
      ∧ m' ((c.tc : Thread Cert.RopeReferenceIdeal.nD Cert.RopeReferenceIdeal.τ).loc Cert.RopeReferenceIdeal.main_arg4) = m ((c.tc : Thread Cert.RopeIdeal.nD Cert.RopeIdeal.τ).loc Cert.RopeIdeal.main_arg4)) →
    ∃ (v0 : (c : Dev Cert.RopeIdeal.nD) → Buf (Elt Ideal) ((c.tc : Thread Cert.RopeIdeal.nD Cert.RopeIdeal.τ).loc Cert.RopeIdeal.main_v6)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v6) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
          ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v57) = v0 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3)
          ∧ r.2.mem ((c.tc : Thread Cert.RopeReferenceIdeal.nD Cert.RopeReferenceIdeal.τ).loc Cert.RopeReferenceIdeal.main_arg4) = m' ((c.tc : Thread Cert.RopeReferenceIdeal.nD Cert.RopeReferenceIdeal.τ).loc Cert.RopeReferenceIdeal.main_arg4))

def preserves_Tables_TablesIdeal : Prop :=
  True

def algebraic_TablesIdeal_TablesReferenceIdeal [hTablesIdeal : Cert.TablesIdeal.Facts] [hTablesReferenceIdeal : Cert.TablesReferenceIdeal.Facts] : Prop :=
  ∀ (m : (ℓ : Loc Cert.TablesIdeal.nD Cert.TablesIdeal.τ Cert.TablesIdeal.sig) → Buf (Elt Ideal) ℓ) (g : Dev Cert.TablesIdeal.nD → PrngReg)
    (m' : (ℓ : Loc Cert.TablesReferenceIdeal.nD Cert.TablesReferenceIdeal.τ Cert.TablesReferenceIdeal.sig) → Buf (Elt Ideal) ℓ) (g' : Dev Cert.TablesReferenceIdeal.nD → PrngReg), Pre_TablesIdeal m →
    (∀ c : Dev Cert.TablesIdeal.nD,
      m' ((c.tc : Thread Cert.TablesReferenceIdeal.nD Cert.TablesReferenceIdeal.τ).loc Cert.TablesReferenceIdeal.main_arg0) = m ((c.tc : Thread Cert.TablesIdeal.nD Cert.TablesIdeal.τ).loc Cert.TablesIdeal.main_arg0)) →
    ∃ (v0 : (c : Dev Cert.TablesIdeal.nD) → Buf (Elt Ideal) ((c.tc : Thread Cert.TablesIdeal.nD Cert.TablesIdeal.τ).loc Cert.TablesIdeal.main_v16_0)) (v1 : (c : Dev Cert.TablesIdeal.nD) → Buf (Elt Ideal) ((c.tc : Thread Cert.TablesIdeal.nD Cert.TablesIdeal.τ).loc Cert.TablesIdeal.main_v16_1)),
      θ_run (Cert.TablesIdeal.defs (F := Ideal)) (onTc (τ := Cert.TablesIdeal.τ) (Cert.TablesIdeal.main (F := Ideal))) ⟨m, fun _ => 0, g⟩ (fun r => ∀ c : Dev Cert.TablesIdeal.nD,
          r.2.mem ((c.tc : Thread Cert.TablesIdeal.nD Cert.TablesIdeal.τ).loc Cert.TablesIdeal.main_v16_0) = v0 c
          ∧ r.2.mem ((c.tc : Thread Cert.TablesIdeal.nD Cert.TablesIdeal.τ).loc Cert.TablesIdeal.main_v16_1) = v1 c
          ∧ r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0))
      ∧ θ_run (Cert.TablesReferenceIdeal.defs (F := Ideal)) (onTc (τ := Cert.TablesReferenceIdeal.τ) (Cert.TablesReferenceIdeal.main (F := Ideal))) ⟨m', fun _ => 0, g'⟩ (fun r => ∀ c : Dev Cert.TablesReferenceIdeal.nD,
          r.2.mem ((c.tc : Thread Cert.TablesReferenceIdeal.nD Cert.TablesReferenceIdeal.τ).loc Cert.TablesReferenceIdeal.main_v23) = v0 c
          ∧ r.2.mem ((c.tc : Thread Cert.TablesReferenceIdeal.nD Cert.TablesReferenceIdeal.τ).loc Cert.TablesReferenceIdeal.main_v24) = v1 c
          ∧ r.2.mem ((c.tc : Thread Cert.TablesReferenceIdeal.nD Cert.TablesReferenceIdeal.τ).loc Cert.TablesReferenceIdeal.main_arg0) = m' ((c.tc : Thread Cert.TablesReferenceIdeal.nD Cert.TablesReferenceIdeal.τ).loc Cert.TablesReferenceIdeal.main_arg0))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hMid : Cert.Mid.Facts) (hMidIdeal : Cert.MidIdeal.Facts) (hMidReferenceIdeal : Cert.MidReferenceIdeal.Facts) (hProj : Cert.Proj.Facts) (hProjIdeal : Cert.ProjIdeal.Facts) (hProjReferenceIdeal : Cert.ProjReferenceIdeal.Facts) (hRope : Cert.Rope.Facts) (hRopeIdeal : Cert.RopeIdeal.Facts) (hRopeReferenceIdeal : Cert.RopeReferenceIdeal.Facts) (hTables : Cert.Tables.Facts) (hTablesIdeal : Cert.TablesIdeal.Facts) (hTablesReferenceIdeal : Cert.TablesReferenceIdeal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Post (hPost := hPost)
    ∧ quiescent_PostIdeal (hPostIdeal := hPostIdeal)
    ∧ quiescent_PostIdeal_pre_finite2 (hPostIdeal := hPostIdeal) (hPre_finite2 := hPre_finite2)
    ∧ quiescent_PostReferenceIdeal (hPostReferenceIdeal := hPostReferenceIdeal)
    ∧ quiescent_PostReferenceIdeal_pre_finite2 (hPostReferenceIdeal := hPostReferenceIdeal) (hPre_finite2 := hPre_finite2)
    ∧ quiescent_Mid (hMid := hMid)
    ∧ quiescent_MidIdeal (hMidIdeal := hMidIdeal)
    ∧ quiescent_MidIdeal_pre_finite3 (hMidIdeal := hMidIdeal) (hPre_finite3 := hPre_finite3)
    ∧ quiescent_MidReferenceIdeal (hMidReferenceIdeal := hMidReferenceIdeal)
    ∧ quiescent_MidReferenceIdeal_pre_finite3 (hMidReferenceIdeal := hMidReferenceIdeal) (hPre_finite3 := hPre_finite3)
    ∧ quiescent_Proj (hProj := hProj)
    ∧ quiescent_ProjIdeal (hProjIdeal := hProjIdeal)
    ∧ quiescent_ProjReferenceIdeal (hProjReferenceIdeal := hProjReferenceIdeal)
    ∧ quiescent_Rope (hRope := hRope)
    ∧ quiescent_RopeIdeal (hRopeIdeal := hRopeIdeal)
    ∧ quiescent_RopeReferenceIdeal (hRopeReferenceIdeal := hRopeReferenceIdeal)
    ∧ quiescent_Tables (hTables := hTables)
    ∧ quiescent_TablesIdeal (hTablesIdeal := hTablesIdeal)
    ∧ quiescent_TablesReferenceIdeal (hTablesReferenceIdeal := hTablesReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Post_PostIdeal
    ∧ algebraic_PostIdeal_PostReferenceIdeal_pre_finite2 (hPostIdeal := hPostIdeal) (hPostReferenceIdeal := hPostReferenceIdeal) (hPre_finite2 := hPre_finite2)
    ∧ preserves_Mid_MidIdeal
    ∧ algebraic_MidIdeal_MidReferenceIdeal_pre_finite3 (hMidIdeal := hMidIdeal) (hMidReferenceIdeal := hMidReferenceIdeal) (hPre_finite3 := hPre_finite3)
    ∧ preserves_Proj_ProjIdeal
    ∧ algebraic_ProjIdeal_ProjReferenceIdeal (hProjIdeal := hProjIdeal) (hProjReferenceIdeal := hProjReferenceIdeal)
    ∧ preserves_Rope_RopeIdeal
    ∧ algebraic_RopeIdeal_RopeReferenceIdeal (hRopeIdeal := hRopeIdeal) (hRopeReferenceIdeal := hRopeReferenceIdeal)
    ∧ preserves_Tables_TablesIdeal
    ∧ algebraic_TablesIdeal_TablesReferenceIdeal (hTablesIdeal := hTablesIdeal) (hTablesReferenceIdeal := hTablesReferenceIdeal)
-- ==== Pre_finite.lean ====
abbrev S16x4096x3072 : Shape := ⟨3, ![16, 4096, 3072]⟩
abbrev S4x64 : Shape := ⟨2, ![4, 64]⟩
abbrev S128 : Shape := ⟨1, ![128]⟩
abbrev S_ : Shape := ⟨0, ![]⟩

class Facts : Prop where
  bcast_S_S16x4096x3072 : S_.BroadcastsInDim S16x4096x3072 (![] : Fin 0 → Fin S16x4096x3072.rank)
  reducesTo_S16x4096x3072_S_d0_1_2 : S16x4096x3072.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16x4096x3072 .bf16) (main_arg1 : FVec F S4x64 .f32) (main_arg2 : FVec F S128 .f32) : IVec S_ 1 :=
  let main_v0 : FVec F S16x4096x3072 .bf16 := Host.absf main_arg0
  let main_cst : FVec F S_ .bf16 := constant S_ .bf16 0x7F80#16
  let main_v1 : FVec F S16x4096x3072 .bf16 := broadcastInDim S16x4096x3072 ![] bcast_S_S16x4096x3072 main_cst
  let main_v2 : IVec S16x4096x3072 1 := cmpf .olt main_v0 main_v1
  let main_c : IVec S_ 1 := constantI S_ 1 1#1
  let main_v3 : IVec S_ 1 := (fun x v => Host.reduce IntOp.andi x v reducesTo_S16x4096x3072_S_d0_1_2 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Pre_finite2.lean ====
abbrev S65536x1024 : Shape := ⟨2, ![65536, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S65536x1024 .bf16) (main_arg1 : FVec F S65536x1024 .f32) (main_arg2 : FVec F S1024x1024 .f32) (main_arg3 : FVec F S1024 .f32) (main_arg4 : FVec F S1024x5632 .f32) (main_arg5 : FVec F S2816x1024 .f32) (main_arg6 : FVec F S1024 .f32) : IVec S_ 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x5632 .f32 := Host.absf main_arg4
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  main_v8
-- ==== Pre_finite3.lean ====
abbrev S65536x1024 : Shape := ⟨2, ![65536, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S65536x1024 .bf16) (main_arg1 : FVec F S65536x1024 .f32) (main_arg2 : FVec F S1024x1024 .f32) (main_arg3 : FVec F S1024 .f32) (main_arg4 : FVec F S1024x5632 .f32) (main_arg5 : FVec F S2816x1024 .f32) : IVec S_ 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x5632 .f32 := Host.absf main_arg4
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  main_v8
-- ==== Kernel.lean ====
abbrev S16x4096x3072 : Shape := ⟨3, ![16, 4096, 3072]⟩
abbrev S4x64 : Shape := ⟨2, ![4, 64]⟩
abbrev S128 : Shape := ⟨1, ![128]⟩
abbrev S136 : Shape := ⟨1, ![136]⟩
abbrev S1x128 : Shape := ⟨2, ![1, 128]⟩
abbrev S16x4096x1024 : Shape := ⟨3, ![16, 4096, 1024]⟩
abbrev S1x4096x128 : Shape := ⟨3, ![1, 4096, 128]⟩
abbrev S16x512x128 : Shape := ⟨3, ![16, 512, 128]⟩
abbrev S16x512x256 : Shape := ⟨3, ![16, 512, 256]⟩
abbrev S512x256 : Shape := ⟨2, ![512, 256]⟩
abbrev S512x128 : Shape := ⟨2, ![512, 128]⟩
abbrev S1x256x128 : Shape := ⟨3, ![1, 256, 128]⟩
abbrev S256x128 : Shape := ⟨2, ![256, 128]⟩
abbrev S1x512x128 : Shape := ⟨3, ![1, 512, 128]⟩
abbrev S1x512x256 : Shape := ⟨3, ![1, 512, 256]⟩
abbrev S1 : Shape := ⟨1, ![1]⟩
abbrev S512 : Shape := ⟨1, ![512]⟩
abbrev S512x1 : Shape := ⟨2, ![512, 1]⟩
abbrev S256x256 : Shape := ⟨2, ![256, 256]⟩
abbrev S1x64 : Shape := ⟨2, ![1, 64]⟩
abbrev S1x1 : Shape := ⟨2, ![1, 1]⟩
abbrev S1x256x256 : Shape := ⟨3, ![1, 256, 256]⟩
abbrev S256 : Shape := ⟨1, ![256]⟩
abbrev S256x1 : Shape := ⟨2, ![256, 1]⟩

abbrev nBuf : Space → Nat
  | .hbm => 5
  | .vmem => 19
  | .smem => 2
  | _ => 0

abbrev bufTy : (tb : Table) → Fin (tcTables nBuf tb) → BufTy
  | .hbm, ⟨0, _⟩ => ⟨S16x4096x3072, .bf16⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S16x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S4x64, .f32⟩
  | .local _ .vmem, ⟨7, _⟩ => ⟨S1x128, .f32⟩
  | .local _ .vmem, ⟨8, _⟩ => ⟨S1x4096x128, .bf16⟩
  | .local _ .vmem, ⟨9, _⟩ => ⟨S1x4096x128, .bf16⟩
  | .local _ .vmem, ⟨10, _⟩ => ⟨S16x512x128, .bf16⟩
  | .local _ .vmem, ⟨11, _⟩ => ⟨S16x512x128, .f32⟩
  | .local _ .vmem, ⟨12, _⟩ => ⟨S16x512x256, .f32⟩
  | .local _ .vmem, ⟨13, _⟩ => ⟨S512x256, .f32⟩
  | .local _ .vmem, ⟨14, _⟩ => ⟨S512x256, .f32⟩
  | .local _ .vmem, ⟨15, _⟩ => ⟨S512x256, .bf16⟩
  | .local _ .vmem, ⟨16, _⟩ => ⟨S512x256, .bf16⟩
  | .local _ .vmem, ⟨17, _⟩ => ⟨S512x128, .f32⟩
  | .local _ .vmem, ⟨18, _⟩ => ⟨S512x128, .f32⟩
  | .local _ .smem, ⟨0, _⟩ => ⟨S136, .i32⟩
  | .local _ .smem, ⟨1, _⟩ => ⟨S136, .i32⟩
  | _, _ => ⟨S16x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c256_i32_485 : BitVec 32 := 256#32
  let v950 : BitVec 32 := Scalar.muli arg19 c256_i32_485
  v950
def k0_off1 (k0_t1 : Fin k0_t1_loop.trips) : Fin 3 → Nat :=
  let c0_486 : Index := 0#32
  let c0_i32 : BitVec 32 := 0#32
  let c1_i32 : BitVec 32 := 1#32
  let arg19 : BitVec 32 := Scf.iv c0_i32 c1_i32 k0_t1
  let c256_i32_485 : BitVec 32 := 256#32
  let v950 : BitVec 32 := Scalar.muli arg19 c256_i32_485
  let v951 : BitVec 32 := v950
  let v952 : Index := Scalar.indexCast v951
  let c0_487 : Index := 0#32
  ![0, v952.toNat, 0]
def k0_off2 (k0_t1 : Fin k0_t1_loop.trips) : Fin 3 → Nat :=
  let c0_i32 : BitVec 32 := 0#32
  let c1_i32 : BitVec 32 := 1#32
  let arg19 : BitVec 32 := Scf.iv c0_i32 c1_i32 k0_t1
  let v960 : Index := Scalar.indexCast arg19
  let c0_489 : Index := 0#32
  let c0_490 : Index := 0#32
  ![v960.toNat, 0, 0]
def k0_off3 (k0_t1 : Fin k0_t1_loop.trips) : Fin 3 → Nat :=
  let c0_i32 : BitVec 32 := 0#32
  let c1_i32 : BitVec 32 := 1#32
  let arg19 : BitVec 32 := Scf.iv c0_i32 c1_i32 k0_t1
  let v967 : Index := Scalar.indexCast arg19
  let c256 : Index := 256#32
  let c0_492 : Index := 0#32
  ![v967.toNat, 256, 0]
def k0_off4 (k0_t1 : Fin k0_t1_loop.trips) : Fin 3 → Nat :=
  let c0_i32 : BitVec 32 := 0#32
  let c1_i32 : BitVec 32 := 1#32
  let arg19 : BitVec 32 := Scf.iv c0_i32 c1_i32 k0_t1
  let v972 : Index := Scalar.indexCast arg19
  let c0_494 : Index := 0#32
  let c0_495 : Index := 0#32
  ![v972.toNat, 0, 0]
def k0_off5 (k0_t1 : Fin k0_t1_loop.trips) : Fin 3 → Nat :=
  let c0_i32 : BitVec 32 := 0#32
  let c1_i32 : BitVec 32 := 1#32
  let arg19 : BitVec 32 := Scf.iv c0_i32 c1_i32 k0_t1
  let v977 : Index := Scalar.indexCast arg19
  let c0_497 : Index := 0#32
  let c0_498 : Index := 0#32
  ![v977.toNat, 0, 0]
def k0_mult2 (v7 : BitVec 32) : BitVec 32 :=
  let c256_i32 : BitVec 32 := 256#32
  let v8 : BitVec 32 := Scalar.muli v7 c256_i32
  v8

def k0_off6 (v7 : BitVec 32) : Fin 3 → Nat :=
  let c0_1 : Index := 0#32
  let c256_i32 : BitVec 32 := 256#32
  let v8 : BitVec 32 := Scalar.muli v7 c256_i32
  let v9 : BitVec 32 := v8
  let v10 : Index := Scalar.indexCast v9
  let c0_2 : Index := 0#32
  ![0, v10.toNat, 0]

def k0_chk1 (v7 : BitVec 32) : Prop :=
  (256 ∣ (k0_mult2 v7).toNat) ∧
  (∀ a, (k0_off6 v7) a + S1x256x128.size a ≤ S1x4096x128.size a)
theorem k0_mult2_dvd : ∀ (v7 : BitVec 32) (k0_hw1 : k0_chk1 v7), 256 ∣ (k0_mult2 v7).toNat := fun v7 k0_hw1 => k0_hw1.1
theorem k0_off6_inb : ∀ (v7 : BitVec 32) (k0_hw1 : k0_chk1 v7), ∀ a, (k0_off6 v7) a + S1x256x128.size a ≤ S1x4096x128.size a := fun v7 k0_hw1 => k0_hw1.2

def k0_off7 (v13 : BitVec 32) : Fin 3 → Nat :=
  let v14 : Index := Scalar.indexCast v13
  let c0_4 : Index := 0#32
  let c0_5 : Index := 0#32
  ![v14.toNat, 0, 0]

def k0_chk2 (v13 : BitVec 32) : Prop :=
  (∀ a, (k0_off7 v13) a + S1x512x128.size a ≤ S16x512x128.size a)
theorem k0_off7_inb : ∀ (v13 : BitVec 32) (k0_hw2 : k0_chk2 v13), ∀ a, (k0_off7 v13) a + S1x512x128.size a ≤ S16x512x128.size a := fun v13 k0_hw2 => k0_hw2

def k0_mult3 (v21 : BitVec 32) : BitVec 32 :=
  let c256_i32_9 : BitVec 32 := 256#32
  let v22 : BitVec 32 := Scalar.muli v21 c256_i32_9
  v22

def k0_off8 (v21 : BitVec 32) : Fin 3 → Nat :=
  let c0_10 : Index := 0#32
  let c256_i32_9 : BitVec 32 := 256#32
  let v22 : BitVec 32 := Scalar.muli v21 c256_i32_9
  let v23 : BitVec 32 := v22
  let v24 : Index := Scalar.indexCast v23
  let c0_11 : Index := 0#32
  ![0, v24.toNat, 0]

def k0_chk3 (v21 : BitVec 32) : Prop :=
  (256 ∣ (k0_mult3 v21).toNat) ∧
  (∀ a, (k0_off8 v21) a + S1x256x128.size a ≤ S1x4096x128.size a)
theorem k0_mult3_dvd : ∀ (v21 : BitVec 32) (k0_hw3 : k0_chk3 v21), 256 ∣ (k0_mult3 v21).toNat := fun v21 k0_hw3 => k0_hw3.1
theorem k0_off8_inb : ∀ (v21 : BitVec 32) (k0_hw3 : k0_chk3 v21), ∀ a, (k0_off8 v21) a + S1x256x128.size a ≤ S1x4096x128.size a := fun v21 k0_hw3 => k0_hw3.2

def k0_off9 (v27 : BitVec 32) : Fin 3 → Nat :=
  let v28 : Index := Scalar.indexCast v27
  let c0_13 : Index := 0#32
  let c0_14 : Index := 0#32
  ![v28.toNat, 0, 0]

def k0_chk4 (v27 : BitVec 32) : Prop :=
  (∀ a, (k0_off9 v27) a + S1x512x128.size a ≤ S16x512x128.size a)
theorem k0_off9_inb : ∀ (v27 : BitVec 32) (k0_hw4 : k0_chk4 v27), ∀ a, (k0_off9 v27) a + S1x512x128.size a ≤ S16x512x128.size a := fun v27 k0_hw4 => k0_hw4

def k0_off10 (v35 : BitVec 32) : Fin 3 → Nat :=
  let v39 : Index := Scalar.indexCast v35
  let c0_21 : Index := 0#32
  let c0_22 : Index := 0#32
  ![v39.toNat, 0, 0]

def k0_chk5 (v35 : BitVec 32) : Prop :=
  (∀ a, (k0_off10 v35) a + S1x512x128.size a ≤ S16x512x128.size a)
theorem k0_off10_inb : ∀ (v35 : BitVec 32) (k0_hw5 : k0_chk5 v35), ∀ a, (k0_off10 v35) a + S1x512x128.size a ≤ S16x512x128.size a := fun v35 k0_hw5 => k0_hw5

@[reducible] def k0_t2_loop : Scf.Loop 32 :=
  let c0_i32_30 : BitVec 32 := 0#32
  let c14_i32 : BitVec 32 := 14#32
  let v66 : BitVec 32 := Scalar.addi c0_i32_30 c14_i32
  let c1_i32_31 : BitVec 32 := 1#32
  ⟨c0_i32_30, v66, c1_i32_31⟩
def k0_off11 (k0_t2 : Fin k0_t2_loop.trips) : Fin 1 → Nat :=
  let c2_i32 : BitVec 32 := 2#32
  let c8_i32 : BitVec 32 := 8#32
  let c0_i32_30 : BitVec 32 := 0#32
  let c1_i32_31 : BitVec 32 := 1#32
  let arg19 : BitVec 32 := Scf.iv c0_i32_30 c1_i32_31 k0_t2
  let v950 : BitVec 32 := Scalar.muli c8_i32 arg19
  let v951 : BitVec 32 := Scalar.addi c2_i32 v950
  let c0_i32_485 : BitVec 32 := 0#32
  let v952 : BitVec 32 := Scalar.addi v951 c0_i32_485
  let v953 : Index := Scalar.indexCast v952
  ![v953.toNat]
def k0_mult4 (v954 : BitVec 32) : BitVec 32 :=
  let c256_i32_486 : BitVec 32 := 256#32
  let v955 : BitVec 32 := Scalar.muli v954 c256_i32_486
  v955

def k0_off12 (v954 : BitVec 32) : Fin 3 → Nat :=
  let c0_487 : Index := 0#32
  let c256_i32_486 : BitVec 32 := 256#32
  let v955 : BitVec 32 := Scalar.muli v954 c256_i32_486
  let v956 : BitVec 32 := v955
  let v957 : Index := Scalar.indexCast v956
  let c0_488 : Index := 0#32
  ![0, v957.toNat, 0]

def k0_chk6 (v954 : BitVec 32) : Prop :=
  (256 ∣ (k0_mult4 v954).toNat) ∧
  (∀ a, (k0_off12 v954) a + S1x256x128.size a ≤ S1x4096x128.size a)
theorem k0_mult4_dvd : ∀ (v954 : BitVec 32) (k0_hw6 : k0_chk6 v954), 256 ∣ (k0_mult4 v954).toNat := fun v954 k0_hw6 => k0_hw6.1
theorem k0_off12_inb : ∀ (v954 : BitVec 32) (k0_hw6 : k0_chk6 v954), ∀ a, (k0_off12 v954) a + S1x256x128.size a ≤ S1x4096x128.size a := fun v954 k0_hw6 => k0_hw6.2

def k0_off13 (k0_t2 : Fin k0_t2_loop.trips) : Fin 1 → Nat :=
  let c2_i32 : BitVec 32 := 2#32
  let c8_i32 : BitVec 32 := 8#32
  let c0_i32_30 : BitVec 32 := 0#32
  let c1_i32_31 : BitVec 32 := 1#32
  let arg19 : BitVec 32 := Scf.iv c0_i32_30 c1_i32_31 k0_t2
  let v950 : BitVec 32 := Scalar.muli c8_i32 arg19
  let v951 : BitVec 32 := Scalar.addi c2_i32 v950
  let c0_i32_485 : BitVec 32 := 0#32
  let v952 : BitVec 32 := Scalar.addi v951 c0_i32_485
  let v960 : Index := Scalar.indexCast v952
  ![v960.toNat]
def k0_off14 (v961 : BitVec 32) : Fin 3 → Nat :=
  let v962 : Index := Scalar.indexCast v961
  let c0_489 : Index := 0#32
  let c0_490 : Index := 0#32
  ![v962.toNat, 0, 0]

def k0_chk7 (v961 : BitVec 32) : Prop :=
  (∀ a, (k0_off14 v961) a + S1x512x128.size a ≤ S16x512x128.size a)
theorem k0_off14_inb : ∀ (v961 : BitVec 32) (k0_hw7 : k0_chk7 v961), ∀ a, (k0_off14 v961) a + S1x512x128.size a ≤ S16x512x128.size a := fun v961 k0_hw7 => k0_hw7

def k0_off15 (k0_t2 : Fin k0_t2_loop.trips) : Fin 1 → Nat :=
  let c2_i32 : BitVec 32 := 2#32
  let c8_i32 : BitVec 32 := 8#32
  let c0_i32_30 : BitVec 32 := 0#32
  let c1_i32_31 : BitVec 32 := 1#32
  let arg19 : BitVec 32 := Scf.iv c0_i32_30 c1_i32_31 k0_t2
  let v950 : BitVec 32 := Scalar.muli c8_i32 arg19
  let v951 : BitVec 32 := Scalar.addi c2_i32 v950
  let c0_i32_485 : BitVec 32 := 0#32
  let v952 : BitVec 32 := Scalar.addi v951 c0_i32_485
  let c1_i32_494 : BitVec 32 := 1#32
  let v969 : BitVec 32 := Scalar.subi v952 c1_i32_494
  let v970 : Index := Scalar.indexCast v969
  ![v970.toNat]
def k0_off16 (v971 : BitVec 32) : Fin 3 → Nat :=
  let v975 : Index := Scalar.indexCast v971
  let c0_497 : Index := 0#32
  let c0_498 : Index := 0#32
  ![v975.toNat, 0, 0]

def k0_chk8 (v971 : BitVec 32) : Prop :=
  (∀ a, (k0_off16 v971) a + S1x512x128.size a ≤ S16x512x128.size a)
theorem k0_off16_inb : ∀ (v971 : BitVec 32) (k0_hw8 : k0_chk8 v971), ∀ a, (k0_off16 v971) a + S1x512x128.size a ≤ S16x512x128.size a := fun v971 k0_hw8 => k0_hw8

def k0_off17 (k0_t2 : Fin k0_t2_loop.trips) : Fin 1 → Nat :=
  let c2_i32 : BitVec 32 := 2#32
  let c8_i32 : BitVec 32 := 8#32
  let c0_i32_30 : BitVec 32 := 0#32
  let c1_i32_31 : BitVec 32 := 1#32
  let arg19 : BitVec 32 := Scf.iv c0_i32_30 c1_i32_31 k0_t2
  let v950 : BitVec 32 := Scalar.muli c8_i32 arg19
  let v951 : BitVec 32 := Scalar.addi c2_i32 v950
  let c0_i32_485 : BitVec 32 := 0#32
  let v952 : BitVec 32 := Scalar.addi v951 c0_i32_485
  let c2_i32_506 : BitVec 32 := 2#32
  let v1002 : BitVec 32 := Scalar.subi v952 c2_i32_506
  let v1003 : Index := Scalar.indexCast v1002
  ![v1003.toNat]
def k0_mult5 (v1006 : BitVec 32) : BitVec 32 :=
  let c256_i32_507 : BitVec 32 := 256#32
  let v1007 : BitVec 32 := Scalar.muli v1006 c256_i32_507
  v1007

def k0_off18 (v1006 : BitVec 32) : Fin 3 → Nat :=
  let c0_508 : Index := 0#32
  let c256_i32_507 : BitVec 32 := 256#32
  let v1007 : BitVec 32 := Scalar.muli v1006 c256_i32_507
  let v1008 : BitVec 32 := v1007
  let v1009 : Index := Scalar.indexCast v1008
  let c0_509 : Index := 0#32
  ![0, v1009.toNat, 0]

def k0_chk9 (v1006 : BitVec 32) : Prop :=
  (256 ∣ (k0_mult5 v1006).toNat) ∧
  (∀ a, (k0_off18 v1006) a + S1x256x128.size a ≤ S1x4096x128.size a)
theorem k0_mult5_dvd : ∀ (v1006 : BitVec 32) (k0_hw9 : k0_chk9 v1006), 256 ∣ (k0_mult5 v1006).toNat := fun v1006 k0_hw9 => k0_hw9.1
theorem k0_off18_inb : ∀ (v1006 : BitVec 32) (k0_hw9 : k0_chk9 v1006), ∀ a, (k0_off18 v1006) a + S1x256x128.size a ≤ S1x4096x128.size a := fun v1006 k0_hw9 => k0_hw9.2

def k0_off19 (v1004 : BitVec 32) : Fin 3 → Nat :=
  let v1016 : Index := Scalar.indexCast v1004
  let c0_515 : Index := 0#32
  let c0_516 : Index := 0#32
  ![v1016.toNat, 0, 0]

def k0_off20 (v1004 : BitVec 32) : Fin 3 → Nat :=
  let v1026 : Index := Scalar.indexCast v1004
  let c0_519 : Index := 0#32
  let c128_520 : Index := 128#32
  ![v1026.toNat, 0, 128]

def k0_chk10 (v1004 : BitVec 32) : Prop :=
  (∀ a, (k0_off19 v1004) a + S1x512x128.size a ≤ S16x512x256.size a) ∧
  (∀ a, (k0_off20 v1004) a + S1x512x128.size a ≤ S16x512x256.size a)
theorem k0_off19_inb : ∀ (v1004 : BitVec 32) (k0_hw10 : k0_chk10 v1004), ∀ a, (k0_off19 v1004) a + S1x512x128.size a ≤ S16x512x256.size a := fun v1004 k0_hw10 => k0_hw10.1
theorem k0_off20_inb : ∀ (v1004 : BitVec 32) (k0_hw10 : k0_chk10 v1004), ∀ a, (k0_off20 v1004) a + S1x512x128.size a ≤ S16x512x256.size a := fun v1004 k0_hw10 => k0_hw10.2

def k0_off21 (k0_t2 : Fin k0_t2_loop.trips) : Fin 1 → Nat :=
  let c2_i32_524 : BitVec 32 := 2#32
  let c8_i32_523 : BitVec 32 := 8#32
  let c0_i32_30 : BitVec 32 := 0#32
  let c1_i32_31 : BitVec 32 := 1#32
  let arg19 : BitVec 32 := Scf.iv c0_i32_30 c1_i32_31 k0_t2
  let v1036 : BitVec 32 := Scalar.muli c8_i32_523 arg19
  let v1037 : BitVec 32 := Scalar.addi c2_i32_524 v1036
  let c1_i32_525 : BitVec 32 := 1#32
  let v1038 : BitVec 32 := Scalar.addi v1037 c1_i32_525
  let v1039 : Index := Scalar.indexCast v1038
  ![v1039.toNat]
def k0_mult6 (v1040 : BitVec 32) : BitVec 32 :=
  let c256_i32_526 : BitVec 32 := 256#32
  let v1041 : BitVec 32 := Scalar.muli v1040 c256_i32_526
  v1041

def k0_off22 (v1040 : BitVec 32) : Fin 3 → Nat :=
  let c0_527 : Index := 0#32
  let c256_i32_526 : BitVec 32 := 256#32
  let v1041 : BitVec 32 := Scalar.muli v1040 c256_i32_526
  let v1042 : BitVec 32 := v1041
  let v1043 : Index := Scalar.indexCast v1042
  let c0_528 : Index := 0#32
  ![0, v1043.toNat, 0]

def k0_chk11 (v1040 : BitVec 32) : Prop :=
  (256 ∣ (k0_mult6 v1040).toNat) ∧
  (∀ a, (k0_off22 v1040) a + S1x256x128.size a ≤ S1x4096x128.size a)
theorem k0_mult6_dvd : ∀ (v1040 : BitVec 32) (k0_hw11 : k0_chk11 v1040), 256 ∣ (k0_mult6 v1040).toNat := fun v1040 k0_hw11 => k0_hw11.1
theorem k0_off22_inb : ∀ (v1040 : BitVec 32) (k0_hw11 : k0_chk11 v1040), ∀ a, (k0_off22 v1040) a + S1x256x128.size a ≤ S1x4096x128.size a := fun v1040 k0_hw11 => k0_hw11.2

def k0_off23 (k0_t2 : Fin k0_t2_loop.trips) : Fin 1 → Nat :=
  let c2_i32_524 : BitVec 32 := 2#32
  let c8_i32_523 : BitVec 32 := 8#32
  let c0_i32_30 : BitVec 32 := 0#32
  let c1_i32_31 : BitVec 32 := 1#32
  let arg19 : BitVec 32 := Scf.iv c0_i32_30 c1_i32_31 k0_t2
  let v1036 : BitVec 32 := Scalar.muli c8_i32_523 arg19
  let v1037 : BitVec 32 := Scalar.addi c2_i32_524 v1036
  let c1_i32_525 : BitVec 32 := 1#32
  let v1038 : BitVec 32 := Scalar.addi v1037 c1_i32_525
  let v1046 : Index := Scalar.indexCast v1038
  ![v1046.toNat]
def k0_off24 (v1047 : BitVec 32) : Fin 3 → Nat :=
  let v1048 : Index := Scalar.indexCast v1047
  let c0_529 : Index := 0#32
  let c0_530 : Index := 0#32
  ![v1048.toNat, 0, 0]

def k0_chk12 (v1047 : BitVec 32) : Prop :=
  (∀ a, (k0_off24 v1047) a + S1x512x128.size a ≤ S16x512x128.size a)
theorem k0_off24_inb : ∀ (v1047 : BitVec 32) (k0_hw12 : k0_chk12 v1047), ∀ a, (k0_off24 v1047) a + S1x512x128.size a ≤ S16x512x128.size a := fun v1047 k0_hw12 => k0_hw12

def k0_off25 (k0_t2 : Fin k0_t2_loop.trips) : Fin 1 → Nat :=
  let c2_i32_524 : BitVec 32 := 2#32
  let c8_i32_523 : BitVec 32 := 8#32
  let c0_i32_30 : BitVec 32 := 0#32
  let c1_i32_31 : BitVec 32 := 1#32
  let arg19 : BitVec 32 := Scf.iv c0_i32_30 c1_i32_31 k0_t2
  let v1036 : BitVec 32 := Scalar.muli c8_i32_523 arg19
  let v1037 : BitVec 32 := Scalar.addi c2_i32_524 v1036
  let c1_i32_525 : BitVec 32 := 1#32
  let v1038 : BitVec 32 := Scalar.addi v1037 c1_i32_525
  let c1_i32_534 : BitVec 32 := 1#32
  let v1055 : BitVec 32 := Scalar.subi v1038 c1_i32_534
  let v1056 : Index := Scalar.indexCast v1055
  ![v1056.toNat]
def k0_off26 (v1057 : BitVec 32) : Fin 3 → Nat :=
  let v1061 : Index := Scalar.indexCast v1057
  let c0_537 : Index := 0#32
  let c0_538 : Index := 0#32
  ![v1061.toNat, 0, 0]

def k0_chk13 (v1057 : BitVec 32) : Prop :=
  (∀ a, (k0_off26 v1057) a + S1x512x128.size a ≤ S16x512x128.size a)
theorem k0_off26_inb : ∀ (v1057 : BitVec 32) (k0_hw13 : k0_chk13 v1057), ∀ a, (k0_off26 v1057) a + S1x512x128.size a ≤ S16x512x128.size a := fun v1057 k0_hw13 => k0_hw13

def k0_off27 (k0_t2 : Fin k0_t2_loop.trips) : Fin 1 → Nat :=
  let c2_i32_524 : BitVec 32 := 2#32
  let c8_i32_523 : BitVec 32 := 8#32
  let c0_i32_30 : BitVec 32 := 0#32
  let c1_i32_31 : BitVec 32 := 1#32
  let arg19 : BitVec 32 := Scf.iv c0_i32_30 c1_i32_31 k0_t2
  let v1036 : BitVec 32 := Scalar.muli c8_i32_523 arg19
  let v1037 : BitVec 32 := Scalar.addi c2_i32_524 v1036
  let c1_i32_525 : BitVec 32 := 1#32
  let v1038 : BitVec 32 := Scalar.addi v1037 c1_i32_525
  let c2_i32_546 : BitVec 32 := 2#32
  let v1088 : BitVec 32 := Scalar.subi v1038 c2_i32_546
  let v1089 : Index := Scalar.indexCast v1088
  ![v1089.toNat]
def k0_mult7 (v1092 : BitVec 32) : BitVec 32 :=
  let c256_i32_547 : BitVec 32 := 256#32
  let v1093 : BitVec 32 := Scalar.muli v1092 c256_i32_547
  v1093

def k0_off28 (v1092 : BitVec 32) : Fin 3 → Nat :=
  let c0_548 : Index := 0#32
  let c256_i32_547 : BitVec 32 := 256#32
  let v1093 : BitVec 32 := Scalar.muli v1092 c256_i32_547
  let v1094 : BitVec 32 := v1093
  let v1095 : Index := Scalar.indexCast v1094
  let c0_549 : Index := 0#32
  ![0, v1095.toNat, 0]

def k0_chk14 (v1092 : BitVec 32) : Prop :=
  (256 ∣ (k0_mult7 v1092).toNat) ∧
  (∀ a, (k0_off28 v1092) a + S1x256x128.size a ≤ S1x4096x128.size a)
theorem k0_mult7_dvd : ∀ (v1092 : BitVec 32) (k0_hw14 : k0_chk14 v1092), 256 ∣ (k0_mult7 v1092).toNat := fun v1092 k0_hw14 => k0_hw14.1
theorem k0_off28_inb : ∀ (v1092 : BitVec 32) (k0_hw14 : k0_chk14 v1092), ∀ a, (k0_off28 v1092) a + S1x256x128.size a ≤ S1x4096x128.size a := fun v1092 k0_hw14 => k0_hw14.2

def k0_off29 (v1090 : BitVec 32) : Fin 3 → Nat :=
  let v1102 : Index := Scalar.indexCast v1090
  let c0_555 : Index := 0#32
  let c0_556 : Index := 0#32
  ![v1102.toNat, 0, 0]

def k0_off30 (v1090 : BitVec 32) : Fin 3 → Nat :=
  let v1112 : Index := Scalar.indexCast v1090
  let c0_559 : Index := 0#32
  let c128_560 : Index := 128#32
  ![v1112.toNat, 0, 128]

def k0_chk15 (v1090 : BitVec 32) : Prop :=
  (∀ a, (k0_off29 v1090) a + S1x512x128.size a ≤ S16x512x256.size a) ∧
  (∀ a, (k0_off30 v1090) a + S1x512x128.size a ≤ S16x512x256.size a)
theorem k0_off29_inb : ∀ (v1090 : BitVec 32) (k0_hw15 : k0_chk15 v1090), ∀ a, (k0_off29 v1090) a + S1x512x128.size a ≤ S16x512x256.size a := fun v1090 k0_hw15 => k0_hw15.1
theorem k0_off30_inb : ∀ (v1090 : BitVec 32) (k0_hw15 : k0_chk15 v1090), ∀ a, (k0_off30 v1090) a + S1x512x128.size a ≤ S16x512x256.size a := fun v1090 k0_hw15 => k0_hw15.2

def k0_off31 (k0_t2 : Fin k0_t2_loop.trips) : Fin 1 → Nat :=
  let c2_i32_564 : BitVec 32 := 2#32
  let c8_i32_563 : BitVec 32 := 8#32
  let c0_i32_30 : BitVec 32 := 0#32
  let c1_i32_31 : BitVec 32 := 1#32
  let arg19 : BitVec 32 := Scf.iv c0_i32_30 c1_i32_31 k0_t2
  let v1122 : BitVec 32 := Scalar.muli c8_i32_563 arg19
  let v1123 : BitVec 32 := Scalar.addi c2_i32_564 v1122
  let c2_i32_565 : BitVec 32 := 2#32
  let v1124 : BitVec 32 := Scalar.addi v1123 c2_i32_565
  let v1125 : Index := Scalar.indexCast v1124
  ![v1125.toNat]
def k0_mult8 (v1126 : BitVec 32) : BitVec 32 :=
  let c256_i32_566 : BitVec 32 := 256#32
  let v1127 : BitVec 32 := Scalar.muli v1126 c256_i32_566
  v1127

def k0_off32 (v1126 : BitVec 32) : Fin 3 → Nat :=
  let c0_567 : Index := 0#32
  let c256_i32_566 : BitVec 32 := 256#32
  let v1127 : BitVec 32 := Scalar.muli v1126 c256_i32_566
  let v1128 : BitVec 32 := v1127
  let v1129 : Index := Scalar.indexCast v1128
  let c0_568 : Index := 0#32
  ![0, v1129.toNat, 0]

def k0_chk16 (v1126 : BitVec 32) : Prop :=
  (256 ∣ (k0_mult8 v1126).toNat) ∧
  (∀ a, (k0_off32 v1126) a + S1x256x128.size a ≤ S1x4096x128.size a)
theorem k0_mult8_dvd : ∀ (v1126 : BitVec 32) (k0_hw16 : k0_chk16 v1126), 256 ∣ (k0_mult8 v1126).toNat := fun v1126 k0_hw16 => k0_hw16.1
theorem k0_off32_inb : ∀ (v1126 : BitVec 32) (k0_hw16 : k0_chk16 v1126), ∀ a, (k0_off32 v1126) a + S1x256x128.size a ≤ S1x4096x128.size a := fun v1126 k0_hw16 => k0_hw16.2

def k0_off33 (k0_t2 : Fin k0_t2_loop.trips) : Fin 1 → Nat :=
  let c2_i32_564 : BitVec 32 := 2#32
  let c8_i32_563 : BitVec 32 := 8#32
  let c0_i32_30 : BitVec 32 := 0#32
  let c1_i32_31 : BitVec 32 := 1#32
  let arg19 : BitVec 32 := Scf.iv c0_i32_30 c1_i32_31 k0_t2
  let v1122 : BitVec 32 := Scalar.muli c8_i32_563 arg19
  let v1123 : BitVec 32 := Scalar.addi c2_i32_564 v1122
  let c2_i32_565 : BitVec 32 := 2#32
  let v1124 : BitVec 32 := Scalar.addi v1123 c2_i32_565
  let v1132 : Index := Scalar.indexCast v1124
  ![v1132.toNat]
def k0_off34 (v1133 : BitVec 32) : Fin 3 → Nat :=
  let v1134 : Index := Scalar.indexCast v1133
  let c0_569 : Index := 0#32
  let c0_570 : Index := 0#32
  ![v1134.toNat, 0, 0]

def k0_chk17 (v1133 : BitVec 32) : Prop :=
  (∀ a, (k0_off34 v1133) a + S1x512x128.size a ≤ S16x512x128.size a)
theorem k0_off34_inb : ∀ (v1133 : BitVec 32) (k0_hw17 : k0_chk17 v1133), ∀ a, (k0_off34 v1133) a + S1x512x128.size a ≤ S16x512x128.size a := fun v1133 k0_hw17 => k0_hw17

def k0_off35 (k0_t2 : Fin k0_t2_loop.trips) : Fin 1 → Nat :=
  let c2_i32_564 : BitVec 32 := 2#32
  let c8_i32_563 : BitVec 32 := 8#32
  let c0_i32_30 : BitVec 32 := 0#32
  let c1_i32_31 : BitVec 32 := 1#32
  let arg19 : BitVec 32 := Scf.iv c0_i32_30 c1_i32_31 k0_t2
  let v1122 : BitVec 32 := Scalar.muli c8_i32_563 arg19
  let v1123 : BitVec 32 := Scalar.addi c2_i32_564 v1122
  let c2_i32_565 : BitVec 32 := 2#32
  let v1124 : BitVec 32 := Scalar.addi v1123 c2_i32_565
  let c1_i32_574 : BitVec 32 := 1#32
  let v1141 : BitVec 32 := Scalar.subi v1124 c1_i32_574
  let v1142 : Index := Scalar.indexCast v1141
  ![v1142.toNat]
def k0_off36 (v1143 : BitVec 32) : Fin 3 → Nat :=
  let v1147 : Index := Scalar.indexCast v1143
  let c0_577 : Index := 0#32
  let c0_578 : Index := 0#32
  ![v1147.toNat, 0, 0]

def k0_chk18 (v1143 : BitVec 32) : Prop :=
  (∀ a, (k0_off36 v1143) a + S1x512x128.size a ≤ S16x512x128.size a)
theorem k0_off36_inb : ∀ (v1143 : BitVec 32) (k0_hw18 : k0_chk18 v1143), ∀ a, (k0_off36 v1143) a + S1x512x128.size a ≤ S16x512x128.size a := fun v1143 k0_hw18 => k0_hw18

def k0_off37 (k0_t2 : Fin k0_t2_loop.trips) : Fin 1 → Nat :=
  let c2_i32_564 : BitVec 32 := 2#32
  let c8_i32_563 : BitVec 32 := 8#32
  let c0_i32_30 : BitVec 32 := 0#32
  let c1_i32_31 : BitVec 32 := 1#32
  let arg19 : BitVec 32 := Scf.iv c0_i32_30 c1_i32_31 k0_t2
  let v1122 : BitVec 32 := Scalar.muli c8_i32_563 arg19
  let v1123 : BitVec 32 := Scalar.addi c2_i32_564 v1122
  let c2_i32_565 : BitVec 32 := 2#32
  let v1124 : BitVec 32 := Scalar.addi v1123 c2_i32_565
  let c2_i32_586 : BitVec 32 := 2#32
  let v1174 : BitVec 32 := Scalar.subi v1124 c2_i32_586
  let v1175 : Index := Scalar.indexCast v1174
  ![v1175.toNat]
def k0_mult9 (v1178 : BitVec 32) : BitVec 32 :=
  let c256_i32_587 : BitVec 32 := 256#32
  let v1179 : BitVec 32 := Scalar.muli v1178 c256_i32_587
  v1179

def k0_off38 (v1178 : BitVec 32) : Fin 3 → Nat :=
  let c0_588 : Index := 0#32
  let c256_i32_587 : BitVec 32 := 256#32
  let v1179 : BitVec 32 := Scalar.muli v1178 c256_i32_587
  let v1180 : BitVec 32 := v1179
  let v1181 : Index := Scalar.indexCast v1180
  let c0_589 : Index := 0#32
  ![0, v1181.toNat, 0]

def k0_chk19 (v1178 : BitVec 32) : Prop :=
  (256 ∣ (k0_mult9 v1178).toNat) ∧
  (∀ a, (k0_off38 v1178) a + S1x256x128.size a ≤ S1x4096x128.size a)
theorem k0_mult9_dvd : ∀ (v1178 : BitVec 32) (k0_hw19 : k0_chk19 v1178), 256 ∣ (k0_mult9 v1178).toNat := fun v1178 k0_hw19 => k0_hw19.1
theorem k0_off38_inb : ∀ (v1178 : BitVec 32) (k0_hw19 : k0_chk19 v1178), ∀ a, (k0_off38 v1178) a + S1x256x128.size a ≤ S1x4096x128.size a := fun v1178 k0_hw19 => k0_hw19.2

def k0_off39 (v1176 : BitVec 32) : Fin 3 → Nat :=
  let v1188 : Index := Scalar.indexCast v1176
  let c0_595 : Index := 0#32
  let c0_596 : Index := 0#32
  ![v1188.toNat, 0, 0]

def k0_off40 (v1176 : BitVec 32) : Fin 3 → Nat :=
  let v1198 : Index := Scalar.indexCast v1176
  let c0_599 : Index := 0#32
  let c128_600 : Index := 128#32
  ![v1198.toNat, 0, 128]

def k0_chk20 (v1176 : BitVec 32) : Prop :=
  (∀ a, (k0_off39 v1176) a + S1x512x128.size a ≤ S16x512x256.size a) ∧
  (∀ a, (k0_off40 v1176) a + S1x512x128.size a ≤ S16x512x256.size a)
theorem k0_off39_inb : ∀ (v1176 : BitVec 32) (k0_hw20 : k0_chk20 v1176), ∀ a, (k0_off39 v1176) a + S1x512x128.size a ≤ S16x512x256.size a := fun v1176 k0_hw20 => k0_hw20.1
theorem k0_off40_inb : ∀ (v1176 : BitVec 32) (k0_hw20 : k0_chk20 v1176), ∀ a, (k0_off40 v1176) a + S1x512x128.size a ≤ S16x512x256.size a := fun v1176 k0_hw20 => k0_hw20.2

def k0_off41 (k0_t2 : Fin k0_t2_loop.trips) : Fin 1 → Nat :=
  let c2_i32_604 : BitVec 32 := 2#32
  let c8_i32_603 : BitVec 32 := 8#32
  let c0_i32_30 : BitVec 32 := 0#32
  let c1_i32_31 : BitVec 32 := 1#32
  let arg19 : BitVec 32 := Scf.iv c0_i32_30 c1_i32_31 k0_t2
  let v1208 : BitVec 32 := Scalar.muli c8_i32_603 arg19
  let v1209 : BitVec 32 := Scalar.addi c2_i32_604 v1208
  let c3_i32_605 : BitVec 32 := 3#32
  let v1210 : BitVec 32 := Scalar.addi v1209 c3_i32_605
  let v1211 : Index := Scalar.indexCast v1210
  ![v1211.toNat]
def k0_mult10 (v1212 : BitVec 32) : BitVec 32 :=
  let c256_i32_606 : BitVec 32 := 256#32
  let v1213 : BitVec 32 := Scalar.muli v1212 c256_i32_606
  v1213

def k0_off42 (v1212 : BitVec 32) : Fin 3 → Nat :=
  let c0_607 : Index := 0#32
  let c256_i32_606 : BitVec 32 := 256#32
  let v1213 : BitVec 32 := Scalar.muli v1212 c256_i32_606
  let v1214 : BitVec 32 := v1213
  let v1215 : Index := Scalar.indexCast v1214
  let c0_608 : Index := 0#32
  ![0, v1215.toNat, 0]

def k0_chk21 (v1212 : BitVec 32) : Prop :=
  (256 ∣ (k0_mult10 v1212).toNat) ∧
  (∀ a, (k0_off42 v1212) a + S1x256x128.size a ≤ S1x4096x128.size a)
theorem k0_mult10_dvd : ∀ (v1212 : BitVec 32) (k0_hw21 : k0_chk21 v1212), 256 ∣ (k0_mult10 v1212).toNat := fun v1212 k0_hw21 => k0_hw21.1
theorem k0_off42_inb : ∀ (v1212 : BitVec 32) (k0_hw21 : k0_chk21 v1212), ∀ a, (k0_off42 v1212) a + S1x256x128.size a ≤ S1x4096x128.size a := fun v1212 k0_hw21 => k0_hw21.2

def k0_off43 (k0_t2 : Fin k0_t2_loop.trips) : Fin 1 → Nat :=
  let c2_i32_604 : BitVec 32 := 2#32
  let c8_i32_603 : BitVec 32 := 8#32
  let c0_i32_30 : BitVec 32 := 0#32
  let c1_i32_31 : BitVec 32 := 1#32
  let arg19 : BitVec 32 := Scf.iv c0_i32_30 c1_i32_31 k0_t2
  let v1208 : BitVec 32 := Scalar.muli c8_i32_603 arg19
  let v1209 : BitVec 32 := Scalar.addi c2_i32_604 v1208
  let c3_i32_605 : BitVec 32 := 3#32
  let v1210 : BitVec 32 := Scalar.addi v1209 c3_i32_605
  let v1218 : Index := Scalar.indexCast v1210
  ![v1218.toNat]
def k0_off44 (v1219 : BitVec 32) : Fin 3 → Nat :=
  let v1220 : Index := Scalar.indexCast v1219
  let c0_609 : Index := 0#32
  let c0_610 : Index := 0#32
  ![v1220.toNat, 0, 0]

def k0_chk22 (v1219 : BitVec 32) : Prop :=
  (∀ a, (k0_off44 v1219) a + S1x512x128.size a ≤ S16x512x128.size a)
theorem k0_off44_inb : ∀ (v1219 : BitVec 32) (k0_hw22 : k0_chk22 v1219), ∀ a, (k0_off44 v1219) a + S1x512x128.size a ≤ S16x512x128.size a := fun v1219 k0_hw22 => k0_hw22

def k0_off45 (k0_t2 : Fin k0_t2_loop.trips) : Fin 1 → Nat :=
  let c2_i32_604 : BitVec 32 := 2#32
  let c8_i32_603 : BitVec 32 := 8#32
  let c0_i32_30 : BitVec 32 := 0#32
  let c1_i32_31 : BitVec 32 := 1#32
  let arg19 : BitVec 32 := Scf.iv c0_i32_30 c1_i32_31 k0_t2
  let v1208 : BitVec 32 := Scalar.muli c8_i32_603 arg19
  let v1209 : BitVec 32 := Scalar.addi c2_i32_604 v1208
  let c3_i32_605 : BitVec 32 := 3#32
  let v1210 : BitVec 32 := Scalar.addi v1209 c3_i32_605
  let c1_i32_614 : BitVec 32 := 1#32
  let v1227 : BitVec 32 := Scalar.subi v1210 c1_i32_614
  let v1228 : Index := Scalar.indexCast v1227
  ![v1228.toNat]
def k0_off46 (v1229 : BitVec 32) : Fin 3 → Nat :=
  let v1233 : Index := Scalar.indexCast v1229
  let c0_617 : Index := 0#32
  let c0_618 : Index := 0#32
  ![v1233.toNat, 0, 0]

def k0_chk23 (v1229 : BitVec 32) : Prop :=
  (∀ a, (k0_off46 v1229) a + S1x512x128.size a ≤ S16x512x128.size a)
theorem k0_off46_inb : ∀ (v1229 : BitVec 32) (k0_hw23 : k0_chk23 v1229), ∀ a, (k0_off46 v1229) a + S1x512x128.size a ≤ S16x512x128.size a := fun v1229 k0_hw23 => k0_hw23

def k0_off47 (k0_t2 : Fin k0_t2_loop.trips) : Fin 1 → Nat :=
  let c2_i32_604 : BitVec 32 := 2#32
  let c8_i32_603 : BitVec 32 := 8#32
  let c0_i32_30 : BitVec 32 := 0#32
  let c1_i32_31 : BitVec 32 := 1#32
  let arg19 : BitVec 32 := Scf.iv c0_i32_30 c1_i32_31 k0_t2
  let v1208 : BitVec 32 := Scalar.muli c8_i32_603 arg19
  let v1209 : BitVec 32 := Scalar.addi c2_i32_604 v1208
  let c3_i32_605 : BitVec 32 := 3#32
  let v1210 : BitVec 32 := Scalar.addi v1209 c3_i32_605
  let c2_i32_626 : BitVec 32 := 2#32
  let v1260 : BitVec 32 := Scalar.subi v1210 c2_i32_626
  let v1261 : Index := Scalar.indexCast v1260
  ![v1261.toNat]
def k0_mult11 (v1264 : BitVec 32) : BitVec 32 :=
  let c256_i32_627 : BitVec 32 := 256#32
  let v1265 : BitVec 32 := Scalar.muli v1264 c256_i32_627
  v1265

def k0_off48 (v1264 : BitVec 32) : Fin 3 → Nat :=
  let c0_628 : Index := 0#32
  let c256_i32_627 : BitVec 32 := 256#32
  let v1265 : BitVec 32 := Scalar.muli v1264 c256_i32_627
  let v1266 : BitVec 32 := v1265
  let v1267 : Index := Scalar.indexCast v1266
  let c0_629 : Index := 0#32
  ![0, v1267.toNat, 0]

def k0_chk24 (v1264 : BitVec 32) : Prop :=
  (256 ∣ (k0_mult11 v1264).toNat) ∧
  (∀ a, (k0_off48 v1264) a + S1x256x128.size a ≤ S1x4096x128.size a)
theorem k0_mult11_dvd : ∀ (v1264 : BitVec 32) (k0_hw24 : k0_chk24 v1264), 256 ∣ (k0_mult11 v1264).toNat := fun v1264 k0_hw24 => k0_hw24.1
theorem k0_off48_inb : ∀ (v1264 : BitVec 32) (k0_hw24 : k0_chk24 v1264), ∀ a, (k0_off48 v1264) a + S1x256x128.size a ≤ S1x4096x128.size a := fun v1264 k0_hw24 => k0_hw24.2

def k0_off49 (v1262 : BitVec 32) : Fin 3 → Nat :=
  let v1274 : Index := Scalar.indexCast v1262
  let c0_635 : Index := 0#32
  let c0_636 : Index := 0#32
  ![v1274.toNat, 0, 0]

def k0_off50 (v1262 : BitVec 32) : Fin 3 → Nat :=
  let v1284 : Index := Scalar.indexCast v1262
  let c0_639 : Index := 0#32
  let c128_640 : Index := 128#32
  ![v1284.toNat, 0, 128]

def k0_chk25 (v1262 : BitVec 32) : Prop :=
  (∀ a, (k0_off49 v1262) a + S1x512x128.size a ≤ S16x512x256.size a) ∧
  (∀ a, (k0_off50 v1262) a + S1x512x128.size a ≤ S16x512x256.size a)
theorem k0_off49_inb : ∀ (v1262 : BitVec 32) (k0_hw25 : k0_chk25 v1262), ∀ a, (k0_off49 v1262) a + S1x512x128.size a ≤ S16x512x256.size a := fun v1262 k0_hw25 => k0_hw25.1
theorem k0_off50_inb : ∀ (v1262 : BitVec 32) (k0_hw25 : k0_chk25 v1262), ∀ a, (k0_off50 v1262) a + S1x512x128.size a ≤ S16x512x256.size a := fun v1262 k0_hw25 => k0_hw25.2

def k0_off51 (k0_t2 : Fin k0_t2_loop.trips) : Fin 1 → Nat :=
  let c2_i32_644 : BitVec 32 := 2#32
  let c8_i32_643 : BitVec 32 := 8#32
  let c0_i32_30 : BitVec 32 := 0#32
  let c1_i32_31 : BitVec 32 := 1#32
  let arg19 : BitVec 32 := Scf.iv c0_i32_30 c1_i32_31 k0_t2
  let v1294 : BitVec 32 := Scalar.muli c8_i32_643 arg19
  let v1295 : BitVec 32 := Scalar.addi c2_i32_644 v1294
  let c4_i32 : BitVec 32 := 4#32
  let v1296 : BitVec 32 := Scalar.addi v1295 c4_i32
  let v1297 : Index := Scalar.indexCast v1296
  ![v1297.toNat]
def k0_mult12 (v1298 : BitVec 32) : BitVec 32 :=
  let c256_i32_645 : BitVec 32 := 256#32
  let v1299 : BitVec 32 := Scalar.muli v1298 c256_i32_645
  v1299

def k0_off52 (v1298 : BitVec 32) : Fin 3 → Nat :=
  let c0_646 : Index := 0#32
  let c256_i32_645 : BitVec 32 := 256#32
  let v1299 : BitVec 32 := Scalar.muli v1298 c256_i32_645
  let v1300 : BitVec 32 := v1299
  let v1301 : Index := Scalar.indexCast v1300
  let c0_647 : Index := 0#32
  ![0, v1301.toNat, 0]

def k0_chk26 (v1298 : BitVec 32) : Prop :=
  (256 ∣ (k0_mult12 v1298).toNat) ∧
  (∀ a, (k0_off52 v1298) a + S1x256x128.size a ≤ S1x4096x128.size a)
theorem k0_mult12_dvd : ∀ (v1298 : BitVec 32) (k0_hw26 : k0_chk26 v1298), 256 ∣ (k0_mult12 v1298).toNat := fun v1298 k0_hw26 => k0_hw26.1
theorem k0_off52_inb : ∀ (v1298 : BitVec 32) (k0_hw26 : k0_chk26 v1298), ∀ a, (k0_off52 v1298) a + S1x256x128.size a ≤ S1x4096x128.size a := fun v1298 k0_hw26 => k0_hw26.2

def k0_off53 (k0_t2 : Fin k0_t2_loop.trips) : Fin 1 → Nat :=
  let c2_i32_644 : BitVec 32 := 2#32
  let c8_i32_643 : BitVec 32 := 8#32
  let c0_i32_30 : BitVec 32 := 0#32
  let c1_i32_31 : BitVec 32 := 1#32
  let arg19 : BitVec 32 := Scf.iv c0_i32_30 c1_i32_31 k0_t2
  let v1294 : BitVec 32 := Scalar.muli c8_i32_643 arg19
  let v1295 : BitVec 32 := Scalar.addi c2_i32_644 v1294
  let c4_i32 : BitVec 32 := 4#32
  let v1296 : BitVec 32 := Scalar.addi v1295 c4_i32
  let v1304 : Index := Scalar.indexCast v1296
  ![v1304.toNat]
def k0_off54 (v1305 : BitVec 32) : Fin 3 → Nat :=
  let v1306 : Index := Scalar.indexCast v1305
  let c0_648 : Index := 0#32
  let c0_649 : Index := 0#32
  ![v1306.toNat, 0, 0]

def k0_chk27 (v1305 : BitVec 32) : Prop :=
  (∀ a, (k0_off54 v1305) a + S1x512x128.size a ≤ S16x512x128.size a)
theorem k0_off54_inb : ∀ (v1305 : BitVec 32) (k0_hw27 : k0_chk27 v1305), ∀ a, (k0_off54 v1305) a + S1x512x128.size a ≤ S16x512x128.size a := fun v1305 k0_hw27 => k0_hw27

def k0_off55 (k0_t2 : Fin k0_t2_loop.trips) : Fin 1 → Nat :=
  let c2_i32_644 : BitVec 32 := 2#32
  let c8_i32_643 : BitVec 32 := 8#32
  let c0_i32_30 : BitVec 32 := 0#32
  let c1_i32_31 : BitVec 32 := 1#32
  let arg19 : BitVec 32 := Scf.iv c0_i32_30 c1_i32_31 k0_t2
  let v1294 : BitVec 32 := Scalar.muli c8_i32_643 arg19
  let v1295 : BitVec 32 := Scalar.addi c2_i32_644 v1294
  let c4_i32 : BitVec 32 := 4#32
  let v1296 : BitVec 32 := Scalar.addi v1295 c4_i32
  let c1_i32_653 : BitVec 32 := 1#32
  let v1313 : BitVec 32 := Scalar.subi v1296 c1_i32_653
  let v1314 : Index := Scalar.indexCast v1313
  ![v1314.toNat]
def k0_off56 (v1315 : BitVec 32) : Fin 3 → Nat :=
  let v1319 : Index := Scalar.indexCast v1315
  let c0_656 : Index := 0#32
  let c0_657 : Index := 0#32
  ![v1319.toNat, 0, 0]

def k0_chk28 (v1315 : BitVec 32) : Prop :=
  (∀ a, (k0_off56 v1315) a + S1x512x128.size a ≤ S16x512x128.size a)
theorem k0_off56_inb : ∀ (v1315 : BitVec 32) (k0_hw28 : k0_chk28 v1315), ∀ a, (k0_off56 v1315) a + S1x512x128.size a ≤ S16x512x128.size a := fun v1315 k0_hw28 => k0_hw28

def k0_off57 (k0_t2 : Fin k0_t2_loop.trips) : Fin 1 → Nat :=
  let c2_i32_644 : BitVec 32 := 2#32
  let c8_i32_643 : BitVec 32 := 8#32
  let c0_i32_30 : BitVec 32 := 0#32
  let c1_i32_31 : BitVec 32 := 1#32
  let arg19 : BitVec 32 := Scf.iv c0_i32_30 c1_i32_31 k0_t2
  let v1294 : BitVec 32 := Scalar.muli c8_i32_643 arg19
  let v1295 : BitVec 32 := Scalar.addi c2_i32_644 v1294
  let c4_i32 : BitVec 32 := 4#32
  let v1296 : BitVec 32 := Scalar.addi v1295 c4_i32
  let c2_i32_665 : BitVec 32 := 2#32
  let v1346 : BitVec 32 := Scalar.subi v1296 c2_i32_665
  let v1347 : Index := Scalar.indexCast v1346
  ![v1347.toNat]
def k0_mult13 (v1350 : BitVec 32) : BitVec 32 :=
  let c256_i32_666 : BitVec 32 := 256#32
  let v1351 : BitVec 32 := Scalar.muli v1350 c256_i32_666
  v1351

def k0_off58 (v1350 : BitVec 32) : Fin 3 → Nat :=
  let c0_667 : Index := 0#32
  let c256_i32_666 : BitVec 32 := 256#32
  let v1351 : BitVec 32 := Scalar.muli v1350 c256_i32_666
  let v1352 : BitVec 32 := v1351
  let v1353 : Index := Scalar.indexCast v1352
  let c0_668 : Index := 0#32
  ![0, v1353.toNat, 0]

def k0_chk29 (v1350 : BitVec 32) : Prop :=
  (256 ∣ (k0_mult13 v1350).toNat) ∧
  (∀ a, (k0_off58 v1350) a + S1x256x128.size a ≤ S1x4096x128.size a)
theorem k0_mult13_dvd : ∀ (v1350 : BitVec 32) (k0_hw29 : k0_chk29 v1350), 256 ∣ (k0_mult13 v1350).toNat := fun v1350 k0_hw29 => k0_hw29.1
theorem k0_off58_inb : ∀ (v1350 : BitVec 32) (k0_hw29 : k0_chk29 v1350), ∀ a, (k0_off58 v1350) a + S1x256x128.size a ≤ S1x4096x128.size a := fun v1350 k0_hw29 => k0_hw29.2

def k0_off59 (v1348 : BitVec 32) : Fin 3 → Nat :=
  let v1360 : Index := Scalar.indexCast v1348
  let c0_674 : Index := 0#32
  let c0_675 : Index := 0#32
  ![v1360.toNat, 0, 0]

def k0_off60 (v1348 : BitVec 32) : Fin 3 → Nat :=
  let v1370 : Index := Scalar.indexCast v1348
  let c0_678 : Index := 0#32
  let c128_679 : Index := 128#32
  ![v1370.toNat, 0, 128]

def k0_chk30 (v1348 : BitVec 32) : Prop :=
  (∀ a, (k0_off59 v1348) a + S1x512x128.size a ≤ S16x512x256.size a) ∧
  (∀ a, (k0_off60 v1348) a + S1x512x128.size a ≤ S16x512x256.size a)
theorem k0_off59_inb : ∀ (v1348 : BitVec 32) (k0_hw30 : k0_chk30 v1348), ∀ a, (k0_off59 v1348) a + S1x512x128.size a ≤ S16x512x256.size a := fun v1348 k0_hw30 => k0_hw30.1
theorem k0_off60_inb : ∀ (v1348 : BitVec 32) (k0_hw30 : k0_chk30 v1348), ∀ a, (k0_off60 v1348) a + S1x512x128.size a ≤ S16x512x256.size a := fun v1348 k0_hw30 => k0_hw30.2

def k0_off61 (k0_t2 : Fin k0_t2_loop.trips) : Fin 1 → Nat :=
  let c2_i32_683 : BitVec 32 := 2#32
  let c8_i32_682 : BitVec 32 := 8#32
  let c0_i32_30 : BitVec 32 := 0#32
  let c1_i32_31 : BitVec 32 := 1#32
  let arg19 : BitVec 32 := Scf.iv c0_i32_30 c1_i32_31 k0_t2
  let v1380 : BitVec 32 := Scalar.muli c8_i32_682 arg19
  let v1381 : BitVec 32 := Scalar.addi c2_i32_683 v1380
  let c5_i32 : BitVec 32 := 5#32
  let v1382 : BitVec 32 := Scalar.addi v1381 c5_i32
  let v1383 : Index := Scalar.indexCast v1382
  ![v1383.toNat]
def k0_mult14 (v1384 : BitVec 32) : BitVec 32 :=
  let c256_i32_684 : BitVec 32 := 256#32
  let v1385 : BitVec 32 := Scalar.muli v1384 c256_i32_684
  v1385

def k0_off62 (v1384 : BitVec 32) : Fin 3 → Nat :=
  let c0_685 : Index := 0#32
  let c256_i32_684 : BitVec 32 := 256#32
  let v1385 : BitVec 32 := Scalar.muli v1384 c256_i32_684
  let v1386 : BitVec 32 := v1385
  let v1387 : Index := Scalar.indexCast v1386
  let c0_686 : Index := 0#32
  ![0, v1387.toNat, 0]

def k0_chk31 (v1384 : BitVec 32) : Prop :=
  (256 ∣ (k0_mult14 v1384).toNat) ∧
  (∀ a, (k0_off62 v1384) a + S1x256x128.size a ≤ S1x4096x128.size a)
theorem k0_mult14_dvd : ∀ (v1384 : BitVec 32) (k0_hw31 : k0_chk31 v1384), 256 ∣ (k0_mult14 v1384).toNat := fun v1384 k0_hw31 => k0_hw31.1
theorem k0_off62_inb : ∀ (v1384 : BitVec 32) (k0_hw31 : k0_chk31 v1384), ∀ a, (k0_off62 v1384) a + S1x256x128.size a ≤ S1x4096x128.size a := fun v1384 k0_hw31 => k0_hw31.2

def k0_off63 (k0_t2 : Fin k0_t2_loop.trips) : Fin 1 → Nat :=
  let c2_i32_683 : BitVec 32 := 2#32
  let c8_i32_682 : BitVec 32 := 8#32
  let c0_i32_30 : BitVec 32 := 0#32
  let c1_i32_31 : BitVec 32 := 1#32
  let arg19 : BitVec 32 := Scf.iv c0_i32_30 c1_i32_31 k0_t2
  let v1380 : BitVec 32 := Scalar.muli c8_i32_682 arg19
  let v1381 : BitVec 32 := Scalar.addi c2_i32_683 v1380
  let c5_i32 : BitVec 32 := 5#32
  let v1382 : BitVec 32 := Scalar.addi v1381 c5_i32
  let v1390 : Index := Scalar.indexCast v1382
  ![v1390.toNat]
def k0_off64 (v1391 : BitVec 32) : Fin 3 → Nat :=
  let v1392 : Index := Scalar.indexCast v1391
  let c0_687 : Index := 0#32
  let c0_688 : Index := 0#32
  ![v1392.toNat, 0, 0]

def k0_chk32 (v1391 : BitVec 32) : Prop :=
  (∀ a, (k0_off64 v1391) a + S1x512x128.size a ≤ S16x512x128.size a)
theorem k0_off64_inb : ∀ (v1391 : BitVec 32) (k0_hw32 : k0_chk32 v1391), ∀ a, (k0_off64 v1391) a + S1x512x128.size a ≤ S16x512x128.size a := fun v1391 k0_hw32 => k0_hw32

def k0_off65 (k0_t2 : Fin k0_t2_loop.trips) : Fin 1 → Nat :=
  let c2_i32_683 : BitVec 32 := 2#32
  let c8_i32_682 : BitVec 32 := 8#32
  let c0_i32_30 : BitVec 32 := 0#32
  let c1_i32_31 : BitVec 32 := 1#32
  let arg19 : BitVec 32 := Scf.iv c0_i32_30 c1_i32_31 k0_t2
  let v1380 : BitVec 32 := Scalar.muli c8_i32_682 arg19
  let v1381 : BitVec 32 := Scalar.addi c2_i32_683 v1380
  let c5_i32 : BitVec 32 := 5#32
  let v1382 : BitVec 32 := Scalar.addi v1381 c5_i32
  let c1_i32_692 : BitVec 32 := 1#32
  let v1399 : BitVec 32 := Scalar.subi v1382 c1_i32_692
  let v1400 : Index := Scalar.indexCast v1399
  ![v1400.toNat]
def k0_off66 (v1401 : BitVec 32) : Fin 3 → Nat :=
  let v1405 : Index := Scalar.indexCast v1401
  let c0_695 : Index := 0#32
  let c0_696 : Index := 0#32
  ![v1405.toNat, 0, 0]

def k0_chk33 (v1401 : BitVec 32) : Prop :=
  (∀ a, (k0_off66 v1401) a + S1x512x128.size a ≤ S16x512x128.size a)
theorem k0_off66_inb : ∀ (v1401 : BitVec 32) (k0_hw33 : k0_chk33 v1401), ∀ a, (k0_off66 v1401) a + S1x512x128.size a ≤ S16x512x128.size a := fun v1401 k0_hw33 => k0_hw33

def k0_off67 (k0_t2 : Fin k0_t2_loop.trips) : Fin 1 → Nat :=
  let c2_i32_683 : BitVec 32 := 2#32
  let c8_i32_682 : BitVec 32 := 8#32
  let c0_i32_30 : BitVec 32 := 0#32
  let c1_i32_31 : BitVec 32 := 1#32
  let arg19 : BitVec 32 := Scf.iv c0_i32_30 c1_i32_31 k0_t2
  let v1380 : BitVec 32 := Scalar.muli c8_i32_682 arg19
  let v1381 : BitVec 32 := Scalar.addi c2_i32_683 v1380
  let c5_i32 : BitVec 32 := 5#32
  let v1382 : BitVec 32 := Scalar.addi v1381 c5_i32
  let c2_i32_704 : BitVec 32 := 2#32
  let v1432 : BitVec 32 := Scalar.subi v1382 c2_i32_704
  let v1433 : Index := Scalar.indexCast v1432
  ![v1433.toNat]
def k0_mult15 (v1436 : BitVec 32) : BitVec 32 :=
  let c256_i32_705 : BitVec 32 := 256#32
  let v1437 : BitVec 32 := Scalar.muli v1436 c256_i32_705
  v1437

def k0_off68 (v1436 : BitVec 32) : Fin 3 → Nat :=
  let c0_706 : Index := 0#32
  let c256_i32_705 : BitVec 32 := 256#32
  let v1437 : BitVec 32 := Scalar.muli v1436 c256_i32_705
  let v1438 : BitVec 32 := v1437
  let v1439 : Index := Scalar.indexCast v1438
  let c0_707 : Index := 0#32
  ![0, v1439.toNat, 0]

def k0_chk34 (v1436 : BitVec 32) : Prop :=
  (256 ∣ (k0_mult15 v1436).toNat) ∧
  (∀ a, (k0_off68 v1436) a + S1x256x128.size a ≤ S1x4096x128.size a)
theorem k0_mult15_dvd : ∀ (v1436 : BitVec 32) (k0_hw34 : k0_chk34 v1436), 256 ∣ (k0_mult15 v1436).toNat := fun v1436 k0_hw34 => k0_hw34.1
theorem k0_off68_inb : ∀ (v1436 : BitVec 32) (k0_hw34 : k0_chk34 v1436), ∀ a, (k0_off68 v1436) a + S1x256x128.size a ≤ S1x4096x128.size a := fun v1436 k0_hw34 => k0_hw34.2

def k0_off69 (v1434 : BitVec 32) : Fin 3 → Nat :=
  let v1446 : Index := Scalar.indexCast v1434
  let c0_713 : Index := 0#32
  let c0_714 : Index := 0#32
  ![v1446.toNat, 0, 0]

def k0_off70 (v1434 : BitVec 32) : Fin 3 → Nat :=
  let v1456 : Index := Scalar.indexCast v1434
  let c0_717 : Index := 0#32
  let c128_718 : Index := 128#32
  ![v1456.toNat, 0, 128]

def k0_chk35 (v1434 : BitVec 32) : Prop :=
  (∀ a, (k0_off69 v1434) a + S1x512x128.size a ≤ S16x512x256.size a) ∧
  (∀ a, (k0_off70 v1434) a + S1x512x128.size a ≤ S16x512x256.size a)
theorem k0_off69_inb : ∀ (v1434 : BitVec 32) (k0_hw35 : k0_chk35 v1434), ∀ a, (k0_off69 v1434) a + S1x512x128.size a ≤ S16x512x256.size a := fun v1434 k0_hw35 => k0_hw35.1
theorem k0_off70_inb : ∀ (v1434 : BitVec 32) (k0_hw35 : k0_chk35 v1434), ∀ a, (k0_off70 v1434) a + S1x512x128.size a ≤ S16x512x256.size a := fun v1434 k0_hw35 => k0_hw35.2

def k0_off71 (k0_t2 : Fin k0_t2_loop.trips) : Fin 1 → Nat :=
  let c2_i32_722 : BitVec 32 := 2#32
  let c8_i32_721 : BitVec 32 := 8#32
  let c0_i32_30 : BitVec 32 := 0#32
  let c1_i32_31 : BitVec 32 := 1#32
  let arg19 : BitVec 32 := Scf.iv c0_i32_30 c1_i32_31 k0_t2
  let v1466 : BitVec 32 := Scalar.muli c8_i32_721 arg19
  let v1467 : BitVec 32 := Scalar.addi c2_i32_722 v1466
  let c6_i32 : BitVec 32 := 6#32
  let v1468 : BitVec 32 := Scalar.addi v1467 c6_i32
  let v1469 : Index := Scalar.indexCast v1468
  ![v1469.toNat]
def k0_mult16 (v1470 : BitVec 32) : BitVec 32 :=
  let c256_i32_723 : BitVec 32 := 256#32
  let v1471 : BitVec 32 := Scalar.muli v1470 c256_i32_723
  v1471

def k0_off72 (v1470 : BitVec 32) : Fin 3 → Nat :=
  let c0_724 : Index := 0#32
  let c256_i32_723 : BitVec 32 := 256#32
  let v1471 : BitVec 32 := Scalar.muli v1470 c256_i32_723
  let v1472 : BitVec 32 := v1471
  let v1473 : Index := Scalar.indexCast v1472
  let c0_725 : Index := 0#32
  ![0, v1473.toNat, 0]

def k0_chk36 (v1470 : BitVec 32) : Prop :=
  (256 ∣ (k0_mult16 v1470).toNat) ∧
  (∀ a, (k0_off72 v1470) a + S1x256x128.size a ≤ S1x4096x128.size a)
theorem k0_mult16_dvd : ∀ (v1470 : BitVec 32) (k0_hw36 : k0_chk36 v1470), 256 ∣ (k0_mult16 v1470).toNat := fun v1470 k0_hw36 => k0_hw36.1
theorem k0_off72_inb : ∀ (v1470 : BitVec 32) (k0_hw36 : k0_chk36 v1470), ∀ a, (k0_off72 v1470) a + S1x256x128.size a ≤ S1x4096x128.size a := fun v1470 k0_hw36 => k0_hw36.2

def k0_off73 (k0_t2 : Fin k0_t2_loop.trips) : Fin 1 → Nat :=
  let c2_i32_722 : BitVec 32 := 2#32
  let c8_i32_721 : BitVec 32 := 8#32
  let c0_i32_30 : BitVec 32 := 0#32
  let c1_i32_31 : BitVec 32 := 1#32
  let arg19 : BitVec 32 := Scf.iv c0_i32_30 c1_i32_31 k0_t2
  let v1466 : BitVec 32 := Scalar.muli c8_i32_721 arg19
  let v1467 : BitVec 32 := Scalar.addi c2_i32_722 v1466
  let c6_i32 : BitVec 32 := 6#32
  let v1468 : BitVec 32 := Scalar.addi v1467 c6_i32
  let v1476 : Index := Scalar.indexCast v1468
  ![v1476.toNat]
def k0_off74 (v1477 : BitVec 32) : Fin 3 → Nat :=
  let v1478 : Index := Scalar.indexCast v1477
  let c0_726 : Index := 0#32
  let c0_727 : Index := 0#32
  ![v1478.toNat, 0, 0]

def k0_chk37 (v1477 : BitVec 32) : Prop :=
  (∀ a, (k0_off74 v1477) a + S1x512x128.size a ≤ S16x512x128.size a)
theorem k0_off74_inb : ∀ (v1477 : BitVec 32) (k0_hw37 : k0_chk37 v1477), ∀ a, (k0_off74 v1477) a + S1x512x128.size a ≤ S16x512x128.size a := fun v1477 k0_hw37 => k0_hw37

def k0_off75 (k0_t2 : Fin k0_t2_loop.trips) : Fin 1 → Nat :=
  let c2_i32_722 : BitVec 32 := 2#32
  let c8_i32_721 : BitVec 32 := 8#32
  let c0_i32_30 : BitVec 32 := 0#32
  let c1_i32_31 : BitVec 32 := 1#32
  let arg19 : BitVec 32 := Scf.iv c0_i32_30 c1_i32_31 k0_t2
  let v1466 : BitVec 32 := Scalar.muli c8_i32_721 arg19
  let v1467 : BitVec 32 := Scalar.addi c2_i32_722 v1466
  let c6_i32 : BitVec 32 := 6#32
  let v1468 : BitVec 32 := Scalar.addi v1467 c6_i32
  let c1_i32_731 : BitVec 32 := 1#32
  let v1485 : BitVec 32 := Scalar.subi v1468 c1_i32_731
  let v1486 : Index := Scalar.indexCast v1485
  ![v1486.toNat]
def k0_off76 (v1487 : BitVec 32) : Fin 3 → Nat :=
  let v1491 : Index := Scalar.indexCast v1487
  let c0_734 : Index := 0#32
  let c0_735 : Index := 0#32
  ![v1491.toNat, 0, 0]

def k0_chk38 (v1487 : BitVec 32) : Prop :=
  (∀ a, (k0_off76 v1487) a + S1x512x128.size a ≤ S16x512x128.size a)
theorem k0_off76_inb : ∀ (v1487 : BitVec 32) (k0_hw38 : k0_chk38 v1487), ∀ a, (k0_off76 v1487) a + S1x512x128.size a ≤ S16x512x128.size a := fun v1487 k0_hw38 => k0_hw38

def k0_off77 (k0_t2 : Fin k0_t2_loop.trips) : Fin 1 → Nat :=
  let c2_i32_722 : BitVec 32 := 2#32
  let c8_i32_721 : BitVec 32 := 8#32
  let c0_i32_30 : BitVec 32 := 0#32
  let c1_i32_31 : BitVec 32 := 1#32
  let arg19 : BitVec 32 := Scf.iv c0_i32_30 c1_i32_31 k0_t2
  let v1466 : BitVec 32 := Scalar.muli c8_i32_721 arg19
  let v1467 : BitVec 32 := Scalar.addi c2_i32_722 v1466
  let c6_i32 : BitVec 32 := 6#32
  let v1468 : BitVec 32 := Scalar.addi v1467 c6_i32
  let c2_i32_743 : BitVec 32 := 2#32
  let v1518 : BitVec 32 := Scalar.subi v1468 c2_i32_743
  let v1519 : Index := Scalar.indexCast v1518
  ![v1519.toNat]
def k0_mult17 (v1522 : BitVec 32) : BitVec 32 :=
  let c256_i32_744 : BitVec 32 := 256#32
  let v1523 : BitVec 32 := Scalar.muli v1522 c256_i32_744
  v1523

def k0_off78 (v1522 : BitVec 32) : Fin 3 → Nat :=
  let c0_745 : Index := 0#32
  let c256_i32_744 : BitVec 32 := 256#32
  let v1523 : BitVec 32 := Scalar.muli v1522 c256_i32_744
  let v1524 : BitVec 32 := v1523
  let v1525 : Index := Scalar.indexCast v1524
  let c0_746 : Index := 0#32
  ![0, v1525.toNat, 0]

def k0_chk39 (v1522 : BitVec 32) : Prop :=
  (256 ∣ (k0_mult17 v1522).toNat) ∧
  (∀ a, (k0_off78 v1522) a + S1x256x128.size a ≤ S1x4096x128.size a)
theorem k0_mult17_dvd : ∀ (v1522 : BitVec 32) (k0_hw39 : k0_chk39 v1522), 256 ∣ (k0_mult17 v1522).toNat := fun v1522 k0_hw39 => k0_hw39.1
theorem k0_off78_inb : ∀ (v1522 : BitVec 32) (k0_hw39 : k0_chk39 v1522), ∀ a, (k0_off78 v1522) a + S1x256x128.size a ≤ S1x4096x128.size a := fun v1522 k0_hw39 => k0_hw39.2

def k0_off79 (v1520 : BitVec 32) : Fin 3 → Nat :=
  let v1532 : Index := Scalar.indexCast v1520
  let c0_752 : Index := 0#32
  let c0_753 : Index := 0#32
  ![v1532.toNat, 0, 0]

def k0_off80 (v1520 : BitVec 32) : Fin 3 → Nat :=
  let v1542 : Index := Scalar.indexCast v1520
  let c0_756 : Index := 0#32
  let c128_757 : Index := 128#32
  ![v1542.toNat, 0, 128]

def k0_chk40 (v1520 : BitVec 32) : Prop :=
  (∀ a, (k0_off79 v1520) a + S1x512x128.size a ≤ S16x512x256.size a) ∧
  (∀ a, (k0_off80 v1520) a + S1x512x128.size a ≤ S16x512x256.size a)
theorem k0_off79_inb : ∀ (v1520 : BitVec 32) (k0_hw40 : k0_chk40 v1520), ∀ a, (k0_off79 v1520) a + S1x512x128.size a ≤ S16x512x256.size a := fun v1520 k0_hw40 => k0_hw40.1
theorem k0_off80_inb : ∀ (v1520 : BitVec 32) (k0_hw40 : k0_chk40 v1520), ∀ a, (k0_off80 v1520) a + S1x512x128.size a ≤ S16x512x256.size a := fun v1520 k0_hw40 => k0_hw40.2

def k0_off81 (k0_t2 : Fin k0_t2_loop.trips) : Fin 1 → Nat :=
  let c2_i32_761 : BitVec 32 := 2#32
  let c8_i32_760 : BitVec 32 := 8#32
  let c0_i32_30 : BitVec 32 := 0#32
  let c1_i32_31 : BitVec 32 := 1#32
  let arg19 : BitVec 32 := Scf.iv c0_i32_30 c1_i32_31 k0_t2
  let v1552 : BitVec 32 := Scalar.muli c8_i32_760 arg19
  let v1553 : BitVec 32 := Scalar.addi c2_i32_761 v1552
  let c7_i32 : BitVec 32 := 7#32
  let v1554 : BitVec 32 := Scalar.addi v1553 c7_i32
  let v1555 : Index := Scalar.indexCast v1554
  ![v1555.toNat]
def k0_mult18 (v1556 : BitVec 32) : BitVec 32 :=
  let c256_i32_762 : BitVec 32 := 256#32
  let v1557 : BitVec 32 := Scalar.muli v1556 c256_i32_762
  v1557

def k0_off82 (v1556 : BitVec 32) : Fin 3 → Nat :=
  let c0_763 : Index := 0#32
  let c256_i32_762 : BitVec 32 := 256#32
  let v1557 : BitVec 32 := Scalar.muli v1556 c256_i32_762
  let v1558 : BitVec 32 := v1557
  let v1559 : Index := Scalar.indexCast v1558
  let c0_764 : Index := 0#32
  ![0, v1559.toNat, 0]

def k0_chk41 (v1556 : BitVec 32) : Prop :=
  (256 ∣ (k0_mult18 v1556).toNat) ∧
  (∀ a, (k0_off82 v1556) a + S1x256x128.size a ≤ S1x4096x128.size a)
theorem k0_mult18_dvd : ∀ (v1556 : BitVec 32) (k0_hw41 : k0_chk41 v1556), 256 ∣ (k0_mult18 v1556).toNat := fun v1556 k0_hw41 => k0_hw41.1
theorem k0_off82_inb : ∀ (v1556 : BitVec 32) (k0_hw41 : k0_chk41 v1556), ∀ a, (k0_off82 v1556) a + S1x256x128.size a ≤ S1x4096x128.size a := fun v1556 k0_hw41 => k0_hw41.2

def k0_off83 (k0_t2 : Fin k0_t2_loop.trips) : Fin 1 → Nat :=
  let c2_i32_761 : BitVec 32 := 2#32
  let c8_i32_760 : BitVec 32 := 8#32
  let c0_i32_30 : BitVec 32 := 0#32
  let c1_i32_31 : BitVec 32 := 1#32
  let arg19 : BitVec 32 := Scf.iv c0_i32_30 c1_i32_31 k0_t2
  let v1552 : BitVec 32 := Scalar.muli c8_i32_760 arg19
  let v1553 : BitVec 32 := Scalar.addi c2_i32_761 v1552
  let c7_i32 : BitVec 32 := 7#32
  let v1554 : BitVec 32 := Scalar.addi v1553 c7_i32
  let v1562 : Index := Scalar.indexCast v1554
  ![v1562.toNat]
def k0_off84 (v1563 : BitVec 32) : Fin 3 → Nat :=
  let v1564 : Index := Scalar.indexCast v1563
  let c0_765 : Index := 0#32
  let c0_766 : Index := 0#32
  ![v1564.toNat, 0, 0]

def k0_chk42 (v1563 : BitVec 32) : Prop :=
  (∀ a, (k0_off84 v1563) a + S1x512x128.size a ≤ S16x512x128.size a)
theorem k0_off84_inb : ∀ (v1563 : BitVec 32) (k0_hw42 : k0_chk42 v1563), ∀ a, (k0_off84 v1563) a + S1x512x128.size a ≤ S16x512x128.size a := fun v1563 k0_hw42 => k0_hw42

def k0_off85 (k0_t2 : Fin k0_t2_loop.trips) : Fin 1 → Nat :=
  let c2_i32_761 : BitVec 32 := 2#32
  let c8_i32_760 : BitVec 32 := 8#32
  let c0_i32_30 : BitVec 32 := 0#32
  let c1_i32_31 : BitVec 32 := 1#32
  let arg19 : BitVec 32 := Scf.iv c0_i32_30 c1_i32_31 k0_t2
  let v1552 : BitVec 32 := Scalar.muli c8_i32_760 arg19
  let v1553 : BitVec 32 := Scalar.addi c2_i32_761 v1552
  let c7_i32 : BitVec 32 := 7#32
  let v1554 : BitVec 32 := Scalar.addi v1553 c7_i32
  let c1_i32_770 : BitVec 32 := 1#32
  let v1571 : BitVec 32 := Scalar.subi v1554 c1_i32_770
  let v1572 : Index := Scalar.indexCast v1571
  ![v1572.toNat]
def k0_off86 (v1573 : BitVec 32) : Fin 3 → Nat :=
  let v1577 : Index := Scalar.indexCast v1573
  let c0_773 : Index := 0#32
  let c0_774 : Index := 0#32
  ![v1577.toNat, 0, 0]

def k0_chk43 (v1573 : BitVec 32) : Prop :=
  (∀ a, (k0_off86 v1573) a + S1x512x128.size a ≤ S16x512x128.size a)
theorem k0_off86_inb : ∀ (v1573 : BitVec 32) (k0_hw43 : k0_chk43 v1573), ∀ a, (k0_off86 v1573) a + S1x512x128.size a ≤ S16x512x128.size a := fun v1573 k0_hw43 => k0_hw43

def k0_off87 (k0_t2 : Fin k0_t2_loop.trips) : Fin 1 → Nat :=
  let c2_i32_761 : BitVec 32 := 2#32
  let c8_i32_760 : BitVec 32 := 8#32
  let c0_i32_30 : BitVec 32 := 0#32
  let c1_i32_31 : BitVec 32 := 1#32
  let arg19 : BitVec 32 := Scf.iv c0_i32_30 c1_i32_31 k0_t2
  let v1552 : BitVec 32 := Scalar.muli c8_i32_760 arg19
  let v1553 : BitVec 32 := Scalar.addi c2_i32_761 v1552
  let c7_i32 : BitVec 32 := 7#32
  let v1554 : BitVec 32 := Scalar.addi v1553 c7_i32
  let c2_i32_782 : BitVec 32 := 2#32
  let v1604 : BitVec 32 := Scalar.subi v1554 c2_i32_782
  let v1605 : Index := Scalar.indexCast v1604
  ![v1605.toNat]
def k0_mult19 (v1608 : BitVec 32) : BitVec 32 :=
  let c256_i32_783 : BitVec 32 := 256#32
  let v1609 : BitVec 32 := Scalar.muli v1608 c256_i32_783
  v1609

def k0_off88 (v1608 : BitVec 32) : Fin 3 → Nat :=
  let c0_784 : Index := 0#32
  let c256_i32_783 : BitVec 32 := 256#32
  let v1609 : BitVec 32 := Scalar.muli v1608 c256_i32_783
  let v1610 : BitVec 32 := v1609
  let v1611 : Index := Scalar.indexCast v1610
  let c0_785 : Index := 0#32
  ![0, v1611.toNat, 0]

def k0_chk44 (v1608 : BitVec 32) : Prop :=
  (256 ∣ (k0_mult19 v1608).toNat) ∧
  (∀ a, (k0_off88 v1608) a + S1x256x128.size a ≤ S1x4096x128.size a)
theorem k0_mult19_dvd : ∀ (v1608 : BitVec 32) (k0_hw44 : k0_chk44 v1608), 256 ∣ (k0_mult19 v1608).toNat := fun v1608 k0_hw44 => k0_hw44.1
theorem k0_off88_inb : ∀ (v1608 : BitVec 32) (k0_hw44 : k0_chk44 v1608), ∀ a, (k0_off88 v1608) a + S1x256x128.size a ≤ S1x4096x128.size a := fun v1608 k0_hw44 => k0_hw44.2

def k0_off89 (v1606 : BitVec 32) : Fin 3 → Nat :=
  let v1618 : Index := Scalar.indexCast v1606
  let c0_791 : Index := 0#32
  let c0_792 : Index := 0#32
  ![v1618.toNat, 0, 0]

def k0_off90 (v1606 : BitVec 32) : Fin 3 → Nat :=
  let v1628 : Index := Scalar.indexCast v1606
  let c0_795 : Index := 0#32
  let c128_796 : Index := 128#32
  ![v1628.toNat, 0, 128]

def k0_chk45 (v1606 : BitVec 32) : Prop :=
  (∀ a, (k0_off89 v1606) a + S1x512x128.size a ≤ S16x512x256.size a) ∧
  (∀ a, (k0_off90 v1606) a + S1x512x128.size a ≤ S16x512x256.size a)
theorem k0_off89_inb : ∀ (v1606 : BitVec 32) (k0_hw45 : k0_chk45 v1606), ∀ a, (k0_off89 v1606) a + S1x512x128.size a ≤ S16x512x256.size a := fun v1606 k0_hw45 => k0_hw45.1
theorem k0_off90_inb : ∀ (v1606 : BitVec 32) (k0_hw45 : k0_chk45 v1606), ∀ a, (k0_off90 v1606) a + S1x512x128.size a ≤ S16x512x256.size a := fun v1606 k0_hw45 => k0_hw45.2

def k0_mult20 (v67 : BitVec 32) : BitVec 32 :=
  let c256_i32_33 : BitVec 32 := 256#32
  let v68 : BitVec 32 := Scalar.muli v67 c256_i32_33
  v68

def k0_off91 (v67 : BitVec 32) : Fin 3 → Nat :=
  let c0_34 : Index := 0#32
  let c256_i32_33 : BitVec 32 := 256#32
  let v68 : BitVec 32 := Scalar.muli v67 c256_i32_33
  let v69 : BitVec 32 := v68
  let v70 : Index := Scalar.indexCast v69
  let c0_35 : Index := 0#32
  ![0, v70.toNat, 0]

def k0_chk46 (v67 : BitVec 32) : Prop :=
  (256 ∣ (k0_mult20 v67).toNat) ∧
  (∀ a, (k0_off91 v67) a + S1x256x128.size a ≤ S1x4096x128.size a)
theorem k0_mult20_dvd : ∀ (v67 : BitVec 32) (k0_hw46 : k0_chk46 v67), 256 ∣ (k0_mult20 v67).toNat := fun v67 k0_hw46 => k0_hw46.1
theorem k0_off91_inb : ∀ (v67 : BitVec 32) (k0_hw46 : k0_chk46 v67), ∀ a, (k0_off91 v67) a + S1x256x128.size a ≤ S1x4096x128.size a := fun v67 k0_hw46 => k0_hw46.2

def k0_off92 (v73 : BitVec 32) : Fin 3 → Nat :=
  let v74 : Index := Scalar.indexCast v73
  let c0_37 : Index := 0#32
  let c0_38 : Index := 0#32
  ![v74.toNat, 0, 0]

def k0_chk47 (v73 : BitVec 32) : Prop :=
  (∀ a, (k0_off92 v73) a + S1x512x128.size a ≤ S16x512x128.size a)
theorem k0_off92_inb : ∀ (v73 : BitVec 32) (k0_hw47 : k0_chk47 v73), ∀ a, (k0_off92 v73) a + S1x512x128.size a ≤ S16x512x128.size a := fun v73 k0_hw47 => k0_hw47

def k0_off93 (v81 : BitVec 32) : Fin 3 → Nat :=
  let v85 : Index := Scalar.indexCast v81
  let c0_44 : Index := 0#32
  let c0_45 : Index := 0#32
  ![v85.toNat, 0, 0]

def k0_chk48 (v81 : BitVec 32) : Prop :=
  (∀ a, (k0_off93 v81) a + S1x512x128.size a ≤ S16x512x128.size a)
theorem k0_off93_inb : ∀ (v81 : BitVec 32) (k0_hw48 : k0_chk48 v81), ∀ a, (k0_off93 v81) a + S1x512x128.size a ≤ S16x512x128.size a := fun v81 k0_hw48 => k0_hw48

def k0_mult21 (v113 : BitVec 32) : BitVec 32 :=
  let c256_i32_54 : BitVec 32 := 256#32
  let v114 : BitVec 32 := Scalar.muli v113 c256_i32_54
  v114

def k0_off94 (v113 : BitVec 32) : Fin 3 → Nat :=
  let c0_55 : Index := 0#32
  let c256_i32_54 : BitVec 32 := 256#32
  let v114 : BitVec 32 := Scalar.muli v113 c256_i32_54
  let v115 : BitVec 32 := v114
  let v116 : Index := Scalar.indexCast v115
  let c0_56 : Index := 0#32
  ![0, v116.toNat, 0]

def k0_chk49 (v113 : BitVec 32) : Prop :=
  (256 ∣ (k0_mult21 v113).toNat) ∧
  (∀ a, (k0_off94 v113) a + S1x256x128.size a ≤ S1x4096x128.size a)
theorem k0_mult21_dvd : ∀ (v113 : BitVec 32) (k0_hw49 : k0_chk49 v113), 256 ∣ (k0_mult21 v113).toNat := fun v113 k0_hw49 => k0_hw49.1
theorem k0_off94_inb : ∀ (v113 : BitVec 32) (k0_hw49 : k0_chk49 v113), ∀ a, (k0_off94 v113) a + S1x256x128.size a ≤ S1x4096x128.size a := fun v113 k0_hw49 => k0_hw49.2

def k0_off95 (v112 : BitVec 32) : Fin 3 → Nat :=
  let v123 : Index := Scalar.indexCast v112
  let c0_62 : Index := 0#32
  let c0_63 : Index := 0#32
  ![v123.toNat, 0, 0]

def k0_off96 (v112 : BitVec 32) : Fin 3 → Nat :=
  let v133 : Index := Scalar.indexCast v112
  let c0_66 : Index := 0#32
  let c128 : Index := 128#32
  ![v133.toNat, 0, 128]

def k0_chk50 (v112 : BitVec 32) : Prop :=
  (∀ a, (k0_off95 v112) a + S1x512x128.size a ≤ S16x512x256.size a) ∧
  (∀ a, (k0_off96 v112) a + S1x512x128.size a ≤ S16x512x256.size a)
theorem k0_off95_inb : ∀ (v112 : BitVec 32) (k0_hw50 : k0_chk50 v112), ∀ a, (k0_off95 v112) a + S1x512x128.size a ≤ S16x512x256.size a := fun v112 k0_hw50 => k0_hw50.1
theorem k0_off96_inb : ∀ (v112 : BitVec 32) (k0_hw50 : k0_chk50 v112), ∀ a, (k0_off96 v112) a + S1x512x128.size a ≤ S16x512x256.size a := fun v112 k0_hw50 => k0_hw50.2

def k0_mult22 (v143 : BitVec 32) : BitVec 32 :=
  let c256_i32_69 : BitVec 32 := 256#32
  let v144 : BitVec 32 := Scalar.muli v143 c256_i32_69
  v144

def k0_off97 (v143 : BitVec 32) : Fin 3 → Nat :=
  let c0_70 : Index := 0#32
  let c256_i32_69 : BitVec 32 := 256#32
  let v144 : BitVec 32 := Scalar.muli v143 c256_i32_69
  let v145 : BitVec 32 := v144
  let v146 : Index := Scalar.indexCast v145
  let c0_71 : Index := 0#32
  ![0, v146.toNat, 0]

def k0_chk51 (v143 : BitVec 32) : Prop :=
  (256 ∣ (k0_mult22 v143).toNat) ∧
  (∀ a, (k0_off97 v143) a + S1x256x128.size a ≤ S1x4096x128.size a)
theorem k0_mult22_dvd : ∀ (v143 : BitVec 32) (k0_hw51 : k0_chk51 v143), 256 ∣ (k0_mult22 v143).toNat := fun v143 k0_hw51 => k0_hw51.1
theorem k0_off97_inb : ∀ (v143 : BitVec 32) (k0_hw51 : k0_chk51 v143), ∀ a, (k0_off97 v143) a + S1x256x128.size a ≤ S1x4096x128.size a := fun v143 k0_hw51 => k0_hw51.2

def k0_off98 (v149 : BitVec 32) : Fin 3 → Nat :=
  let v150 : Index := Scalar.indexCast v149
  let c0_73 : Index := 0#32
  let c0_74 : Index := 0#32
  ![v150.toNat, 0, 0]

def k0_chk52 (v149 : BitVec 32) : Prop :=
  (∀ a, (k0_off98 v149) a + S1x512x128.size a ≤ S16x512x128.size a)
theorem k0_off98_inb : ∀ (v149 : BitVec 32) (k0_hw52 : k0_chk52 v149), ∀ a, (k0_off98 v149) a + S1x512x128.size a ≤ S16x512x128.size a := fun v149 k0_hw52 => k0_hw52

def k0_off99 (v157 : BitVec 32) : Fin 3 → Nat :=
  let v161 : Index := Scalar.indexCast v157
  let c0_81 : Index := 0#32
  let c0_82 : Index := 0#32
  ![v161.toNat, 0, 0]

def k0_chk53 (v157 : BitVec 32) : Prop :=
  (∀ a, (k0_off99 v157) a + S1x512x128.size a ≤ S16x512x128.size a)
theorem k0_off99_inb : ∀ (v157 : BitVec 32) (k0_hw53 : k0_chk53 v157), ∀ a, (k0_off99 v157) a + S1x512x128.size a ≤ S16x512x128.size a := fun v157 k0_hw53 => k0_hw53

def k0_mult23 (v189 : BitVec 32) : BitVec 32 :=
  let c256_i32_92 : BitVec 32 := 256#32
  let v190 : BitVec 32 := Scalar.muli v189 c256_i32_92
  v190

def k0_off100 (v189 : BitVec 32) : Fin 3 → Nat :=
  let c0_93 : Index := 0#32
  let c256_i32_92 : BitVec 32 := 256#32
  let v190 : BitVec 32 := Scalar.muli v189 c256_i32_92
  let v191 : BitVec 32 := v190
  let v192 : Index := Scalar.indexCast v191
  let c0_94 : Index := 0#32
  ![0, v192.toNat, 0]

def k0_chk54 (v189 : BitVec 32) : Prop :=
  (256 ∣ (k0_mult23 v189).toNat) ∧
  (∀ a, (k0_off100 v189) a + S1x256x128.size a ≤ S1x4096x128.size a)
theorem k0_mult23_dvd : ∀ (v189 : BitVec 32) (k0_hw54 : k0_chk54 v189), 256 ∣ (k0_mult23 v189).toNat := fun v189 k0_hw54 => k0_hw54.1
theorem k0_off100_inb : ∀ (v189 : BitVec 32) (k0_hw54 : k0_chk54 v189), ∀ a, (k0_off100 v189) a + S1x256x128.size a ≤ S1x4096x128.size a := fun v189 k0_hw54 => k0_hw54.2

def k0_off101 (v188 : BitVec 32) : Fin 3 → Nat :=
  let v199 : Index := Scalar.indexCast v188
  let c0_100 : Index := 0#32
  let c0_101 : Index := 0#32
  ![v199.toNat, 0, 0]

def k0_off102 (v188 : BitVec 32) : Fin 3 → Nat :=
  let v209 : Index := Scalar.indexCast v188
  let c0_104 : Index := 0#32
  let c128_105 : Index := 128#32
  ![v209.toNat, 0, 128]

def k0_chk55 (v188 : BitVec 32) : Prop :=
  (∀ a, (k0_off101 v188) a + S1x512x128.size a ≤ S16x512x256.size a) ∧
  (∀ a, (k0_off102 v188) a + S1x512x128.size a ≤ S16x512x256.size a)
theorem k0_off101_inb : ∀ (v188 : BitVec 32) (k0_hw55 : k0_chk55 v188), ∀ a, (k0_off101 v188) a + S1x512x128.size a ≤ S16x512x256.size a := fun v188 k0_hw55 => k0_hw55.1
theorem k0_off102_inb : ∀ (v188 : BitVec 32) (k0_hw55 : k0_chk55 v188), ∀ a, (k0_off102 v188) a + S1x512x128.size a ≤ S16x512x256.size a := fun v188 k0_hw55 => k0_hw55.2

def k0_mult24 (v219 : BitVec 32) : BitVec 32 :=
  let c256_i32_108 : BitVec 32 := 256#32
  let v220 : BitVec 32 := Scalar.muli v219 c256_i32_108
  v220

def k0_off103 (v219 : BitVec 32) : Fin 3 → Nat :=
  let c0_109 : Index := 0#32
  let c256_i32_108 : BitVec 32 := 256#32
  let v220 : BitVec 32 := Scalar.muli v219 c256_i32_108
  let v221 : BitVec 32 := v220
  let v222 : Index := Scalar.indexCast v221
  let c0_110 : Index := 0#32
  ![0, v222.toNat, 0]

def k0_chk56 (v219 : BitVec 32) : Prop :=
  (256 ∣ (k0_mult24 v219).toNat) ∧
  (∀ a, (k0_off103 v219) a + S1x256x128.size a ≤ S1x4096x128.size a)
theorem k0_mult24_dvd : ∀ (v219 : BitVec 32) (k0_hw56 : k0_chk56 v219), 256 ∣ (k0_mult24 v219).toNat := fun v219 k0_hw56 => k0_hw56.1
theorem k0_off103_inb : ∀ (v219 : BitVec 32) (k0_hw56 : k0_chk56 v219), ∀ a, (k0_off103 v219) a + S1x256x128.size a ≤ S1x4096x128.size a := fun v219 k0_hw56 => k0_hw56.2

def k0_off104 (v225 : BitVec 32) : Fin 3 → Nat :=
  let v226 : Index := Scalar.indexCast v225
  let c0_112 : Index := 0#32
  let c0_113 : Index := 0#32
  ![v226.toNat, 0, 0]

def k0_chk57 (v225 : BitVec 32) : Prop :=
  (∀ a, (k0_off104 v225) a + S1x512x128.size a ≤ S16x512x128.size a)
theorem k0_off104_inb : ∀ (v225 : BitVec 32) (k0_hw57 : k0_chk57 v225), ∀ a, (k0_off104 v225) a + S1x512x128.size a ≤ S16x512x128.size a := fun v225 k0_hw57 => k0_hw57

def k0_off105 (v233 : BitVec 32) : Fin 3 → Nat :=
  let v237 : Index := Scalar.indexCast v233
  let c0_120 : Index := 0#32
  let c0_121 : Index := 0#32
  ![v237.toNat, 0, 0]

def k0_chk58 (v233 : BitVec 32) : Prop :=
  (∀ a, (k0_off105 v233) a + S1x512x128.size a ≤ S16x512x128.size a)
theorem k0_off105_inb : ∀ (v233 : BitVec 32) (k0_hw58 : k0_chk58 v233), ∀ a, (k0_off105 v233) a + S1x512x128.size a ≤ S16x512x128.size a := fun v233 k0_hw58 => k0_hw58

def k0_mult25 (v265 : BitVec 32) : BitVec 32 :=
  let c256_i32_131 : BitVec 32 := 256#32
  let v266 : BitVec 32 := Scalar.muli v265 c256_i32_131
  v266

def k0_off106 (v265 : BitVec 32) : Fin 3 → Nat :=
  let c0_132 : Index := 0#32
  let c256_i32_131 : BitVec 32 := 256#32
  let v266 : BitVec 32 := Scalar.muli v265 c256_i32_131
  let v267 : BitVec 32 := v266
  let v268 : Index := Scalar.indexCast v267
  let c0_133 : Index := 0#32
  ![0, v268.toNat, 0]

def k0_chk59 (v265 : BitVec 32) : Prop :=
  (256 ∣ (k0_mult25 v265).toNat) ∧
  (∀ a, (k0_off106 v265) a + S1x256x128.size a ≤ S1x4096x128.size a)
theorem k0_mult25_dvd : ∀ (v265 : BitVec 32) (k0_hw59 : k0_chk59 v265), 256 ∣ (k0_mult25 v265).toNat := fun v265 k0_hw59 => k0_hw59.1
theorem k0_off106_inb : ∀ (v265 : BitVec 32) (k0_hw59 : k0_chk59 v265), ∀ a, (k0_off106 v265) a + S1x256x128.size a ≤ S1x4096x128.size a := fun v265 k0_hw59 => k0_hw59.2

def k0_off107 (v264 : BitVec 32) : Fin 3 → Nat :=
  let v275 : Index := Scalar.indexCast v264
  let c0_139 : Index := 0#32
  let c0_140 : Index := 0#32
  ![v275.toNat, 0, 0]

def k0_off108 (v264 : BitVec 32) : Fin 3 → Nat :=
  let v285 : Index := Scalar.indexCast v264
  let c0_143 : Index := 0#32
  let c128_144 : Index := 128#32
  ![v285.toNat, 0, 128]

def k0_chk60 (v264 : BitVec 32) : Prop :=
  (∀ a, (k0_off107 v264) a + S1x512x128.size a ≤ S16x512x256.size a) ∧
  (∀ a, (k0_off108 v264) a + S1x512x128.size a ≤ S16x512x256.size a)
theorem k0_off107_inb : ∀ (v264 : BitVec 32) (k0_hw60 : k0_chk60 v264), ∀ a, (k0_off107 v264) a + S1x512x128.size a ≤ S16x512x256.size a := fun v264 k0_hw60 => k0_hw60.1
theorem k0_off108_inb : ∀ (v264 : BitVec 32) (k0_hw60 : k0_chk60 v264), ∀ a, (k0_off108 v264) a + S1x512x128.size a ≤ S16x512x256.size a := fun v264 k0_hw60 => k0_hw60.2

def k0_mult26 (v295 : BitVec 32) : BitVec 32 :=
  let c256_i32_147 : BitVec 32 := 256#32
  let v296 : BitVec 32 := Scalar.muli v295 c256_i32_147
  v296

def k0_off109 (v295 : BitVec 32) : Fin 3 → Nat :=
  let c0_148 : Index := 0#32
  let c256_i32_147 : BitVec 32 := 256#32
  let v296 : BitVec 32 := Scalar.muli v295 c256_i32_147
  let v297 : BitVec 32 := v296
  let v298 : Index := Scalar.indexCast v297
  let c0_149 : Index := 0#32
  ![0, v298.toNat, 0]

def k0_chk61 (v295 : BitVec 32) : Prop :=
  (256 ∣ (k0_mult26 v295).toNat) ∧
  (∀ a, (k0_off109 v295) a + S1x256x128.size a ≤ S1x4096x128.size a)
theorem k0_mult26_dvd : ∀ (v295 : BitVec 32) (k0_hw61 : k0_chk61 v295), 256 ∣ (k0_mult26 v295).toNat := fun v295 k0_hw61 => k0_hw61.1
theorem k0_off109_inb : ∀ (v295 : BitVec 32) (k0_hw61 : k0_chk61 v295), ∀ a, (k0_off109 v295) a + S1x256x128.size a ≤ S1x4096x128.size a := fun v295 k0_hw61 => k0_hw61.2

def k0_off110 (v301 : BitVec 32) : Fin 3 → Nat :=
  let v302 : Index := Scalar.indexCast v301
  let c0_151 : Index := 0#32
  let c0_152 : Index := 0#32
  ![v302.toNat, 0, 0]

def k0_chk62 (v301 : BitVec 32) : Prop :=
  (∀ a, (k0_off110 v301) a + S1x512x128.size a ≤ S16x512x128.size a)
theorem k0_off110_inb : ∀ (v301 : BitVec 32) (k0_hw62 : k0_chk62 v301), ∀ a, (k0_off110 v301) a + S1x512x128.size a ≤ S16x512x128.size a := fun v301 k0_hw62 => k0_hw62

def k0_off111 (v309 : BitVec 32) : Fin 3 → Nat :=
  let v313 : Index := Scalar.indexCast v309
  let c0_159 : Index := 0#32
  let c0_160 : Index := 0#32
  ![v313.toNat, 0, 0]

def k0_chk63 (v309 : BitVec 32) : Prop :=
  (∀ a, (k0_off111 v309) a + S1x512x128.size a ≤ S16x512x128.size a)
theorem k0_off111_inb : ∀ (v309 : BitVec 32) (k0_hw63 : k0_chk63 v309), ∀ a, (k0_off111 v309) a + S1x512x128.size a ≤ S16x512x128.size a := fun v309 k0_hw63 => k0_hw63

def k0_mult27 (v341 : BitVec 32) : BitVec 32 :=
  let c256_i32_170 : BitVec 32 := 256#32
  let v342 : BitVec 32 := Scalar.muli v341 c256_i32_170
  v342

def k0_off112 (v341 : BitVec 32) : Fin 3 → Nat :=
  let c0_171 : Index := 0#32
  let c256_i32_170 : BitVec 32 := 256#32
  let v342 : BitVec 32 := Scalar.muli v341 c256_i32_170
  let v343 : BitVec 32 := v342
  let v344 : Index := Scalar.indexCast v343
  let c0_172 : Index := 0#32
  ![0, v344.toNat, 0]

def k0_chk64 (v341 : BitVec 32) : Prop :=
  (256 ∣ (k0_mult27 v341).toNat) ∧
  (∀ a, (k0_off112 v341) a + S1x256x128.size a ≤ S1x4096x128.size a)
theorem k0_mult27_dvd : ∀ (v341 : BitVec 32) (k0_hw64 : k0_chk64 v341), 256 ∣ (k0_mult27 v341).toNat := fun v341 k0_hw64 => k0_hw64.1
theorem k0_off112_inb : ∀ (v341 : BitVec 32) (k0_hw64 : k0_chk64 v341), ∀ a, (k0_off112 v341) a + S1x256x128.size a ≤ S1x4096x128.size a := fun v341 k0_hw64 => k0_hw64.2

def k0_off113 (v340 : BitVec 32) : Fin 3 → Nat :=
  let v351 : Index := Scalar.indexCast v340
  let c0_178 : Index := 0#32
  let c0_179 : Index := 0#32
  ![v351.toNat, 0, 0]

def k0_off114 (v340 : BitVec 32) : Fin 3 → Nat :=
  let v361 : Index := Scalar.indexCast v340
  let c0_182 : Index := 0#32
  let c128_183 : Index := 128#32
  ![v361.toNat, 0, 128]

def k0_chk65 (v340 : BitVec 32) : Prop :=
  (∀ a, (k0_off113 v340) a + S1x512x128.size a ≤ S16x512x256.size a) ∧
  (∀ a, (k0_off114 v340) a + S1x512x128.size a ≤ S16x512x256.size a)
theorem k0_off113_inb : ∀ (v340 : BitVec 32) (k0_hw65 : k0_chk65 v340), ∀ a, (k0_off113 v340) a + S1x512x128.size a ≤ S16x512x256.size a := fun v340 k0_hw65 => k0_hw65.1
theorem k0_off114_inb : ∀ (v340 : BitVec 32) (k0_hw65 : k0_chk65 v340), ∀ a, (k0_off114 v340) a + S1x512x128.size a ≤ S16x512x256.size a := fun v340 k0_hw65 => k0_hw65.2

def k0_mult28 (v371 : BitVec 32) : BitVec 32 :=
  let c256_i32_186 : BitVec 32 := 256#32
  let v372 : BitVec 32 := Scalar.muli v371 c256_i32_186
  v372

def k0_off115 (v371 : BitVec 32) : Fin 3 → Nat :=
  let c0_187 : Index := 0#32
  let c256_i32_186 : BitVec 32 := 256#32
  let v372 : BitVec 32 := Scalar.muli v371 c256_i32_186
  let v373 : BitVec 32 := v372
  let v374 : Index := Scalar.indexCast v373
  let c0_188 : Index := 0#32
  ![0, v374.toNat, 0]

def k0_chk66 (v371 : BitVec 32) : Prop :=
  (256 ∣ (k0_mult28 v371).toNat) ∧
  (∀ a, (k0_off115 v371) a + S1x256x128.size a ≤ S1x4096x128.size a)
theorem k0_mult28_dvd : ∀ (v371 : BitVec 32) (k0_hw66 : k0_chk66 v371), 256 ∣ (k0_mult28 v371).toNat := fun v371 k0_hw66 => k0_hw66.1
theorem k0_off115_inb : ∀ (v371 : BitVec 32) (k0_hw66 : k0_chk66 v371), ∀ a, (k0_off115 v371) a + S1x256x128.size a ≤ S1x4096x128.size a := fun v371 k0_hw66 => k0_hw66.2

def k0_off116 (v377 : BitVec 32) : Fin 3 → Nat :=
  let v378 : Index := Scalar.indexCast v377
  let c0_190 : Index := 0#32
  let c0_191 : Index := 0#32
  ![v378.toNat, 0, 0]

def k0_chk67 (v377 : BitVec 32) : Prop :=
  (∀ a, (k0_off116 v377) a + S1x512x128.size a ≤ S16x512x128.size a)
theorem k0_off116_inb : ∀ (v377 : BitVec 32) (k0_hw67 : k0_chk67 v377), ∀ a, (k0_off116 v377) a + S1x512x128.size a ≤ S16x512x128.size a := fun v377 k0_hw67 => k0_hw67

def k0_off117 (v385 : BitVec 32) : Fin 3 → Nat :=
  let v389 : Index := Scalar.indexCast v385
  let c0_198 : Index := 0#32
  let c0_199 : Index := 0#32
  ![v389.toNat, 0, 0]

def k0_chk68 (v385 : BitVec 32) : Prop :=
  (∀ a, (k0_off117 v385) a + S1x512x128.size a ≤ S16x512x128.size a)
theorem k0_off117_inb : ∀ (v385 : BitVec 32) (k0_hw68 : k0_chk68 v385), ∀ a, (k0_off117 v385) a + S1x512x128.size a ≤ S16x512x128.size a := fun v385 k0_hw68 => k0_hw68

def k0_mult29 (v417 : BitVec 32) : BitVec 32 :=
  let c256_i32_209 : BitVec 32 := 256#32
  let v418 : BitVec 32 := Scalar.muli v417 c256_i32_209
  v418

def k0_off118 (v417 : BitVec 32) : Fin 3 → Nat :=
  let c0_210 : Index := 0#32
  let c256_i32_209 : BitVec 32 := 256#32
  let v418 : BitVec 32 := Scalar.muli v417 c256_i32_209
  let v419 : BitVec 32 := v418
  let v420 : Index := Scalar.indexCast v419
  let c0_211 : Index := 0#32
  ![0, v420.toNat, 0]

def k0_chk69 (v417 : BitVec 32) : Prop :=
  (256 ∣ (k0_mult29 v417).toNat) ∧
  (∀ a, (k0_off118 v417) a + S1x256x128.size a ≤ S1x4096x128.size a)
theorem k0_mult29_dvd : ∀ (v417 : BitVec 32) (k0_hw69 : k0_chk69 v417), 256 ∣ (k0_mult29 v417).toNat := fun v417 k0_hw69 => k0_hw69.1
theorem k0_off118_inb : ∀ (v417 : BitVec 32) (k0_hw69 : k0_chk69 v417), ∀ a, (k0_off118 v417) a + S1x256x128.size a ≤ S1x4096x128.size a := fun v417 k0_hw69 => k0_hw69.2

def k0_off119 (v416 : BitVec 32) : Fin 3 → Nat :=
  let v427 : Index := Scalar.indexCast v416
  let c0_217 : Index := 0#32
  let c0_218 : Index := 0#32
  ![v427.toNat, 0, 0]

def k0_off120 (v416 : BitVec 32) : Fin 3 → Nat :=
  let v437 : Index := Scalar.indexCast v416
  let c0_221 : Index := 0#32
  let c128_222 : Index := 128#32
  ![v437.toNat, 0, 128]

def k0_chk70 (v416 : BitVec 32) : Prop :=
  (∀ a, (k0_off119 v416) a + S1x512x128.size a ≤ S16x512x256.size a) ∧
  (∀ a, (k0_off120 v416) a + S1x512x128.size a ≤ S16x512x256.size a)
theorem k0_off119_inb : ∀ (v416 : BitVec 32) (k0_hw70 : k0_chk70 v416), ∀ a, (k0_off119 v416) a + S1x512x128.size a ≤ S16x512x256.size a := fun v416 k0_hw70 => k0_hw70.1
theorem k0_off120_inb : ∀ (v416 : BitVec 32) (k0_hw70 : k0_chk70 v416), ∀ a, (k0_off120 v416) a + S1x512x128.size a ≤ S16x512x256.size a := fun v416 k0_hw70 => k0_hw70.2

def k0_mult30 (v447 : BitVec 32) : BitVec 32 :=
  let c256_i32_225 : BitVec 32 := 256#32
  let v448 : BitVec 32 := Scalar.muli v447 c256_i32_225
  v448

def k0_off121 (v447 : BitVec 32) : Fin 3 → Nat :=
  let c0_226 : Index := 0#32
  let c256_i32_225 : BitVec 32 := 256#32
  let v448 : BitVec 32 := Scalar.muli v447 c256_i32_225
  let v449 : BitVec 32 := v448
  let v450 : Index := Scalar.indexCast v449
  let c0_227 : Index := 0#32
  ![0, v450.toNat, 0]

def k0_chk71 (v447 : BitVec 32) : Prop :=
  (256 ∣ (k0_mult30 v447).toNat) ∧
  (∀ a, (k0_off121 v447) a + S1x256x128.size a ≤ S1x4096x128.size a)
theorem k0_mult30_dvd : ∀ (v447 : BitVec 32) (k0_hw71 : k0_chk71 v447), 256 ∣ (k0_mult30 v447).toNat := fun v447 k0_hw71 => k0_hw71.1
theorem k0_off121_inb : ∀ (v447 : BitVec 32) (k0_hw71 : k0_chk71 v447), ∀ a, (k0_off121 v447) a + S1x256x128.size a ≤ S1x4096x128.size a := fun v447 k0_hw71 => k0_hw71.2

def k0_off122 (v453 : BitVec 32) : Fin 3 → Nat :=
  let v454 : Index := Scalar.indexCast v453
  let c0_229 : Index := 0#32
  let c0_230 : Index := 0#32
  ![v454.toNat, 0, 0]

def k0_chk72 (v453 : BitVec 32) : Prop :=
  (∀ a, (k0_off122 v453) a + S1x512x128.size a ≤ S16x512x128.size a)
theorem k0_off122_inb : ∀ (v453 : BitVec 32) (k0_hw72 : k0_chk72 v453), ∀ a, (k0_off122 v453) a + S1x512x128.size a ≤ S16x512x128.size a := fun v453 k0_hw72 => k0_hw72

def k0_off123 (v461 : BitVec 32) : Fin 3 → Nat :=
  let v465 : Index := Scalar.indexCast v461
  let c0_237 : Index := 0#32
  let c0_238 : Index := 0#32
  ![v465.toNat, 0, 0]

def k0_chk73 (v461 : BitVec 32) : Prop :=
  (∀ a, (k0_off123 v461) a + S1x512x128.size a ≤ S16x512x128.size a)
theorem k0_off123_inb : ∀ (v461 : BitVec 32) (k0_hw73 : k0_chk73 v461), ∀ a, (k0_off123 v461) a + S1x512x128.size a ≤ S16x512x128.size a := fun v461 k0_hw73 => k0_hw73

def k0_mult31 (v493 : BitVec 32) : BitVec 32 :=
  let c256_i32_248 : BitVec 32 := 256#32
  let v494 : BitVec 32 := Scalar.muli v493 c256_i32_248
  v494

def k0_off124 (v493 : BitVec 32) : Fin 3 → Nat :=
  let c0_249 : Index := 0#32
  let c256_i32_248 : BitVec 32 := 256#32
  let v494 : BitVec 32 := Scalar.muli v493 c256_i32_248
  let v495 : BitVec 32 := v494
  let v496 : Index := Scalar.indexCast v495
  let c0_250 : Index := 0#32
  ![0, v496.toNat, 0]

def k0_chk74 (v493 : BitVec 32) : Prop :=
  (256 ∣ (k0_mult31 v493).toNat) ∧
  (∀ a, (k0_off124 v493) a + S1x256x128.size a ≤ S1x4096x128.size a)
theorem k0_mult31_dvd : ∀ (v493 : BitVec 32) (k0_hw74 : k0_chk74 v493), 256 ∣ (k0_mult31 v493).toNat := fun v493 k0_hw74 => k0_hw74.1
theorem k0_off124_inb : ∀ (v493 : BitVec 32) (k0_hw74 : k0_chk74 v493), ∀ a, (k0_off124 v493) a + S1x256x128.size a ≤ S1x4096x128.size a := fun v493 k0_hw74 => k0_hw74.2

def k0_off125 (v492 : BitVec 32) : Fin 3 → Nat :=
  let v503 : Index := Scalar.indexCast v492
  let c0_256 : Index := 0#32
  let c0_257 : Index := 0#32
  ![v503.toNat, 0, 0]

def k0_off126 (v492 : BitVec 32) : Fin 3 → Nat :=
  let v513 : Index := Scalar.indexCast v492
  let c0_260 : Index := 0#32
  let c128_261 : Index := 128#32
  ![v513.toNat, 0, 128]

def k0_chk75 (v492 : BitVec 32) : Prop :=
  (∀ a, (k0_off125 v492) a + S1x512x128.size a ≤ S16x512x256.size a) ∧
  (∀ a, (k0_off126 v492) a + S1x512x128.size a ≤ S16x512x256.size a)
theorem k0_off125_inb : ∀ (v492 : BitVec 32) (k0_hw75 : k0_chk75 v492), ∀ a, (k0_off125 v492) a + S1x512x128.size a ≤ S16x512x256.size a := fun v492 k0_hw75 => k0_hw75.1
theorem k0_off126_inb : ∀ (v492 : BitVec 32) (k0_hw75 : k0_chk75 v492), ∀ a, (k0_off126 v492) a + S1x512x128.size a ≤ S16x512x256.size a := fun v492 k0_hw75 => k0_hw75.2

def k0_off127 (v523 : BitVec 32) : Fin 3 → Nat :=
  let v527 : Index := Scalar.indexCast v523
  let c0_267 : Index := 0#32
  let c0_268 : Index := 0#32
  ![v527.toNat, 0, 0]

def k0_chk76 (v523 : BitVec 32) : Prop :=
  (∀ a, (k0_off127 v523) a + S1x512x128.size a ≤ S16x512x128.size a)
theorem k0_off127_inb : ∀ (v523 : BitVec 32) (k0_hw76 : k0_chk76 v523), ∀ a, (k0_off127 v523) a + S1x512x128.size a ≤ S16x512x128.size a := fun v523 k0_hw76 => k0_hw76

def k0_mult32 (v555 : BitVec 32) : BitVec 32 :=
  let c256_i32_278 : BitVec 32 := 256#32
  let v556 : BitVec 32 := Scalar.muli v555 c256_i32_278
  v556

def k0_off128 (v555 : BitVec 32) : Fin 3 → Nat :=
  let c0_279 : Index := 0#32
  let c256_i32_278 : BitVec 32 := 256#32
  let v556 : BitVec 32 := Scalar.muli v555 c256_i32_278
  let v557 : BitVec 32 := v556
  let v558 : Index := Scalar.indexCast v557
  let c0_280 : Index := 0#32
  ![0, v558.toNat, 0]

def k0_chk77 (v555 : BitVec 32) : Prop :=
  (256 ∣ (k0_mult32 v555).toNat) ∧
  (∀ a, (k0_off128 v555) a + S1x256x128.size a ≤ S1x4096x128.size a)
theorem k0_mult32_dvd : ∀ (v555 : BitVec 32) (k0_hw77 : k0_chk77 v555), 256 ∣ (k0_mult32 v555).toNat := fun v555 k0_hw77 => k0_hw77.1
theorem k0_off128_inb : ∀ (v555 : BitVec 32) (k0_hw77 : k0_chk77 v555), ∀ a, (k0_off128 v555) a + S1x256x128.size a ≤ S1x4096x128.size a := fun v555 k0_hw77 => k0_hw77.2

def k0_off129 (v554 : BitVec 32) : Fin 3 → Nat :=
  let v565 : Index := Scalar.indexCast v554
  let c0_286 : Index := 0#32
  let c0_287 : Index := 0#32
  ![v565.toNat, 0, 0]

def k0_off130 (v554 : BitVec 32) : Fin 3 → Nat :=
  let v575 : Index := Scalar.indexCast v554
  let c0_290 : Index := 0#32
  let c128_291 : Index := 128#32
  ![v575.toNat, 0, 128]

def k0_chk78 (v554 : BitVec 32) : Prop :=
  (∀ a, (k0_off129 v554) a + S1x512x128.size a ≤ S16x512x256.size a) ∧
  (∀ a, (k0_off130 v554) a + S1x512x128.size a ≤ S16x512x256.size a)
theorem k0_off129_inb : ∀ (v554 : BitVec 32) (k0_hw78 : k0_chk78 v554), ∀ a, (k0_off129 v554) a + S1x512x128.size a ≤ S16x512x256.size a := fun v554 k0_hw78 => k0_hw78.1
theorem k0_off130_inb : ∀ (v554 : BitVec 32) (k0_hw78 : k0_chk78 v554), ∀ a, (k0_off130 v554) a + S1x512x128.size a ≤ S16x512x256.size a := fun v554 k0_hw78 => k0_hw78.2

def k0_mult33 (v586 : BitVec 32) : BitVec 32 :=
  let c256_i32_296 : BitVec 32 := 256#32
  let v587 : BitVec 32 := Scalar.muli v586 c256_i32_296
  v587

def k0_off131 (v586 : BitVec 32) : Fin 3 → Nat :=
  let c0_297 : Index := 0#32
  let c256_i32_296 : BitVec 32 := 256#32
  let v587 : BitVec 32 := Scalar.muli v586 c256_i32_296
  let v588 : BitVec 32 := v587
  let v589 : Index := Scalar.indexCast v588
  let c0_298 : Index := 0#32
  ![0, v589.toNat, 0]

def k0_chk79 (v586 : BitVec 32) : Prop :=
  (256 ∣ (k0_mult33 v586).toNat) ∧
  (∀ a, (k0_off131 v586) a + S1x256x128.size a ≤ S1x4096x128.size a)
theorem k0_mult33_dvd : ∀ (v586 : BitVec 32) (k0_hw79 : k0_chk79 v586), 256 ∣ (k0_mult33 v586).toNat := fun v586 k0_hw79 => k0_hw79.1
theorem k0_off131_inb : ∀ (v586 : BitVec 32) (k0_hw79 : k0_chk79 v586), ∀ a, (k0_off131 v586) a + S1x256x128.size a ≤ S1x4096x128.size a := fun v586 k0_hw79 => k0_hw79.2

def k0_off132 (v585 : BitVec 32) : Fin 3 → Nat :=
  let v596 : Index := Scalar.indexCast v585
  let c0_304 : Index := 0#32
  let c0_305 : Index := 0#32
  ![v596.toNat, 0, 0]

def k0_off133 (v585 : BitVec 32) : Fin 3 → Nat :=
  let v606 : Index := Scalar.indexCast v585
  let c0_308 : Index := 0#32
  let c128_309 : Index := 128#32
  ![v606.toNat, 0, 128]

def k0_chk80 (v585 : BitVec 32) : Prop :=
  (∀ a, (k0_off132 v585) a + S1x512x128.size a ≤ S16x512x256.size a) ∧
  (∀ a, (k0_off133 v585) a + S1x512x128.size a ≤ S16x512x256.size a)
theorem k0_off132_inb : ∀ (v585 : BitVec 32) (k0_hw80 : k0_chk80 v585), ∀ a, (k0_off132 v585) a + S1x512x128.size a ≤ S16x512x256.size a := fun v585 k0_hw80 => k0_hw80.1
theorem k0_off133_inb : ∀ (v585 : BitVec 32) (k0_hw80 : k0_chk80 v585), ∀ a, (k0_off133 v585) a + S1x512x128.size a ≤ S16x512x256.size a := fun v585 k0_hw80 => k0_hw80.2

def k0_mult34 (v616 : BitVec 32) : BitVec 32 :=
  let c256_i32_312 : BitVec 32 := 256#32
  let v617 : BitVec 32 := Scalar.muli v616 c256_i32_312
  v617

def k0_off134 (v616 : BitVec 32) : Fin 3 → Nat :=
  let c0_313 : Index := 0#32
  let c256_i32_312 : BitVec 32 := 256#32
  let v617 : BitVec 32 := Scalar.muli v616 c256_i32_312
  let v618 : BitVec 32 := v617
  let v619 : Index := Scalar.indexCast v618
  let c0_314 : Index := 0#32
  ![0, v619.toNat, 0]

def k0_chk81 (v616 : BitVec 32) : Prop :=
  (256 ∣ (k0_mult34 v616).toNat) ∧
  (∀ a, (k0_off134 v616) a + S1x256x128.size a ≤ S1x4096x128.size a)
theorem k0_mult34_dvd : ∀ (v616 : BitVec 32) (k0_hw81 : k0_chk81 v616), 256 ∣ (k0_mult34 v616).toNat := fun v616 k0_hw81 => k0_hw81.1
theorem k0_off134_inb : ∀ (v616 : BitVec 32) (k0_hw81 : k0_chk81 v616), ∀ a, (k0_off134 v616) a + S1x256x128.size a ≤ S1x4096x128.size a := fun v616 k0_hw81 => k0_hw81.2

def k0_off135 (v622 : BitVec 32) : Fin 3 → Nat :=
  let v623 : Index := Scalar.indexCast v622
  let c0_316 : Index := 0#32
  let c0_317 : Index := 0#32
  ![v623.toNat, 0, 0]

def k0_chk82 (v622 : BitVec 32) : Prop :=
  (∀ a, (k0_off135 v622) a + S1x512x128.size a ≤ S16x512x128.size a)
theorem k0_off135_inb : ∀ (v622 : BitVec 32) (k0_hw82 : k0_chk82 v622), ∀ a, (k0_off135 v622) a + S1x512x128.size a ≤ S16x512x128.size a := fun v622 k0_hw82 => k0_hw82

def k0_mult35 (v630 : BitVec 32) : BitVec 32 :=
  let c256_i32_321 : BitVec 32 := 256#32
  let v631 : BitVec 32 := Scalar.muli v630 c256_i32_321
  v631

def k0_off136 (v630 : BitVec 32) : Fin 3 → Nat :=
  let c0_322 : Index := 0#32
  let c256_i32_321 : BitVec 32 := 256#32
  let v631 : BitVec 32 := Scalar.muli v630 c256_i32_321
  let v632 : BitVec 32 := v631
  let v633 : Index := Scalar.indexCast v632
  let c0_323 : Index := 0#32
  ![0, v633.toNat, 0]

def k0_chk83 (v630 : BitVec 32) : Prop :=
  (256 ∣ (k0_mult35 v630).toNat) ∧
  (∀ a, (k0_off136 v630) a + S1x256x128.size a ≤ S1x4096x128.size a)
theorem k0_mult35_dvd : ∀ (v630 : BitVec 32) (k0_hw83 : k0_chk83 v630), 256 ∣ (k0_mult35 v630).toNat := fun v630 k0_hw83 => k0_hw83.1
theorem k0_off136_inb : ∀ (v630 : BitVec 32) (k0_hw83 : k0_chk83 v630), ∀ a, (k0_off136 v630) a + S1x256x128.size a ≤ S1x4096x128.size a := fun v630 k0_hw83 => k0_hw83.2

def k0_off137 (v636 : BitVec 32) : Fin 3 → Nat :=
  let v637 : Index := Scalar.indexCast v636
  let c0_325 : Index := 0#32
  let c0_326 : Index := 0#32
  ![v637.toNat, 0, 0]

def k0_chk84 (v636 : BitVec 32) : Prop :=
  (∀ a, (k0_off137 v636) a + S1x512x128.size a ≤ S16x512x128.size a)
theorem k0_off137_inb : ∀ (v636 : BitVec 32) (k0_hw84 : k0_chk84 v636), ∀ a, (k0_off137 v636) a + S1x512x128.size a ≤ S16x512x128.size a := fun v636 k0_hw84 => k0_hw84

def k0_off138 (v644 : BitVec 32) : Fin 3 → Nat :=
  let v650 : Index := Scalar.indexCast v644
  let c0_334 : Index := 0#32
  let c0_335 : Index := 0#32
  ![v650.toNat, 0, 0]

def k0_chk85 (v644 : BitVec 32) : Prop :=
  (∀ a, (k0_off138 v644) a + S1x512x128.size a ≤ S16x512x128.size a)
theorem k0_off138_inb : ∀ (v644 : BitVec 32) (k0_hw85 : k0_chk85 v644), ∀ a, (k0_off138 v644) a + S1x512x128.size a ≤ S16x512x128.size a := fun v644 k0_hw85 => k0_hw85

@[reducible] def k0_t3_loop : Scf.Loop 32 :=
  let c0_i32_343 : BitVec 32 := 0#32
  let c3_i32 : BitVec 32 := 3#32
  let v677 : BitVec 32 := Scalar.addi c0_i32_343 c3_i32
  let c1_i32_344 : BitVec 32 := 1#32
  ⟨c0_i32_343, v677, c1_i32_344⟩
def k0_off139 (k0_t3 : Fin k0_t3_loop.trips) : Fin 1 → Nat :=
  let c122_i32 : BitVec 32 := 122#32
  let c4_i32 : BitVec 32 := 4#32
  let c0_i32_343 : BitVec 32 := 0#32
  let c1_i32_344 : BitVec 32 := 1#32
  let arg19 : BitVec 32 := Scf.iv c0_i32_343 c1_i32_344 k0_t3
  let v950 : BitVec 32 := Scalar.muli c4_i32 arg19
  let v951 : BitVec 32 := Scalar.addi c122_i32 v950
  let c0_i32_485 : BitVec 32 := 0#32
  let v952 : BitVec 32 := Scalar.addi v951 c0_i32_485
  let v953 : Index := Scalar.indexCast v952
  ![v953.toNat]
def k0_mult36 (v954 : BitVec 32) : BitVec 32 :=
  let c256_i32_486 : BitVec 32 := 256#32
  let v955 : BitVec 32 := Scalar.muli v954 c256_i32_486
  v955

def k0_off140 (v954 : BitVec 32) : Fin 3 → Nat :=
  let c0_487 : Index := 0#32
  let c256_i32_486 : BitVec 32 := 256#32
  let v955 : BitVec 32 := Scalar.muli v954 c256_i32_486
  let v956 : BitVec 32 := v955
  let v957 : Index := Scalar.indexCast v956
  let c0_488 : Index := 0#32
  ![0, v957.toNat, 0]

def k0_chk86 (v954 : BitVec 32) : Prop :=
  (256 ∣ (k0_mult36 v954).toNat) ∧
  (∀ a, (k0_off140 v954) a + S1x256x128.size a ≤ S1x4096x128.size a)
theorem k0_mult36_dvd : ∀ (v954 : BitVec 32) (k0_hw86 : k0_chk86 v954), 256 ∣ (k0_mult36 v954).toNat := fun v954 k0_hw86 => k0_hw86.1
theorem k0_off140_inb : ∀ (v954 : BitVec 32) (k0_hw86 : k0_chk86 v954), ∀ a, (k0_off140 v954) a + S1x256x128.size a ≤ S1x4096x128.size a := fun v954 k0_hw86 => k0_hw86.2

def k0_off141 (k0_t3 : Fin k0_t3_loop.trips) : Fin 1 → Nat :=
  let c122_i32 : BitVec 32 := 122#32
  let c4_i32 : BitVec 32 := 4#32
  let c0_i32_343 : BitVec 32 := 0#32
  let c1_i32_344 : BitVec 32 := 1#32
  let arg19 : BitVec 32 := Scf.iv c0_i32_343 c1_i32_344 k0_t3
  let v950 : BitVec 32 := Scalar.muli c4_i32 arg19
  let v951 : BitVec 32 := Scalar.addi c122_i32 v950
  let c0_i32_485 : BitVec 32 := 0#32
  let v952 : BitVec 32 := Scalar.addi v951 c0_i32_485
  let v960 : Index := Scalar.indexCast v952
  ![v960.toNat]
def k0_off142 (v961 : BitVec 32) : Fin 3 → Nat :=
  let v962 : Index := Scalar.indexCast v961
  let c0_489 : Index := 0#32
  let c0_490 : Index := 0#32
  ![v962.toNat, 0, 0]

def k0_chk87 (v961 : BitVec 32) : Prop :=
  (∀ a, (k0_off142 v961) a + S1x512x128.size a ≤ S16x512x128.size a)
theorem k0_off142_inb : ∀ (v961 : BitVec 32) (k0_hw87 : k0_chk87 v961), ∀ a, (k0_off142 v961) a + S1x512x128.size a ≤ S16x512x128.size a := fun v961 k0_hw87 => k0_hw87

def k0_off143 (k0_t3 : Fin k0_t3_loop.trips) : Fin 1 → Nat :=
  let c122_i32 : BitVec 32 := 122#32
  let c4_i32 : BitVec 32 := 4#32
  let c0_i32_343 : BitVec 32 := 0#32
  let c1_i32_344 : BitVec 32 := 1#32
  let arg19 : BitVec 32 := Scf.iv c0_i32_343 c1_i32_344 k0_t3
  let v950 : BitVec 32 := Scalar.muli c4_i32 arg19
  let v951 : BitVec 32 := Scalar.addi c122_i32 v950
  let c0_i32_485 : BitVec 32 := 0#32
  let v952 : BitVec 32 := Scalar.addi v951 c0_i32_485
  let c1_i32_494 : BitVec 32 := 1#32
  let v969 : BitVec 32 := Scalar.subi v952 c1_i32_494
  let v970 : Index := Scalar.indexCast v969
  ![v970.toNat]
def k0_off144 (v971 : BitVec 32) : Fin 3 → Nat :=
  let v977 : Index := Scalar.indexCast v971
  let c0_498 : Index := 0#32
  let c0_499 : Index := 0#32
  ![v977.toNat, 0, 0]

def k0_chk88 (v971 : BitVec 32) : Prop :=
  (∀ a, (k0_off144 v971) a + S1x512x128.size a ≤ S16x512x128.size a)
theorem k0_off144_inb : ∀ (v971 : BitVec 32) (k0_hw88 : k0_chk88 v971), ∀ a, (k0_off144 v971) a + S1x512x128.size a ≤ S16x512x128.size a := fun v971 k0_hw88 => k0_hw88

def k0_off145 (k0_t3 : Fin k0_t3_loop.trips) : Fin 1 → Nat :=
  let c122_i32 : BitVec 32 := 122#32
  let c4_i32 : BitVec 32 := 4#32
  let c0_i32_343 : BitVec 32 := 0#32
  let c1_i32_344 : BitVec 32 := 1#32
  let arg19 : BitVec 32 := Scf.iv c0_i32_343 c1_i32_344 k0_t3
  let v950 : BitVec 32 := Scalar.muli c4_i32 arg19
  let v951 : BitVec 32 := Scalar.addi c122_i32 v950
  let c0_i32_485 : BitVec 32 := 0#32
  let v952 : BitVec 32 := Scalar.addi v951 c0_i32_485
  let c2_i32 : BitVec 32 := 2#32
  let v1004 : BitVec 32 := Scalar.subi v952 c2_i32
  let v1005 : Index := Scalar.indexCast v1004
  ![v1005.toNat]
def k0_mult37 (v1008 : BitVec 32) : BitVec 32 :=
  let c256_i32_507 : BitVec 32 := 256#32
  let v1009 : BitVec 32 := Scalar.muli v1008 c256_i32_507
  v1009

def k0_off146 (v1008 : BitVec 32) : Fin 3 → Nat :=
  let c0_508 : Index := 0#32
  let c256_i32_507 : BitVec 32 := 256#32
  let v1009 : BitVec 32 := Scalar.muli v1008 c256_i32_507
  let v1010 : BitVec 32 := v1009
  let v1011 : Index := Scalar.indexCast v1010
  let c0_509 : Index := 0#32
  ![0, v1011.toNat, 0]

def k0_chk89 (v1008 : BitVec 32) : Prop :=
  (256 ∣ (k0_mult37 v1008).toNat) ∧
  (∀ a, (k0_off146 v1008) a + S1x256x128.size a ≤ S1x4096x128.size a)
theorem k0_mult37_dvd : ∀ (v1008 : BitVec 32) (k0_hw89 : k0_chk89 v1008), 256 ∣ (k0_mult37 v1008).toNat := fun v1008 k0_hw89 => k0_hw89.1
theorem k0_off146_inb : ∀ (v1008 : BitVec 32) (k0_hw89 : k0_chk89 v1008), ∀ a, (k0_off146 v1008) a + S1x256x128.size a ≤ S1x4096x128.size a := fun v1008 k0_hw89 => k0_hw89.2

def k0_off147 (v1006 : BitVec 32) : Fin 3 → Nat :=
  let v1018 : Index := Scalar.indexCast v1006
  let c0_515 : Index := 0#32
  let c0_516 : Index := 0#32
  ![v1018.toNat, 0, 0]

def k0_off148 (v1006 : BitVec 32) : Fin 3 → Nat :=
  let v1028 : Index := Scalar.indexCast v1006
  let c0_519 : Index := 0#32
  let c128_520 : Index := 128#32
  ![v1028.toNat, 0, 128]

def k0_chk90 (v1006 : BitVec 32) : Prop :=
  (∀ a, (k0_off147 v1006) a + S1x512x128.size a ≤ S16x512x256.size a) ∧
  (∀ a, (k0_off148 v1006) a + S1x512x128.size a ≤ S16x512x256.size a)
theorem k0_off147_inb : ∀ (v1006 : BitVec 32) (k0_hw90 : k0_chk90 v1006), ∀ a, (k0_off147 v1006) a + S1x512x128.size a ≤ S16x512x256.size a := fun v1006 k0_hw90 => k0_hw90.1
theorem k0_off148_inb : ∀ (v1006 : BitVec 32) (k0_hw90 : k0_chk90 v1006), ∀ a, (k0_off148 v1006) a + S1x512x128.size a ≤ S16x512x256.size a := fun v1006 k0_hw90 => k0_hw90.2

def k0_off149 (k0_t3 : Fin k0_t3_loop.trips) : Fin 1 → Nat :=
  let c122_i32_524 : BitVec 32 := 122#32
  let c4_i32_523 : BitVec 32 := 4#32
  let c0_i32_343 : BitVec 32 := 0#32
  let c1_i32_344 : BitVec 32 := 1#32
  let arg19 : BitVec 32 := Scf.iv c0_i32_343 c1_i32_344 k0_t3
  let v1038 : BitVec 32 := Scalar.muli c4_i32_523 arg19
  let v1039 : BitVec 32 := Scalar.addi c122_i32_524 v1038
  let c1_i32_525 : BitVec 32 := 1#32
  let v1040 : BitVec 32 := Scalar.addi v1039 c1_i32_525
  let v1041 : Index := Scalar.indexCast v1040
  ![v1041.toNat]
def k0_mult38 (v1042 : BitVec 32) : BitVec 32 :=
  let c256_i32_526 : BitVec 32 := 256#32
  let v1043 : BitVec 32 := Scalar.muli v1042 c256_i32_526
  v1043

def k0_off150 (v1042 : BitVec 32) : Fin 3 → Nat :=
  let c0_527 : Index := 0#32
  let c256_i32_526 : BitVec 32 := 256#32
  let v1043 : BitVec 32 := Scalar.muli v1042 c256_i32_526
  let v1044 : BitVec 32 := v1043
  let v1045 : Index := Scalar.indexCast v1044
  let c0_528 : Index := 0#32
  ![0, v1045.toNat, 0]

def k0_chk91 (v1042 : BitVec 32) : Prop :=
  (256 ∣ (k0_mult38 v1042).toNat) ∧
  (∀ a, (k0_off150 v1042) a + S1x256x128.size a ≤ S1x4096x128.size a)
theorem k0_mult38_dvd : ∀ (v1042 : BitVec 32) (k0_hw91 : k0_chk91 v1042), 256 ∣ (k0_mult38 v1042).toNat := fun v1042 k0_hw91 => k0_hw91.1
theorem k0_off150_inb : ∀ (v1042 : BitVec 32) (k0_hw91 : k0_chk91 v1042), ∀ a, (k0_off150 v1042) a + S1x256x128.size a ≤ S1x4096x128.size a := fun v1042 k0_hw91 => k0_hw91.2

def k0_off151 (k0_t3 : Fin k0_t3_loop.trips) : Fin 1 → Nat :=
  let c122_i32_524 : BitVec 32 := 122#32
  let c4_i32_523 : BitVec 32 := 4#32
  let c0_i32_343 : BitVec 32 := 0#32
  let c1_i32_344 : BitVec 32 := 1#32
  let arg19 : BitVec 32 := Scf.iv c0_i32_343 c1_i32_344 k0_t3
  let v1038 : BitVec 32 := Scalar.muli c4_i32_523 arg19
  let v1039 : BitVec 32 := Scalar.addi c122_i32_524 v1038
  let c1_i32_525 : BitVec 32 := 1#32
  let v1040 : BitVec 32 := Scalar.addi v1039 c1_i32_525
  let v1048 : Index := Scalar.indexCast v1040
  ![v1048.toNat]
def k0_off152 (v1049 : BitVec 32) : Fin 3 → Nat :=
  let v1050 : Index := Scalar.indexCast v1049
  let c0_529 : Index := 0#32
  let c0_530 : Index := 0#32
  ![v1050.toNat, 0, 0]

def k0_chk92 (v1049 : BitVec 32) : Prop :=
  (∀ a, (k0_off152 v1049) a + S1x512x128.size a ≤ S16x512x128.size a)
theorem k0_off152_inb : ∀ (v1049 : BitVec 32) (k0_hw92 : k0_chk92 v1049), ∀ a, (k0_off152 v1049) a + S1x512x128.size a ≤ S16x512x128.size a := fun v1049 k0_hw92 => k0_hw92

def k0_off153 (k0_t3 : Fin k0_t3_loop.trips) : Fin 1 → Nat :=
  let c122_i32_524 : BitVec 32 := 122#32
  let c4_i32_523 : BitVec 32 := 4#32
  let c0_i32_343 : BitVec 32 := 0#32
  let c1_i32_344 : BitVec 32 := 1#32
  let arg19 : BitVec 32 := Scf.iv c0_i32_343 c1_i32_344 k0_t3
  let v1038 : BitVec 32 := Scalar.muli c4_i32_523 arg19
  let v1039 : BitVec 32 := Scalar.addi c122_i32_524 v1038
  let c1_i32_525 : BitVec 32 := 1#32
  let v1040 : BitVec 32 := Scalar.addi v1039 c1_i32_525
  let c1_i32_534 : BitVec 32 := 1#32
  let v1057 : BitVec 32 := Scalar.subi v1040 c1_i32_534
  let v1058 : Index := Scalar.indexCast v1057
  ![v1058.toNat]
def k0_off154 (v1059 : BitVec 32) : Fin 3 → Nat :=
  let v1065 : Index := Scalar.indexCast v1059
  let c0_538 : Index := 0#32
  let c0_539 : Index := 0#32
  ![v1065.toNat, 0, 0]

def k0_chk93 (v1059 : BitVec 32) : Prop :=
  (∀ a, (k0_off154 v1059) a + S1x512x128.size a ≤ S16x512x128.size a)
theorem k0_off154_inb : ∀ (v1059 : BitVec 32) (k0_hw93 : k0_chk93 v1059), ∀ a, (k0_off154 v1059) a + S1x512x128.size a ≤ S16x512x128.size a := fun v1059 k0_hw93 => k0_hw93

def k0_off155 (k0_t3 : Fin k0_t3_loop.trips) : Fin 1 → Nat :=
  let c122_i32_524 : BitVec 32 := 122#32
  let c4_i32_523 : BitVec 32 := 4#32
  let c0_i32_343 : BitVec 32 := 0#32
  let c1_i32_344 : BitVec 32 := 1#32
  let arg19 : BitVec 32 := Scf.iv c0_i32_343 c1_i32_344 k0_t3
  let v1038 : BitVec 32 := Scalar.muli c4_i32_523 arg19
  let v1039 : BitVec 32 := Scalar.addi c122_i32_524 v1038
  let c1_i32_525 : BitVec 32 := 1#32
  let v1040 : BitVec 32 := Scalar.addi v1039 c1_i32_525
  let c2_i32_547 : BitVec 32 := 2#32
  let v1092 : BitVec 32 := Scalar.subi v1040 c2_i32_547
  let v1093 : Index := Scalar.indexCast v1092
  ![v1093.toNat]
def k0_mult39 (v1096 : BitVec 32) : BitVec 32 :=
  let c256_i32_548 : BitVec 32 := 256#32
  let v1097 : BitVec 32 := Scalar.muli v1096 c256_i32_548
  v1097

def k0_off156 (v1096 : BitVec 32) : Fin 3 → Nat :=
  let c0_549 : Index := 0#32
  let c256_i32_548 : BitVec 32 := 256#32
  let v1097 : BitVec 32 := Scalar.muli v1096 c256_i32_548
  let v1098 : BitVec 32 := v1097
  let v1099 : Index := Scalar.indexCast v1098
  let c0_550 : Index := 0#32
  ![0, v1099.toNat, 0]

def k0_chk94 (v1096 : BitVec 32) : Prop :=
  (256 ∣ (k0_mult39 v1096).toNat) ∧
  (∀ a, (k0_off156 v1096) a + S1x256x128.size a ≤ S1x4096x128.size a)
theorem k0_mult39_dvd : ∀ (v1096 : BitVec 32) (k0_hw94 : k0_chk94 v1096), 256 ∣ (k0_mult39 v1096).toNat := fun v1096 k0_hw94 => k0_hw94.1
theorem k0_off156_inb : ∀ (v1096 : BitVec 32) (k0_hw94 : k0_chk94 v1096), ∀ a, (k0_off156 v1096) a + S1x256x128.size a ≤ S1x4096x128.size a := fun v1096 k0_hw94 => k0_hw94.2

def k0_off157 (v1094 : BitVec 32) : Fin 3 → Nat :=
  let v1106 : Index := Scalar.indexCast v1094
  let c0_556 : Index := 0#32
  let c0_557 : Index := 0#32
  ![v1106.toNat, 0, 0]

def k0_off158 (v1094 : BitVec 32) : Fin 3 → Nat :=
  let v1116 : Index := Scalar.indexCast v1094
  let c0_560 : Index := 0#32
  let c128_561 : Index := 128#32
  ![v1116.toNat, 0, 128]

def k0_chk95 (v1094 : BitVec 32) : Prop :=
  (∀ a, (k0_off157 v1094) a + S1x512x128.size a ≤ S16x512x256.size a) ∧
  (∀ a, (k0_off158 v1094) a + S1x512x128.size a ≤ S16x512x256.size a)
theorem k0_off157_inb : ∀ (v1094 : BitVec 32) (k0_hw95 : k0_chk95 v1094), ∀ a, (k0_off157 v1094) a + S1x512x128.size a ≤ S16x512x256.size a := fun v1094 k0_hw95 => k0_hw95.1
theorem k0_off158_inb : ∀ (v1094 : BitVec 32) (k0_hw95 : k0_chk95 v1094), ∀ a, (k0_off158 v1094) a + S1x512x128.size a ≤ S16x512x256.size a := fun v1094 k0_hw95 => k0_hw95.2

def k0_off159 (k0_t3 : Fin k0_t3_loop.trips) : Fin 1 → Nat :=
  let c122_i32_565 : BitVec 32 := 122#32
  let c4_i32_564 : BitVec 32 := 4#32
  let c0_i32_343 : BitVec 32 := 0#32
  let c1_i32_344 : BitVec 32 := 1#32
  let arg19 : BitVec 32 := Scf.iv c0_i32_343 c1_i32_344 k0_t3
  let v1126 : BitVec 32 := Scalar.muli c4_i32_564 arg19
  let v1127 : BitVec 32 := Scalar.addi c122_i32_565 v1126
  let c2_i32_566 : BitVec 32 := 2#32
  let v1128 : BitVec 32 := Scalar.addi v1127 c2_i32_566
  let v1129 : Index := Scalar.indexCast v1128
  ![v1129.toNat]
def k0_mult40 (v1130 : BitVec 32) : BitVec 32 :=
  let c256_i32_567 : BitVec 32 := 256#32
  let v1131 : BitVec 32 := Scalar.muli v1130 c256_i32_567
  v1131

def k0_off160 (v1130 : BitVec 32) : Fin 3 → Nat :=
  let c0_568 : Index := 0#32
  let c256_i32_567 : BitVec 32 := 256#32
  let v1131 : BitVec 32 := Scalar.muli v1130 c256_i32_567
  let v1132 : BitVec 32 := v1131
  let v1133 : Index := Scalar.indexCast v1132
  let c0_569 : Index := 0#32
  ![0, v1133.toNat, 0]

def k0_chk96 (v1130 : BitVec 32) : Prop :=
  (256 ∣ (k0_mult40 v1130).toNat) ∧
  (∀ a, (k0_off160 v1130) a + S1x256x128.size a ≤ S1x4096x128.size a)
theorem k0_mult40_dvd : ∀ (v1130 : BitVec 32) (k0_hw96 : k0_chk96 v1130), 256 ∣ (k0_mult40 v1130).toNat := fun v1130 k0_hw96 => k0_hw96.1
theorem k0_off160_inb : ∀ (v1130 : BitVec 32) (k0_hw96 : k0_chk96 v1130), ∀ a, (k0_off160 v1130) a + S1x256x128.size a ≤ S1x4096x128.size a := fun v1130 k0_hw96 => k0_hw96.2

def k0_off161 (k0_t3 : Fin k0_t3_loop.trips) : Fin 1 → Nat :=
  let c122_i32_565 : BitVec 32 := 122#32
  let c4_i32_564 : BitVec 32 := 4#32
  let c0_i32_343 : BitVec 32 := 0#32
  let c1_i32_344 : BitVec 32 := 1#32
  let arg19 : BitVec 32 := Scf.iv c0_i32_343 c1_i32_344 k0_t3
  let v1126 : BitVec 32 := Scalar.muli c4_i32_564 arg19
  let v1127 : BitVec 32 := Scalar.addi c122_i32_565 v1126
  let c2_i32_566 : BitVec 32 := 2#32
  let v1128 : BitVec 32 := Scalar.addi v1127 c2_i32_566
  let v1136 : Index := Scalar.indexCast v1128
  ![v1136.toNat]
def k0_off162 (v1137 : BitVec 32) : Fin 3 → Nat :=
  let v1138 : Index := Scalar.indexCast v1137
  let c0_570 : Index := 0#32
  let c0_571 : Index := 0#32
  ![v1138.toNat, 0, 0]

def k0_chk97 (v1137 : BitVec 32) : Prop :=
  (∀ a, (k0_off162 v1137) a + S1x512x128.size a ≤ S16x512x128.size a)
theorem k0_off162_inb : ∀ (v1137 : BitVec 32) (k0_hw97 : k0_chk97 v1137), ∀ a, (k0_off162 v1137) a + S1x512x128.size a ≤ S16x512x128.size a := fun v1137 k0_hw97 => k0_hw97

def k0_off163 (k0_t3 : Fin k0_t3_loop.trips) : Fin 1 → Nat :=
  let c122_i32_565 : BitVec 32 := 122#32
  let c4_i32_564 : BitVec 32 := 4#32
  let c0_i32_343 : BitVec 32 := 0#32
  let c1_i32_344 : BitVec 32 := 1#32
  let arg19 : BitVec 32 := Scf.iv c0_i32_343 c1_i32_344 k0_t3
  let v1126 : BitVec 32 := Scalar.muli c4_i32_564 arg19
  let v1127 : BitVec 32 := Scalar.addi c122_i32_565 v1126
  let c2_i32_566 : BitVec 32 := 2#32
  let v1128 : BitVec 32 := Scalar.addi v1127 c2_i32_566
  let c1_i32_575 : BitVec 32 := 1#32
  let v1145 : BitVec 32 := Scalar.subi v1128 c1_i32_575
  let v1146 : Index := Scalar.indexCast v1145
  ![v1146.toNat]
def k0_off164 (v1147 : BitVec 32) : Fin 3 → Nat :=
  let v1153 : Index := Scalar.indexCast v1147
  let c0_579 : Index := 0#32
  let c0_580 : Index := 0#32
  ![v1153.toNat, 0, 0]

def k0_chk98 (v1147 : BitVec 32) : Prop :=
  (∀ a, (k0_off164 v1147) a + S1x512x128.size a ≤ S16x512x128.size a)
theorem k0_off164_inb : ∀ (v1147 : BitVec 32) (k0_hw98 : k0_chk98 v1147), ∀ a, (k0_off164 v1147) a + S1x512x128.size a ≤ S16x512x128.size a := fun v1147 k0_hw98 => k0_hw98

def k0_off165 (k0_t3 : Fin k0_t3_loop.trips) : Fin 1 → Nat :=
  let c122_i32_565 : BitVec 32 := 122#32
  let c4_i32_564 : BitVec 32 := 4#32
  let c0_i32_343 : BitVec 32 := 0#32
  let c1_i32_344 : BitVec 32 := 1#32
  let arg19 : BitVec 32 := Scf.iv c0_i32_343 c1_i32_344 k0_t3
  let v1126 : BitVec 32 := Scalar.muli c4_i32_564 arg19
  let v1127 : BitVec 32 := Scalar.addi c122_i32_565 v1126
  let c2_i32_566 : BitVec 32 := 2#32
  let v1128 : BitVec 32 := Scalar.addi v1127 c2_i32_566
  let c2_i32_588 : BitVec 32 := 2#32
  let v1180 : BitVec 32 := Scalar.subi v1128 c2_i32_588
  let v1181 : Index := Scalar.indexCast v1180
  ![v1181.toNat]
def k0_mult41 (v1184 : BitVec 32) : BitVec 32 :=
  let c256_i32_589 : BitVec 32 := 256#32
  let v1185 : BitVec 32 := Scalar.muli v1184 c256_i32_589
  v1185

def k0_off166 (v1184 : BitVec 32) : Fin 3 → Nat :=
  let c0_590 : Index := 0#32
  let c256_i32_589 : BitVec 32 := 256#32
  let v1185 : BitVec 32 := Scalar.muli v1184 c256_i32_589
  let v1186 : BitVec 32 := v1185
  let v1187 : Index := Scalar.indexCast v1186
  let c0_591 : Index := 0#32
  ![0, v1187.toNat, 0]

def k0_chk99 (v1184 : BitVec 32) : Prop :=
  (256 ∣ (k0_mult41 v1184).toNat) ∧
  (∀ a, (k0_off166 v1184) a + S1x256x128.size a ≤ S1x4096x128.size a)
theorem k0_mult41_dvd : ∀ (v1184 : BitVec 32) (k0_hw99 : k0_chk99 v1184), 256 ∣ (k0_mult41 v1184).toNat := fun v1184 k0_hw99 => k0_hw99.1
theorem k0_off166_inb : ∀ (v1184 : BitVec 32) (k0_hw99 : k0_chk99 v1184), ∀ a, (k0_off166 v1184) a + S1x256x128.size a ≤ S1x4096x128.size a := fun v1184 k0_hw99 => k0_hw99.2

def k0_off167 (v1182 : BitVec 32) : Fin 3 → Nat :=
  let v1194 : Index := Scalar.indexCast v1182
  let c0_597 : Index := 0#32
  let c0_598 : Index := 0#32
  ![v1194.toNat, 0, 0]

def k0_off168 (v1182 : BitVec 32) : Fin 3 → Nat :=
  let v1204 : Index := Scalar.indexCast v1182
  let c0_601 : Index := 0#32
  let c128_602 : Index := 128#32
  ![v1204.toNat, 0, 128]

def k0_chk100 (v1182 : BitVec 32) : Prop :=
  (∀ a, (k0_off167 v1182) a + S1x512x128.size a ≤ S16x512x256.size a) ∧
  (∀ a, (k0_off168 v1182) a + S1x512x128.size a ≤ S16x512x256.size a)
theorem k0_off167_inb : ∀ (v1182 : BitVec 32) (k0_hw100 : k0_chk100 v1182), ∀ a, (k0_off167 v1182) a + S1x512x128.size a ≤ S16x512x256.size a := fun v1182 k0_hw100 => k0_hw100.1
theorem k0_off168_inb : ∀ (v1182 : BitVec 32) (k0_hw100 : k0_chk100 v1182), ∀ a, (k0_off168 v1182) a + S1x512x128.size a ≤ S16x512x256.size a := fun v1182 k0_hw100 => k0_hw100.2

def k0_off169 (k0_t3 : Fin k0_t3_loop.trips) : Fin 1 → Nat :=
  let c122_i32_606 : BitVec 32 := 122#32
  let c4_i32_605 : BitVec 32 := 4#32
  let c0_i32_343 : BitVec 32 := 0#32
  let c1_i32_344 : BitVec 32 := 1#32
  let arg19 : BitVec 32 := Scf.iv c0_i32_343 c1_i32_344 k0_t3
  let v1214 : BitVec 32 := Scalar.muli c4_i32_605 arg19
  let v1215 : BitVec 32 := Scalar.addi c122_i32_606 v1214
  let c3_i32_607 : BitVec 32 := 3#32
  let v1216 : BitVec 32 := Scalar.addi v1215 c3_i32_607
  let v1217 : Index := Scalar.indexCast v1216
  ![v1217.toNat]
def k0_mult42 (v1218 : BitVec 32) : BitVec 32 :=
  let c256_i32_608 : BitVec 32 := 256#32
  let v1219 : BitVec 32 := Scalar.muli v1218 c256_i32_608
  v1219

def k0_off170 (v1218 : BitVec 32) : Fin 3 → Nat :=
  let c0_609 : Index := 0#32
  let c256_i32_608 : BitVec 32 := 256#32
  let v1219 : BitVec 32 := Scalar.muli v1218 c256_i32_608
  let v1220 : BitVec 32 := v1219
  let v1221 : Index := Scalar.indexCast v1220
  let c0_610 : Index := 0#32
  ![0, v1221.toNat, 0]

def k0_chk101 (v1218 : BitVec 32) : Prop :=
  (256 ∣ (k0_mult42 v1218).toNat) ∧
  (∀ a, (k0_off170 v1218) a + S1x256x128.size a ≤ S1x4096x128.size a)
theorem k0_mult42_dvd : ∀ (v1218 : BitVec 32) (k0_hw101 : k0_chk101 v1218), 256 ∣ (k0_mult42 v1218).toNat := fun v1218 k0_hw101 => k0_hw101.1
theorem k0_off170_inb : ∀ (v1218 : BitVec 32) (k0_hw101 : k0_chk101 v1218), ∀ a, (k0_off170 v1218) a + S1x256x128.size a ≤ S1x4096x128.size a := fun v1218 k0_hw101 => k0_hw101.2

def k0_off171 (k0_t3 : Fin k0_t3_loop.trips) : Fin 1 → Nat :=
  let c122_i32_606 : BitVec 32 := 122#32
  let c4_i32_605 : BitVec 32 := 4#32
  let c0_i32_343 : BitVec 32 := 0#32
  let c1_i32_344 : BitVec 32 := 1#32
  let arg19 : BitVec 32 := Scf.iv c0_i32_343 c1_i32_344 k0_t3
  let v1214 : BitVec 32 := Scalar.muli c4_i32_605 arg19
  let v1215 : BitVec 32 := Scalar.addi c122_i32_606 v1214
  let c3_i32_607 : BitVec 32 := 3#32
  let v1216 : BitVec 32 := Scalar.addi v1215 c3_i32_607
  let v1224 : Index := Scalar.indexCast v1216
  ![v1224.toNat]
def k0_off172 (v1225 : BitVec 32) : Fin 3 → Nat :=
  let v1226 : Index := Scalar.indexCast v1225
  let c0_611 : Index := 0#32
  let c0_612 : Index := 0#32
  ![v1226.toNat, 0, 0]

def k0_chk102 (v1225 : BitVec 32) : Prop :=
  (∀ a, (k0_off172 v1225) a + S1x512x128.size a ≤ S16x512x128.size a)
theorem k0_off172_inb : ∀ (v1225 : BitVec 32) (k0_hw102 : k0_chk102 v1225), ∀ a, (k0_off172 v1225) a + S1x512x128.size a ≤ S16x512x128.size a := fun v1225 k0_hw102 => k0_hw102

def k0_off173 (k0_t3 : Fin k0_t3_loop.trips) : Fin 1 → Nat :=
  let c122_i32_606 : BitVec 32 := 122#32
  let c4_i32_605 : BitVec 32 := 4#32
  let c0_i32_343 : BitVec 32 := 0#32
  let c1_i32_344 : BitVec 32 := 1#32
  let arg19 : BitVec 32 := Scf.iv c0_i32_343 c1_i32_344 k0_t3
  let v1214 : BitVec 32 := Scalar.muli c4_i32_605 arg19
  let v1215 : BitVec 32 := Scalar.addi c122_i32_606 v1214
  let c3_i32_607 : BitVec 32 := 3#32
  let v1216 : BitVec 32 := Scalar.addi v1215 c3_i32_607
  let c1_i32_616 : BitVec 32 := 1#32
  let v1233 : BitVec 32 := Scalar.subi v1216 c1_i32_616
  let v1234 : Index := Scalar.indexCast v1233
  ![v1234.toNat]
def k0_off174 (v1235 : BitVec 32) : Fin 3 → Nat :=
  let v1241 : Index := Scalar.indexCast v1235
  let c0_620 : Index := 0#32
  let c0_621 : Index := 0#32
  ![v1241.toNat, 0, 0]

def k0_chk103 (v1235 : BitVec 32) : Prop :=
  (∀ a, (k0_off174 v1235) a + S1x512x128.size a ≤ S16x512x128.size a)
theorem k0_off174_inb : ∀ (v1235 : BitVec 32) (k0_hw103 : k0_chk103 v1235), ∀ a, (k0_off174 v1235) a + S1x512x128.size a ≤ S16x512x128.size a := fun v1235 k0_hw103 => k0_hw103

def k0_off175 (k0_t3 : Fin k0_t3_loop.trips) : Fin 1 → Nat :=
  let c122_i32_606 : BitVec 32 := 122#32
  let c4_i32_605 : BitVec 32 := 4#32
  let c0_i32_343 : BitVec 32 := 0#32
  let c1_i32_344 : BitVec 32 := 1#32
  let arg19 : BitVec 32 := Scf.iv c0_i32_343 c1_i32_344 k0_t3
  let v1214 : BitVec 32 := Scalar.muli c4_i32_605 arg19
  let v1215 : BitVec 32 := Scalar.addi c122_i32_606 v1214
  let c3_i32_607 : BitVec 32 := 3#32
  let v1216 : BitVec 32 := Scalar.addi v1215 c3_i32_607
  let c2_i32_629 : BitVec 32 := 2#32
  let v1268 : BitVec 32 := Scalar.subi v1216 c2_i32_629
  let v1269 : Index := Scalar.indexCast v1268
  ![v1269.toNat]
def k0_mult43 (v1272 : BitVec 32) : BitVec 32 :=
  let c256_i32_630 : BitVec 32 := 256#32
  let v1273 : BitVec 32 := Scalar.muli v1272 c256_i32_630
  v1273

def k0_off176 (v1272 : BitVec 32) : Fin 3 → Nat :=
  let c0_631 : Index := 0#32
  let c256_i32_630 : BitVec 32 := 256#32
  let v1273 : BitVec 32 := Scalar.muli v1272 c256_i32_630
  let v1274 : BitVec 32 := v1273
  let v1275 : Index := Scalar.indexCast v1274
  let c0_632 : Index := 0#32
  ![0, v1275.toNat, 0]

def k0_chk104 (v1272 : BitVec 32) : Prop :=
  (256 ∣ (k0_mult43 v1272).toNat) ∧
  (∀ a, (k0_off176 v1272) a + S1x256x128.size a ≤ S1x4096x128.size a)
theorem k0_mult43_dvd : ∀ (v1272 : BitVec 32) (k0_hw104 : k0_chk104 v1272), 256 ∣ (k0_mult43 v1272).toNat := fun v1272 k0_hw104 => k0_hw104.1
theorem k0_off176_inb : ∀ (v1272 : BitVec 32) (k0_hw104 : k0_chk104 v1272), ∀ a, (k0_off176 v1272) a + S1x256x128.size a ≤ S1x4096x128.size a := fun v1272 k0_hw104 => k0_hw104.2

def k0_off177 (v1270 : BitVec 32) : Fin 3 → Nat :=
  let v1282 : Index := Scalar.indexCast v1270
  let c0_638 : Index := 0#32
  let c0_639 : Index := 0#32
  ![v1282.toNat, 0, 0]

def k0_off178 (v1270 : BitVec 32) : Fin 3 → Nat :=
  let v1292 : Index := Scalar.indexCast v1270
  let c0_642 : Index := 0#32
  let c128_643 : Index := 128#32
  ![v1292.toNat, 0, 128]

def k0_chk105 (v1270 : BitVec 32) : Prop :=
  (∀ a, (k0_off177 v1270) a + S1x512x128.size a ≤ S16x512x256.size a) ∧
  (∀ a, (k0_off178 v1270) a + S1x512x128.size a ≤ S16x512x256.size a)
theorem k0_off177_inb : ∀ (v1270 : BitVec 32) (k0_hw105 : k0_chk105 v1270), ∀ a, (k0_off177 v1270) a + S1x512x128.size a ≤ S16x512x256.size a := fun v1270 k0_hw105 => k0_hw105.1
theorem k0_off178_inb : ∀ (v1270 : BitVec 32) (k0_hw105 : k0_chk105 v1270), ∀ a, (k0_off178 v1270) a + S1x512x128.size a ≤ S16x512x256.size a := fun v1270 k0_hw105 => k0_hw105.2

def k0_mult44 (v678 : BitVec 32) : BitVec 32 :=
  let c256_i32_346 : BitVec 32 := 256#32
  let v679 : BitVec 32 := Scalar.muli v678 c256_i32_346
  v679

def k0_off179 (v678 : BitVec 32) : Fin 3 → Nat :=
  let c0_347 : Index := 0#32
  let c256_i32_346 : BitVec 32 := 256#32
  let v679 : BitVec 32 := Scalar.muli v678 c256_i32_346
  let v680 : BitVec 32 := v679
  let v681 : Index := Scalar.indexCast v680
  let c0_348 : Index := 0#32
  ![0, v681.toNat, 0]

def k0_chk106 (v678 : BitVec 32) : Prop :=
  (256 ∣ (k0_mult44 v678).toNat) ∧
  (∀ a, (k0_off179 v678) a + S1x256x128.size a ≤ S1x4096x128.size a)
theorem k0_mult44_dvd : ∀ (v678 : BitVec 32) (k0_hw106 : k0_chk106 v678), 256 ∣ (k0_mult44 v678).toNat := fun v678 k0_hw106 => k0_hw106.1
theorem k0_off179_inb : ∀ (v678 : BitVec 32) (k0_hw106 : k0_chk106 v678), ∀ a, (k0_off179 v678) a + S1x256x128.size a ≤ S1x4096x128.size a := fun v678 k0_hw106 => k0_hw106.2

def k0_off180 (v684 : BitVec 32) : Fin 3 → Nat :=
  let v685 : Index := Scalar.indexCast v684
  let c0_350 : Index := 0#32
  let c0_351 : Index := 0#32
  ![v685.toNat, 0, 0]

def k0_chk107 (v684 : BitVec 32) : Prop :=
  (∀ a, (k0_off180 v684) a + S1x512x128.size a ≤ S16x512x128.size a)
theorem k0_off180_inb : ∀ (v684 : BitVec 32) (k0_hw107 : k0_chk107 v684), ∀ a, (k0_off180 v684) a + S1x512x128.size a ≤ S16x512x128.size a := fun v684 k0_hw107 => k0_hw107

def k0_off181 (v692 : BitVec 32) : Fin 3 → Nat :=
  let v698 : Index := Scalar.indexCast v692
  let c0_358 : Index := 0#32
  let c0_359 : Index := 0#32
  ![v698.toNat, 0, 0]

def k0_chk108 (v692 : BitVec 32) : Prop :=
  (∀ a, (k0_off181 v692) a + S1x512x128.size a ≤ S16x512x128.size a)
theorem k0_off181_inb : ∀ (v692 : BitVec 32) (k0_hw108 : k0_chk108 v692), ∀ a, (k0_off181 v692) a + S1x512x128.size a ≤ S16x512x128.size a := fun v692 k0_hw108 => k0_hw108

def k0_mult45 (v726 : BitVec 32) : BitVec 32 :=
  let c256_i32_368 : BitVec 32 := 256#32
  let v727 : BitVec 32 := Scalar.muli v726 c256_i32_368
  v727

def k0_off182 (v726 : BitVec 32) : Fin 3 → Nat :=
  let c0_369 : Index := 0#32
  let c256_i32_368 : BitVec 32 := 256#32
  let v727 : BitVec 32 := Scalar.muli v726 c256_i32_368
  let v728 : BitVec 32 := v727
  let v729 : Index := Scalar.indexCast v728
  let c0_370 : Index := 0#32
  ![0, v729.toNat, 0]

def k0_chk109 (v726 : BitVec 32) : Prop :=
  (256 ∣ (k0_mult45 v726).toNat) ∧
  (∀ a, (k0_off182 v726) a + S1x256x128.size a ≤ S1x4096x128.size a)
theorem k0_mult45_dvd : ∀ (v726 : BitVec 32) (k0_hw109 : k0_chk109 v726), 256 ∣ (k0_mult45 v726).toNat := fun v726 k0_hw109 => k0_hw109.1
theorem k0_off182_inb : ∀ (v726 : BitVec 32) (k0_hw109 : k0_chk109 v726), ∀ a, (k0_off182 v726) a + S1x256x128.size a ≤ S1x4096x128.size a := fun v726 k0_hw109 => k0_hw109.2

def k0_off183 (v725 : BitVec 32) : Fin 3 → Nat :=
  let v736 : Index := Scalar.indexCast v725
  let c0_376 : Index := 0#32
  let c0_377 : Index := 0#32
  ![v736.toNat, 0, 0]

def k0_off184 (v725 : BitVec 32) : Fin 3 → Nat :=
  let v746 : Index := Scalar.indexCast v725
  let c0_380 : Index := 0#32
  let c128_381 : Index := 128#32
  ![v746.toNat, 0, 128]

def k0_chk110 (v725 : BitVec 32) : Prop :=
  (∀ a, (k0_off183 v725) a + S1x512x128.size a ≤ S16x512x256.size a) ∧
  (∀ a, (k0_off184 v725) a + S1x512x128.size a ≤ S16x512x256.size a)
theorem k0_off183_inb : ∀ (v725 : BitVec 32) (k0_hw110 : k0_chk110 v725), ∀ a, (k0_off183 v725) a + S1x512x128.size a ≤ S16x512x256.size a := fun v725 k0_hw110 => k0_hw110.1
theorem k0_off184_inb : ∀ (v725 : BitVec 32) (k0_hw110 : k0_chk110 v725), ∀ a, (k0_off184 v725) a + S1x512x128.size a ≤ S16x512x256.size a := fun v725 k0_hw110 => k0_hw110.2

def k0_mult46 (v756 : BitVec 32) : BitVec 32 :=
  let c256_i32_384 : BitVec 32 := 256#32
  let v757 : BitVec 32 := Scalar.muli v756 c256_i32_384
  v757

def k0_off185 (v756 : BitVec 32) : Fin 3 → Nat :=
  let c0_385 : Index := 0#32
  let c256_i32_384 : BitVec 32 := 256#32
  let v757 : BitVec 32 := Scalar.muli v756 c256_i32_384
  let v758 : BitVec 32 := v757
  let v759 : Index := Scalar.indexCast v758
  let c0_386 : Index := 0#32
  ![0, v759.toNat, 0]

def k0_chk111 (v756 : BitVec 32) : Prop :=
  (256 ∣ (k0_mult46 v756).toNat) ∧
  (∀ a, (k0_off185 v756) a + S1x256x128.size a ≤ S1x4096x128.size a)
theorem k0_mult46_dvd : ∀ (v756 : BitVec 32) (k0_hw111 : k0_chk111 v756), 256 ∣ (k0_mult46 v756).toNat := fun v756 k0_hw111 => k0_hw111.1
theorem k0_off185_inb : ∀ (v756 : BitVec 32) (k0_hw111 : k0_chk111 v756), ∀ a, (k0_off185 v756) a + S1x256x128.size a ≤ S1x4096x128.size a := fun v756 k0_hw111 => k0_hw111.2

def k0_off186 (v762 : BitVec 32) : Fin 3 → Nat :=
  let v763 : Index := Scalar.indexCast v762
  let c0_388 : Index := 0#32
  let c0_389 : Index := 0#32
  ![v763.toNat, 0, 0]

def k0_chk112 (v762 : BitVec 32) : Prop :=
  (∀ a, (k0_off186 v762) a + S1x512x128.size a ≤ S16x512x128.size a)
theorem k0_off186_inb : ∀ (v762 : BitVec 32) (k0_hw112 : k0_chk112 v762), ∀ a, (k0_off186 v762) a + S1x512x128.size a ≤ S16x512x128.size a := fun v762 k0_hw112 => k0_hw112

def k0_off187 (v770 : BitVec 32) : Fin 3 → Nat :=
  let v776 : Index := Scalar.indexCast v770
  let c0_397 : Index := 0#32
  let c0_398 : Index := 0#32
  ![v776.toNat, 0, 0]

def k0_chk113 (v770 : BitVec 32) : Prop :=
  (∀ a, (k0_off187 v770) a + S1x512x128.size a ≤ S16x512x128.size a)
theorem k0_off187_inb : ∀ (v770 : BitVec 32) (k0_hw113 : k0_chk113 v770), ∀ a, (k0_off187 v770) a + S1x512x128.size a ≤ S16x512x128.size a := fun v770 k0_hw113 => k0_hw113

def k0_mult47 (v804 : BitVec 32) : BitVec 32 :=
  let c256_i32_408 : BitVec 32 := 256#32
  let v805 : BitVec 32 := Scalar.muli v804 c256_i32_408
  v805

def k0_off188 (v804 : BitVec 32) : Fin 3 → Nat :=
  let c0_409 : Index := 0#32
  let c256_i32_408 : BitVec 32 := 256#32
  let v805 : BitVec 32 := Scalar.muli v804 c256_i32_408
  let v806 : BitVec 32 := v805
  let v807 : Index := Scalar.indexCast v806
  let c0_410 : Index := 0#32
  ![0, v807.toNat, 0]

def k0_chk114 (v804 : BitVec 32) : Prop :=
  (256 ∣ (k0_mult47 v804).toNat) ∧
  (∀ a, (k0_off188 v804) a + S1x256x128.size a ≤ S1x4096x128.size a)
theorem k0_mult47_dvd : ∀ (v804 : BitVec 32) (k0_hw114 : k0_chk114 v804), 256 ∣ (k0_mult47 v804).toNat := fun v804 k0_hw114 => k0_hw114.1
theorem k0_off188_inb : ∀ (v804 : BitVec 32) (k0_hw114 : k0_chk114 v804), ∀ a, (k0_off188 v804) a + S1x256x128.size a ≤ S1x4096x128.size a := fun v804 k0_hw114 => k0_hw114.2

def k0_off189 (v803 : BitVec 32) : Fin 3 → Nat :=
  let v814 : Index := Scalar.indexCast v803
  let c0_416 : Index := 0#32
  let c0_417 : Index := 0#32
  ![v814.toNat, 0, 0]

def k0_off190 (v803 : BitVec 32) : Fin 3 → Nat :=
  let v824 : Index := Scalar.indexCast v803
  let c0_420 : Index := 0#32
  let c128_421 : Index := 128#32
  ![v824.toNat, 0, 128]

def k0_chk115 (v803 : BitVec 32) : Prop :=
  (∀ a, (k0_off189 v803) a + S1x512x128.size a ≤ S16x512x256.size a) ∧
  (∀ a, (k0_off190 v803) a + S1x512x128.size a ≤ S16x512x256.size a)
theorem k0_off189_inb : ∀ (v803 : BitVec 32) (k0_hw115 : k0_chk115 v803), ∀ a, (k0_off189 v803) a + S1x512x128.size a ≤ S16x512x256.size a := fun v803 k0_hw115 => k0_hw115.1
theorem k0_off190_inb : ∀ (v803 : BitVec 32) (k0_hw115 : k0_chk115 v803), ∀ a, (k0_off190 v803) a + S1x512x128.size a ≤ S16x512x256.size a := fun v803 k0_hw115 => k0_hw115.2

def k0_off191 (v834 : BitVec 32) : Fin 3 → Nat :=
  let v840 : Index := Scalar.indexCast v834
  let c0_428 : Index := 0#32
  let c0_429 : Index := 0#32
  ![v840.toNat, 0, 0]

def k0_chk116 (v834 : BitVec 32) : Prop :=
  (∀ a, (k0_off191 v834) a + S1x512x128.size a ≤ S16x512x128.size a)
theorem k0_off191_inb : ∀ (v834 : BitVec 32) (k0_hw116 : k0_chk116 v834), ∀ a, (k0_off191 v834) a + S1x512x128.size a ≤ S16x512x128.size a := fun v834 k0_hw116 => k0_hw116

def k0_mult48 (v868 : BitVec 32) : BitVec 32 :=
  let c256_i32_439 : BitVec 32 := 256#32
  let v869 : BitVec 32 := Scalar.muli v868 c256_i32_439
  v869

def k0_off192 (v868 : BitVec 32) : Fin 3 → Nat :=
  let c0_440 : Index := 0#32
  let c256_i32_439 : BitVec 32 := 256#32
  let v869 : BitVec 32 := Scalar.muli v868 c256_i32_439
  let v870 : BitVec 32 := v869
  let v871 : Index := Scalar.indexCast v870
  let c0_441 : Index := 0#32
  ![0, v871.toNat, 0]

def k0_chk117 (v868 : BitVec 32) : Prop :=
  (256 ∣ (k0_mult48 v868).toNat) ∧
  (∀ a, (k0_off192 v868) a + S1x256x128.size a ≤ S1x4096x128.size a)
theorem k0_mult48_dvd : ∀ (v868 : BitVec 32) (k0_hw117 : k0_chk117 v868), 256 ∣ (k0_mult48 v868).toNat := fun v868 k0_hw117 => k0_hw117.1
theorem k0_off192_inb : ∀ (v868 : BitVec 32) (k0_hw117 : k0_chk117 v868), ∀ a, (k0_off192 v868) a + S1x256x128.size a ≤ S1x4096x128.size a := fun v868 k0_hw117 => k0_hw117.2

def k0_off193 (v867 : BitVec 32) : Fin 3 → Nat :=
  let v878 : Index := Scalar.indexCast v867
  let c0_447 : Index := 0#32
  let c0_448 : Index := 0#32
  ![v878.toNat, 0, 0]

def k0_off194 (v867 : BitVec 32) : Fin 3 → Nat :=
  let v888 : Index := Scalar.indexCast v867
  let c0_451 : Index := 0#32
  let c128_452 : Index := 128#32
  ![v888.toNat, 0, 128]

def k0_chk118 (v867 : BitVec 32) : Prop :=
  (∀ a, (k0_off193 v867) a + S1x512x128.size a ≤ S16x512x256.size a) ∧
  (∀ a, (k0_off194 v867) a + S1x512x128.size a ≤ S16x512x256.size a)
theorem k0_off193_inb : ∀ (v867 : BitVec 32) (k0_hw118 : k0_chk118 v867), ∀ a, (k0_off193 v867) a + S1x512x128.size a ≤ S16x512x256.size a := fun v867 k0_hw118 => k0_hw118.1
theorem k0_off194_inb : ∀ (v867 : BitVec 32) (k0_hw118 : k0_chk118 v867), ∀ a, (k0_off194 v867) a + S1x512x128.size a ≤ S16x512x256.size a := fun v867 k0_hw118 => k0_hw118.2

def k0_mult49 (v899 : BitVec 32) : BitVec 32 :=
  let c256_i32_457 : BitVec 32 := 256#32
  let v900 : BitVec 32 := Scalar.muli v899 c256_i32_457
  v900

def k0_off195 (v899 : BitVec 32) : Fin 3 → Nat :=
  let c0_458 : Index := 0#32
  let c256_i32_457 : BitVec 32 := 256#32
  let v900 : BitVec 32 := Scalar.muli v899 c256_i32_457
  let v901 : BitVec 32 := v900
  let v902 : Index := Scalar.indexCast v901
  let c0_459 : Index := 0#32
  ![0, v902.toNat, 0]

def k0_chk119 (v899 : BitVec 32) : Prop :=
  (256 ∣ (k0_mult49 v899).toNat) ∧
  (∀ a, (k0_off195 v899) a + S1x256x128.size a ≤ S1x4096x128.size a)
theorem k0_mult49_dvd : ∀ (v899 : BitVec 32) (k0_hw119 : k0_chk119 v899), 256 ∣ (k0_mult49 v899).toNat := fun v899 k0_hw119 => k0_hw119.1
theorem k0_off195_inb : ∀ (v899 : BitVec 32) (k0_hw119 : k0_chk119 v899), ∀ a, (k0_off195 v899) a + S1x256x128.size a ≤ S1x4096x128.size a := fun v899 k0_hw119 => k0_hw119.2

def k0_off196 (v898 : BitVec 32) : Fin 3 → Nat :=
  let v909 : Index := Scalar.indexCast v898
  let c0_465 : Index := 0#32
  let c0_466 : Index := 0#32
  ![v909.toNat, 0, 0]

def k0_off197 (v898 : BitVec 32) : Fin 3 → Nat :=
  let v919 : Index := Scalar.indexCast v898
  let c0_469 : Index := 0#32
  let c128_470 : Index := 128#32
  ![v919.toNat, 0, 128]

def k0_chk120 (v898 : BitVec 32) : Prop :=
  (∀ a, (k0_off196 v898) a + S1x512x128.size a ≤ S16x512x256.size a) ∧
  (∀ a, (k0_off197 v898) a + S1x512x128.size a ≤ S16x512x256.size a)
theorem k0_off196_inb : ∀ (v898 : BitVec 32) (k0_hw120 : k0_chk120 v898), ∀ a, (k0_off196 v898) a + S1x512x128.size a ≤ S16x512x256.size a := fun v898 k0_hw120 => k0_hw120.1
theorem k0_off197_inb : ∀ (v898 : BitVec 32) (k0_hw120 : k0_chk120 v898), ∀ a, (k0_off197 v898) a + S1x512x128.size a ≤ S16x512x256.size a := fun v898 k0_hw120 => k0_hw120.2

@[reducible] def k0_t4_loop : Scf.Loop 32 :=
  let c0_i32_481 : BitVec 32 := 0#32
  let c16_i32_482 : BitVec 32 := 16#32
  let v949 : BitVec 32 := Scalar.addi c0_i32_481 c16_i32_482
  let c1_i32_483 : BitVec 32 := 1#32
  ⟨c0_i32_481, v949, c1_i32_483⟩
def k0_off198 (k0_t4 : Fin k0_t4_loop.trips) : Fin 3 → Nat :=
  let c0_i32_481 : BitVec 32 := 0#32
  let c1_i32_483 : BitVec 32 := 1#32
  let arg19 : BitVec 32 := Scf.iv c0_i32_481 c1_i32_483 k0_t4
  let v950 : Index := Scalar.indexCast arg19
  let c0_485 : Index := 0#32
  let c0_486 : Index := 0#32
  ![v950.toNat, 0, 0]
def k0_off199 (k0_t4 : Fin k0_t4_loop.trips) : Fin 3 → Nat :=
  let c0_i32_481 : BitVec 32 := 0#32
  let c1_i32_483 : BitVec 32 := 1#32
  let arg19 : BitVec 32 := Scf.iv c0_i32_481 c1_i32_483 k0_t4
  let v953 : Index := Scalar.indexCast arg19
  let c256 : Index := 256#32
  let c0_487 : Index := 0#32
  ![v953.toNat, 256, 0]
def k0_mult50 (k0_t4 : Fin k0_t4_loop.trips) : BitVec 32 :=
  let c0_i32_481 : BitVec 32 := 0#32
  let c1_i32_483 : BitVec 32 := 1#32
  let arg19 : BitVec 32 := Scf.iv c0_i32_481 c1_i32_483 k0_t4
  let c256_i32_491 : BitVec 32 := 256#32
  let v978 : BitVec 32 := Scalar.muli arg19 c256_i32_491
  v978
def k0_off200 (k0_t4 : Fin k0_t4_loop.trips) : Fin 3 → Nat :=
  let c0_492 : Index := 0#32
  let c0_i32_481 : BitVec 32 := 0#32
  let c1_i32_483 : BitVec 32 := 1#32
  let arg19 : BitVec 32 := Scf.iv c0_i32_481 c1_i32_483 k0_t4
  let c256_i32_491 : BitVec 32 := 256#32
  let v978 : BitVec 32 := Scalar.muli arg19 c256_i32_491
  let v979 : BitVec 32 := v978
  let v980 : Index := Scalar.indexCast v979
  let c0_493 : Index := 0#32
  ![0, v980.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x4096x3072 : Shape := ⟨3, ![16, 4096, 3072]⟩
abbrev S4x64 : Shape := ⟨2, ![4, 64]⟩
abbrev S128 : Shape := ⟨1, ![128]⟩
abbrev S16x4096x1024 : Shape := ⟨3, ![16, 4096, 1024]⟩
abbrev S16x4096x8x2x64 : Shape := ⟨5, ![16, 4096, 8, 2, 64]⟩
abbrev S16x4096x8x128 : Shape := ⟨4, ![16, 4096, 8, 128]⟩
abbrev S1x64 : Shape := ⟨2, ![1, 64]⟩
abbrev S64 : Shape := ⟨1, ![64]⟩
abbrev S_ : Shape := ⟨0, ![]⟩
abbrev S16x8x2x4096x4096 : Shape := ⟨5, ![16, 8, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x8x2x4096 : Shape := ⟨4, ![16, 8, 2, 4096]⟩
abbrev S16x8x2x4096x1 : Shape := ⟨5, ![16, 8, 2, 4096, 1]⟩
abbrev S16x8x1x4096x4096 : Shape := ⟨5, ![16, 8, 1, 4096, 4096]⟩
abbrev S16x8x4096x4096 : Shape := ⟨4, ![16, 8, 4096, 4096]⟩
abbrev S16x8x128x4096 : Shape := ⟨4, ![16, 8, 128, 4096]⟩
abbrev S16x4096x8 : Shape := ⟨3, ![16, 4096, 8]⟩
abbrev S16x4096x8x1 : Shape := ⟨4, ![16, 4096, 8, 1]⟩
abbrev S1x1x1x128 : Shape := ⟨4, ![1, 1, 1, 128]⟩

abbrev nBuf : Space → Nat
  | .hbm => 90
  | .vmem => 0
  | .smem => 0
  | _ => 0

abbrev bufTy : (tb : Table) → Fin (tcTables nBuf tb) → BufTy
  | .hbm, ⟨0, _⟩ => ⟨S16x4096x3072, .bf16⟩
  | .hbm, ⟨1, _⟩ => ⟨S4x64, .f32⟩
  | .hbm, ⟨2, _⟩ => ⟨S128, .f32⟩
  | .hbm, ⟨3, _⟩ => ⟨S16x4096x3072, .f32⟩
  | .hbm, ⟨4, _⟩ => ⟨S16x4096x1024, .f32⟩
  | .hbm, ⟨5, _⟩ => ⟨S16x4096x1024, .f32⟩
  | .hbm, ⟨6, _⟩ => ⟨S16x4096x1024, .f32⟩
  | .hbm, ⟨7, _⟩ => ⟨S16x4096x8x2x64, .f32⟩
  | .hbm, ⟨8, _⟩ => ⟨S16x4096x8x2x64, .f32⟩
  | .hbm, ⟨9, _⟩ => ⟨S16x4096x8x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16x8x2x4096x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16x8x2x4096x4096, .f32⟩
  | .hbm, ⟨34, _⟩ => ⟨S16x8x2x4096x4096, .f32⟩
  | .hbm, ⟨35, _⟩ => ⟨S4096, .i32⟩
  | .hbm, ⟨36, _⟩ => ⟨S1x4096, .i32⟩
  | .hbm, ⟨37, _⟩ => ⟨S4096x1, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S_, .f32⟩
  | .hbm, ⟨42, _⟩ => ⟨S_, .f32⟩
  | .hbm, ⟨43, _⟩ => ⟨S16x8x2x4096x4096, .i1⟩
  | .hbm, ⟨44, _⟩ => ⟨S16x8x2x4096x4096, .f32⟩
  | .hbm, ⟨45, _⟩ => ⟨S16x8x2x4096x4096, .f32⟩
  | .hbm, ⟨46, _⟩ => ⟨S_, .f32⟩
  | .hbm, ⟨47, _⟩ => ⟨S16x8x2x4096, .f32⟩
  | .hbm, ⟨48, _⟩ => ⟨S_, .f32⟩
  | .hbm, ⟨49, _⟩ => ⟨S16x8x2x4096, .f32⟩
  | .hbm, ⟨50, _⟩ => ⟨S16x8x2x4096, .f32⟩
  | .hbm, ⟨51, _⟩ => ⟨S16x8x2x4096x1, .f32⟩
  | .hbm, ⟨52, _⟩ => ⟨S16x8x2x4096x4096, .f32⟩
  | .hbm, ⟨53, _⟩ => ⟨S16x8x2x4096x4096, .f32⟩
  | .hbm, ⟨54, _⟩ => ⟨S16x8x2x4096x4096, .f32⟩
  | .hbm, ⟨55, _⟩ => ⟨S_, .f32⟩
  | .hbm, ⟨56, _⟩ => ⟨S16x8x2x4096, .f32⟩
  | .hbm, ⟨57, _⟩ => ⟨S16x8x2x4096x1, .f32⟩
  | .hbm, ⟨58, _⟩ => ⟨S16x8x2x4096x4096, .f32⟩
  | .hbm, ⟨59, _⟩ => ⟨S16x8x2x4096x4096, .f32⟩
  | .hbm, ⟨60, _⟩ => ⟨S16x8x1x4096x4096, .f32⟩
  | .hbm, ⟨61, _⟩ => ⟨S16x8x4096x4096, .f32⟩
  | .hbm, ⟨62, _⟩ => ⟨S16x8x1x4096x4096, .f32⟩
  | .hbm, ⟨63, _⟩ => ⟨S16x8x4096x4096, .f32⟩
  | .hbm, ⟨64, _⟩ => ⟨S16x8x4096x4096, .f32⟩
  | .hbm, ⟨65, _⟩ => ⟨S16x8x4096x4096, .f32⟩
  | .hbm, ⟨66, _⟩ => ⟨S16x8x4096x4096, .f32⟩
  | .hbm, ⟨67, _⟩ => ⟨S16x8x128x4096, .f32⟩
  | .hbm, ⟨68, _⟩ => ⟨S16x4096x8x128, .f32⟩
  | .hbm, ⟨69, _⟩ => ⟨S16x4096x8x128, .f32⟩
  | .hbm, ⟨70, _⟩ => ⟨S_, .f32⟩
  | .hbm, ⟨71, _⟩ => ⟨S16x4096x8, .f32⟩
  | .hbm, ⟨72, _⟩ => ⟨S16x4096x8x1, .f32⟩
  | .hbm, ⟨73, _⟩ => ⟨S_, .f32⟩
  | .hbm, ⟨74, _⟩ => ⟨S16x4096x8x1, .f32⟩
  | .hbm, ⟨75, _⟩ => ⟨S16x4096x8x1, .f32⟩
  | .hbm, ⟨76, _⟩ => ⟨S_, .f32⟩
  | .hbm, ⟨77, _⟩ => ⟨S16x4096x8x1, .f32⟩
  | .hbm, ⟨78, _⟩ => ⟨S16x4096x8x1, .f32⟩
  | .hbm, ⟨79, _⟩ => ⟨S16x4096x8x1, .f32⟩
  | .hbm, ⟨80, _⟩ => ⟨S16x4096x8x128, .f32⟩
  | .hbm, ⟨81, _⟩ => ⟨S16x4096x8x128, .f32⟩
  | .hbm, ⟨82, _⟩ => ⟨S1x1x1x128, .f32⟩
  | .hbm, ⟨83, _⟩ => ⟨S16x4096x8x128, .f32⟩
  | .hbm, ⟨84, _⟩ => ⟨S16x4096x8x128, .f32⟩
  | .hbm, ⟨85, _⟩ => ⟨S_, .f32⟩
  | .hbm, ⟨86, _⟩ => ⟨S16x4096x8x128, .f32⟩
  | .hbm, ⟨87, _⟩ => ⟨S16x4096x8x128, .f32⟩
  | .hbm, ⟨88, _⟩ => ⟨S16x4096x1024, .f32⟩
  | .hbm, ⟨89, _⟩ => ⟨S16x4096x1024, .bf16⟩
  | _, _ => ⟨S16x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Post.lean ====
abbrev S65536x1024 : Shape := ⟨2, ![65536, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 13
  | .vmem => 12
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024x1024, .bf16⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x2816, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PostReferenceIdeal.lean ====
abbrev S65536x1024 : Shape := ⟨2, ![65536, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 57
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S1x1024, .f32⟩
  | .hbm, ⟨24, _⟩ => ⟨S65536x1024, .f32⟩
  | .hbm, ⟨25, _⟩ => ⟨S65536x1024, .f32⟩
  | .hbm, ⟨26, _⟩ => ⟨S65536x5632, .f32⟩
  | .hbm, ⟨27, _⟩ => ⟨S65536x2816, .f32⟩
  | .hbm, ⟨28, _⟩ => ⟨S65536x2816, .f32⟩
  | .hbm, ⟨29, _⟩ => ⟨S65536x2816, .f32⟩
  | .hbm, ⟨30, _⟩ => ⟨S65536x2816, .f32⟩
  | .hbm, ⟨31, _⟩ => ⟨S_, .f32⟩
  | .hbm, ⟨32, _⟩ => ⟨S65536x2816, .f32⟩
  | .hbm, ⟨33, _⟩ => ⟨S65536x2816, .f32⟩
  | .hbm, ⟨34, _⟩ => ⟨S_, .f32⟩
  | .hbm, ⟨35, _⟩ => ⟨S65536x2816, .f32⟩
  | .hbm, ⟨36, _⟩ => ⟨S65536x2816, .f32⟩
  | .hbm, ⟨37, _⟩ => ⟨S65536x2816, .f32⟩
  | .hbm, ⟨38, _⟩ => ⟨S65536x2816, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S65536x1, .f32⟩
  | .hbm, ⟨52, _⟩ => ⟨S65536x1024, .f32⟩
  | .hbm, ⟨53, _⟩ => ⟨S65536x1024, .f32⟩
  | .hbm, ⟨54, _⟩ => ⟨S1x1024, .f32⟩
  | .hbm, ⟨55, _⟩ => ⟨S65536x1024, .f32⟩
  | .hbm, ⟨56, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Mid.lean ====
abbrev S65536x1024 : Shape := ⟨2, ![65536, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 11
  | .vmem => 11
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x1024, .bf16⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x2816, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MidReferenceIdeal.lean ====
abbrev S65536x1024 : Shape := ⟨2, ![65536, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 40
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x5632, .f32⟩
  | .hbm, ⟨26, _⟩ => ⟨S65536x2816, .f32⟩
  | .hbm, ⟨27, _⟩ => ⟨S65536x2816, .f32⟩
  | .hbm, ⟨28, _⟩ => ⟨S65536x2816, .f32⟩
  | .hbm, ⟨29, _⟩ => ⟨S65536x2816, .f32⟩
  | .hbm, ⟨30, _⟩ => ⟨S_, .f32⟩
  | .hbm, ⟨31, _⟩ => ⟨S65536x2816, .f32⟩
  | .hbm, ⟨32, _⟩ => ⟨S65536x2816, .f32⟩
  | .hbm, ⟨33, _⟩ => ⟨S_, .f32⟩
  | .hbm, ⟨34, _⟩ => ⟨S65536x2816, .f32⟩
  | .hbm, ⟨35, _⟩ => ⟨S65536x2816, .f32⟩
  | .hbm, ⟨36, _⟩ => ⟨S65536x2816, .f32⟩
  | .hbm, ⟨37, _⟩ => ⟨S65536x2816, .f32⟩
  | .hbm, ⟨38, _⟩ => ⟨S65536x1024, .f32⟩
  | .hbm, ⟨39, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Proj.lean ====
abbrev S65536x1024 : Shape := ⟨2, ![65536, 1024]⟩
abbrev S1024 : Shape := ⟨1, ![1024]⟩
abbrev S1024x4096 : Shape := ⟨2, ![1024, 4096]⟩
abbrev S1x1024 : Shape := ⟨2, ![1, 1024]⟩
abbrev S65536x4096 : Shape := ⟨2, ![65536, 4096]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S65536x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x4096, .bf16⟩
  | .local _ .vmem, ⟨5, _⟩ => ⟨S1024x4096, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjReferenceIdeal.lean ====
abbrev S65536x1024 : Shape := ⟨2, ![65536, 1024]⟩
abbrev S1024 : Shape := ⟨1, ![1024]⟩
abbrev S1024x4096 : Shape := ⟨2, ![1024, 4096]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x4096, .f32⟩
  | .hbm, ⟨20, _⟩ => ⟨S65536x4096, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Rope.lean ====
abbrev S65536x1024 : Shape := ⟨2, ![65536, 1024]⟩
abbrev S1024 : Shape := ⟨1, ![1024]⟩
abbrev S1024x3072 : Shape := ⟨2, ![1024, 3072]⟩
abbrev S65536x32 : Shape := ⟨2, ![65536, 32]⟩
abbrev S65536x128 : Shape := ⟨2, ![65536, 128]⟩
abbrev S1x1024 : Shape := ⟨2, ![1, 1024]⟩
abbrev S65536x3072 : Shape := ⟨2, ![65536, 3072]⟩
abbrev S1024x1024 : Shape := ⟨2, ![1024, 1024]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1024x512 : Shape := ⟨2, ![1024, 512]⟩
abbrev S512x512 : Shape := ⟨2, ![512, 512]⟩

abbrev nBuf : Space → Nat
  | .hbm => 12
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S65536x32, .f32⟩
  | .hbm, ⟨4, _⟩ => ⟨S65536x32, .f32⟩
  | .hbm, ⟨5, _⟩ => ⟨S65536x128, .f32⟩
  | .hbm, ⟨6, _⟩ => ⟨S65536x32, .f32⟩
  | .hbm, ⟨7, _⟩ => ⟨S65536x32, .f32⟩
  | .hbm, ⟨8, _⟩ => ⟨S65536x128, .f32⟩
  | .hbm, ⟨9, _⟩ => ⟨S1024x3072, .bf16⟩
  | .hbm, ⟨10, _⟩ => ⟨S1x1024, .f32⟩
  | .hbm, ⟨11, _⟩ => ⟨S65536x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x3072, .bf16⟩
  | .local _ .vmem, ⟨9, _⟩ => ⟨S1024x3072, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeIdeal.lean ====
variable {F : FTy → Type} [FloatOps F] [Named F]
def κ : String → Option EReal := fun
  | "q_scale" => some (((8 * (Real.log 2))⁻¹ : ℝ) : EReal)
  | _ => none
-- ==== RopeReferenceIdeal.lean ====
abbrev S65536x1024 : Shape := ⟨2, ![65536, 1024]⟩
abbrev S1024 : Shape := ⟨1, ![1024]⟩
abbrev S1024x3072 : Shape := ⟨2, ![1024, 3072]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩
abbrev S65536x8x2x64 : Shape := ⟨4, ![65536, 8, 2, 64]⟩
abbrev S65536x8x2x32 : Shape := ⟨4, ![65536, 8, 2, 32]⟩
abbrev S65536x1x1x32 : Shape := ⟨4, ![65536, 1, 1, 32]⟩

abbrev nBuf : Space → Nat
  | .hbm => 68
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S65536x32, .f32⟩
  | .hbm, ⟨4, _⟩ => ⟨S65536x32, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x3072, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x8x2x64, .f32⟩
  | .hbm, ⟨26, _⟩ => ⟨S65536x8x2x32, .f32⟩
  | .hbm, ⟨27, _⟩ => ⟨S65536x8x2x32, .f32⟩
  | .hbm, ⟨28, _⟩ => ⟨S65536x1x1x32, .f32⟩
  | .hbm, ⟨29, _⟩ => ⟨S65536x1x1x32, .f32⟩
  | .hbm, ⟨30, _⟩ => ⟨S65536x8x2x32, .f32⟩
  | .hbm, ⟨31, _⟩ => ⟨S65536x8x2x32, .f32⟩
  | .hbm, ⟨32, _⟩ => ⟨S65536x8x2x32, .f32⟩
  | .hbm, ⟨33, _⟩ => ⟨S65536x8x2x32, .f32⟩
  | .hbm, ⟨34, _⟩ => ⟨S65536x8x2x32, .f32⟩
  | .hbm, ⟨35, _⟩ => ⟨S65536x8x2x32, .f32⟩
  | .hbm, ⟨36, _⟩ => ⟨S65536x8x2x32, .f32⟩
  | .hbm, ⟨37, _⟩ => ⟨S65536x8x2x32, .f32⟩
  | .hbm, ⟨38, _⟩ => ⟨S65536x8x2x32, .f32⟩
  | .hbm, ⟨39, _⟩ => ⟨S65536x8x2x32, .f32⟩
  | .hbm, ⟨40, _⟩ => ⟨S65536x8x2x64, .f32⟩
  | .hbm, ⟨41, _⟩ => ⟨S65536x1024, .f32⟩
  | .hbm, ⟨42, _⟩ => ⟨S65536x8x2x64, .f32⟩
  | .hbm, ⟨43, _⟩ => ⟨S65536x8x2x32, .f32⟩
  | .hbm, ⟨44, _⟩ => ⟨S65536x8x2x32, .f32⟩
  | .hbm, ⟨45, _⟩ => ⟨S65536x1x1x32, .f32⟩
  | .hbm, ⟨46, _⟩ => ⟨S65536x1x1x32, .f32⟩
  | .hbm, ⟨47, _⟩ => ⟨S65536x8x2x32, .f32⟩
  | .hbm, ⟨48, _⟩ => ⟨S65536x8x2x32, .f32⟩
  | .hbm, ⟨49, _⟩ => ⟨S65536x8x2x32, .f32⟩
  | .hbm, ⟨50, _⟩ => ⟨S65536x8x2x32, .f32⟩
  | .hbm, ⟨51, _⟩ => ⟨S65536x8x2x32, .f32⟩
  | .hbm, ⟨52, _⟩ => ⟨S65536x8x2x32, .f32⟩
  | .hbm, ⟨53, _⟩ => ⟨S65536x8x2x32, .f32⟩
  | .hbm, ⟨54, _⟩ => ⟨S65536x8x2x32, .f32⟩
  | .hbm, ⟨55, _⟩ => ⟨S65536x8x2x32, .f32⟩
  | .hbm, ⟨56, _⟩ => ⟨S65536x8x2x32, .f32⟩
  | .hbm, ⟨57, _⟩ => ⟨S65536x8x2x64, .f32⟩
  | .hbm, ⟨58, _⟩ => ⟨S65536x1024, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S65536x1024, .f32⟩
  | .hbm, ⟨65, _⟩ => ⟨S65536x1024, .f32⟩
  | .hbm, ⟨66, _⟩ => ⟨S65536x3072, .f32⟩
  | .hbm, ⟨67, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_2 : Ref sig .tc := ⟨.hbm, 59, rfl⟩
abbrev main_v51 : Ref sig .tc := ⟨.hbm, 60, rfl⟩
abbrev main_cst_3 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩

abbrev nD : Nat := 1
abbrev τ : Topo := Topo.v7x

variable {F : FTy → Type} [FloatOps F]
-- ==== Tables.lean ====
abbrev S16x4096 : Shape := ⟨2, ![16, 4096]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S65536x1 : Shape := ⟨2, ![65536, 1]⟩
abbrev S65536x128 : Shape := ⟨2, ![65536, 128]⟩
abbrev S1024x1 : Shape := ⟨2, ![1024, 1]⟩
abbrev S1024x128 : Shape := ⟨2, ![1024, 128]⟩

abbrev nBuf : Space → Nat
  | .hbm => 24
  | .vmem => 7
  | .smem => 0
  | _ => 0

abbrev bufTy : (tb : Table) → Fin (tcTables nBuf tb) → BufTy
  | .hbm, ⟨0, _⟩ => ⟨S16x4096, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S1x32, .f32⟩
  | .hbm, ⟨18, _⟩ => ⟨S4x32, .f32⟩
  | .hbm, ⟨19, _⟩ => ⟨S128, .f32⟩
  | .hbm, ⟨20, _⟩ => ⟨S1x128, .f32⟩
  | .hbm, ⟨21, _⟩ => ⟨S65536x1, .i32⟩
  | .hbm, ⟨22, _⟩ => ⟨S65536x128, .f32⟩
  | .hbm, ⟨23, _⟩ => ⟨S65536x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TablesReferenceIdeal.lean ====
abbrev S16x4096 : Shape := ⟨2, ![16, 4096]⟩
abbrev S32 : Shape := ⟨1, ![32]⟩
abbrev S_ : Shape := ⟨0, ![]⟩
abbrev S16x4096x1 : Shape := ⟨3, ![16, 4096, 1]⟩
abbrev S1x1x32 : Shape := ⟨3, ![1, 1, 32]⟩
abbrev S16x4096x32 : Shape := ⟨3, ![16, 4096, 32]⟩
abbrev S16x4096x128 : Shape := ⟨3, ![16, 4096, 128]⟩
abbrev S65536x128 : Shape := ⟨2, ![65536, 128]⟩

abbrev nBuf : Space → Nat
  | .hbm => 31
  | .vmem => 0
  | .smem => 0
  | _ => 0

abbrev bufTy : (tb : Table) → Fin (tcTables nBuf tb) → BufTy
  | .hbm, ⟨0, _⟩ => ⟨S16x4096, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S16x4096, .f32⟩
  | .hbm, ⟨18, _⟩ => ⟨S16x4096x1, .f32⟩
  | .hbm, ⟨19, _⟩ => ⟨S1x1x32, .f32⟩
  | .hbm, ⟨20, _⟩ => ⟨S16x4096x32, .f32⟩
  | .hbm, ⟨21, _⟩ => ⟨S16x4096x32, .f32⟩
  | .hbm, ⟨22, _⟩ => ⟨S16x4096x32, .f32⟩
  | .hbm, ⟨23, _⟩ => ⟨S16x4096x32, .f32⟩
  | .hbm, ⟨24, _⟩ => ⟨S16x4096x32, .f32⟩
  | .hbm, ⟨25, _⟩ => ⟨S16x4096x128, .f32⟩
  | .hbm, ⟨26, _⟩ => ⟨S16x4096x32, .f32⟩
  | .hbm, ⟨27, _⟩ => ⟨S16x4096x32, .f32⟩
  | .hbm, ⟨28, _⟩ => ⟨S16x4096x128, .f32⟩
  | .hbm, ⟨29, _⟩ => ⟨S65536x128, .f32⟩
  | .hbm, ⟨30, _⟩ => ⟨S65536x128, .f32⟩
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.Stages.lean ====
/- The three stages of the attention kernel's pipeline as programs over the work item they treat, and the kernel's
   loop bodies as compositions of them. -/
module

public import proofs.«01_k».proof.Proof.Gen.KernelIdeal.Loops
public import proofs.«01_k».proof.Proof.Gen.KernelIdeal.Launch

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F] [Named F]

abbrev KProg (F : FTy → Type) (α : Type) := Prog (TpuEff nD τ sig (Elt F) Λ₀ .tc) α

/-- The block of scores of one work item: the masked queries of its row block against the keys of its column block. -/
def scoresPay (kb : Vec F S1x256x128 .bf16) (qb : Vec F S1x512x128 .bf16) : FVec F S512x256 .f32 :=
  shapeCast S512x256
    (matmul dot_S512x128_S256x128_S512x256_1_1_0_0_n_n none (shapeCast S512x128 qb shapeCasts_S1x512x128_S512x128 : FVec F S512x128 .bf16)
      (shapeCast S256x128 kb shapeCasts_S1x256x128_S256x128 : FVec F S256x128 .bf16) (constant S512x256 .f32 0x00000000#32) : FVec F S512x256 .f32)
    shapeCasts_S512x256_S512x256

/-- The scores stage of the work item at table offset `o`, into the buffer `s`. -/
def scores (arg2 arg3 : Memref sig .tc .smem S136 .i32) (arg5 : Memref sig .tc .vmem S1x4096x128 .bf16)
    (arg10 : Memref sig .tc .vmem S16x512x128 .bf16) (s : Memref sig .tc .vmem S512x256 .f32)
    (o : Fin 1 → Nat) (ho : ∀ a, o a + S1.size a ≤ S136.size a) : KProg F PUnit := do
  let kj : Elt F .i32 ← smemLoad arg3 (Rect.unit (s := S136) o S1.size ho) numel1_S1 rfl
  have hk : k0_chk6 kj := (← Prog.lift (TpuEff.assume (k0_chk6 kj) (k0_chk6.dec kj))).down
  let kb : Vec F S1x256x128 .bf16 ← Prog.lift (.load arg5 (Rect.unit (s := S1x4096x128) (k0_off12 kj) S1x256x128.size (k0_off12_inb kj hk)).toLoadRect (View.loadsAt_vmem h_S1x256x128))
  let qi : Elt F .i32 ← smemLoad arg2 (Rect.unit (s := S136) o S1.size ho) numel1_S1 rfl
  have hq : k0_chk7 qi := (← Prog.lift (TpuEff.assume (k0_chk7 qi) (k0_chk7.dec qi))).down
  let qb : Vec F S1x512x128 .bf16 ← Prog.lift (.load arg10 (Rect.unit (s := S16x512x128) (k0_off14 qi) S1x512x128.size (k0_off14_inb qi hq)).toLoadRect (View.loadsAt_vmem h_S1x512x128))
  let _old : Vec F S512x256 .f32 ← Prog.lift (.load s (Rect.unit (s := S512x256) ![0, 0] S512x256.size inb_S512x256_S512x256_0_0).toLoadRect (View.loadsAt_vmem h_S512x256))
  Prog.lift (.store s (Rect.unit (s := S512x256) ![0, 0] S512x256.size inb_S512x256_S512x256_0_0) (scoresPay kb qb) Finset.univ (View.stores_vmem_bits_univ h_S512x256 rfl) (.inl rfl))

/-- Where a block on the diagonal is kept. -/
def maskPay : IVec S512x256 1 :=
  cmpi .sle (iota .tc S512x256 32 [1] iota_S512x256_d1_w32) (andi (iota .tc S512x256 32 [0] iota_S512x256_d0_w32) (broadcast S512x256 255#32))

/-- The mask of a block on the diagonal, as the kernel selects it. -/
def masked (sc : Vec F S512x256 .f32) : Vec F S512x256 .f32 :=
  select maskPay
    sc (broadcast S512x256 (Named.named κ "mask" 0xFF7F0000#32 : F .f32) : FVec F S512x256 .f32)

/-- The new row maxima from the old ones and the block of scores. -/
def maxPay (sc : Vec F S512x256 .f32) (m : Vec F S1x512x128 .f32) : FVec F S512x128 .f32 :=
  maximumf (shapeCast S512x128 m shapeCasts_S1x512x128_S512x128 : FVec F S512x128 .f32)
    (broadcastTo S512x128 (shapeCast S512x1 (multiReduction .maximumf [1] S512
      (maximumf (extractStridedSlice S512x128 ![0, 0] sc slices_S512x256_o0_0_S512x128 : FVec F S512x128 .f32)
        (extractStridedSlice S512x128 ![0, 128] sc slices_S512x256_o0_128_S512x128))
      0xFF800000#32 reduces_S512x128_S512 (.inl rfl) rfl : FVec F S512 .f32) shapeCasts_S512_S512x1 : FVec F S512x1 .f32) broadcasts_S512x1_S512x128)

/-- The factor by which what was accumulated so far is scaled. -/
def alphaPay (sc : Vec F S512x256 .f32) (m : Vec F S1x512x128 .f32) : FVec F S512x128 .f32 :=
  shapeCast S512x128 (exp2 (subf (shapeCast S512x128 m shapeCasts_S1x512x128_S512x128 : FVec F S512x128 .f32) (maxPay sc m))) shapeCasts_S512x128_S512x128

/-- The block of weights. -/
def probPay (sc : Vec F S512x256 .f32) (m : Vec F S1x512x128 .f32) : FVec F S512x256 .bf16 :=
  shapeCast S512x256 (concatenate S512x256 1
    [⟨S512x128, (truncf .bf16 (exp2 (subf (extractStridedSlice S512x128 ![0, 0] sc slices_S512x256_o0_0_S512x128 : FVec F S512x128 .f32) (maxPay sc m))) bitsLt_bf16_f32 : FVec F S512x128 .bf16)⟩,
     ⟨S512x128, (truncf .bf16 (exp2 (subf (extractStridedSlice S512x128 ![0, 128] sc slices_S512x256_o0_128_S512x128 : FVec F S512x128 .f32) (maxPay sc m))) bitsLt_bf16_f32 : FVec F S512x128 .bf16)⟩]
    concatenates_S512x128_S512x128_S512x256_d1 : FVec F S512x256 .bf16) shapeCasts_S512x256_S512x256

/-- The softmax stage of the work item at table offset `o`: from the scores in `s`, masked by `g`, to the weights in `p` and the factors
    in `a`. -/
def softmax (g : Vec F S512x256 .f32 → Vec F S512x256 .f32) (arg2 : Memref sig .tc .smem S136 .i32)
    (arg11 : Memref sig .tc .vmem S16x512x128 .f32) (s : Memref sig .tc .vmem S512x256 .f32)
    (p : Memref sig .tc .vmem S512x256 .bf16) (hp : p.IsWhole) (a : Memref sig .tc .vmem S512x128 .f32)
    (o : Fin 1 → Nat) (ho : ∀ a, o a + S1.size a ≤ S136.size a) : KProg F PUnit := do
  let qi : Elt F .i32 ← smemLoad arg2 (Rect.unit (s := S136) o S1.size ho) numel1_S1 rfl
  have hq : k0_chk8 qi := (← Prog.lift (TpuEff.assume (k0_chk8 qi) (k0_chk8.dec qi))).down
  let sc : Vec F S512x256 .f32 ← Prog.lift (.load s (Rect.unit (s := S512x256) ![0, 0] S512x256.size inb_S512x256_S512x256_0_0).toLoadRect (View.loadsAt_vmem h_S512x256))
  let m : Vec F S1x512x128 .f32 ← Prog.lift (.load arg11 (Rect.unit (s := S16x512x128) (k0_off16 qi) S1x512x128.size (k0_off16_inb qi hq)).toLoadRect (View.loadsAt_vmem h_S1x512x128))
  let _old : Vec F S1x512x128 .f32 ← Prog.lift (.load arg11 (Rect.unit (s := S16x512x128) (k0_off16 qi) S1x512x128.size (k0_off16_inb qi hq)).toLoadRect (View.loadsAt_vmem h_S1x512x128))
  Prog.lift (.store arg11 (Rect.unit (s := S16x512x128) (k0_off16 qi) S1x512x128.size (k0_off16_inb qi hq)) (shapeCast S1x512x128 (maxPay (g sc) m) shapeCasts_S512x128_S1x512x128 : FVec F S1x512x128 .f32) Finset.univ (View.stores_vmem_bits_univ h_S1x512x128 rfl) (.inl rfl))
  let _old : Vec F S512x128 .f32 ← Prog.lift (.load a (Rect.unit (s := S512x128) ![0, 0] S512x128.size inb_S512x128_S512x128_0_0).toLoadRect (View.loadsAt_vmem h_S512x128))
  Prog.lift (.store a (Rect.unit (s := S512x128) ![0, 0] S512x128.size inb_S512x128_S512x128_0_0) (alphaPay (g sc) m) Finset.univ (View.stores_vmem_bits_univ h_S512x128 rfl) (.inl rfl))
  let _old : Vec F S512x256 .bf16 ← Prog.lift (.load p (Rect.unit (s := S512x256) ![0, 0] S512x256.size inb_S512x256_S512x256_0_0).toLoadRect (View.loadsAt_vmem h_S512x256))
  Prog.lift (.store p (Rect.unit (s := S512x256) ![0, 0] S512x256.size inb_S512x256_S512x256_0_0) (probPay (g sc) m) Finset.univ (View.stores_vmem h_S512x256 (hp.storeExact_slice rfl _ packedbf16_S512x256_S512x256_0_0) (fun _ => rfl)) (.inl rfl))

/-- The ones that stand beside the values. -/
def onesPay : FVec F S256x128 .bf16 := broadcast S256x128 (Scalar.ofBits .bf16 0x3F80#16 : F .bf16)

/-- The weights times the values and the ones. -/
def pvPay (vb : Vec F S1x256x128 .bf16) (p : Vec F S512x256 .bf16) : FVec F S512x256 .f32 :=
  matmul dot_S512x256_S256x256_S512x256_1_0_0_1_n_n none p
    (concatenate S256x256 1 [⟨S256x128, (shapeCast S256x128 vb shapeCasts_S1x256x128_S256x128 : FVec F S256x128 .bf16)⟩, ⟨S256x128, (onesPay : FVec F S256x128 .bf16)⟩] concatenates_S256x128_S256x128_S256x256_d1 : FVec F S256x256 .bf16)
    (constant S512x256 .f32 0x00000000#32)

/-- The left half of the accumulator's new block. -/
def accPay0 (vb : Vec F S1x256x128 .bf16) (p : Vec F S512x256 .bf16) (al : Vec F S512x128 .f32) (ac : Vec F S1x512x128 .f32) : FVec F S1x512x128 .f32 :=
  shapeCast S1x512x128 (addf (mulf al (shapeCast S512x128 ac shapeCasts_S1x512x128_S512x128 : FVec F S512x128 .f32))
    (extractStridedSlice S512x128 ![0, 0] (pvPay vb p) slices_S512x256_o0_0_S512x128) : FVec F S512x128 .f32) shapeCasts_S512x128_S1x512x128

/-- The right half of the accumulator's new block. -/
def accPay1 (vb : Vec F S1x256x128 .bf16) (p : Vec F S512x256 .bf16) (al : Vec F S512x128 .f32) (ac : Vec F S1x512x128 .f32) : FVec F S1x512x128 .f32 :=
  shapeCast S1x512x128 (addf (mulf al (shapeCast S512x128 ac shapeCasts_S1x512x128_S512x128 : FVec F S512x128 .f32))
    (extractStridedSlice S512x128 ![0, 128] (pvPay vb p) slices_S512x256_o0_128_S512x128) : FVec F S512x128 .f32) shapeCasts_S512x128_S1x512x128

/-- The values stage of the work item at table offset `o`: the weights in `p` and the factors in `a` go into the accumulator. -/
def values (arg2 arg3 : Memref sig .tc .smem S136 .i32) (arg6 : Memref sig .tc .vmem S1x4096x128 .bf16)
    (arg12 : Memref sig .tc .vmem S16x512x256 .f32) (p : Memref sig .tc .vmem S512x256 .bf16) (a : Memref sig .tc .vmem S512x128 .f32)
    (o : Fin 1 → Nat) (ho : ∀ a, o a + S1.size a ≤ S136.size a) : KProg F PUnit := do
  let qi : Elt F .i32 ← smemLoad arg2 (Rect.unit (s := S136) o S1.size ho) numel1_S1 rfl
  have hq : k0_chk10 qi := (← Prog.lift (TpuEff.assume (k0_chk10 qi) (k0_chk10.dec qi))).down
  let kj : Elt F .i32 ← smemLoad arg3 (Rect.unit (s := S136) o S1.size ho) numel1_S1 rfl
  have hk : k0_chk9 kj := (← Prog.lift (TpuEff.assume (k0_chk9 kj) (k0_chk9.dec kj))).down
  let vb : Vec F S1x256x128 .bf16 ← Prog.lift (.load arg6 (Rect.unit (s := S1x4096x128) (k0_off18 kj) S1x256x128.size (k0_off18_inb kj hk)).toLoadRect (View.loadsAt_vmem h_S1x256x128))
  let pb : Vec F S512x256 .bf16 ← Prog.lift (.load p (Rect.unit (s := S512x256) ![0, 0] S512x256.size inb_S512x256_S512x256_0_0).toLoadRect (View.loadsAt_vmem h_S512x256))
  let al : Vec F S512x128 .f32 ← Prog.lift (.load a (Rect.unit (s := S512x128) ![0, 0] S512x128.size inb_S512x128_S512x128_0_0).toLoadRect (View.loadsAt_vmem h_S512x128))
  let ac0 : Vec F S1x512x128 .f32 ← Prog.lift (.load arg12 (Rect.unit (s := S16x512x256) (k0_off19 qi) S1x512x128.size (k0_off19_inb qi hq)).toLoadRect (View.loadsAt_vmem h_S1x512x128))
  let _old : Vec F S1x512x128 .f32 ← Prog.lift (.load arg12 (Rect.unit (s := S16x512x256) (k0_off19 qi) S1x512x128.size (k0_off19_inb qi hq)).toLoadRect (View.loadsAt_vmem h_S1x512x128))
  Prog.lift (.store arg12 (Rect.unit (s := S16x512x256) (k0_off19 qi) S1x512x128.size (k0_off19_inb qi hq)) (accPay0 vb pb al ac0) Finset.univ (View.stores_vmem_bits_univ h_S1x512x128 rfl) (.inl rfl))
  let ac1 : Vec F S1x512x128 .f32 ← Prog.lift (.load arg12 (Rect.unit (s := S16x512x256) (k0_off20 qi) S1x512x128.size (k0_off20_inb qi hq)).toLoadRect (View.loadsAt_vmem h_S1x512x128))
  let _old : Vec F S1x512x128 .f32 ← Prog.lift (.load arg12 (Rect.unit (s := S16x512x256) (k0_off20 qi) S1x512x128.size (k0_off20_inb qi hq)).toLoadRect (View.loadsAt_vmem h_S1x512x128))
  Prog.lift (.store arg12 (Rect.unit (s := S16x512x256) (k0_off20 qi) S1x512x128.size (k0_off20_inb qi hq)) (accPay1 vb pb al ac1) Finset.univ (View.stores_vmem_bits_univ h_S1x512x128 rfl) (.inl rfl))

/-- One tick of the pipeline: the scores of an item, the softmax of the one before it, the values of the one before that. The buffers of
    the first and third share their parity. -/
def tick (g : Vec F S512x256 .f32 → Vec F S512x256 .f32) (arg2 arg3 : Memref sig .tc .smem S136 .i32)
    (arg5 arg6 : Memref sig .tc .vmem S1x4096x128 .bf16) (arg10 : Memref sig .tc .vmem S16x512x128 .bf16)
    (arg11 : Memref sig .tc .vmem S16x512x128 .f32) (arg12 : Memref sig .tc .vmem S16x512x256 .f32)
    (s s' : Memref sig .tc .vmem S512x256 .f32) (p p' : Memref sig .tc .vmem S512x256 .bf16) (hp' : p'.IsWhole)
    (a a' : Memref sig .tc .vmem S512x128 .f32)
    (o o' o'' : Fin 1 → Nat) (ho : ∀ a, o a + S1.size a ≤ S136.size a) (ho' : ∀ a, o' a + S1.size a ≤ S136.size a)
    (ho'' : ∀ a, o'' a + S1.size a ≤ S136.size a) : KProg F PUnit := do
  scores arg2 arg3 arg5 arg10 s o ho
  softmax g arg2 arg11 s' p' hp' a' o' ho'
  values arg2 arg3 arg6 arg12 p a o'' ho''

end Cert.Proof.KernelIdeal

end
-- ==== Proof.Triples.lean ====
/- The stages' triples: each from the contents of the buffers it reads to the contents of those it writes. -/
module

public import proofs.«01_k».proof.Proof.Stages
public import Idealize.ShloMosaic.Lib.VecWindow
public import Idealize.ShloMosaic.Lib.Pipeline.TableIdle

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A buffer held at the values `x`. -/
abbrev pt (c : Dev nD) {sp : Space} {s : Shape} {e : EltTy} (m : Memref sig .tc sp s e) (q : PosShare TreeShare) (x : s.Idx → Elt F e) : sProp 𝕄 :=
  (m.view.loc (c : Thread nD τ) ↦[m.view.set]{q} m.view.rep x)

/-- Where the one word at the offset `o` of a table stands. -/
abbrev wpos (o : Fin 1 → Nat) (ho : ∀ a, o a + S1.size a ≤ S136.size a) : S136.Idx :=
  (Rect.unit (s := S136) o S1.size ho).emb (Shape.Idx.first (show 0 < S1.numel from numel1_S1.symm ▸ Nat.one_pos))

omit [Named F] in
theorem word_eq (m : Memref sig .tc .smem S136 .i32) (T : S136.Idx → BitVec 32) (o : Fin 1 → Nat) (ho : ∀ a, o a + S1.size a ≤ S136.size a)
    (h : 0 < (Rect.unit (s := S136) o S1.size ho).shape.numel) :
    View.readAt (Elt F) m.view (Rect.unit (s := S136) o S1.size ho).toLoadRect (m.view.rep T) (Shape.Idx.first h) = T (wpos o ho) := by
  exact congrFun (View.readAt_rep_unit (Val := Elt F) m.view T ho rfl ho) _

omit [Named F] in
/-- A buffer at contents that read as `x` is held at `x`. -/
theorem pt_intro (c : Dev nD) {sp : Space} {s : Shape} {e : EltTy} (m : Memref sig .tc sp s e) (q : PosShare TreeShare)
    (g : Buf (Elt F) (m.view.loc (c : Thread nD τ))) (x : s.Idx → Elt F e) :
    iprop((m.view.loc (c : Thread nD τ) ↦[m.view.set]{q} g) ∗ ⌜m.view.read (Elt F) g = x⌝) ⊢ (pt c m q x : sProp 𝕄) := by
  iintro ⟨H, %h⟩
  iapply (pointsTo_rep_of_read (Val := Elt F) (c : Thread nD τ) m g q x h)
  iexact H

/-- The accumulator after an item's values stage. -/
def accNew (A : S16x512x256.Idx → Elt F .f32) (V : S1x4096x128.Idx → Elt F .bf16) (p0 : S512x256.Idx → Elt F .bf16)
    (a0 : S512x128.Idx → Elt F .f32) (qi kj : BitVec 32) (hk : k0_chk9 kj) (hq : k0_chk10 qi) : S16x512x256.Idx → Elt F .f32 :=
  let A' := VecWindow.put A (k0_off19 qi) S1x512x128.size
    (accPay0 (VecWindow.window V (k0_off18 kj) S1x256x128.size (k0_off18_inb kj hk)) p0 a0 (VecWindow.window A (k0_off19 qi) S1x512x128.size (k0_off19_inb qi hq)))
  VecWindow.put A' (k0_off20 qi) S1x512x128.size
    (accPay1 (VecWindow.window V (k0_off18 kj) S1x256x128.size (k0_off18_inb kj hk)) p0 a0 (VecWindow.window A' (k0_off20 qi) S1x512x128.size (k0_off20_inb qi hq)))

theorem scores_run (c : Dev nD) (E : Set ℕ) (q2 q3 q5 : PosShare TreeShare) (arg2 arg3 : Memref sig .tc .smem S136 .i32) (arg5 : Memref sig .tc .vmem S1x4096x128 .bf16)
    (arg10 : Memref sig .tc .vmem S16x512x128 .bf16) (s : Memref sig .tc .vmem S512x256 .f32)
    (o : Fin 1 → Nat) (ho : ∀ a, o a + S1.size a ≤ S136.size a)
    (T2 T3 : S136.Idx → BitVec 32) (K : S1x4096x128.Idx → Elt F .bf16) (Q : S16x512x128.Idx → Elt F .bf16) (s0 : S512x256.Idx → Elt F .f32)
    (h6 : k0_chk6 (T3 (wpos o ho))) (h7 : k0_chk7 (T2 (wpos o ho))) :
    iprop(pt (F := F) c arg2 q2 T2 ∗ pt c arg3 q3 T3 ∗ pt c arg5 q5 K ∗ pt c arg10 fullShare Q ∗ pt c s fullShare s0)
      ⊢ wp frame (wpE (defs₀ (F := F)) Variants.none (c : Thread nD τ) none) E (scores arg2 arg3 arg5 arg10 s o ho)
        (fun _ => iprop(pt (F := F) c arg2 q2 T2 ∗ pt c arg3 q3 T3 ∗ pt c arg5 q5 K ∗ pt c arg10 fullShare Q ∗ pt c s fullShare
          (scoresPay (VecWindow.window K (k0_off12 (T3 (wpos o ho))) S1x256x128.size (k0_off12_inb _ h6))
            (VecWindow.window Q (k0_off14 (T2 (wpos o ho))) S1x512x128.size (k0_off14_inb _ h7))))) := by
  unfold scores
  iintro ⟨H2, H3, H5, H10, Hs⟩
  sl_exec (disch := first | (delta scores_run.sl.r; rw [word_eq]; assumption) | (delta scores_run.sl.r_1; rw [word_eq]; assumption))
  sl_step
  isplitl [H2]; · iexact H2
  isplitl [H3]; · iexact H3
  isplitl [H5]; · iexact H5
  isplitl [H10]; · iexact H10
  iapply (pt_intro c s fullShare _ _)
  isplitl [Hs]; · iexact Hs
  ipureintro
  unfold scores_run.sl.kb scores_run.sl.qb scores_run.sl.r scores_run.sl.r_1
  rw [View.read_writes_full]
  congr 1
  · exact View.readAt_rep_unit (Val := Elt F) arg5.view K _ (congrArg k0_off12 (word_eq arg3 T3 o ho _)) _
  · exact View.readAt_rep_unit (Val := Elt F) arg10.view Q _ (congrArg k0_off14 (word_eq arg2 T2 o ho _)) _

theorem softmax_run (c : Dev nD) (E : Set ℕ) (q2 : PosShare TreeShare) (g : Vec F S512x256 .f32 → Vec F S512x256 .f32) (arg2 : Memref sig .tc .smem S136 .i32)
    (arg11 : Memref sig .tc .vmem S16x512x128 .f32) (s : Memref sig .tc .vmem S512x256 .f32)
    (p : Memref sig .tc .vmem S512x256 .bf16) (hp : p.IsWhole) (a : Memref sig .tc .vmem S512x128 .f32)
    (o : Fin 1 → Nat) (ho : ∀ a, o a + S1.size a ≤ S136.size a)
    (T2 : S136.Idx → BitVec 32) (M : S16x512x128.Idx → Elt F .f32) (s0 : S512x256.Idx → Elt F .f32) (p0 : S512x256.Idx → Elt F .bf16)
    (a0 : S512x128.Idx → Elt F .f32) (h8 : k0_chk8 (T2 (wpos o ho))) :
    iprop(pt (F := F) c arg2 q2 T2 ∗ pt c arg11 fullShare M ∗ pt c s fullShare s0 ∗ pt c p fullShare p0 ∗ pt c a fullShare a0)
      ⊢ wp frame (wpE (defs₀ (F := F)) Variants.none (c : Thread nD τ) none) E (softmax g arg2 arg11 s p hp a o ho)
        (fun _ => iprop(pt (F := F) c arg2 q2 T2
          ∗ pt c arg11 fullShare (VecWindow.put M (k0_off16 (T2 (wpos o ho))) S1x512x128.size
              (shapeCast S1x512x128 (maxPay (g s0) (VecWindow.window M (k0_off16 (T2 (wpos o ho))) S1x512x128.size (k0_off16_inb _ h8))) shapeCasts_S512x128_S1x512x128))
          ∗ pt c s fullShare s0
          ∗ pt c p fullShare (probPay (g s0) (VecWindow.window M (k0_off16 (T2 (wpos o ho))) S1x512x128.size (k0_off16_inb _ h8)))
          ∗ pt c a fullShare (alphaPay (g s0) (VecWindow.window M (k0_off16 (T2 (wpos o ho))) S1x512x128.size (k0_off16_inb _ h8))))) := by
  unfold softmax
  iintro ⟨H2, H11, Hs, Hp, Ha⟩
  sl_exec (disch := (delta softmax_run.sl.r; rw [word_eq]; assumption))
  sl_step
  have hm : softmax_run.sl.m arg2 arg11 o ho T2 M h8 = VecWindow.window M (k0_off16 (T2 (wpos o ho))) S1x512x128.size (k0_off16_inb _ h8) :=
    View.readAt_rep_unit (Val := Elt F) arg11.view M _ (congrArg k0_off16 (word_eq arg2 T2 o ho _)) _
  rw [hm, View.readAt_rep_full]
  isplitl [H2]; · iexact H2
  isplitl [H11]
  · iapply (pt_intro c arg11 fullShare _ _)
    isplitl [H11]; · iexact H11
    ipureintro
    exact View.read_writes_rep_unit (Val := Elt F) arg11.view M _ _ (congrArg k0_off16 (word_eq arg2 T2 o ho _))
  isplitl [Hs]; · iexact Hs
  isplitl [Hp]
  · iapply (pt_intro c p fullShare _ _)
    isplitl [Hp]; · iexact Hp
    ipureintro
    exact View.read_writes_full ..
  · iapply (pt_intro c a fullShare _ _)
    isplitl [Ha]; · iexact Ha
    ipureintro
    exact View.read_writes_full ..

theorem values_run (c : Dev nD) (E : Set ℕ) (q2 q3 q6 : PosShare TreeShare) (arg2 arg3 : Memref sig .tc .smem S136 .i32) (arg6 : Memref sig .tc .vmem S1x4096x128 .bf16)
    (arg12 : Memref sig .tc .vmem S16x512x256 .f32) (p : Memref sig .tc .vmem S512x256 .bf16) (a : Memref sig .tc .vmem S512x128 .f32)
    (o : Fin 1 → Nat) (ho : ∀ a, o a + S1.size a ≤ S136.size a)
    (T2 T3 : S136.Idx → BitVec 32) (V : S1x4096x128.Idx → Elt F .bf16) (A : S16x512x256.Idx → Elt F .f32) (p0 : S512x256.Idx → Elt F .bf16)
    (a0 : S512x128.Idx → Elt F .f32) (h9 : k0_chk9 (T3 (wpos o ho))) (h10 : k0_chk10 (T2 (wpos o ho))) :
    iprop(pt (F := F) c arg2 q2 T2 ∗ pt c arg3 q3 T3 ∗ pt c arg6 q6 V ∗ pt c arg12 fullShare A ∗ pt c p fullShare p0 ∗ pt c a fullShare a0)
      ⊢ wp frame (wpE (defs₀ (F := F)) Variants.none (c : Thread nD τ) none) E (values arg2 arg3 arg6 arg12 p a o ho)
        (fun _ => iprop(pt (F := F) c arg2 q2 T2 ∗ pt c arg3 q3 T3 ∗ pt c arg6 q6 V
          ∗ pt c arg12 fullShare (accNew A V p0 a0 (T2 (wpos o ho)) (T3 (wpos o ho)) h9 h10)
          ∗ pt c p fullShare p0 ∗ pt c a fullShare a0)) := by
  unfold values
  iintro ⟨H2, H3, H6, H12, Hp, Ha⟩
  sl_exec (disch := first | (delta values_run.sl.r; rw [word_eq]; assumption) | (delta values_run.sl.r_1; rw [word_eq]; assumption))
  sl_step
  isplitl [H2]; · iexact H2
  isplitl [H3]; · iexact H3
  isplitl [H6]; · iexact H6
  isplitl [H12]
  · iapply (pt_intro c arg12 fullShare _ _)
    isplitl [H12]; · iexact H12
    ipureintro
    have hv : values_run.sl.vb arg3 arg6 o ho T3 V h9 = VecWindow.window V (k0_off18 (T3 (wpos o ho))) S1x256x128.size (k0_off18_inb _ h9) :=
      View.readAt_rep_unit (Val := Elt F) arg6.view V _ (congrArg k0_off18 (word_eq arg3 T3 o ho _)) _
    have hr : values_run.sl.r (F := F) arg2 o ho T2 = T2 (wpos o ho) := word_eq arg2 T2 o ho _
    have hac0 : values_run.sl.ac0 arg2 arg12 o ho T2 A h10 = VecWindow.window A (k0_off19 (T2 (wpos o ho))) S1x512x128.size (k0_off19_inb _ h10) :=
      View.readAt_rep_unit (Val := Elt F) arg12.view A _ (congrArg k0_off19 hr) _
    have hin : arg12.view.read (Elt F) (arg12.view.writes (Elt F) (arg12.view.rep A) (values_run.sl.H12_1 arg2 arg3 arg6 arg12 p a o ho T2 T3 V A p0 a0 h9 h10))
        = VecWindow.put A (k0_off19 (T2 (wpos o ho))) S1x512x128.size
            (accPay0 (VecWindow.window V (k0_off18 (T3 (wpos o ho))) S1x256x128.size (k0_off18_inb _ h9)) p0 a0 (VecWindow.window A (k0_off19 (T2 (wpos o ho))) S1x512x128.size (k0_off19_inb _ h10))) := by
      refine (View.read_writes_rep_unit (Val := Elt F) arg12.view A _ _ (congrArg k0_off19 hr)).trans ?_
      rw [hv, hac0, View.readAt_rep_full, View.readAt_rep_full]
    have hac1 : values_run.sl.ac1 arg2 arg3 arg6 arg12 p a o ho T2 T3 V A p0 a0 h9 h10
        = VecWindow.window (arg12.view.read (Elt F) (arg12.view.writes (Elt F) (arg12.view.rep A) (values_run.sl.H12_1 arg2 arg3 arg6 arg12 p a o ho T2 T3 V A p0 a0 h9 h10)))
            (k0_off20 (T2 (wpos o ho))) S1x512x128.size (k0_off20_inb _ h10) := by
      unfold values_run.sl.ac1
      exact View.readAt_unit (Val := Elt F) arg12.view _ _ (congrArg k0_off20 hr) _
    refine (View.read_writes_cons_put arg12.view _ _ _ _ (congrArg k0_off20 hr)).trans ?_
    rw [hac1, hin, hv, View.readAt_rep_full, View.readAt_rep_full]
    rfl
  isplitl [Hp]; · iexact Hp
  iexact Ha

end Cert.Proof.KernelIdeal

end
-- ==== Proof.Ends.lean ====
/- The first loop splits the queries and clears the state; the last one finishes the rows. -/
module

public import proofs.«01_k».proof.Proof.Triples

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Ends

variable (c : Dev nD) (E : Set ℕ) (i : grid0.Coords) (arg2 : Memref sig .tc .smem S136 .i32) (harg2 : arg2.IsWhole) (arg3 : Memref sig .tc .smem S136 .i32) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S16x512x128 .bf16) (harg10 : arg10.IsWhole) (arg11 : Memref sig .tc .vmem S16x512x128 .f32) (harg11 : arg11.IsWhole) (arg12 : Memref sig .tc .vmem S16x512x256 .f32) (harg12 : arg12.IsWhole) (arg13 : Memref sig .tc .vmem S512x256 .f32) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S512x128 .f32) (harg17 : arg17.IsWhole) (arg18 : Memref sig .tc .vmem S512x128 .f32) (harg18 : arg18.IsWhole)

/-- The split queries after `n` row blocks. -/
def splitQ (X : S1x4096x128.Idx → Elt F .bf16) (Q0 : S16x512x128.Idx → Elt F .bf16) : ℕ → S16x512x128.Idx → Elt F .bf16
  | 0 => Q0
  | n + 1 => if h : n < k0_t1_loop.trips then
      VecWindow.put (VecWindow.put (splitQ X Q0 n) (k0_off2 ⟨n, h⟩) S1x256x128.size (k0_pay149 (VecWindow.window X (k0_off1 ⟨n, h⟩) S1x256x128.size (k0_off1_inb ⟨n, h⟩))))
        (k0_off3 ⟨n, h⟩) S1x256x128.size (k0_pay150 (VecWindow.window X (k0_off1 ⟨n, h⟩) S1x256x128.size (k0_off1_inb ⟨n, h⟩)))
    else splitQ X Q0 n

/-- The row maxima, cleared up to row block `n`. -/
def clearM (M : S16x512x128.Idx → Elt F .f32) : ℕ → S16x512x128.Idx → Elt F .f32
  | 0 => M
  | n + 1 => if h : n < k0_t1_loop.trips then VecWindow.put (clearM M n) (k0_off4 ⟨n, h⟩) S1x512x128.size (k0_pay151 (F := F)) else clearM M n

/-- The accumulator, cleared up to row block `n`. -/
def clearA (A : S16x512x256.Idx → Elt F .f32) : ℕ → S16x512x256.Idx → Elt F .f32
  | 0 => A
  | n + 1 => if h : n < k0_t1_loop.trips then VecWindow.put (clearA A n) (k0_off5 ⟨n, h⟩) S1x512x256.size (k0_pay152 (F := F)) else clearA A n

/-- The output with its first `n` row blocks written. -/
def outO (lam : FVec F S1x1 .f32) (sw : FVec F S1x128 .f32) (A : S16x512x256.Idx → Elt F .f32) (O : S1x4096x128.Idx → Elt F .bf16) : ℕ → S1x4096x128.Idx → Elt F .bf16
  | 0 => O
  | n + 1 => if h : n < k0_t4_loop.trips then
      VecWindow.put (outO lam sw A O n) (k0_off200 ⟨n, h⟩) S1x256x128.size
        (k0_pay1 lam sw (VecWindow.window A (k0_off198 ⟨n, h⟩) S1x256x256.size (k0_off198_inb ⟨n, h⟩)) (VecWindow.window A (k0_off199 ⟨n, h⟩) S1x256x256.size (k0_off199_inb ⟨n, h⟩)))
    else outO lam sw A O n

theorem split_trip (t : Fin k0_t1_loop.trips) (X : S1x4096x128.Idx → Elt F .bf16) (Q0 : S16x512x128.Idx → Elt F .bf16) (M : S16x512x128.Idx → Elt F .f32) (A : S16x512x256.Idx → Elt F .f32) :
    iprop(pt c arg4 fullShare X ∗ pt c arg10 fullShare Q0 ∗ pt c arg11 fullShare M ∗ pt c arg12 fullShare A)
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 t ())
        (fun _ => iprop(pt c arg4 fullShare X
          ∗ pt c arg10 fullShare (VecWindow.put (VecWindow.put Q0 (k0_off2 t) S1x256x128.size (k0_pay149 (VecWindow.window X (k0_off1 t) S1x256x128.size (k0_off1_inb t))))
              (k0_off3 t) S1x256x128.size (k0_pay150 (VecWindow.window X (k0_off1 t) S1x256x128.size (k0_off1_inb t))))
          ∗ pt c arg11 fullShare (VecWindow.put M (k0_off4 t) S1x512x128.size (k0_pay151 (F := F)))
          ∗ pt c arg12 fullShare (VecWindow.put A (k0_off5 t) S1x512x256.size (k0_pay152 (F := F))))) := by
  unfold k0_t1_body
  iintro ⟨H4, H10, H11, H12⟩
  sl_exec
  sl_step
  have hv : (arg4.view.readAt (Elt F) (Rect.unit (s := S1x4096x128) (k0_off1 t) S1x256x128.size (k0_off1_inb t)).toLoadRect (arg4.view.rep X)) = VecWindow.window X (k0_off1 t) S1x256x128.size (k0_off1_inb t) :=
    View.readAt_rep_unit (Val := Elt F) arg4.view X _ rfl _
  isplitl [H4]; · iexact H4
  isplitl [H10]
  · iapply (pt_intro c arg10 fullShare _ _)
    isplitl [H10]; · iexact H10
    ipureintro
    refine (View.read_writes_cons_put arg10.view _ _ _ _ rfl).trans ?_
    rw [hv, View.read_writes_rep_unit (Val := Elt F) arg10.view Q0 _ _ rfl]
  isplitl [H11]
  · iapply (pt_intro c arg11 fullShare _ _)
    isplitl [H11]; · iexact H11
    ipureintro
    exact View.read_writes_rep_unit (Val := Elt F) arg11.view M _ _ rfl
  · iapply (pt_intro c arg12 fullShare _ _)
    isplitl [H12]; · iexact H12
    ipureintro
    exact View.read_writes_rep_unit (Val := Elt F) arg12.view A _ _ rfl

theorem out_trip (t : Fin k0_t4_loop.trips) (lam : FVec F S1x1 .f32) (sw : FVec F S1x128 .f32) (A : S16x512x256.Idx → Elt F .f32) (O : S1x4096x128.Idx → Elt F .bf16) :
    iprop(pt c arg12 fullShare A ∗ pt c arg9 fullShare O)
      ⊢ wp frame (wpE (defs₀ (F := F)) Variants.none (c : Thread nD τ) none) E (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 lam sw t ())
        (fun _ => iprop(pt c arg12 fullShare A
          ∗ pt c arg9 fullShare (VecWindow.put O (k0_off200 t) S1x256x128.size
              (k0_pay1 lam sw (VecWindow.window A (k0_off198 t) S1x256x256.size (k0_off198_inb t)) (VecWindow.window A (k0_off199 t) S1x256x256.size (k0_off199_inb t)))))) := by
  unfold k0_t4_body
  iintro ⟨H12, H9⟩
  sl_exec
  sl_step
  isplitl [H12]; · iexact H12
  iapply (pt_intro c arg9 fullShare _ _)
  isplitl [H9]; · iexact H9
  ipureintro
  refine (View.read_writes_rep_unit (Val := Elt F) arg9.view O _ _ rfl).trans ?_
  rw [View.readAt_rep_unit (Val := Elt F) arg12.view A _ rfl _, View.readAt_rep_unit (Val := Elt F) arg12.view A _ rfl _]

theorem split_run (X : S1x4096x128.Idx → Elt F .bf16) (Q0 : S16x512x128.Idx → Elt F .bf16) (M : S16x512x128.Idx → Elt F .f32) (A : S16x512x256.Idx → Elt F .f32) :
    iprop(pt c arg4 fullShare X ∗ pt c arg10 fullShare Q0 ∗ pt c arg11 fullShare M ∗ pt c arg12 fullShare A)
      ⊢ wp frame (wpE (defs₀ (F := F)) Variants.none (c : Thread nD τ) none) E (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18))
        (fun _ => iprop(pt c arg4 fullShare X ∗ pt c arg10 fullShare (splitQ X Q0 16) ∗ pt c arg11 fullShare (clearM M 16) ∗ pt c arg12 fullShare (clearA A 16))) := by
  iintro H
  iapply (Scf.wp_for frame (wpE (defs₀ (F := F)) Variants.none (c : Thread nD τ) none) E _ _ _ k0_t1_ok PUnit.unit _
    (fun n _ => iprop(pt c arg4 fullShare X ∗ pt c arg10 fullShare (splitQ X Q0 n) ∗ pt c arg11 fullShare (clearM M n) ∗ pt c arg12 fullShare (clearA A n))) (fun t _ => by
    refine (split_trip c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 t X (splitQ X Q0 t.val) (clearM M t.val) (clearA A t.val)).trans (Entails.of_eq ?_)
    simp only [splitQ, clearM, clearA, dif_pos t.isLt]))
  isplitl [H]
  · iexact H
  · iintro %_ H
    iexact H

theorem out_run (lam : FVec F S1x1 .f32) (sw : FVec F S1x128 .f32) (A : S16x512x256.Idx → Elt F .f32) (O : S1x4096x128.Idx → Elt F .bf16) :
    iprop(pt c arg12 fullShare A ∗ pt c arg9 fullShare O)
      ⊢ wp frame (wpE (defs₀ (F := F)) Variants.none (c : Thread nD τ) none) E (Scf.Loop.for k0_t4_loop k0_t4_ok ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 lam sw))
        (fun _ => iprop(pt c arg12 fullShare A ∗ pt c arg9 fullShare (outO lam sw A O 16))) := by
  iintro H
  iapply (Scf.wp_for frame (wpE (defs₀ (F := F)) Variants.none (c : Thread nD τ) none) E _ _ _ k0_t4_ok PUnit.unit _
    (fun n _ => iprop(pt c arg12 fullShare A ∗ pt c arg9 fullShare (outO lam sw A O n))) (fun t _ => by
    refine (out_trip c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 t lam sw A (outO lam sw A O t.val)).trans (Entails.of_eq ?_)
    simp only [outO, dif_pos t.isLt]))
  isplitl [H]
  · iexact H
  · iintro %_ H
    iexact H

end Ends

end Cert.Proof.KernelIdeal

end
-- ==== Proof.Arrays.lean ====
/- What the first and the last loop leave, index by index. -/
module

public import proofs.«01_k».proof.Proof.Ends
public import Idealize.ShloMosaic.Lib.ValueIdxCore

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem put_in {s : Shape} {α : Type} (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  have hm : ∀ a, off a ≤ (y a).val ∧ (y a).val < off a + size a := fun a => by
    have := h a; have := (z a).isLt; omega
  refine (dif_pos hm).trans (congrArg w (funext fun a => Fin.ext ?_))
  show (y a).val - off a = (z a).val
  have := h a; omega

theorem put_out {s : Shape} {α : Type} (x : s.Idx → α) (off size : Fin s.rank → ℕ) (w : ((a : Fin s.rank) → Fin (size a)) → α) (y : s.Idx)
    (a : Fin s.rank) (h : (y a).val < off a ∨ off a + size a ≤ (y a).val) : VecWindow.put x off size w y = x y :=
  dif_neg fun hm => by have := hm a; omega

theorem put_in3 {α : Type} {d0 d1 d2 s0 s1 s2 : ℕ} (x : (⟨3, ![d0, d1, d2]⟩ : Shape).Idx → α) (o0 o1 o2 : ℕ) (w : (⟨3, ![s0, s1, s2]⟩ : Shape).Idx → α)
    (y : (⟨3, ![d0, d1, d2]⟩ : Shape).Idx) (z0 : Fin s0) (z1 : Fin s1) (z2 : Fin s2)
    (h0 : (y 0).val = o0 + z0.val) (h1 : (y 1).val = o1 + z1.val) (h2 : (y 2).val = o2 + z2.val) :
    VecWindow.put x ![o0, o1, o2] ![s0, s1, s2] w y = w (ValueIdx.ix3 z0 z1 z2) :=
  put_in x _ _ w y (ValueIdx.ix3 z0 z1 z2) fun a => by fin_cases a <;> assumption

theorem off1_eq (t : Fin k0_t1_loop.trips) : k0_off1 t = ![0, 256 * t.val, 0] := by revert t; decide
theorem off2_eq (t : Fin k0_t1_loop.trips) : k0_off2 t = ![t.val, 0, 0] := by revert t; decide
theorem off3_eq (t : Fin k0_t1_loop.trips) : k0_off3 t = ![t.val, 256, 0] := by revert t; decide
theorem off4_eq (t : Fin k0_t1_loop.trips) : k0_off4 t = ![t.val, 0, 0] := by revert t; decide
theorem off5_eq (t : Fin k0_t1_loop.trips) : k0_off5 t = ![t.val, 0, 0] := by revert t; decide
theorem off198_eq (t : Fin k0_t4_loop.trips) : k0_off198 t = ![t.val, 0, 0] := by revert t; decide
theorem off199_eq (t : Fin k0_t4_loop.trips) : k0_off199 t = ![t.val, 256, 0] := by revert t; decide
theorem off200_eq (t : Fin k0_t4_loop.trips) : k0_off200 t = ![0, 256 * t.val, 0] := by revert t; decide

/-- The split queries: the upper half of each block holds the first component, the lower half the second. -/
def qArr (X : S1x4096x128.Idx → Elt F .bf16) : S16x512x128.Idx → Elt F .bf16 := fun i =>
  let t : Fin k0_t1_loop.trips := ⟨(i 0).val, (i 0).isLt⟩
  if h : (i 1).val < 256 then
    k0_pay149 (VecWindow.window X (k0_off1 t) S1x256x128.size (k0_off1_inb t)) (ValueIdx.ix3 0 ⟨(i 1).val, h⟩ (i 2))
  else
    k0_pay150 (VecWindow.window X (k0_off1 t) S1x256x128.size (k0_off1_inb t))
      (ValueIdx.ix3 0 ⟨(i 1).val - 256, by have : (i 1).val < 512 := (i 1).isLt; omega⟩ (i 2))

/-- The row maxima at the start. -/
def mArr : S16x512x128.Idx → Elt F .f32 := fun i => k0_pay151 (F := F) (ValueIdx.ix3 0 (i 1) (i 2))

/-- The accumulator at the start. -/
def aArr : S16x512x256.Idx → Elt F .f32 := fun i => k0_pay152 (F := F) (ValueIdx.ix3 0 (i 1) (i 2))

/-- The rows as finished. -/
def oArr (lam : FVec F S1x1 .f32) (sw : FVec F S1x128 .f32) (A : S16x512x256.Idx → Elt F .f32) : S1x4096x128.Idx → Elt F .bf16 := fun i =>
  let t : Fin k0_t4_loop.trips := ⟨(i 1).val / 256, by have : (i 1).val < 4096 := (i 1).isLt; show (i 1).val / 256 < 16; omega⟩
  k0_pay1 lam sw (VecWindow.window A (k0_off198 t) S1x256x256.size (k0_off198_inb t)) (VecWindow.window A (k0_off199 t) S1x256x256.size (k0_off199_inb t))
    (ValueIdx.ix3 0 ⟨(i 1).val % 256, Nat.mod_lt _ (by decide)⟩ (i 2))

theorem splitQ_eq (X : S1x4096x128.Idx → Elt F .bf16) (Q0 : S16x512x128.Idx → Elt F .bf16) (n : ℕ) (i : S16x512x128.Idx) (hi : (i 0).val < n) :
    splitQ X Q0 n i = qArr X i := by
  induction n with
  | zero => omega
  | succ n ih =>
    have hi0 : (i 0).val < 16 := (i 0).isLt
    have hi1 : (i 1).val < 512 := (i 1).isLt
    unfold splitQ
    by_cases hn : n < k0_t1_loop.trips
    · rw [dif_pos hn, off2_eq, off3_eq]
      by_cases e : (i 0).val = n
      · subst e
        unfold qArr
        by_cases h : (i 1).val < 256
        · refine (put_out _ _ _ _ _ 1 (Or.inl h)).trans ?_
          refine (put_in3 (d0 := 16) (d1 := 512) (d2 := 128) (s0 := 1) (s1 := 256) (s2 := 128) (splitQ X Q0 (i 0).val) _ _ _ _ i 0 ⟨(i 1).val, h⟩ (i 2) rfl (Nat.zero_add _).symm (Nat.zero_add _).symm).trans ?_
          dsimp only
          rw [dif_pos h]
        · refine (put_in3 (d0 := 16) (d1 := 512) (d2 := 128) (s0 := 1) (s1 := 256) (s2 := 128) _ _ _ _ _ i 0 ⟨(i 1).val - 256, by omega⟩ (i 2) rfl (by show (i 1).val = 256 + ((i 1).val - 256); omega) (Nat.zero_add _).symm).trans ?_
          dsimp only
          rw [dif_neg h]
      · have hlt : (i 0).val < n := by omega
        rw [put_out _ _ _ _ _ 0 (Or.inl hlt), put_out _ _ _ _ _ 0 (Or.inl hlt)]
        exact ih hlt
    · rw [dif_neg hn]
      have : ¬ n < 16 := hn
      exact ih (by omega)

theorem clearM_eq (M : S16x512x128.Idx → Elt F .f32) (n : ℕ) (i : S16x512x128.Idx) (hi : (i 0).val < n) : clearM M n i = mArr i := by
  induction n with
  | zero => omega
  | succ n ih =>
    have hi0 : (i 0).val < 16 := (i 0).isLt
    unfold clearM
    by_cases hn : n < k0_t1_loop.trips
    · rw [dif_pos hn, off4_eq]
      by_cases e : (i 0).val = n
      · exact put_in3 (d0 := 16) (d1 := 512) (s0 := 1) (s1 := 512) (clearM M n) _ _ _ _ i 0 (i 1) (i 2) e (Nat.zero_add _).symm (Nat.zero_add _).symm
      · have hlt : (i 0).val < n := by omega
        rw [put_out _ _ _ _ _ 0 (Or.inl hlt)]
        exact ih hlt
    · rw [dif_neg hn]
      have : ¬ n < 16 := hn
      exact ih (by omega)

theorem clearA_eq (M : S16x512x256.Idx → Elt F .f32) (n : ℕ) (i : S16x512x256.Idx) (hi : (i 0).val < n) : clearA M n i = aArr i := by
  induction n with
  | zero => omega
  | succ n ih =>
    have hi0 : (i 0).val < 16 := (i 0).isLt
    unfold clearA
    by_cases hn : n < k0_t1_loop.trips
    · rw [dif_pos hn, off5_eq]
      by_cases e : (i 0).val = n
      · exact put_in3 (d0 := 16) (d1 := 512) (s0 := 1) (s1 := 512) (clearA M n) _ _ _ _ i 0 (i 1) (i 2) e (Nat.zero_add _).symm (Nat.zero_add _).symm
      · have hlt : (i 0).val < n := by omega
        rw [put_out _ _ _ _ _ 0 (Or.inl hlt)]
        exact ih hlt
    · rw [dif_neg hn]
      have : ¬ n < 16 := hn
      exact ih (by omega)

theorem outO_eq (lam : FVec F S1x1 .f32) (sw : FVec F S1x128 .f32) (A : S16x512x256.Idx → Elt F .f32) (O : S1x4096x128.Idx → Elt F .bf16) (n : ℕ) (i : S1x4096x128.Idx)
    (hi : (i 1).val < 256 * n) : outO lam sw A O n i = oArr lam sw A i := by
  induction n with
  | zero => omega
  | succ n ih =>
    have hi0 : (i 0).val < 1 := (i 0).isLt
    have hi1 : (i 1).val < 4096 := (i 1).isLt
    unfold outO
    by_cases hn : n < k0_t4_loop.trips
    · rw [dif_pos hn, off200_eq]
      by_cases e : 256 * n ≤ (i 1).val
      · refine (put_in3 (d0 := 1) (d1 := 4096) (d2 := 128) (s0 := 1) (s1 := 256) (s2 := 128) (outO lam sw A O n) _ _ _ _ i 0 ⟨(i 1).val % 256, Nat.mod_lt _ (by decide)⟩ (i 2)
          (by show (i 0).val = 0 + 0; omega) (by show (i 1).val = 256 * n + (i 1).val % 256; omega) (Nat.zero_add _).symm).trans ?_
        unfold oArr
        have ei : (⟨n, hn⟩ : Fin k0_t4_loop.trips) = ⟨(i 1).val / 256, by show (i 1).val / 256 < 16; omega⟩ := Fin.ext (by show n = (i 1).val / 256; omega)
        exact congrArg (fun t : Fin k0_t4_loop.trips => k0_pay1 lam sw (VecWindow.window A (k0_off198 t) S1x256x256.size (k0_off198_inb t)) (VecWindow.window A (k0_off199 t) S1x256x256.size (k0_off199_inb t)) (ValueIdx.ix3 0 ⟨(i 1).val % 256, Nat.mod_lt _ (by decide)⟩ (i 2))) ei
      · have hlt : (i 1).val < 256 * n := by omega
        rw [put_out _ _ _ _ _ 1 (Or.inl hlt)]
        exact ih hlt
    · rw [dif_neg hn]
      have : ¬ n < 16 := hn
      exact ih (by omega)

theorem splitQ_all (X : S1x4096x128.Idx → Elt F .bf16) (Q0 : S16x512x128.Idx → Elt F .bf16) : splitQ X Q0 16 = qArr X := funext fun i => splitQ_eq X Q0 16 i (i 0).isLt
theorem clearM_all (M : S16x512x128.Idx → Elt F .f32) : clearM M 16 = mArr := funext fun i => clearM_eq M 16 i (i 0).isLt
theorem clearA_all (A : S16x512x256.Idx → Elt F .f32) : clearA A 16 = aArr := funext fun i => clearA_eq A 16 i (i 0).isLt
theorem outO_all (lam : FVec F S1x1 .f32) (sw : FVec F S1x128 .f32) (A : S16x512x256.Idx → Elt F .f32) (O : S1x4096x128.Idx → Elt F .bf16) : outO lam sw A O 16 = oArr lam sw A :=
  funext fun i => outO_eq lam sw A O 16 i (i 1).isLt

end Cert.Proof.KernelIdeal

end
-- ==== Proof.Items.lean ====
/- What each work item of the pipeline computes, and the stages' triples in terms of it. -/
module

public import proofs.«01_k».proof.Proof.Triples

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The table of row blocks. -/
def tab2 : S136.Idx → BitVec 32 := fun i => lit0 (S136.rowMajor i)

/-- The table of column blocks. -/
def tab3 : S136.Idx → BitVec 32 := fun i => lit1 (S136.rowMajor i)

/-- The row block of item `n`. -/
def itemRow (n : ℕ) : BitVec 32 := lit0 (Fin.ofNat 136 n)

/-- The column block of item `n`. -/
def itemCol (n : ℕ) : BitVec 32 := lit1 (Fin.ofNat 136 n)

theorem wpos_row (o : Fin 1 → Nat) (ho : ∀ a, o a + S1.size a ≤ S136.size a) (n : ℕ) (h : o 0 = n) :
    S136.rowMajor (wpos o ho) = Fin.ofNat 136 n := by
  subst h
  have h0 : o 0 + 1 ≤ 136 := ho 0
  apply Fin.ext
  show _ = o 0 % 136
  rw [Nat.mod_eq_of_lt (by omega)]
  rw [Shape.rowMajor_val_one]
  show o 0 + 1 * 0 = o 0
  omega

theorem tab2_word (o : Fin 1 → Nat) (ho : ∀ a, o a + S1.size a ≤ S136.size a) (n : ℕ) (h : o 0 = n) : tab2 (wpos o ho) = itemRow n :=
  congrArg lit0 (wpos_row o ho n h)

theorem tab3_word (o : Fin 1 → Nat) (ho : ∀ a, o a + S1.size a ≤ S136.size a) (n : ℕ) (h : o 0 = n) : tab3 (wpos o ho) = itemCol n :=
  congrArg lit1 (wpos_row o ho n h)

theorem rows_lt : ∀ j : Fin 136, ∃ r : Fin 16, lit0 j = BitVec.ofNat 32 r.val := by decide
theorem cols_lt : ∀ j : Fin 136, ∃ r : Fin 16, lit1 j = BitVec.ofNat 32 r.val := by decide

theorem chk7_lt : ∀ r : Fin 16, k0_chk7 (BitVec.ofNat 32 r.val) := by decide
theorem chk8_lt : ∀ r : Fin 16, k0_chk8 (BitVec.ofNat 32 r.val) := by decide
theorem chk10_lt : ∀ r : Fin 16, k0_chk10 (BitVec.ofNat 32 r.val) := by decide
theorem chk6_lt : ∀ r : Fin 16, k0_chk6 (BitVec.ofNat 32 r.val) := by decide
theorem chk9_lt : ∀ r : Fin 16, k0_chk9 (BitVec.ofNat 32 r.val) := by decide

theorem row_chk7 (n : ℕ) : k0_chk7 (itemRow n) := by obtain ⟨r, hr⟩ := rows_lt (Fin.ofNat 136 n); unfold itemRow; rw [hr]; exact chk7_lt r
theorem row_chk8 (n : ℕ) : k0_chk8 (itemRow n) := by obtain ⟨r, hr⟩ := rows_lt (Fin.ofNat 136 n); unfold itemRow; rw [hr]; exact chk8_lt r
theorem row_chk10 (n : ℕ) : k0_chk10 (itemRow n) := by obtain ⟨r, hr⟩ := rows_lt (Fin.ofNat 136 n); unfold itemRow; rw [hr]; exact chk10_lt r
theorem col_chk6 (n : ℕ) : k0_chk6 (itemCol n) := by obtain ⟨r, hr⟩ := cols_lt (Fin.ofNat 136 n); unfold itemCol; rw [hr]; exact chk6_lt r
theorem col_chk9 (n : ℕ) : k0_chk9 (itemCol n) := by obtain ⟨r, hr⟩ := cols_lt (Fin.ofNat 136 n); unfold itemCol; rw [hr]; exact chk9_lt r

/-- Which items are masked: the last sixteen, on the diagonal. -/
def gate (n : ℕ) : Vec F S512x256 .f32 → Vec F S512x256 .f32 := if n < 120 then id else masked

section Values

variable (K V : S1x4096x128.Idx → Elt F .bf16) (Q : S16x512x128.Idx → Elt F .bf16) (M0 : S16x512x128.Idx → Elt F .f32) (A0 : S16x512x256.Idx → Elt F .f32)

/-- The scores of item `n`. -/
def itemS (n : ℕ) : Vec F S512x256 .f32 :=
  scoresPay (VecWindow.window K (k0_off12 (itemCol n)) S1x256x128.size (k0_off12_inb _ (col_chk6 n)))
    (VecWindow.window Q (k0_off14 (itemRow n)) S1x512x128.size (k0_off14_inb _ (row_chk7 n)))

/-- The row maxima before item `n`. -/
def itemM : ℕ → S16x512x128.Idx → Elt F .f32
  | 0 => M0
  | n + 1 => VecWindow.put (itemM n) (k0_off16 (itemRow n)) S1x512x128.size
      (shapeCast S1x512x128 (maxPay (gate n (itemS K Q n)) (VecWindow.window (itemM n) (k0_off16 (itemRow n)) S1x512x128.size (k0_off16_inb _ (row_chk8 n)))) shapeCasts_S512x128_S1x512x128)

/-- The weights of item `n`. -/
def itemP (n : ℕ) : Vec F S512x256 .bf16 :=
  probPay (gate n (itemS K Q n)) (VecWindow.window (itemM K Q M0 n) (k0_off16 (itemRow n)) S1x512x128.size (k0_off16_inb _ (row_chk8 n)))

/-- The factors of item `n`. -/
def itemL (n : ℕ) : Vec F S512x128 .f32 :=
  alphaPay (gate n (itemS K Q n)) (VecWindow.window (itemM K Q M0 n) (k0_off16 (itemRow n)) S1x512x128.size (k0_off16_inb _ (row_chk8 n)))

/-- The accumulator before item `n`. -/
def itemA : ℕ → S16x512x256.Idx → Elt F .f32
  | 0 => A0
  | n + 1 => accNew (itemA n) V (itemP K Q M0 n) (itemL K Q M0 n) (itemRow n) (itemCol n) (col_chk9 n) (row_chk10 n)

end Values

section Triples

variable (c : Dev nD) (E : Set ℕ) (q2 q3 : PosShare TreeShare) (arg2 arg3 : Memref sig .tc .smem S136 .i32)
  (arg5 arg6 : Memref sig .tc .vmem S1x4096x128 .bf16) (arg10 : Memref sig .tc .vmem S16x512x128 .bf16)
  (arg11 : Memref sig .tc .vmem S16x512x128 .f32) (arg12 : Memref sig .tc .vmem S16x512x256 .f32)
  (K V : S1x4096x128.Idx → Elt F .bf16) (Q : S16x512x128.Idx → Elt F .bf16) (M0 : S16x512x128.Idx → Elt F .f32) (A0 : S16x512x256.Idx → Elt F .f32)

/-- What the stages share, after `m` softmaxes and `n` accumulations. -/
def St (m n : ℕ) : sProp 𝕄 :=
  iprop(pt c arg2 q2 tab2 ∗ pt c arg3 q3 tab3 ∗ pt c arg5 fullShare K ∗ pt c arg6 fullShare V ∗ pt c arg10 fullShare Q
    ∗ pt c arg11 fullShare (itemM K Q M0 m) ∗ pt c arg12 fullShare (itemA K V Q M0 A0 n))

/-- A buffer at whatever it holds. -/
def some (c : Dev nD) {s : Shape} {e : EltTy} (b : Memref sig .tc .vmem s e) : sProp 𝕄 :=
  iprop(∃ x : s.Idx → Elt F e, pt c b fullShare x)

theorem scores_st (s : Memref sig .tc .vmem S512x256 .f32) (o : Fin 1 → Nat) (ho : ∀ a, o a + S1.size a ≤ S136.size a) (m n k : ℕ) (hk : o 0 = k) :
    iprop(St (F := F) c q2 q3 arg2 arg3 arg5 arg6 arg10 arg11 arg12 K V Q M0 A0 m n ∗ some (F := F) c s)
      ⊢ wp frame (wpE (defs₀ (F := F)) Variants.none (c : Thread nD τ) none) E (scores arg2 arg3 arg5 arg10 s o ho)
        (fun _ => iprop(St (F := F) c q2 q3 arg2 arg3 arg5 arg6 arg10 arg11 arg12 K V Q M0 A0 m n ∗ pt c s fullShare (itemS K Q k))) := by
  unfold St some
  iintro ⟨⟨H2, H3, H5, H6, H10, H11, H12⟩, ⟨%x, Hs⟩⟩
  have e2 := tab2_word o ho k hk
  have e3 := tab3_word o ho k hk
  have h6 : k0_chk6 (tab3 (wpos o ho)) := e3 ▸ col_chk6 k
  have h7 : k0_chk7 (tab2 (wpos o ho)) := e2 ▸ row_chk7 k
  iapply (wp_wand_r frame (wpE (defs₀ (F := F)) Variants.none (c : Thread nD τ) none) E)
  isplitl [H2 H3 H5 H10 Hs]
  · iapply (scores_run (F := F) c E q2 q3 fullShare arg2 arg3 arg5 arg10 s o ho tab2 tab3 K Q x h6 h7)
    isplitl [H2]; · iexact H2
    isplitl [H3]; · iexact H3
    isplitl [H5]; · iexact H5
    isplitl [H10]; · iexact H10
    iexact Hs
  · iintro %_ ⟨H2, H3, H5, H10, Hs⟩
    have e : scoresPay (VecWindow.window K (k0_off12 (tab3 (wpos o ho))) S1x256x128.size (k0_off12_inb _ h6))
            (VecWindow.window Q (k0_off14 (tab2 (wpos o ho))) S1x512x128.size (k0_off14_inb _ h7)) = itemS K Q k := by
      clear * - e2 e3
      revert h6 h7; rw [e2, e3]; intros; rfl
    rw [e]
    isplitl [H2 H3 H5 H6 H10 H11 H12]
    · isplitl [H2]; · iexact H2
      isplitl [H3]; · iexact H3
      isplitl [H5]; · iexact H5
      isplitl [H6]; · iexact H6
      isplitl [H10]; · iexact H10
      isplitl [H11]; · iexact H11
      iexact H12
    · iexact Hs

theorem softmax_st (s : Memref sig .tc .vmem S512x256 .f32) (p : Memref sig .tc .vmem S512x256 .bf16) (hp : p.IsWhole) (a : Memref sig .tc .vmem S512x128 .f32)
    (g : Vec F S512x256 .f32 → Vec F S512x256 .f32) (o : Fin 1 → Nat) (ho : ∀ a, o a + S1.size a ≤ S136.size a) (m n : ℕ) (hk : o 0 = m) (hg : g = gate m) :
    iprop(St (F := F) c q2 q3 arg2 arg3 arg5 arg6 arg10 arg11 arg12 K V Q M0 A0 m n ∗ pt c s fullShare (itemS K Q m) ∗ some (F := F) c p ∗ some (F := F) c a)
      ⊢ wp frame (wpE (defs₀ (F := F)) Variants.none (c : Thread nD τ) none) E (softmax g arg2 arg11 s p hp a o ho)
        (fun _ => iprop(St (F := F) c q2 q3 arg2 arg3 arg5 arg6 arg10 arg11 arg12 K V Q M0 A0 (m + 1) n ∗ pt c s fullShare (itemS K Q m)
          ∗ pt c p fullShare (itemP K Q M0 m) ∗ pt c a fullShare (itemL K Q M0 m))) := by
  subst hg
  unfold St some
  iintro ⟨⟨H2, H3, H5, H6, H10, H11, H12⟩, Hs, ⟨%x, Hp⟩, ⟨%y, Ha⟩⟩
  have e2 := tab2_word o ho m hk
  have h8 : k0_chk8 (tab2 (wpos o ho)) := e2 ▸ row_chk8 m
  iapply (wp_wand_r frame (wpE (defs₀ (F := F)) Variants.none (c : Thread nD τ) none) E)
  isplitl [H2 H11 Hs Hp Ha]
  · iapply (softmax_run (F := F) c E q2 (gate m) arg2 arg11 s p hp a o ho tab2 (itemM K Q M0 m) (itemS K Q m) x y h8)
    isplitl [H2]; · iexact H2
    isplitl [H11]; · iexact H11
    isplitl [Hs]; · iexact Hs
    isplitl [Hp]; · iexact Hp
    iexact Ha
  · iintro %_ ⟨H2, H11, Hs, Hp, Ha⟩
    have e : VecWindow.window (itemM K Q M0 m) (k0_off16 (tab2 (wpos o ho))) S1x512x128.size (k0_off16_inb _ h8)
        = VecWindow.window (itemM K Q M0 m) (k0_off16 (itemRow m)) S1x512x128.size (k0_off16_inb _ (row_chk8 m)) := by
      clear * - e2
      revert h8; rw [e2]; intros; rfl
    have e4 : VecWindow.put (itemM K Q M0 m) (k0_off16 (tab2 (wpos o ho))) S1x512x128.size (shapeCast S1x512x128 (maxPay (gate m (itemS K Q m)) (VecWindow.window (itemM K Q M0 m) (k0_off16 (itemRow m)) S1x512x128.size (k0_off16_inb _ (row_chk8 m)))) shapeCasts_S512x128_S1x512x128) = itemM K Q M0 (m + 1) := by
      rw [e2]; rfl
    rw [e, e4]
    isplitl [H2 H3 H5 H6 H10 H11 H12]
    · isplitl [H2]; · iexact H2
      isplitl [H3]; · iexact H3
      isplitl [H5]; · iexact H5
      isplitl [H6]; · iexact H6
      isplitl [H10]; · iexact H10
      isplitl [H11]; · iexact H11
      iexact H12
    isplitl [Hs]; · iexact Hs
    isplitl [Hp]; · iexact Hp
    iexact Ha

theorem values_st (p : Memref sig .tc .vmem S512x256 .bf16) (a : Memref sig .tc .vmem S512x128 .f32)
    (o : Fin 1 → Nat) (ho : ∀ a, o a + S1.size a ≤ S136.size a) (m n : ℕ) (hk : o 0 = n) :
    iprop(St (F := F) c q2 q3 arg2 arg3 arg5 arg6 arg10 arg11 arg12 K V Q M0 A0 m n ∗ pt c p fullShare (itemP K Q M0 n) ∗ pt c a fullShare (itemL K Q M0 n))
      ⊢ wp frame (wpE (defs₀ (F := F)) Variants.none (c : Thread nD τ) none) E (values arg2 arg3 arg6 arg12 p a o ho)
        (fun _ => iprop(St (F := F) c q2 q3 arg2 arg3 arg5 arg6 arg10 arg11 arg12 K V Q M0 A0 m (n + 1)
          ∗ pt c p fullShare (itemP K Q M0 n) ∗ pt c a fullShare (itemL K Q M0 n))) := by
  unfold St
  iintro ⟨⟨H2, H3, H5, H6, H10, H11, H12⟩, Hp, Ha⟩
  have e2 := tab2_word o ho n hk
  have e3 := tab3_word o ho n hk
  have h9 : k0_chk9 (tab3 (wpos o ho)) := e3 ▸ col_chk9 n
  have h10 : k0_chk10 (tab2 (wpos o ho)) := e2 ▸ row_chk10 n
  iapply (wp_wand_r frame (wpE (defs₀ (F := F)) Variants.none (c : Thread nD τ) none) E)
  isplitl [H2 H3 H6 H12 Hp Ha]
  · iapply (values_run (F := F) c E q2 q3 fullShare arg2 arg3 arg6 arg12 p a o ho tab2 tab3 V (itemA K V Q M0 A0 n) (itemP K Q M0 n) (itemL K Q M0 n) h9 h10)
    isplitl [H2]; · iexact H2
    isplitl [H3]; · iexact H3
    isplitl [H6]; · iexact H6
    isplitl [H12]; · iexact H12
    isplitl [Hp]; · iexact Hp
    iexact Ha
  · iintro %_ ⟨H2, H3, H6, H12, Hp, Ha⟩
    have e : accNew (itemA K V Q M0 A0 n) V (itemP K Q M0 n) (itemL K Q M0 n) (tab2 (wpos o ho)) (tab3 (wpos o ho)) h9 h10 = itemA K V Q M0 A0 (n + 1) := by
      clear * - e2 e3
      revert h9 h10; rw [e2, e3]; intros; rfl
    rw [e]
    isplitl [H2 H3 H5 H6 H10 H11 H12]
    · isplitl [H2]; · iexact H2
      isplitl [H3]; · iexact H3
      isplitl [H5]; · iexact H5
      isplitl [H6]; · iexact H6
      isplitl [H10]; · iexact H10
      isplitl [H11]; · iexact H11
      iexact H12
    isplitl [Hp]; · iexact Hp
    iexact Ha

end Triples

end Cert.Proof.KernelIdeal

end
-- ==== Proof.Bodies.lean ====
/- The kernel's loop bodies and its whole body as compositions of the three stages. -/
module

public import proofs.«01_k».proof.Proof.Stages

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F] [Named F]

/-- Eight ticks of the first run. -/
def ticks2 (arg2 : Memref sig .tc .smem S136 .i32) (arg3 : Memref sig .tc .smem S136 .i32) (arg5 : Memref sig .tc .vmem S1x4096x128 .bf16) (arg6 : Memref sig .tc .vmem S1x4096x128 .bf16) (arg10 : Memref sig .tc .vmem S16x512x128 .bf16) (arg11 : Memref sig .tc .vmem S16x512x128 .f32) (arg12 : Memref sig .tc .vmem S16x512x256 .f32) (arg13 : Memref sig .tc .vmem S512x256 .f32) (arg14 : Memref sig .tc .vmem S512x256 .f32) (arg15 : Memref sig .tc .vmem S512x256 .bf16) (harg15 : arg15.IsWhole) (arg16 : Memref sig .tc .vmem S512x256 .bf16) (harg16 : arg16.IsWhole) (arg17 : Memref sig .tc .vmem S512x128 .f32) (arg18 : Memref sig .tc .vmem S512x128 .f32) (t : Fin k0_t2_loop.trips) : KProg F PUnit := do
    tick id arg2 arg3 arg5 arg6 arg10 arg11 arg12 arg13 arg14 arg15 arg16 harg16 arg17 arg18 (k0_off11 t) (k0_off15 t) (k0_off17 t) (k0_off11_inb t) (k0_off15_inb t) (k0_off17_inb t)
    tick id arg2 arg3 arg5 arg6 arg10 arg11 arg12 arg14 arg13 arg16 arg15 harg15 arg18 arg17 (k0_off21 t) (k0_off25 t) (k0_off27 t) (k0_off21_inb t) (k0_off25_inb t) (k0_off27_inb t)
    tick id arg2 arg3 arg5 arg6 arg10 arg11 arg12 arg13 arg14 arg15 arg16 harg16 arg17 arg18 (k0_off31 t) (k0_off35 t) (k0_off37 t) (k0_off31_inb t) (k0_off35_inb t) (k0_off37_inb t)
    tick id arg2 arg3 arg5 arg6 arg10 arg11 arg12 arg14 arg13 arg16 arg15 harg15 arg18 arg17 (k0_off41 t) (k0_off45 t) (k0_off47 t) (k0_off41_inb t) (k0_off45_inb t) (k0_off47_inb t)
    tick id arg2 arg3 arg5 arg6 arg10 arg11 arg12 arg13 arg14 arg15 arg16 harg16 arg17 arg18 (k0_off51 t) (k0_off55 t) (k0_off57 t) (k0_off51_inb t) (k0_off55_inb t) (k0_off57_inb t)
    tick id arg2 arg3 arg5 arg6 arg10 arg11 arg12 arg14 arg13 arg16 arg15 harg15 arg18 arg17 (k0_off61 t) (k0_off65 t) (k0_off67 t) (k0_off61_inb t) (k0_off65_inb t) (k0_off67_inb t)
    tick id arg2 arg3 arg5 arg6 arg10 arg11 arg12 arg13 arg14 arg15 arg16 harg16 arg17 arg18 (k0_off71 t) (k0_off75 t) (k0_off77 t) (k0_off71_inb t) (k0_off75_inb t) (k0_off77_inb t)
    tick id arg2 arg3 arg5 arg6 arg10 arg11 arg12 arg14 arg13 arg16 arg15 harg15 arg18 arg17 (k0_off81 t) (k0_off85 t) (k0_off87 t) (k0_off81_inb t) (k0_off85_inb t) (k0_off87_inb t)

/-- Four ticks of the masked run. -/
def ticks3 (arg2 : Memref sig .tc .smem S136 .i32) (arg3 : Memref sig .tc .smem S136 .i32) (arg5 : Memref sig .tc .vmem S1x4096x128 .bf16) (arg6 : Memref sig .tc .vmem S1x4096x128 .bf16) (arg10 : Memref sig .tc .vmem S16x512x128 .bf16) (arg11 : Memref sig .tc .vmem S16x512x128 .f32) (arg12 : Memref sig .tc .vmem S16x512x256 .f32) (arg13 : Memref sig .tc .vmem S512x256 .f32) (arg14 : Memref sig .tc .vmem S512x256 .f32) (arg15 : Memref sig .tc .vmem S512x256 .bf16) (harg15 : arg15.IsWhole) (arg16 : Memref sig .tc .vmem S512x256 .bf16) (harg16 : arg16.IsWhole) (arg17 : Memref sig .tc .vmem S512x128 .f32) (arg18 : Memref sig .tc .vmem S512x128 .f32) (t : Fin k0_t3_loop.trips) : KProg F PUnit := do
    tick masked arg2 arg3 arg5 arg6 arg10 arg11 arg12 arg13 arg14 arg15 arg16 harg16 arg17 arg18 (k0_off139 t) (k0_off143 t) (k0_off145 t) (k0_off139_inb t) (k0_off143_inb t) (k0_off145_inb t)
    tick masked arg2 arg3 arg5 arg6 arg10 arg11 arg12 arg14 arg13 arg16 arg15 harg15 arg18 arg17 (k0_off149 t) (k0_off153 t) (k0_off155 t) (k0_off149_inb t) (k0_off153_inb t) (k0_off155_inb t)
    tick masked arg2 arg3 arg5 arg6 arg10 arg11 arg12 arg13 arg14 arg15 arg16 harg16 arg17 arg18 (k0_off159 t) (k0_off163 t) (k0_off165 t) (k0_off159_inb t) (k0_off163_inb t) (k0_off165_inb t)
    tick masked arg2 arg3 arg5 arg6 arg10 arg11 arg12 arg14 arg13 arg16 arg15 harg15 arg18 arg17 (k0_off169 t) (k0_off173 t) (k0_off175 t) (k0_off169_inb t) (k0_off173_inb t) (k0_off175_inb t)

variable (i : grid0.Coords) (arg2 : Memref sig .tc .smem S136 .i32) (harg2 : arg2.IsWhole) (arg3 : Memref sig .tc .smem S136 .i32) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S16x512x128 .bf16) (harg10 : arg10.IsWhole) (arg11 : Memref sig .tc .vmem S16x512x128 .f32) (harg11 : arg11.IsWhole) (arg12 : Memref sig .tc .vmem S16x512x256 .f32) (harg12 : arg12.IsWhole) (arg13 : Memref sig .tc .vmem S512x256 .f32) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S512x128 .f32) (harg17 : arg17.IsWhole) (arg18 : Memref sig .tc .vmem S512x128 .f32) (harg18 : arg18.IsWhole)

/-- The first loop runs them. -/
theorem t2_body_eq (t : Fin k0_t2_loop.trips) :
  k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 onesPay 0#32 t () = ticks2 arg2 arg3 arg5 arg6 arg10 arg11 arg12 arg13 arg14 arg15 harg15 arg16 harg16 arg17 arg18 t := rfl

end Cert.Proof.KernelIdeal

end
-- ==== Proof.Whole.lean ====
/- The kernel's loop bodies and its whole body as compositions of the three stages. -/
module

public import proofs.«01_k».proof.Proof.Bodies

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F] [Named F]

variable (i : grid0.Coords) (arg2 : Memref sig .tc .smem S136 .i32) (harg2 : arg2.IsWhole) (arg3 : Memref sig .tc .smem S136 .i32) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S16x512x128 .bf16) (harg10 : arg10.IsWhole) (arg11 : Memref sig .tc .vmem S16x512x128 .f32) (harg11 : arg11.IsWhole) (arg12 : Memref sig .tc .vmem S16x512x256 .f32) (harg12 : arg12.IsWhole) (arg13 : Memref sig .tc .vmem S512x256 .f32) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S512x128 .f32) (harg17 : arg17.IsWhole) (arg18 : Memref sig .tc .vmem S512x128 .f32) (harg18 : arg18.IsWhole)

/-- The kernel's body is the split of the queries, the pipeline over the unmasked items, the pipeline over the masked ones, and the
    finishing loop. -/
theorem body_eq :
  cc0_diff_flash_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (do
    Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
    scores arg2 arg3 arg5 arg10 arg13 ![0] inb_S136_S1_0
    scores arg2 arg3 arg5 arg10 arg14 ![1] inb_S136_S1_1
    softmax id arg2 arg11 arg13 arg15 harg15 arg17 ![0] inb_S136_S1_0
    Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 onesPay 0#32)
    tick id arg2 arg3 arg5 arg6 arg10 arg11 arg12 arg13 arg14 arg15 arg16 harg16 arg17 arg18 ![114] ![113] ![112] inb_S136_S1_114 inb_S136_S1_113 inb_S136_S1_112
    tick id arg2 arg3 arg5 arg6 arg10 arg11 arg12 arg14 arg13 arg16 arg15 harg15 arg18 arg17 ![115] ![114] ![113] inb_S136_S1_115 inb_S136_S1_114 inb_S136_S1_113
    tick id arg2 arg3 arg5 arg6 arg10 arg11 arg12 arg13 arg14 arg15 arg16 harg16 arg17 arg18 ![116] ![115] ![114] inb_S136_S1_116 inb_S136_S1_115 inb_S136_S1_114
    tick id arg2 arg3 arg5 arg6 arg10 arg11 arg12 arg14 arg13 arg16 arg15 harg15 arg18 arg17 ![117] ![116] ![115] inb_S136_S1_117 inb_S136_S1_116 inb_S136_S1_115
    tick id arg2 arg3 arg5 arg6 arg10 arg11 arg12 arg13 arg14 arg15 arg16 harg16 arg17 arg18 ![118] ![117] ![116] inb_S136_S1_118 inb_S136_S1_117 inb_S136_S1_116
    tick id arg2 arg3 arg5 arg6 arg10 arg11 arg12 arg14 arg13 arg16 arg15 harg15 arg18 arg17 ![119] ![118] ![117] inb_S136_S1_119 inb_S136_S1_118 inb_S136_S1_117
    softmax id arg2 arg11 arg14 arg16 harg16 arg18 ![119] inb_S136_S1_119
    values arg2 arg3 arg6 arg12 arg15 arg17 ![118] inb_S136_S1_118
    values arg2 arg3 arg6 arg12 arg16 arg18 ![119] inb_S136_S1_119
    scores arg2 arg3 arg5 arg10 arg13 ![120] inb_S136_S1_120
    scores arg2 arg3 arg5 arg10 arg14 ![121] inb_S136_S1_121
    softmax masked arg2 arg11 arg13 arg15 harg15 arg17 ![120] inb_S136_S1_120
    Scf.Loop.for k0_t3_loop k0_t3_ok ⟨⟩ (fun t _ => ticks3 arg2 arg3 arg5 arg6 arg10 arg11 arg12 arg13 arg14 arg15 harg15 arg16 harg16 arg17 arg18 t)
    tick masked arg2 arg3 arg5 arg6 arg10 arg11 arg12 arg13 arg14 arg15 arg16 harg16 arg17 arg18 ![134] ![133] ![132] inb_S136_S1_134 inb_S136_S1_133 inb_S136_S1_132
    tick masked arg2 arg3 arg5 arg6 arg10 arg11 arg12 arg14 arg13 arg16 arg15 harg15 arg18 arg17 ![135] ![134] ![133] inb_S136_S1_135 inb_S136_S1_134 inb_S136_S1_133
    softmax masked arg2 arg11 arg14 arg16 harg16 arg18 ![135] inb_S136_S1_135
    values arg2 arg3 arg6 arg12 arg15 arg17 ![134] inb_S136_S1_134
    values arg2 arg3 arg6 arg12 arg16 arg18 ![135] inb_S136_S1_135
    let lam : Vec F S4x64 .f32 ← Prog.lift (.load arg7 (Rect.unit (s := S4x64) ![0, 0] S4x64.size inb_S4x64_S4x64_0_0).toLoadRect (View.loadsAt_vmem h_S4x64))
    let sw : Vec F S1x128 .f32 ← Prog.lift (.load arg8 (Rect.unit (s := S1x128) ![0, 0] S1x128.size inb_S1x128_S1x128_0_0).toLoadRect (View.loadsAt_vmem h_S1x128))
    Scf.Loop.for k0_t4_loop k0_t4_ok ⟨⟩ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay311 lam) (k0_pay312 sw))
    pure ⟨⟩ : KProg F PUnit) := by
  unfold cc0_diff_flash_attention k0_part54 k0_part28 k0_part30 k0_part47
  refine (Prog.bind_assoc _ _ _).trans ?_
  refine (Prog.bind_assoc _ _ _).trans ?_
  refine congrArg (Prog.bind _) (funext fun _ => ?_)
  iterate 26 refine congrArg (Prog.op _) (funext fun _ => ?_)
  change Prog.bind (Prog.bind (Prog.bind (Scf.Loop.for k0_t2_loop k0_t2_ok PUnit.unit _) _) _) _ = _
  refine (Prog.bind_assoc _ _ _).trans ?_
  refine (Prog.bind_assoc _ _ _).trans ?_
  refine congrArg (Prog.bind _) (funext fun _ => ?_)
  iterate 248 refine congrArg (Prog.op _) (funext fun _ => ?_)
  change Prog.bind (Prog.bind (Prog.bind (Scf.Loop.for k0_t3_loop k0_t3_ok PUnit.unit _) _) _) _ = _
  refine (Prog.bind_assoc _ _ _).trans ?_
  refine (Prog.bind_assoc _ _ _).trans ?_
  change _ = Prog.bind (Scf.Loop.for k0_t3_loop k0_t3_ok PUnit.unit _) _
  refine congrArg₂ Prog.bind ?_ (funext fun _ => ?_)
  · rfl
  · iterate 100 refine congrArg (Prog.op _) (funext fun _ => ?_)
    rfl

end Cert.Proof.KernelIdeal

end
-- ==== Proof.Pipe.lean ====
/- The ticks' triples, chained through the pipelined run of the items. -/
module

public import proofs.«01_k».proof.Proof.Items
public import proofs.«01_k».proof.Proof.Whole

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Tick

variable (c : Dev nD) (E : Set ℕ) (q2 q3 : PosShare TreeShare) (arg2 arg3 : Memref sig .tc .smem S136 .i32)
  (arg5 arg6 : Memref sig .tc .vmem S1x4096x128 .bf16) (arg10 : Memref sig .tc .vmem S16x512x128 .bf16)
  (arg11 : Memref sig .tc .vmem S16x512x128 .f32) (arg12 : Memref sig .tc .vmem S16x512x256 .f32)
  (K V : S1x4096x128.Idx → Elt F .bf16) (Q : S16x512x128.Idx → Elt F .bf16) (M0 : S16x512x128.Idx → Elt F .f32) (A0 : S16x512x256.Idx → Elt F .f32)

/-- One program after another. -/
theorem seq (c : Dev nD) (E : Set ℕ) {α β : Type} {p : KProg F α} {k : α → KProg F β} {P : sProp 𝕄} {R : sProp 𝕄} {Φ : β → sProp 𝕄}
    (h : P ⊢ wp frame (wpE (defs₀ (F := F)) Variants.none (c : Thread nD τ) none) E p (fun _ => R)) (h' : ∀ a, R ⊢ wp frame (wpE (defs₀ (F := F)) Variants.none (c : Thread nD τ) none) E (k a) Φ) : P ⊢ wp frame (wpE (defs₀ (F := F)) Variants.none (c : Thread nD τ) none) E (p >>= k) Φ := by
  rw [wp_bind]
  refine h.trans (wp_mono frame (wpE (defs₀ (F := F)) Variants.none (c : Thread nD τ) none) E fun a => h' a)

/-- What a stage does not touch stays. -/
theorem keep (c : Dev nD) (E : Set ℕ) {p : KProg F PUnit} {P R S P' R' : sProp 𝕄} (h : P ⊢ wp frame (wpE (defs₀ (F := F)) Variants.none (c : Thread nD τ) none) E p (fun _ => R))
    (hP : P' ⊢ iprop(P ∗ S)) (hR : iprop(R ∗ S) ⊢ R') : P' ⊢ wp frame (wpE (defs₀ (F := F)) Variants.none (c : Thread nD τ) none) E p (fun _ => R') := by
  iintro H
  ihave ⟨H, S⟩ := hP $$ H
  iapply (wp_wand_r frame (wpE (defs₀ (F := F)) Variants.none (c : Thread nD τ) none) E)
  isplitl [H]
  · iapply h $$ H
  · iintro %_ H
    iapply hR
    isplitl [H] <;> iassumption

/-- Between ticks: item `n` has its weights, item `n + 1` its scores. -/
def PS (n : ℕ) (s s' : Memref sig .tc .vmem S512x256 .f32) (p p' : Memref sig .tc .vmem S512x256 .bf16) (a a' : Memref sig .tc .vmem S512x128 .f32) : sProp 𝕄 :=
  iprop(St (F := F) c q2 q3 arg2 arg3 arg5 arg6 arg10 arg11 arg12 K V Q M0 A0 (n + 1) n ∗ some (F := F) c s ∗ pt c s' fullShare (itemS K Q (n + 1))
    ∗ pt c p fullShare (itemP K Q M0 n) ∗ some (F := F) c p' ∗ pt c a fullShare (itemL K Q M0 n) ∗ some (F := F) c a')

theorem to_some (c : Dev nD) {s : Shape} {e : EltTy} (b : Memref sig .tc .vmem s e) (x : s.Idx → Elt F e) : pt c b fullShare x ⊢ some (F := F) c b := by
  unfold some
  iintro H
  iexists x
  iexact H

theorem tick_run (g : Vec F S512x256 .f32 → Vec F S512x256 .f32)
    (s s' : Memref sig .tc .vmem S512x256 .f32) (p p' : Memref sig .tc .vmem S512x256 .bf16) (hp' : p'.IsWhole)
    (a a' : Memref sig .tc .vmem S512x128 .f32)
    (o o' o'' : Fin 1 → Nat) (ho : ∀ a, o a + S1.size a ≤ S136.size a) (ho' : ∀ a, o' a + S1.size a ≤ S136.size a)
    (ho'' : ∀ a, o'' a + S1.size a ≤ S136.size a) (n : ℕ) (e : o 0 = n + 2) (e' : o' 0 = n + 1) (e'' : o'' 0 = n) (hg : g = gate (n + 1)) :
    PS (F := F) c q2 q3 arg2 arg3 arg5 arg6 arg10 arg11 arg12 K V Q M0 A0 n s s' p p' a a' ⊢ wp frame (wpE (defs₀ (F := F)) Variants.none (c : Thread nD τ) none) E (tick g arg2 arg3 arg5 arg6 arg10 arg11 arg12 s s' p p' hp' a a' o o' o'' ho ho' ho'')
      (fun _ => PS (F := F) c q2 q3 arg2 arg3 arg5 arg6 arg10 arg11 arg12 K V Q M0 A0 (n + 1) s' s p' p a' a) := by
  unfold tick PS
  refine seq c E (keep c E (scores_st c E q2 q3 arg2 arg3 arg5 arg6 arg10 arg11 arg12 K V Q M0 A0 s o ho (n + 1) n (n + 2) e)
    (S := iprop(pt c s' fullShare (itemS K Q (n + 1)) ∗ pt c p fullShare (itemP K Q M0 n) ∗ some (F := F) c p' ∗ pt c a fullShare (itemL K Q M0 n) ∗ some (F := F) c a')) ?_ .rfl) fun _ => ?_
  · iintro ⟨H, Hs, H1⟩
    isplitl [H Hs]
    · isplitl [H] <;> iassumption
    · iassumption
  refine seq c E (keep c E (softmax_st c E q2 q3 arg2 arg3 arg5 arg6 arg10 arg11 arg12 K V Q M0 A0 s' p' hp' a' g o' ho' (n + 1) n e' hg)
    (S := iprop(pt c s fullShare (itemS K Q (n + 2)) ∗ pt c p fullShare (itemP K Q M0 n) ∗ pt c a fullShare (itemL K Q M0 n))) ?_ .rfl) fun _ => ?_
  · iintro ⟨⟨H, Hs⟩, Hs', Hp, Hp', Ha, Ha'⟩
    isplitl [H Hs' Hp' Ha']
    · isplitl [H]; · iexact H
      isplitl [Hs']; · iexact Hs'
      isplitl [Hp']; · iexact Hp'
      iexact Ha'
    · isplitl [Hs]; · iexact Hs
      isplitl [Hp]; · iexact Hp
      iexact Ha
  refine keep c E (values_st c E q2 q3 arg2 arg3 arg5 arg6 arg10 arg11 arg12 K V Q M0 A0 p a o'' ho'' (n + 2) n e'')
    (S := iprop(pt c s fullShare (itemS K Q (n + 2)) ∗ pt c s' fullShare (itemS K Q (n + 1)) ∗ pt c p' fullShare (itemP K Q M0 (n + 1)) ∗ pt c a' fullShare (itemL K Q M0 (n + 1)))) ?_ ?_
  · iintro ⟨⟨H, Hs', Hp', Ha'⟩, Hs, Hp, Ha⟩
    isplitl [H Hp Ha]
    · isplitl [H]; · iexact H
      isplitl [Hp]; · iexact Hp
      iexact Ha
    · isplitl [Hs]; · iexact Hs
      isplitl [Hs']; · iexact Hs'
      isplitl [Hp']; · iexact Hp'
      iexact Ha'
  · iintro ⟨⟨H, Hp, Ha⟩, Hs, Hs', Hp', Ha'⟩
    isplitl [H]; · iexact H
    isplitl [Hs']; · iapply to_some $$ Hs'
    isplitl [Hs]; · iexact Hs
    isplitl [Hp']; · iexact Hp'
    isplitl [Hp]; · iapply to_some $$ Hp
    isplitl [Ha']; · iexact Ha'
    iapply to_some $$ Ha

end Tick

theorem gate_id (n : ℕ) (h : n < 120) : (id : Vec F S512x256 .f32 → Vec F S512x256 .f32) = gate n := by unfold gate; rw [if_pos h]
theorem gate_masked (n : ℕ) (h : 120 ≤ n) : (masked : Vec F S512x256 .f32 → Vec F S512x256 .f32) = gate n := by unfold gate; rw [if_neg (by omega)]

section Loops

variable (c : Dev nD) (E : Set ℕ) (q2 q3 : PosShare TreeShare) (i : grid0.Coords) (arg2 : Memref sig .tc .smem S136 .i32) (harg2 : arg2.IsWhole) (arg3 : Memref sig .tc .smem S136 .i32) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S16x512x128 .bf16) (harg10 : arg10.IsWhole) (arg11 : Memref sig .tc .vmem S16x512x128 .f32) (harg11 : arg11.IsWhole) (arg12 : Memref sig .tc .vmem S16x512x256 .f32) (harg12 : arg12.IsWhole) (arg13 : Memref sig .tc .vmem S512x256 .f32) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S512x128 .f32) (harg17 : arg17.IsWhole) (arg18 : Memref sig .tc .vmem S512x128 .f32) (harg18 : arg18.IsWhole)
  (K V : S1x4096x128.Idx → Elt F .bf16) (Q : S16x512x128.Idx → Elt F .bf16) (M0 : S16x512x128.Idx → Elt F .f32) (A0 : S16x512x256.Idx → Elt F .f32)

theorem off11_at (t : Fin k0_t2_loop.trips) : k0_off11 t 0 = 8 * t.val + 2 := by revert t; decide
theorem off15_at (t : Fin k0_t2_loop.trips) : k0_off15 t 0 = 8 * t.val + 1 := by revert t; decide
theorem off17_at (t : Fin k0_t2_loop.trips) : k0_off17 t 0 = 8 * t.val + 0 := by revert t; decide
theorem off21_at (t : Fin k0_t2_loop.trips) : k0_off21 t 0 = 8 * t.val + 3 := by revert t; decide
theorem off25_at (t : Fin k0_t2_loop.trips) : k0_off25 t 0 = 8 * t.val + 2 := by revert t; decide
theorem off27_at (t : Fin k0_t2_loop.trips) : k0_off27 t 0 = 8 * t.val + 1 := by revert t; decide
theorem off31_at (t : Fin k0_t2_loop.trips) : k0_off31 t 0 = 8 * t.val + 4 := by revert t; decide
theorem off35_at (t : Fin k0_t2_loop.trips) : k0_off35 t 0 = 8 * t.val + 3 := by revert t; decide
theorem off37_at (t : Fin k0_t2_loop.trips) : k0_off37 t 0 = 8 * t.val + 2 := by revert t; decide
theorem off41_at (t : Fin k0_t2_loop.trips) : k0_off41 t 0 = 8 * t.val + 5 := by revert t; decide
theorem off45_at (t : Fin k0_t2_loop.trips) : k0_off45 t 0 = 8 * t.val + 4 := by revert t; decide
theorem off47_at (t : Fin k0_t2_loop.trips) : k0_off47 t 0 = 8 * t.val + 3 := by revert t; decide
theorem off51_at (t : Fin k0_t2_loop.trips) : k0_off51 t 0 = 8 * t.val + 6 := by revert t; decide
theorem off55_at (t : Fin k0_t2_loop.trips) : k0_off55 t 0 = 8 * t.val + 5 := by revert t; decide
theorem off57_at (t : Fin k0_t2_loop.trips) : k0_off57 t 0 = 8 * t.val + 4 := by revert t; decide
theorem off61_at (t : Fin k0_t2_loop.trips) : k0_off61 t 0 = 8 * t.val + 7 := by revert t; decide
theorem off65_at (t : Fin k0_t2_loop.trips) : k0_off65 t 0 = 8 * t.val + 6 := by revert t; decide
theorem off67_at (t : Fin k0_t2_loop.trips) : k0_off67 t 0 = 8 * t.val + 5 := by revert t; decide
theorem off71_at (t : Fin k0_t2_loop.trips) : k0_off71 t 0 = 8 * t.val + 8 := by revert t; decide
theorem off75_at (t : Fin k0_t2_loop.trips) : k0_off75 t 0 = 8 * t.val + 7 := by revert t; decide
theorem off77_at (t : Fin k0_t2_loop.trips) : k0_off77 t 0 = 8 * t.val + 6 := by revert t; decide
theorem off81_at (t : Fin k0_t2_loop.trips) : k0_off81 t 0 = 8 * t.val + 9 := by revert t; decide
theorem off85_at (t : Fin k0_t2_loop.trips) : k0_off85 t 0 = 8 * t.val + 8 := by revert t; decide
theorem off87_at (t : Fin k0_t2_loop.trips) : k0_off87 t 0 = 8 * t.val + 7 := by revert t; decide
theorem off139_at (t : Fin k0_t3_loop.trips) : k0_off139 t 0 = 4 * t.val + 122 := by revert t; decide
theorem off143_at (t : Fin k0_t3_loop.trips) : k0_off143 t 0 = 4 * t.val + 121 := by revert t; decide
theorem off145_at (t : Fin k0_t3_loop.trips) : k0_off145 t 0 = 4 * t.val + 120 := by revert t; decide
theorem off149_at (t : Fin k0_t3_loop.trips) : k0_off149 t 0 = 4 * t.val + 123 := by revert t; decide
theorem off153_at (t : Fin k0_t3_loop.trips) : k0_off153 t 0 = 4 * t.val + 122 := by revert t; decide
theorem off155_at (t : Fin k0_t3_loop.trips) : k0_off155 t 0 = 4 * t.val + 121 := by revert t; decide
theorem off159_at (t : Fin k0_t3_loop.trips) : k0_off159 t 0 = 4 * t.val + 124 := by revert t; decide
theorem off163_at (t : Fin k0_t3_loop.trips) : k0_off163 t 0 = 4 * t.val + 123 := by revert t; decide
theorem off165_at (t : Fin k0_t3_loop.trips) : k0_off165 t 0 = 4 * t.val + 122 := by revert t; decide
theorem off169_at (t : Fin k0_t3_loop.trips) : k0_off169 t 0 = 4 * t.val + 125 := by revert t; decide
theorem off173_at (t : Fin k0_t3_loop.trips) : k0_off173 t 0 = 4 * t.val + 124 := by revert t; decide
theorem off175_at (t : Fin k0_t3_loop.trips) : k0_off175 t 0 = 4 * t.val + 123 := by revert t; decide

theorem ticks2_run (t : Fin k0_t2_loop.trips) :
    PS (F := F) c q2 q3 arg2 arg3 arg5 arg6 arg10 arg11 arg12 K V Q M0 A0 (8 * t.val) arg13 arg14 arg15 arg16 arg17 arg18 ⊢ wp frame (wpE (defs₀ (F := F)) Variants.none (c : Thread nD τ) none) E (ticks2 arg2 arg3 arg5 arg6 arg10 arg11 arg12 arg13 arg14 arg15 harg15 arg16 harg16 arg17 arg18 t)
      (fun _ => PS (F := F) c q2 q3 arg2 arg3 arg5 arg6 arg10 arg11 arg12 K V Q M0 A0 (8 * (t.val + 1)) arg13 arg14 arg15 arg16 arg17 arg18) := by
  have ht : t.val < 14 := t.isLt
  unfold ticks2
  refine seq c E (tick_run c E q2 q3 arg2 arg3 arg5 arg6 arg10 arg11 arg12 K V Q M0 A0 id arg13 arg14 arg15 arg16 harg16 arg17 arg18 _ _ _ (k0_off11_inb t) (k0_off15_inb t) (k0_off17_inb t) (8 * t.val + 0) (off11_at t) (off15_at t) (off17_at t) (gate_id _ (by omega))) fun _ => ?_
  refine seq c E (tick_run c E q2 q3 arg2 arg3 arg5 arg6 arg10 arg11 arg12 K V Q M0 A0 id arg14 arg13 arg16 arg15 harg15 arg18 arg17 _ _ _ (k0_off21_inb t) (k0_off25_inb t) (k0_off27_inb t) (8 * t.val + 1) (off21_at t) (off25_at t) (off27_at t) (gate_id _ (by omega))) fun _ => ?_
  refine seq c E (tick_run c E q2 q3 arg2 arg3 arg5 arg6 arg10 arg11 arg12 K V Q M0 A0 id arg13 arg14 arg15 arg16 harg16 arg17 arg18 _ _ _ (k0_off31_inb t) (k0_off35_inb t) (k0_off37_inb t) (8 * t.val + 2) (off31_at t) (off35_at t) (off37_at t) (gate_id _ (by omega))) fun _ => ?_
  refine seq c E (tick_run c E q2 q3 arg2 arg3 arg5 arg6 arg10 arg11 arg12 K V Q M0 A0 id arg14 arg13 arg16 arg15 harg15 arg18 arg17 _ _ _ (k0_off41_inb t) (k0_off45_inb t) (k0_off47_inb t) (8 * t.val + 3) (off41_at t) (off45_at t) (off47_at t) (gate_id _ (by omega))) fun _ => ?_
  refine seq c E (tick_run c E q2 q3 arg2 arg3 arg5 arg6 arg10 arg11 arg12 K V Q M0 A0 id arg13 arg14 arg15 arg16 harg16 arg17 arg18 _ _ _ (k0_off51_inb t) (k0_off55_inb t) (k0_off57_inb t) (8 * t.val + 4) (off51_at t) (off55_at t) (off57_at t) (gate_id _ (by omega))) fun _ => ?_
  refine seq c E (tick_run c E q2 q3 arg2 arg3 arg5 arg6 arg10 arg11 arg12 K V Q M0 A0 id arg14 arg13 arg16 arg15 harg15 arg18 arg17 _ _ _ (k0_off61_inb t) (k0_off65_inb t) (k0_off67_inb t) (8 * t.val + 5) (off61_at t) (off65_at t) (off67_at t) (gate_id _ (by omega))) fun _ => ?_
  refine seq c E (tick_run c E q2 q3 arg2 arg3 arg5 arg6 arg10 arg11 arg12 K V Q M0 A0 id arg13 arg14 arg15 arg16 harg16 arg17 arg18 _ _ _ (k0_off71_inb t) (k0_off75_inb t) (k0_off77_inb t) (8 * t.val + 6) (off71_at t) (off75_at t) (off77_at t) (gate_id _ (by omega))) fun _ => ?_
  exact tick_run c E q2 q3 arg2 arg3 arg5 arg6 arg10 arg11 arg12 K V Q M0 A0 id arg14 arg13 arg16 arg15 harg15 arg18 arg17 _ _ _ (k0_off81_inb t) (k0_off85_inb t) (k0_off87_inb t) (8 * t.val + 7) (off81_at t) (off85_at t) (off87_at t) (gate_id _ (by omega))

theorem ticks3_run (t : Fin k0_t3_loop.trips) :
    PS (F := F) c q2 q3 arg2 arg3 arg5 arg6 arg10 arg11 arg12 K V Q M0 A0 (120 + 4 * t.val) arg13 arg14 arg15 arg16 arg17 arg18 ⊢ wp frame (wpE (defs₀ (F := F)) Variants.none (c : Thread nD τ) none) E (ticks3 arg2 arg3 arg5 arg6 arg10 arg11 arg12 arg13 arg14 arg15 harg15 arg16 harg16 arg17 arg18 t)
      (fun _ => PS (F := F) c q2 q3 arg2 arg3 arg5 arg6 arg10 arg11 arg12 K V Q M0 A0 (120 + 4 * (t.val + 1)) arg13 arg14 arg15 arg16 arg17 arg18) := by
  rw [show 120 + 4 * (t.val + 1) = 4 * t.val + 120 + 4 by omega, show 120 + 4 * t.val = 4 * t.val + 120 by omega]
  unfold ticks3
  refine seq c E (tick_run c E q2 q3 arg2 arg3 arg5 arg6 arg10 arg11 arg12 K V Q M0 A0 masked arg13 arg14 arg15 arg16 harg16 arg17 arg18 _ _ _ (k0_off139_inb t) (k0_off143_inb t) (k0_off145_inb t) (4 * t.val + 120 + 0) (off139_at t) (off143_at t) (off145_at t) (gate_masked _ (by omega))) fun _ => ?_
  refine seq c E (tick_run c E q2 q3 arg2 arg3 arg5 arg6 arg10 arg11 arg12 K V Q M0 A0 masked arg14 arg13 arg16 arg15 harg15 arg18 arg17 _ _ _ (k0_off149_inb t) (k0_off153_inb t) (k0_off155_inb t) (4 * t.val + 120 + 1) (off149_at t) (off153_at t) (off155_at t) (gate_masked _ (by omega))) fun _ => ?_
  refine seq c E (tick_run c E q2 q3 arg2 arg3 arg5 arg6 arg10 arg11 arg12 K V Q M0 A0 masked arg13 arg14 arg15 arg16 harg16 arg17 arg18 _ _ _ (k0_off159_inb t) (k0_off163_inb t) (k0_off165_inb t) (4 * t.val + 120 + 2) (off159_at t) (off163_at t) (off165_at t) (gate_masked _ (by omega))) fun _ => ?_
  exact tick_run c E q2 q3 arg2 arg3 arg5 arg6 arg10 arg11 arg12 K V Q M0 A0 masked arg14 arg13 arg16 arg15 harg15 arg18 arg17 _ _ _ (k0_off169_inb t) (k0_off173_inb t) (k0_off175_inb t) (4 * t.val + 120 + 3) (off169_at t) (off173_at t) (off175_at t) (gate_masked _ (by omega))

theorem loop2_run : PS (F := F) c q2 q3 arg2 arg3 arg5 arg6 arg10 arg11 arg12 K V Q M0 A0 0 arg13 arg14 arg15 arg16 arg17 arg18 ⊢ wp frame (wpE (defs₀ (F := F)) Variants.none (c : Thread nD τ) none) E (Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 onesPay 0#32)) (fun _ => PS (F := F) c q2 q3 arg2 arg3 arg5 arg6 arg10 arg11 arg12 K V Q M0 A0 112 arg13 arg14 arg15 arg16 arg17 arg18) := by
  iintro H
  iapply (Scf.wp_for frame (wpE (defs₀ (F := F)) Variants.none (c : Thread nD τ) none) E _ _ _ k0_t2_ok PUnit.unit _ (fun n _ => PS (F := F) c q2 q3 arg2 arg3 arg5 arg6 arg10 arg11 arg12 K V Q M0 A0 (8 * n) arg13 arg14 arg15 arg16 arg17 arg18) (fun t _ => by
    refine (ticks2_run c E q2 q3 arg2 arg3 arg5 arg6 arg10 arg11 arg12 arg13 arg14 arg15 harg15 arg16 harg16 arg17 arg18 K V Q M0 A0 t).trans (Entails.of_eq ?_)
    exact congrArg (fun p => wp frame (wpE (defs₀ (F := F)) Variants.none (c : Thread nD τ) none) E p _) (t2_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 t).symm))
  isplitl [H]
  · iexact H
  · iintro %_ H
    iexact H

theorem loop3_run : PS (F := F) c q2 q3 arg2 arg3 arg5 arg6 arg10 arg11 arg12 K V Q M0 A0 120 arg13 arg14 arg15 arg16 arg17 arg18 ⊢ wp frame (wpE (defs₀ (F := F)) Variants.none (c : Thread nD τ) none) E (Scf.Loop.for k0_t3_loop k0_t3_ok ⟨⟩ (fun t _ => ticks3 arg2 arg3 arg5 arg6 arg10 arg11 arg12 arg13 arg14 arg15 harg15 arg16 harg16 arg17 arg18 t)) (fun _ => PS (F := F) c q2 q3 arg2 arg3 arg5 arg6 arg10 arg11 arg12 K V Q M0 A0 132 arg13 arg14 arg15 arg16 arg17 arg18) := by
  iintro H
  iapply (Scf.wp_for frame (wpE (defs₀ (F := F)) Variants.none (c : Thread nD τ) none) E _ _ _ k0_t3_ok PUnit.unit _ (fun n _ => PS (F := F) c q2 q3 arg2 arg3 arg5 arg6 arg10 arg11 arg12 K V Q M0 A0 (120 + 4 * n) arg13 arg14 arg15 arg16 arg17 arg18) (fun t _ =>
    ticks3_run c E q2 q3 arg2 arg3 arg5 arg6 arg10 arg11 arg12 arg13 arg14 arg15 harg15 arg16 harg16 arg17 arg18 K V Q M0 A0 t))
  isplitl [H]
  · iexact H
  · iintro %_ H
    iexact H

end Loops

end Cert.Proof.KernelIdeal

end
-- ==== Proof.Run.lean ====
/- The kernel's body as a whole: what it leaves in its output block. -/
module

public import proofs.«01_k».proof.Proof.Arrays
public import proofs.«01_k».proof.Proof.Pipe

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Run

variable (c : Dev nD) (E : Set ℕ) (q2 q3 : PosShare TreeShare) (i : grid0.Coords) (arg2 : Memref sig .tc .smem S136 .i32) (harg2 : arg2.IsWhole) (arg3 : Memref sig .tc .smem S136 .i32) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S16x512x128 .bf16) (harg10 : arg10.IsWhole) (arg11 : Memref sig .tc .vmem S16x512x128 .f32) (harg11 : arg11.IsWhole) (arg12 : Memref sig .tc .vmem S16x512x256 .f32) (harg12 : arg12.IsWhole) (arg13 : Memref sig .tc .vmem S512x256 .f32) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S512x128 .f32) (harg17 : arg17.IsWhole) (arg18 : Memref sig .tc .vmem S512x128 .f32) (harg18 : arg18.IsWhole)
  (X K V : S1x4096x128.Idx → Elt F .bf16) (L : S4x64.Idx → Elt F .f32) (W : S1x128.Idx → Elt F .f32)

/-- The output block, from the blocks of queries, keys and values, the mixing parameters and the row weights. -/
def outBlock (X K V : S1x4096x128.Idx → Elt F .bf16) (L : S4x64.Idx → Elt F .f32) (W : S1x128.Idx → Elt F .f32) : S1x4096x128.Idx → Elt F .bf16 :=
  oArr (k0_pay311 L) (k0_pay312 W) (itemA K V (qArr X) mArr aArr 136)

/-- The first items enter the pipeline. -/
theorem pro1 {β : Type} {kk : PUnit.{1} → KProg F β} {Φ : β → sProp 𝕄}
    (h : PS (F := F) c q2 q3 arg2 arg3 arg5 arg6 arg10 arg11 arg12 K V (qArr X) mArr aArr 0 arg13 arg14 arg15 arg16 arg17 arg18 ⊢ wp frame (wpE (defs₀ (F := F)) Variants.none (c : Thread nD τ) none) E (kk ⟨⟩) Φ) :
    iprop(St (F := F) c q2 q3 arg2 arg3 arg5 arg6 arg10 arg11 arg12 K V (qArr X) mArr aArr 0 0 ∗ some (F := F) c arg13 ∗ some (F := F) c arg14 ∗ some (F := F) c arg15 ∗ some (F := F) c arg16 ∗ some (F := F) c arg17 ∗ some (F := F) c arg18) ⊢ wp frame (wpE (defs₀ (F := F)) Variants.none (c : Thread nD τ) none) E (do
      scores arg2 arg3 arg5 arg10 arg13 ![0] inb_S136_S1_0
      scores arg2 arg3 arg5 arg10 arg14 ![1] inb_S136_S1_1
      softmax id arg2 arg11 arg13 arg15 harg15 arg17 ![0] inb_S136_S1_0
      kk ⟨⟩ : KProg F β) Φ := by
  refine seq c E (keep c E (scores_st c E q2 q3 arg2 arg3 arg5 arg6 arg10 arg11 arg12 K V (qArr X) mArr aArr arg13 ![0] inb_S136_S1_0 0 0 0 rfl)
    (S := iprop(some (F := F) c arg14 ∗ some (F := F) c arg15 ∗ some (F := F) c arg16 ∗ some (F := F) c arg17 ∗ some (F := F) c arg18))
    (P' := iprop(St (F := F) c q2 q3 arg2 arg3 arg5 arg6 arg10 arg11 arg12 K V (qArr X) mArr aArr 0 0 ∗ some (F := F) c arg13 ∗ some (F := F) c arg14 ∗ some (F := F) c arg15 ∗ some (F := F) c arg16 ∗ some (F := F) c arg17 ∗ some (F := F) c arg18)) (R' := iprop(St (F := F) c q2 q3 arg2 arg3 arg5 arg6 arg10 arg11 arg12 K V (qArr X) mArr aArr 0 0 ∗ pt c arg13 fullShare (itemS K (qArr X) 0) ∗ some (F := F) c arg14 ∗ some (F := F) c arg15 ∗ some (F := F) c arg16 ∗ some (F := F) c arg17 ∗ some (F := F) c arg18)) ?_ ?_) fun _ => ?_
  · iintro ⟨H, Hs0, Hs1, Hp0, Hp1, Ha0, Ha1⟩
    isplitl [H Hs0]
    · isplitl [H]; · iexact H
      iexact Hs0
    · isplitl [Hs1]; · iexact Hs1
      isplitl [Hp0]; · iexact Hp0
      isplitl [Hp1]; · iexact Hp1
      isplitl [Ha0]; · iexact Ha0
      iexact Ha1
  · iintro ⟨⟨H, Hs0⟩, Hs1, Hp0, Hp1, Ha0, Ha1⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine seq c E (keep c E (scores_st c E q2 q3 arg2 arg3 arg5 arg6 arg10 arg11 arg12 K V (qArr X) mArr aArr arg14 ![1] inb_S136_S1_1 0 0 1 rfl)
    (S := iprop(pt c arg13 fullShare (itemS K (qArr X) 0) ∗ some (F := F) c arg15 ∗ some (F := F) c arg16 ∗ some (F := F) c arg17 ∗ some (F := F) c arg18))
    (P' := iprop(St (F := F) c q2 q3 arg2 arg3 arg5 arg6 arg10 arg11 arg12 K V (qArr X) mArr aArr 0 0 ∗ pt c arg13 fullShare (itemS K (qArr X) 0) ∗ some (F := F) c arg14 ∗ some (F := F) c arg15 ∗ some (F := F) c arg16 ∗ some (F := F) c arg17 ∗ some (F := F) c arg18)) (R' := iprop(St (F := F) c q2 q3 arg2 arg3 arg5 arg6 arg10 arg11 arg12 K V (qArr X) mArr aArr 0 0 ∗ pt c arg13 fullShare (itemS K (qArr X) 0) ∗ pt c arg14 fullShare (itemS K (qArr X) 1) ∗ some (F := F) c arg15 ∗ some (F := F) c arg16 ∗ some (F := F) c arg17 ∗ some (F := F) c arg18)) ?_ ?_) fun _ => ?_
  · iintro ⟨H, Hs0, Hs1, Hp0, Hp1, Ha0, Ha1⟩
    isplitl [H Hs1]
    · isplitl [H]; · iexact H
      iexact Hs1
    · isplitl [Hs0]; · iexact Hs0
      isplitl [Hp0]; · iexact Hp0
      isplitl [Hp1]; · iexact Hp1
      isplitl [Ha0]; · iexact Ha0
      iexact Ha1
  · iintro ⟨⟨H, Hs1⟩, Hs0, Hp0, Hp1, Ha0, Ha1⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine seq c E (keep c E (softmax_st c E q2 q3 arg2 arg3 arg5 arg6 arg10 arg11 arg12 K V (qArr X) mArr aArr arg13 arg15 harg15 arg17 id ![0] inb_S136_S1_0 0 0 rfl (gate_id _ (by decide)))
    (S := iprop(pt c arg14 fullShare (itemS K (qArr X) 1) ∗ some (F := F) c arg16 ∗ some (F := F) c arg18))
    (P' := iprop(St (F := F) c q2 q3 arg2 arg3 arg5 arg6 arg10 arg11 arg12 K V (qArr X) mArr aArr 0 0 ∗ pt c arg13 fullShare (itemS K (qArr X) 0) ∗ pt c arg14 fullShare (itemS K (qArr X) 1) ∗ some (F := F) c arg15 ∗ some (F := F) c arg16 ∗ some (F := F) c arg17 ∗ some (F := F) c arg18)) (R' := iprop(St (F := F) c q2 q3 arg2 arg3 arg5 arg6 arg10 arg11 arg12 K V (qArr X) mArr aArr 1 0 ∗ pt c arg13 fullShare (itemS K (qArr X) 0) ∗ pt c arg14 fullShare (itemS K (qArr X) 1) ∗ pt c arg15 fullShare (itemP K (qArr X) mArr 0) ∗ some (F := F) c arg16 ∗ pt c arg17 fullShare (itemL K (qArr X) mArr 0) ∗ some (F := F) c arg18)) ?_ ?_) fun _ => ?_
  · iintro ⟨H, Hs0, Hs1, Hp0, Hp1, Ha0, Ha1⟩
    isplitl [H Hs0 Hp0 Ha0]
    · isplitl [H]; · iexact H
      isplitl [Hs0]; · iexact Hs0
      isplitl [Hp0]; · iexact Hp0
      iexact Ha0
    · isplitl [Hs1]; · iexact Hs1
      isplitl [Hp1]; · iexact Hp1
      iexact Ha1
  · iintro ⟨⟨H, Hs0, Hp0, Ha0⟩, Hs1, Hp1, Ha1⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine BIBase.Entails.trans ?_ h
  unfold PS
  iintro ⟨H, Hs0, Hs1, Hp0, Hp1, Ha0, Ha1⟩
  isplitl [H]; · iexact H
  isplitl [Hs0]; · iapply to_some $$ Hs0
  isplitl [Hs1]; · iexact Hs1
  isplitl [Hp0]; · iexact Hp0
  isplitl [Hp1]; · iexact Hp1
  isplitl [Ha0]; · iexact Ha0
  iexact Ha1

/-- The first masked items enter the pipeline. -/
theorem pro2 {β : Type} {kk : PUnit.{1} → KProg F β} {Φ : β → sProp 𝕄}
    (h : PS (F := F) c q2 q3 arg2 arg3 arg5 arg6 arg10 arg11 arg12 K V (qArr X) mArr aArr 120 arg13 arg14 arg15 arg16 arg17 arg18 ⊢ wp frame (wpE (defs₀ (F := F)) Variants.none (c : Thread nD τ) none) E (kk ⟨⟩) Φ) :
    iprop(St (F := F) c q2 q3 arg2 arg3 arg5 arg6 arg10 arg11 arg12 K V (qArr X) mArr aArr 120 120 ∗ some (F := F) c arg13 ∗ some (F := F) c arg14 ∗ some (F := F) c arg15 ∗ some (F := F) c arg16 ∗ some (F := F) c arg17 ∗ some (F := F) c arg18) ⊢ wp frame (wpE (defs₀ (F := F)) Variants.none (c : Thread nD τ) none) E (do
      scores arg2 arg3 arg5 arg10 arg13 ![120] inb_S136_S1_120
      scores arg2 arg3 arg5 arg10 arg14 ![121] inb_S136_S1_121
      softmax masked arg2 arg11 arg13 arg15 harg15 arg17 ![120] inb_S136_S1_120
      kk ⟨⟩ : KProg F β) Φ := by
  refine seq c E (keep c E (scores_st c E q2 q3 arg2 arg3 arg5 arg6 arg10 arg11 arg12 K V (qArr X) mArr aArr arg13 ![120] inb_S136_S1_120 120 120 120 rfl)
    (S := iprop(some (F := F) c arg14 ∗ some (F := F) c arg15 ∗ some (F := F) c arg16 ∗ some (F := F) c arg17 ∗ some (F := F) c arg18))
    (P' := iprop(St (F := F) c q2 q3 arg2 arg3 arg5 arg6 arg10 arg11 arg12 K V (qArr X) mArr aArr 120 120 ∗ some (F := F) c arg13 ∗ some (F := F) c arg14 ∗ some (F := F) c arg15 ∗ some (F := F) c arg16 ∗ some (F := F) c arg17 ∗ some (F := F) c arg18)) (R' := iprop(St (F := F) c q2 q3 arg2 arg3 arg5 arg6 arg10 arg11 arg12 K V (qArr X) mArr aArr 120 120 ∗ pt c arg13 fullShare (itemS K (qArr X) 120) ∗ some (F := F) c arg14 ∗ some (F := F) c arg15 ∗ some (F := F) c arg16 ∗ some (F := F) c arg17 ∗ some (F := F) c arg18)) ?_ ?_) fun _ => ?_
  · iintro ⟨H, Hs0, Hs1, Hp0, Hp1, Ha0, Ha1⟩
    isplitl [H Hs0]
    · isplitl [H]; · iexact H
      iexact Hs0
    · isplitl [Hs1]; · iexact Hs1
      isplitl [Hp0]; · iexact Hp0
      isplitl [Hp1]; · iexact Hp1
      isplitl [Ha0]; · iexact Ha0
      iexact Ha1
  · iintro ⟨⟨H, Hs0⟩, Hs1, Hp0, Hp1, Ha0, Ha1⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine seq c E (keep c E (scores_st c E q2 q3 arg2 arg3 arg5 arg6 arg10 arg11 arg12 K V (qArr X) mArr aArr arg14 ![121] inb_S136_S1_121 120 120 121 rfl)
    (S := iprop(pt c arg13 fullShare (itemS K (qArr X) 120) ∗ some (F := F) c arg15 ∗ some (F := F) c arg16 ∗ some (F := F) c arg17 ∗ some (F := F) c arg18))
    (P' := iprop(St (F := F) c q2 q3 arg2 arg3 arg5 arg6 arg10 arg11 arg12 K V (qArr X) mArr aArr 120 120 ∗ pt c arg13 fullShare (itemS K (qArr X) 120) ∗ some (F := F) c arg14 ∗ some (F := F) c arg15 ∗ some (F := F) c arg16 ∗ some (F := F) c arg17 ∗ some (F := F) c arg18)) (R' := iprop(St (F := F) c q2 q3 arg2 arg3 arg5 arg6 arg10 arg11 arg12 K V (qArr X) mArr aArr 120 120 ∗ pt c arg13 fullShare (itemS K (qArr X) 120) ∗ pt c arg14 fullShare (itemS K (qArr X) 121) ∗ some (F := F) c arg15 ∗ some (F := F) c arg16 ∗ some (F := F) c arg17 ∗ some (F := F) c arg18)) ?_ ?_) fun _ => ?_
  · iintro ⟨H, Hs0, Hs1, Hp0, Hp1, Ha0, Ha1⟩
    isplitl [H Hs1]
    · isplitl [H]; · iexact H
      iexact Hs1
    · isplitl [Hs0]; · iexact Hs0
      isplitl [Hp0]; · iexact Hp0
      isplitl [Hp1]; · iexact Hp1
      isplitl [Ha0]; · iexact Ha0
      iexact Ha1
  · iintro ⟨⟨H, Hs1⟩, Hs0, Hp0, Hp1, Ha0, Ha1⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine seq c E (keep c E (softmax_st c E q2 q3 arg2 arg3 arg5 arg6 arg10 arg11 arg12 K V (qArr X) mArr aArr arg13 arg15 harg15 arg17 masked ![120] inb_S136_S1_120 120 120 rfl (gate_masked _ (by decide)))
    (S := iprop(pt c arg14 fullShare (itemS K (qArr X) 121) ∗ some (F := F) c arg16 ∗ some (F := F) c arg18))
    (P' := iprop(St (F := F) c q2 q3 arg2 arg3 arg5 arg6 arg10 arg11 arg12 K V (qArr X) mArr aArr 120 120 ∗ pt c arg13 fullShare (itemS K (qArr X) 120) ∗ pt c arg14 fullShare (itemS K (qArr X) 121) ∗ some (F := F) c arg15 ∗ some (F := F) c arg16 ∗ some (F := F) c arg17 ∗ some (F := F) c arg18)) (R' := iprop(St (F := F) c q2 q3 arg2 arg3 arg5 arg6 arg10 arg11 arg12 K V (qArr X) mArr aArr 121 120 ∗ pt c arg13 fullShare (itemS K (qArr X) 120) ∗ pt c arg14 fullShare (itemS K (qArr X) 121) ∗ pt c arg15 fullShare (itemP K (qArr X) mArr 120) ∗ some (F := F) c arg16 ∗ pt c arg17 fullShare (itemL K (qArr X) mArr 120) ∗ some (F := F) c arg18)) ?_ ?_) fun _ => ?_
  · iintro ⟨H, Hs0, Hs1, Hp0, Hp1, Ha0, Ha1⟩
    isplitl [H Hs0 Hp0 Ha0]
    · isplitl [H]; · iexact H
      isplitl [Hs0]; · iexact Hs0
      isplitl [Hp0]; · iexact Hp0
      iexact Ha0
    · isplitl [Hs1]; · iexact Hs1
      isplitl [Hp1]; · iexact Hp1
      iexact Ha1
  · iintro ⟨⟨H, Hs0, Hp0, Ha0⟩, Hs1, Hp1, Ha1⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine BIBase.Entails.trans ?_ h
  unfold PS
  iintro ⟨H, Hs0, Hs1, Hp0, Hp1, Ha0, Ha1⟩
  isplitl [H]; · iexact H
  isplitl [Hs0]; · iapply to_some $$ Hs0
  isplitl [Hs1]; · iexact Hs1
  isplitl [Hp0]; · iexact Hp0
  isplitl [Hp1]; · iexact Hp1
  isplitl [Ha0]; · iexact Ha0
  iexact Ha1

/-- The unmasked items drain. -/
theorem epi1 {β : Type} {kk : PUnit.{1} → KProg F β} {Φ : β → sProp 𝕄}
    (h : iprop(St (F := F) c q2 q3 arg2 arg3 arg5 arg6 arg10 arg11 arg12 K V (qArr X) mArr aArr 120 120 ∗ some (F := F) c arg13 ∗ some (F := F) c arg14 ∗ some (F := F) c arg15 ∗ some (F := F) c arg16 ∗ some (F := F) c arg17 ∗ some (F := F) c arg18) ⊢ wp frame (wpE (defs₀ (F := F)) Variants.none (c : Thread nD τ) none) E (kk ⟨⟩) Φ) :
    PS (F := F) c q2 q3 arg2 arg3 arg5 arg6 arg10 arg11 arg12 K V (qArr X) mArr aArr 118 arg13 arg14 arg15 arg16 arg17 arg18 ⊢ wp frame (wpE (defs₀ (F := F)) Variants.none (c : Thread nD τ) none) E (do
      softmax id arg2 arg11 arg14 arg16 harg16 arg18 ![119] inb_S136_S1_119
      values arg2 arg3 arg6 arg12 arg15 arg17 ![118] inb_S136_S1_118
      values arg2 arg3 arg6 arg12 arg16 arg18 ![119] inb_S136_S1_119
      kk ⟨⟩ : KProg F β) Φ := by
  refine BIBase.Entails.trans (Q := iprop(St (F := F) c q2 q3 arg2 arg3 arg5 arg6 arg10 arg11 arg12 K V (qArr X) mArr aArr 119 118 ∗ some (F := F) c arg13 ∗ pt c arg14 fullShare (itemS K (qArr X) 119) ∗ pt c arg15 fullShare (itemP K (qArr X) mArr 118) ∗ some (F := F) c arg16 ∗ pt c arg17 fullShare (itemL K (qArr X) mArr 118) ∗ some (F := F) c arg18)) ?_ ?_
  · unfold PS
    iintro ⟨H, Hs0, Hs1, Hp0, Hp1, Ha0, Ha1⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine seq c E (keep c E (softmax_st c E q2 q3 arg2 arg3 arg5 arg6 arg10 arg11 arg12 K V (qArr X) mArr aArr arg14 arg16 harg16 arg18 id ![119] inb_S136_S1_119 119 118 rfl (gate_id _ (by decide)))
    (S := iprop(some (F := F) c arg13 ∗ pt c arg15 fullShare (itemP K (qArr X) mArr 118) ∗ pt c arg17 fullShare (itemL K (qArr X) mArr 118)))
    (P' := iprop(St (F := F) c q2 q3 arg2 arg3 arg5 arg6 arg10 arg11 arg12 K V (qArr X) mArr aArr 119 118 ∗ some (F := F) c arg13 ∗ pt c arg14 fullShare (itemS K (qArr X) 119) ∗ pt c arg15 fullShare (itemP K (qArr X) mArr 118) ∗ some (F := F) c arg16 ∗ pt c arg17 fullShare (itemL K (qArr X) mArr 118) ∗ some (F := F) c arg18)) (R' := iprop(St (F := F) c q2 q3 arg2 arg3 arg5 arg6 arg10 arg11 arg12 K V (qArr X) mArr aArr 120 118 ∗ some (F := F) c arg13 ∗ pt c arg14 fullShare (itemS K (qArr X) 119) ∗ pt c arg15 fullShare (itemP K (qArr X) mArr 118) ∗ pt c arg16 fullShare (itemP K (qArr X) mArr 119) ∗ pt c arg17 fullShare (itemL K (qArr X) mArr 118) ∗ pt c arg18 fullShare (itemL K (qArr X) mArr 119))) ?_ ?_) fun _ => ?_
  · iintro ⟨H, Hs0, Hs1, Hp0, Hp1, Ha0, Ha1⟩
    isplitl [H Hs1 Hp1 Ha1]
    · isplitl [H]; · iexact H
      isplitl [Hs1]; · iexact Hs1
      isplitl [Hp1]; · iexact Hp1
      iexact Ha1
    · isplitl [Hs0]; · iexact Hs0
      isplitl [Hp0]; · iexact Hp0
      iexact Ha0
  · iintro ⟨⟨H, Hs1, Hp1, Ha1⟩, Hs0, Hp0, Ha0⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine seq c E (keep c E (values_st c E q2 q3 arg2 arg3 arg5 arg6 arg10 arg11 arg12 K V (qArr X) mArr aArr arg15 arg17 ![118] inb_S136_S1_118 120 118 rfl)
    (S := iprop(some (F := F) c arg13 ∗ pt c arg14 fullShare (itemS K (qArr X) 119) ∗ pt c arg16 fullShare (itemP K (qArr X) mArr 119) ∗ pt c arg18 fullShare (itemL K (qArr X) mArr 119)))
    (P' := iprop(St (F := F) c q2 q3 arg2 arg3 arg5 arg6 arg10 arg11 arg12 K V (qArr X) mArr aArr 120 118 ∗ some (F := F) c arg13 ∗ pt c arg14 fullShare (itemS K (qArr X) 119) ∗ pt c arg15 fullShare (itemP K (qArr X) mArr 118) ∗ pt c arg16 fullShare (itemP K (qArr X) mArr 119) ∗ pt c arg17 fullShare (itemL K (qArr X) mArr 118) ∗ pt c arg18 fullShare (itemL K (qArr X) mArr 119))) (R' := iprop(St (F := F) c q2 q3 arg2 arg3 arg5 arg6 arg10 arg11 arg12 K V (qArr X) mArr aArr 120 119 ∗ some (F := F) c arg13 ∗ pt c arg14 fullShare (itemS K (qArr X) 119) ∗ pt c arg15 fullShare (itemP K (qArr X) mArr 118) ∗ pt c arg16 fullShare (itemP K (qArr X) mArr 119) ∗ pt c arg17 fullShare (itemL K (qArr X) mArr 118) ∗ pt c arg18 fullShare (itemL K (qArr X) mArr 119))) ?_ ?_) fun _ => ?_
  · iintro ⟨H, Hs0, Hs1, Hp0, Hp1, Ha0, Ha1⟩
    isplitl [H Hp0 Ha0]
    · isplitl [H]; · iexact H
      isplitl [Hp0]; · iexact Hp0
      iexact Ha0
    · isplitl [Hs0]; · iexact Hs0
      isplitl [Hs1]; · iexact Hs1
      isplitl [Hp1]; · iexact Hp1
      iexact Ha1
  · iintro ⟨⟨H, Hp0, Ha0⟩, Hs0, Hs1, Hp1, Ha1⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine seq c E (keep c E (values_st c E q2 q3 arg2 arg3 arg5 arg6 arg10 arg11 arg12 K V (qArr X) mArr aArr arg16 arg18 ![119] inb_S136_S1_119 120 119 rfl)
    (S := iprop(some (F := F) c arg13 ∗ pt c arg14 fullShare (itemS K (qArr X) 119) ∗ pt c arg15 fullShare (itemP K (qArr X) mArr 118) ∗ pt c arg17 fullShare (itemL K (qArr X) mArr 118)))
    (P' := iprop(St (F := F) c q2 q3 arg2 arg3 arg5 arg6 arg10 arg11 arg12 K V (qArr X) mArr aArr 120 119 ∗ some (F := F) c arg13 ∗ pt c arg14 fullShare (itemS K (qArr X) 119) ∗ pt c arg15 fullShare (itemP K (qArr X) mArr 118) ∗ pt c arg16 fullShare (itemP K (qArr X) mArr 119) ∗ pt c arg17 fullShare (itemL K (qArr X) mArr 118) ∗ pt c arg18 fullShare (itemL K (qArr X) mArr 119))) (R' := iprop(St (F := F) c q2 q3 arg2 arg3 arg5 arg6 arg10 arg11 arg12 K V (qArr X) mArr aArr 120 120 ∗ some (F := F) c arg13 ∗ pt c arg14 fullShare (itemS K (qArr X) 119) ∗ pt c arg15 fullShare (itemP K (qArr X) mArr 118) ∗ pt c arg16 fullShare (itemP K (qArr X) mArr 119) ∗ pt c arg17 fullShare (itemL K (qArr X) mArr 118) ∗ pt c arg18 fullShare (itemL K (qArr X) mArr 119))) ?_ ?_) fun _ => ?_
  · iintro ⟨H, Hs0, Hs1, Hp0, Hp1, Ha0, Ha1⟩
    isplitl [H Hp1 Ha1]
    · isplitl [H]; · iexact H
      isplitl [Hp1]; · iexact Hp1
      iexact Ha1
    · isplitl [Hs0]; · iexact Hs0
      isplitl [Hs1]; · iexact Hs1
      isplitl [Hp0]; · iexact Hp0
      iexact Ha0
  · iintro ⟨⟨H, Hp1, Ha1⟩, Hs0, Hs1, Hp0, Ha0⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine BIBase.Entails.trans ?_ h
  iintro ⟨H, Hs0, Hs1, Hp0, Hp1, Ha0, Ha1⟩
  isplitl [H]; · iexact H
  isplitl [Hs0]; · iexact Hs0
  isplitl [Hs1]; · iapply to_some $$ Hs1
  isplitl [Hp0]; · iapply to_some $$ Hp0
  isplitl [Hp1]; · iapply to_some $$ Hp1
  isplitl [Ha0]; · iapply to_some $$ Ha0
  iapply to_some $$ Ha1

/-- The masked items drain. -/
theorem epi2 {β : Type} {kk : PUnit.{1} → KProg F β} {Φ : β → sProp 𝕄}
    (h : iprop(St (F := F) c q2 q3 arg2 arg3 arg5 arg6 arg10 arg11 arg12 K V (qArr X) mArr aArr 136 136 ∗ some (F := F) c arg13 ∗ some (F := F) c arg14 ∗ some (F := F) c arg15 ∗ some (F := F) c arg16 ∗ some (F := F) c arg17 ∗ some (F := F) c arg18) ⊢ wp frame (wpE (defs₀ (F := F)) Variants.none (c : Thread nD τ) none) E (kk ⟨⟩) Φ) :
    PS (F := F) c q2 q3 arg2 arg3 arg5 arg6 arg10 arg11 arg12 K V (qArr X) mArr aArr 134 arg13 arg14 arg15 arg16 arg17 arg18 ⊢ wp frame (wpE (defs₀ (F := F)) Variants.none (c : Thread nD τ) none) E (do
      softmax masked arg2 arg11 arg14 arg16 harg16 arg18 ![135] inb_S136_S1_135
      values arg2 arg3 arg6 arg12 arg15 arg17 ![134] inb_S136_S1_134
      values arg2 arg3 arg6 arg12 arg16 arg18 ![135] inb_S136_S1_135
      kk ⟨⟩ : KProg F β) Φ := by
  refine BIBase.Entails.trans (Q := iprop(St (F := F) c q2 q3 arg2 arg3 arg5 arg6 arg10 arg11 arg12 K V (qArr X) mArr aArr 135 134 ∗ some (F := F) c arg13 ∗ pt c arg14 fullShare (itemS K (qArr X) 135) ∗ pt c arg15 fullShare (itemP K (qArr X) mArr 134) ∗ some (F := F) c arg16 ∗ pt c arg17 fullShare (itemL K (qArr X) mArr 134) ∗ some (F := F) c arg18)) ?_ ?_
  · unfold PS
    iintro ⟨H, Hs0, Hs1, Hp0, Hp1, Ha0, Ha1⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine seq c E (keep c E (softmax_st c E q2 q3 arg2 arg3 arg5 arg6 arg10 arg11 arg12 K V (qArr X) mArr aArr arg14 arg16 harg16 arg18 masked ![135] inb_S136_S1_135 135 134 rfl (gate_masked _ (by decide)))
    (S := iprop(some (F := F) c arg13 ∗ pt c arg15 fullShare (itemP K (qArr X) mArr 134) ∗ pt c arg17 fullShare (itemL K (qArr X) mArr 134)))
    (P' := iprop(St (F := F) c q2 q3 arg2 arg3 arg5 arg6 arg10 arg11 arg12 K V (qArr X) mArr aArr 135 134 ∗ some (F := F) c arg13 ∗ pt c arg14 fullShare (itemS K (qArr X) 135) ∗ pt c arg15 fullShare (itemP K (qArr X) mArr 134) ∗ some (F := F) c arg16 ∗ pt c arg17 fullShare (itemL K (qArr X) mArr 134) ∗ some (F := F) c arg18)) (R' := iprop(St (F := F) c q2 q3 arg2 arg3 arg5 arg6 arg10 arg11 arg12 K V (qArr X) mArr aArr 136 134 ∗ some (F := F) c arg13 ∗ pt c arg14 fullShare (itemS K (qArr X) 135) ∗ pt c arg15 fullShare (itemP K (qArr X) mArr 134) ∗ pt c arg16 fullShare (itemP K (qArr X) mArr 135) ∗ pt c arg17 fullShare (itemL K (qArr X) mArr 134) ∗ pt c arg18 fullShare (itemL K (qArr X) mArr 135))) ?_ ?_) fun _ => ?_
  · iintro ⟨H, Hs0, Hs1, Hp0, Hp1, Ha0, Ha1⟩
    isplitl [H Hs1 Hp1 Ha1]
    · isplitl [H]; · iexact H
      isplitl [Hs1]; · iexact Hs1
      isplitl [Hp1]; · iexact Hp1
      iexact Ha1
    · isplitl [Hs0]; · iexact Hs0
      isplitl [Hp0]; · iexact Hp0
      iexact Ha0
  · iintro ⟨⟨H, Hs1, Hp1, Ha1⟩, Hs0, Hp0, Ha0⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine seq c E (keep c E (values_st c E q2 q3 arg2 arg3 arg5 arg6 arg10 arg11 arg12 K V (qArr X) mArr aArr arg15 arg17 ![134] inb_S136_S1_134 136 134 rfl)
    (S := iprop(some (F := F) c arg13 ∗ pt c arg14 fullShare (itemS K (qArr X) 135) ∗ pt c arg16 fullShare (itemP K (qArr X) mArr 135) ∗ pt c arg18 fullShare (itemL K (qArr X) mArr 135)))
    (P' := iprop(St (F := F) c q2 q3 arg2 arg3 arg5 arg6 arg10 arg11 arg12 K V (qArr X) mArr aArr 136 134 ∗ some (F := F) c arg13 ∗ pt c arg14 fullShare (itemS K (qArr X) 135) ∗ pt c arg15 fullShare (itemP K (qArr X) mArr 134) ∗ pt c arg16 fullShare (itemP K (qArr X) mArr 135) ∗ pt c arg17 fullShare (itemL K (qArr X) mArr 134) ∗ pt c arg18 fullShare (itemL K (qArr X) mArr 135))) (R' := iprop(St (F := F) c q2 q3 arg2 arg3 arg5 arg6 arg10 arg11 arg12 K V (qArr X) mArr aArr 136 135 ∗ some (F := F) c arg13 ∗ pt c arg14 fullShare (itemS K (qArr X) 135) ∗ pt c arg15 fullShare (itemP K (qArr X) mArr 134) ∗ pt c arg16 fullShare (itemP K (qArr X) mArr 135) ∗ pt c arg17 fullShare (itemL K (qArr X) mArr 134) ∗ pt c arg18 fullShare (itemL K (qArr X) mArr 135))) ?_ ?_) fun _ => ?_
  · iintro ⟨H, Hs0, Hs1, Hp0, Hp1, Ha0, Ha1⟩
    isplitl [H Hp0 Ha0]
    · isplitl [H]; · iexact H
      isplitl [Hp0]; · iexact Hp0
      iexact Ha0
    · isplitl [Hs0]; · iexact Hs0
      isplitl [Hs1]; · iexact Hs1
      isplitl [Hp1]; · iexact Hp1
      iexact Ha1
  · iintro ⟨⟨H, Hp0, Ha0⟩, Hs0, Hs1, Hp1, Ha1⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine seq c E (keep c E (values_st c E q2 q3 arg2 arg3 arg5 arg6 arg10 arg11 arg12 K V (qArr X) mArr aArr arg16 arg18 ![135] inb_S136_S1_135 136 135 rfl)
    (S := iprop(some (F := F) c arg13 ∗ pt c arg14 fullShare (itemS K (qArr X) 135) ∗ pt c arg15 fullShare (itemP K (qArr X) mArr 134) ∗ pt c arg17 fullShare (itemL K (qArr X) mArr 134)))
    (P' := iprop(St (F := F) c q2 q3 arg2 arg3 arg5 arg6 arg10 arg11 arg12 K V (qArr X) mArr aArr 136 135 ∗ some (F := F) c arg13 ∗ pt c arg14 fullShare (itemS K (qArr X) 135) ∗ pt c arg15 fullShare (itemP K (qArr X) mArr 134) ∗ pt c arg16 fullShare (itemP K (qArr X) mArr 135) ∗ pt c arg17 fullShare (itemL K (qArr X) mArr 134) ∗ pt c arg18 fullShare (itemL K (qArr X) mArr 135))) (R' := iprop(St (F := F) c q2 q3 arg2 arg3 arg5 arg6 arg10 arg11 arg12 K V (qArr X) mArr aArr 136 136 ∗ some (F := F) c arg13 ∗ pt c arg14 fullShare (itemS K (qArr X) 135) ∗ pt c arg15 fullShare (itemP K (qArr X) mArr 134) ∗ pt c arg16 fullShare (itemP K (qArr X) mArr 135) ∗ pt c arg17 fullShare (itemL K (qArr X) mArr 134) ∗ pt c arg18 fullShare (itemL K (qArr X) mArr 135))) ?_ ?_) fun _ => ?_
  · iintro ⟨H, Hs0, Hs1, Hp0, Hp1, Ha0, Ha1⟩
    isplitl [H Hp1 Ha1]
    · isplitl [H]; · iexact H
      isplitl [Hp1]; · iexact Hp1
      iexact Ha1
    · isplitl [Hs0]; · iexact Hs0
      isplitl [Hs1]; · iexact Hs1
      isplitl [Hp0]; · iexact Hp0
      iexact Ha0
  · iintro ⟨⟨H, Hp1, Ha1⟩, Hs0, Hs1, Hp0, Ha0⟩
    isplitl [H]; · iexact H
    isplitl [Hs0]; · iexact Hs0
    isplitl [Hs1]; · iexact Hs1
    isplitl [Hp0]; · iexact Hp0
    isplitl [Hp1]; · iexact Hp1
    isplitl [Ha0]; · iexact Ha0
    iexact Ha1
  refine BIBase.Entails.trans ?_ h
  iintro ⟨H, Hs0, Hs1, Hp0, Hp1, Ha0, Ha1⟩
  isplitl [H]; · iexact H
  isplitl [Hs0]; · iexact Hs0
  isplitl [Hs1]; · iapply to_some $$ Hs1
  isplitl [Hp0]; · iapply to_some $$ Hp0
  isplitl [Hp1]; · iapply to_some $$ Hp1
  isplitl [Ha0]; · iapply to_some $$ Ha0
  iapply to_some $$ Ha1

/-- The program of all the items, before a continuation. -/
def midK {β : Type} (kk : PUnit.{1} → KProg F β) : KProg F β := do
  scores arg2 arg3 arg5 arg10 arg13 ![0] inb_S136_S1_0
  scores arg2 arg3 arg5 arg10 arg14 ![1] inb_S136_S1_1
  softmax id arg2 arg11 arg13 arg15 harg15 arg17 ![0] inb_S136_S1_0
  Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 onesPay 0#32)
  tick id arg2 arg3 arg5 arg6 arg10 arg11 arg12 arg13 arg14 arg15 arg16 harg16 arg17 arg18 ![114] ![113] ![112] inb_S136_S1_114 inb_S136_S1_113 inb_S136_S1_112
  tick id arg2 arg3 arg5 arg6 arg10 arg11 arg12 arg14 arg13 arg16 arg15 harg15 arg18 arg17 ![115] ![114] ![113] inb_S136_S1_115 inb_S136_S1_114 inb_S136_S1_113
  tick id arg2 arg3 arg5 arg6 arg10 arg11 arg12 arg13 arg14 arg15 arg16 harg16 arg17 arg18 ![116] ![115] ![114] inb_S136_S1_116 inb_S136_S1_115 inb_S136_S1_114
  tick id arg2 arg3 arg5 arg6 arg10 arg11 arg12 arg14 arg13 arg16 arg15 harg15 arg18 arg17 ![117] ![116] ![115] inb_S136_S1_117 inb_S136_S1_116 inb_S136_S1_115
  tick id arg2 arg3 arg5 arg6 arg10 arg11 arg12 arg13 arg14 arg15 arg16 harg16 arg17 arg18 ![118] ![117] ![116] inb_S136_S1_118 inb_S136_S1_117 inb_S136_S1_116
  tick id arg2 arg3 arg5 arg6 arg10 arg11 arg12 arg14 arg13 arg16 arg15 harg15 arg18 arg17 ![119] ![118] ![117] inb_S136_S1_119 inb_S136_S1_118 inb_S136_S1_117
  softmax id arg2 arg11 arg14 arg16 harg16 arg18 ![119] inb_S136_S1_119
  values arg2 arg3 arg6 arg12 arg15 arg17 ![118] inb_S136_S1_118
  values arg2 arg3 arg6 arg12 arg16 arg18 ![119] inb_S136_S1_119
  scores arg2 arg3 arg5 arg10 arg13 ![120] inb_S136_S1_120
  scores arg2 arg3 arg5 arg10 arg14 ![121] inb_S136_S1_121
  softmax masked arg2 arg11 arg13 arg15 harg15 arg17 ![120] inb_S136_S1_120
  Scf.Loop.for k0_t3_loop k0_t3_ok ⟨⟩ (fun t _ => ticks3 arg2 arg3 arg5 arg6 arg10 arg11 arg12 arg13 arg14 arg15 harg15 arg16 harg16 arg17 arg18 t)
  tick masked arg2 arg3 arg5 arg6 arg10 arg11 arg12 arg13 arg14 arg15 arg16 harg16 arg17 arg18 ![134] ![133] ![132] inb_S136_S1_134 inb_S136_S1_133 inb_S136_S1_132
  tick masked arg2 arg3 arg5 arg6 arg10 arg11 arg12 arg14 arg13 arg16 arg15 harg15 arg18 arg17 ![135] ![134] ![133] inb_S136_S1_135 inb_S136_S1_134 inb_S136_S1_133
  softmax masked arg2 arg11 arg14 arg16 harg16 arg18 ![135] inb_S136_S1_135
  values arg2 arg3 arg6 arg12 arg15 arg17 ![134] inb_S136_S1_134
  values arg2 arg3 arg6 arg12 arg16 arg18 ![135] inb_S136_S1_135
  kk ⟨⟩

/-- All the items. -/
theorem mid_run {β : Type} {kk : PUnit.{1} → KProg F β} {Φ : β → sProp 𝕄}
    (h : iprop(St (F := F) c q2 q3 arg2 arg3 arg5 arg6 arg10 arg11 arg12 K V (qArr X) mArr aArr 136 136 ∗ some (F := F) c arg13 ∗ some (F := F) c arg14 ∗ some (F := F) c arg15 ∗ some (F := F) c arg16 ∗ some (F := F) c arg17 ∗ some (F := F) c arg18) ⊢ wp frame (wpE (defs₀ (F := F)) Variants.none (c : Thread nD τ) none) E (kk ⟨⟩) Φ) :
    iprop(St (F := F) c q2 q3 arg2 arg3 arg5 arg6 arg10 arg11 arg12 K V (qArr X) mArr aArr 0 0 ∗ some (F := F) c arg13 ∗ some (F := F) c arg14 ∗ some (F := F) c arg15 ∗ some (F := F) c arg16 ∗ some (F := F) c arg17 ∗ some (F := F) c arg18) ⊢ wp frame (wpE (defs₀ (F := F)) Variants.none (c : Thread nD τ) none) E (midK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kk) Φ := by
  unfold midK
  refine pro1 (kk := fun _ => _) c E q2 q3 arg2 arg3 arg5 arg6 arg10 arg11 arg12 arg13 arg14 arg15 harg15 arg16 arg17 arg18 X K V ?_
  refine seq c E (loop2_run c E q2 q3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 K V (qArr X) mArr aArr) fun _ => ?_
  refine seq c E (tick_run c E q2 q3 arg2 arg3 arg5 arg6 arg10 arg11 arg12 K V (qArr X) mArr aArr id arg13 arg14 arg15 arg16 harg16 arg17 arg18 _ _ _ inb_S136_S1_114 inb_S136_S1_113 inb_S136_S1_112 112 rfl rfl rfl (gate_id _ (by decide))) fun _ => ?_
  refine seq c E (tick_run c E q2 q3 arg2 arg3 arg5 arg6 arg10 arg11 arg12 K V (qArr X) mArr aArr id arg14 arg13 arg16 arg15 harg15 arg18 arg17 _ _ _ inb_S136_S1_115 inb_S136_S1_114 inb_S136_S1_113 113 rfl rfl rfl (gate_id _ (by decide))) fun _ => ?_
  refine seq c E (tick_run c E q2 q3 arg2 arg3 arg5 arg6 arg10 arg11 arg12 K V (qArr X) mArr aArr id arg13 arg14 arg15 arg16 harg16 arg17 arg18 _ _ _ inb_S136_S1_116 inb_S136_S1_115 inb_S136_S1_114 114 rfl rfl rfl (gate_id _ (by decide))) fun _ => ?_
  refine seq c E (tick_run c E q2 q3 arg2 arg3 arg5 arg6 arg10 arg11 arg12 K V (qArr X) mArr aArr id arg14 arg13 arg16 arg15 harg15 arg18 arg17 _ _ _ inb_S136_S1_117 inb_S136_S1_116 inb_S136_S1_115 115 rfl rfl rfl (gate_id _ (by decide))) fun _ => ?_
  refine seq c E (tick_run c E q2 q3 arg2 arg3 arg5 arg6 arg10 arg11 arg12 K V (qArr X) mArr aArr id arg13 arg14 arg15 arg16 harg16 arg17 arg18 _ _ _ inb_S136_S1_118 inb_S136_S1_117 inb_S136_S1_116 116 rfl rfl rfl (gate_id _ (by decide))) fun _ => ?_
  refine seq c E (tick_run c E q2 q3 arg2 arg3 arg5 arg6 arg10 arg11 arg12 K V (qArr X) mArr aArr id arg14 arg13 arg16 arg15 harg15 arg18 arg17 _ _ _ inb_S136_S1_119 inb_S136_S1_118 inb_S136_S1_117 117 rfl rfl rfl (gate_id _ (by decide))) fun _ => ?_
  refine epi1 (kk := fun _ => _) c E q2 q3 arg2 arg3 arg5 arg6 arg10 arg11 arg12 arg13 arg14 arg15 arg16 harg16 arg17 arg18 X K V ?_
  refine pro2 (kk := fun _ => _) c E q2 q3 arg2 arg3 arg5 arg6 arg10 arg11 arg12 arg13 arg14 arg15 harg15 arg16 arg17 arg18 X K V ?_
  refine seq c E (loop3_run c E q2 q3 arg2 arg3 arg5 arg6 arg10 arg11 arg12 arg13 arg14 arg15 harg15 arg16 harg16 arg17 arg18 K V (qArr X) mArr aArr) fun _ => ?_
  refine seq c E (tick_run c E q2 q3 arg2 arg3 arg5 arg6 arg10 arg11 arg12 K V (qArr X) mArr aArr masked arg13 arg14 arg15 arg16 harg16 arg17 arg18 _ _ _ inb_S136_S1_134 inb_S136_S1_133 inb_S136_S1_132 132 rfl rfl rfl (gate_masked _ (by decide))) fun _ => ?_
  refine seq c E (tick_run c E q2 q3 arg2 arg3 arg5 arg6 arg10 arg11 arg12 K V (qArr X) mArr aArr masked arg14 arg13 arg16 arg15 harg15 arg18 arg17 _ _ _ inb_S136_S1_135 inb_S136_S1_134 inb_S136_S1_133 133 rfl rfl rfl (gate_masked _ (by decide))) fun _ => ?_
  refine epi2 (kk := fun _ => _) c E q2 q3 arg2 arg3 arg5 arg6 arg10 arg11 arg12 arg13 arg14 arg15 arg16 harg16 arg17 arg18 X K V ?_
  exact h

theorem midK_bind (kk : PUnit.{1} → KProg F PUnit.{1}) : midK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kk = (midK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun _ => pure ⟨⟩) >>= kk) := by
  unfold midK
  simp only [bind_assoc, pure_bind]

end Run

end Cert.Proof.KernelIdeal

end
-- ==== Proof.Body.lean ====
/- The body's triple. -/
module

public import proofs.«01_k».proof.Proof.Run

@[expose] public section

set_option maxRecDepth 8192
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Run

variable (c : Dev nD) (E : Set ℕ) (q2 q3 : PosShare TreeShare) (i : grid0.Coords) (arg2 : Memref sig .tc .smem S136 .i32) (harg2 : arg2.IsWhole) (arg3 : Memref sig .tc .smem S136 .i32) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S16x512x128 .bf16) (harg10 : arg10.IsWhole) (arg11 : Memref sig .tc .vmem S16x512x128 .f32) (harg11 : arg11.IsWhole) (arg12 : Memref sig .tc .vmem S16x512x256 .f32) (harg12 : arg12.IsWhole) (arg13 : Memref sig .tc .vmem S512x256 .f32) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S512x128 .f32) (harg17 : arg17.IsWhole) (arg18 : Memref sig .tc .vmem S512x128 .f32) (harg18 : arg18.IsWhole)
  (X K V : S1x4096x128.Idx → Elt F .bf16) (L : S4x64.Idx → Elt F .f32) (W : S1x128.Idx → Elt F .f32)

set_option maxHeartbeats 400000 in
theorem midProg_run : iprop(St (F := F) c q2 q3 arg2 arg3 arg5 arg6 arg10 arg11 arg12 K V (qArr X) mArr aArr 0 0 ∗ some (F := F) c arg13 ∗ some (F := F) c arg14 ∗ some (F := F) c arg15 ∗ some (F := F) c arg16 ∗ some (F := F) c arg17 ∗ some (F := F) c arg18) ⊢ wp frame (wpE (defs₀ (F := F)) Variants.none (c : Thread nD τ) none) E (midK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun _ => pure (PUnit.unit : PUnit.{1})))
    (fun _ => iprop(St (F := F) c q2 q3 arg2 arg3 arg5 arg6 arg10 arg11 arg12 K V (qArr X) mArr aArr 136 136 ∗ some (F := F) c arg13 ∗ some (F := F) c arg14 ∗ some (F := F) c arg15 ∗ some (F := F) c arg16 ∗ some (F := F) c arg17 ∗ some (F := F) c arg18)) := by
  apply mid_run
  iintro H
  rw [wp_pure]
  iexact H

/-- The two small loads before the last loop. -/
theorem loads_run {kk : Vec F S4x64 .f32 → Vec F S1x128 .f32 → KProg F PUnit.{1}} {Φ : PUnit.{1} → sProp 𝕄} (c : Dev nD) (E : Set ℕ)
    (arg7 : Memref sig .tc .vmem S4x64 .f32) (arg8 : Memref sig .tc .vmem S1x128 .f32) (L : S4x64.Idx → Elt F .f32) (W : S1x128.Idx → Elt F .f32) :
    iprop(pt c arg7 fullShare L ∗ pt c arg8 fullShare W ∗ (iprop(pt c arg7 fullShare L ∗ pt c arg8 fullShare W) -∗ wp frame (wpE (defs₀ (F := F)) Variants.none (c : Thread nD τ) none) E (kk L W) Φ)) ⊢ wp frame (wpE (defs₀ (F := F)) Variants.none (c : Thread nD τ) none) E (do
      let lam : Vec F S4x64 .f32 ← Prog.lift (.load arg7 (Rect.unit (s := S4x64) ![0, 0] S4x64.size inb_S4x64_S4x64_0_0).toLoadRect (View.loadsAt_vmem h_S4x64))
      let sw : Vec F S1x128 .f32 ← Prog.lift (.load arg8 (Rect.unit (s := S1x128) ![0, 0] S1x128.size inb_S1x128_S1x128_0_0).toLoadRect (View.loadsAt_vmem h_S1x128))
      kk lam sw : KProg F PUnit) Φ := by
  iintro ⟨H7, H8, HK⟩
  sl_exec
  rw [View.readAt_rep_full, View.readAt_rep_full]
  iapply HK
  isplitl [H7]; · iexact H7
  iexact H8

/-- The body around the program of the items. -/
theorem body_eq_mid : cc0_diff_flash_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (do
    Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
    midK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun _ => do
      let lam : Vec F S4x64 .f32 ← Prog.lift (.load arg7 (Rect.unit (s := S4x64) ![0, 0] S4x64.size inb_S4x64_S4x64_0_0).toLoadRect (View.loadsAt_vmem h_S4x64))
      let sw : Vec F S1x128 .f32 ← Prog.lift (.load arg8 (Rect.unit (s := S1x128) ![0, 0] S1x128.size inb_S1x128_S1x128_0_0).toLoadRect (View.loadsAt_vmem h_S1x128))
      Scf.Loop.for k0_t4_loop k0_t4_ok ⟨⟩ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay311 lam) (k0_pay312 sw))
      pure ⟨⟩) : KProg F PUnit) := by
  rw [body_eq]
  unfold midK
  dsimp only

/-- The body, from the blocks it reads to the block it writes. -/
theorem body_run_at (O : S1x4096x128.Idx → Elt F .bf16) (Q0 : S16x512x128.Idx → Elt F .bf16) (M : S16x512x128.Idx → Elt F .f32) (A : S16x512x256.Idx → Elt F .f32) :
    iprop(pt c arg2 q2 tab2 ∗ pt c arg3 q3 tab3 ∗ pt c arg4 fullShare X ∗ pt c arg5 fullShare K ∗ pt c arg6 fullShare V ∗ pt c arg7 fullShare L ∗ pt c arg8 fullShare W
      ∗ pt c arg9 fullShare O ∗ pt c arg10 fullShare Q0 ∗ pt c arg11 fullShare M ∗ pt c arg12 fullShare A ∗ some (F := F) c arg13 ∗ some (F := F) c arg14 ∗ some (F := F) c arg15 ∗ some (F := F) c arg16 ∗ some (F := F) c arg17 ∗ some (F := F) c arg18)
      ⊢ wp frame (wpE (defs₀ (F := F)) Variants.none (c : Thread nD τ) none) E (cc0_diff_flash_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop(pt c arg2 q2 tab2 ∗ pt c arg3 q3 tab3 ∗ pt c arg4 fullShare X ∗ pt c arg5 fullShare K ∗ pt c arg6 fullShare V ∗ pt c arg7 fullShare L ∗ pt c arg8 fullShare W
          ∗ pt c arg9 fullShare (outBlock X K V L W) ∗ some (F := F) c arg10 ∗ some (F := F) c arg11 ∗ some (F := F) c arg12 ∗ some (F := F) c arg13 ∗ some (F := F) c arg14 ∗ some (F := F) c arg15 ∗ some (F := F) c arg16 ∗ some (F := F) c arg17 ∗ some (F := F) c arg18)) := by
  rw [body_eq_mid]
  refine seq c E (keep c E (split_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X Q0 M A)
    (S := iprop(pt c arg2 q2 tab2 ∗ pt c arg3 q3 tab3 ∗ pt c arg5 fullShare K ∗ pt c arg6 fullShare V ∗ pt c arg7 fullShare L ∗ pt c arg8 fullShare W ∗ pt c arg9 fullShare O ∗ some (F := F) c arg13 ∗ some (F := F) c arg14 ∗ some (F := F) c arg15 ∗ some (F := F) c arg16 ∗ some (F := F) c arg17 ∗ some (F := F) c arg18)) ?_ .rfl) fun _ => ?_
  · iintro ⟨H2, H3, H4, H5, H6, H7, H8, H9, H10, H11, H12, H13⟩
    isplitl [H4 H10 H11 H12]
    · isplitl [H4]; · iexact H4
      isplitl [H10]; · iexact H10
      isplitl [H11]; · iexact H11
      iexact H12
    · isplitl [H2]; · iexact H2
      isplitl [H3]; · iexact H3
      isplitl [H5]; · iexact H5
      isplitl [H6]; · iexact H6
      isplitl [H7]; · iexact H7
      isplitl [H8]; · iexact H8
      isplitl [H9]; · iexact H9
      iexact H13
  rw [splitQ_all, clearM_all, clearA_all, midK_bind]
  refine seq c E (keep c E (midProg_run c E q2 q3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X K V)
    (S := iprop(pt c arg4 fullShare X ∗ pt c arg7 fullShare L ∗ pt c arg8 fullShare W ∗ pt c arg9 fullShare O)) ?_ .rfl) fun _ => ?_
  · unfold St
    iintro ⟨⟨H4, H10, H11, H12⟩, H2, H3, H5, H6, H7, H8, H9, H13⟩
    isplitl [H2 H3 H5 H6 H10 H11 H12 H13]
    · isplitl [H2 H3 H5 H6 H10 H11 H12]
      · isplitl [H2]; · iexact H2
        isplitl [H3]; · iexact H3
        isplitl [H5]; · iexact H5
        isplitl [H6]; · iexact H6
        isplitl [H10]; · iexact H10
        isplitl [H11]; · iexact H11
        iexact H12
      · iexact H13
    · isplitl [H4]; · iexact H4
      isplitl [H7]; · iexact H7
      isplitl [H8]; · iexact H8
      iexact H9
  unfold St
  iintro ⟨⟨⟨H2, H3, H5, H6, H10, H11, H12⟩, H13⟩, H4, H7, H8, H9⟩
  iapply (loads_run c E arg7 arg8 L W (kk := fun lam sw => do
      Scf.Loop.for k0_t4_loop k0_t4_ok ⟨⟩ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay311 lam) (k0_pay312 sw))
      pure ⟨⟩))
  isplitl [H7]; · iexact H7
  isplitl [H8]; · iexact H8
  iintro ⟨H7, H8⟩
  rw [wp_bind]
  iapply (wp_wand_r frame (wpE (defs₀ (F := F)) Variants.none (c : Thread nD τ) none) E)
  isplitl [H12 H9]
  · iapply (out_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ (itemA K V (qArr X) mArr aArr 136) O)
    isplitl [H12]; · iexact H12
    iexact H9
  · iintro %_ ⟨H12, H9⟩
    rw [wp_pure]
    imodintro
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · rw [outO_all]
      iexact H9
    isplitl [H10]; · iapply to_some $$ H10
    isplitl [H11]; · iapply to_some $$ H11
    isplitl [H12]; · iapply to_some $$ H12
    iexact H13

/-- The body, over owned blocks and whatever the working buffers hold. -/
theorem body_owns (O : S1x4096x128.Idx → Elt F .bf16) :
    iprop((pt c arg2 q2 tab2 ∗ pt c arg3 q3 tab3 ∗ owns (c : Thread nD τ) arg4 fullShare X ∗ owns (c : Thread nD τ) arg5 fullShare K ∗ owns (c : Thread nD τ) arg6 fullShare V ∗ owns (c : Thread nD τ) arg7 fullShare L ∗ owns (c : Thread nD τ) arg8 fullShare W) ∗ owns (c : Thread nD τ) arg9 fullShare O ∗ some (F := F) c arg10 ∗ some (F := F) c arg11 ∗ some (F := F) c arg12 ∗ some (F := F) c arg13 ∗ some (F := F) c arg14 ∗ some (F := F) c arg15 ∗ some (F := F) c arg16 ∗ some (F := F) c arg17 ∗ some (F := F) c arg18)
      ⊢ wp frame (wpE (defs₀ (F := F)) Variants.none (c : Thread nD τ) none) E (cc0_diff_flash_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop((pt c arg2 q2 tab2 ∗ pt c arg3 q3 tab3 ∗ owns (c : Thread nD τ) arg4 fullShare X ∗ owns (c : Thread nD τ) arg5 fullShare K ∗ owns (c : Thread nD τ) arg6 fullShare V ∗ owns (c : Thread nD τ) arg7 fullShare L ∗ owns (c : Thread nD τ) arg8 fullShare W) ∗ owns (c : Thread nD τ) arg9 fullShare (outBlock X K V L W) ∗ some (F := F) c arg10 ∗ some (F := F) c arg11 ∗ some (F := F) c arg12 ∗ some (F := F) c arg13 ∗ some (F := F) c arg14 ∗ some (F := F) c arg15 ∗ some (F := F) c arg16 ∗ some (F := F) c arg17 ∗ some (F := F) c arg18)) := by
  simp only [owns_eq_rep]
  iintro ⟨⟨H2, H3, H4, H5, H6, H7, H8⟩, H9, S0, S1, S2, S⟩
  ihave S0 := (show some (F := F) c arg10 ⊢ iprop(∃ x, pt c arg10 fullShare x) from .rfl) $$ S0
  ihave S1 := (show some (F := F) c arg11 ⊢ iprop(∃ x, pt c arg11 fullShare x) from .rfl) $$ S1
  ihave S2 := (show some (F := F) c arg12 ⊢ iprop(∃ x, pt c arg12 fullShare x) from .rfl) $$ S2
  icases S0 with ⟨%Q0, S0⟩
  icases S1 with ⟨%M, S1⟩
  icases S2 with ⟨%A, S2⟩
  iapply (wp_wand_r frame (wpE (defs₀ (F := F)) Variants.none (c : Thread nD τ) none) E)
  isplitl [H2 H3 H4 H5 H6 H7 H8 H9 S0 S1 S2 S]
  · iapply (body_run_at c E q2 q3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X K V L W O Q0 M A)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iexact S
  · iintro %_ ⟨H2, H3, H4, H5, H6, H7, H8, H9, S⟩
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    iexact S

end Run

end Cert.Proof.KernelIdeal

end
-- ==== Proof.Launch.lean ====
/- The launch: what the tables hold, what each window's buffer holds at each point, and the run of the whole program. -/
module

public import proofs.«01_k».proof.Proof.Body
public import proofs.«01_k».proof.Proof.Gen.KernelIdeal.Launch
public import Idealize.ShloMosaic.Lib.Pipeline.FrameBody
public import Idealize.ShloMosaic.Lib.Claim

@[expose] public section

set_option maxRecDepth 8192
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers as the region finds them: after the host's lines. -/
abbrev V (c : Dev nD) (b : Ref sig .tc) : Buf (Elt F) ((c.tc : Thread nD τ).loc b) :=
  StableHlo.after ([hostOps0 (F := F)].flatten) (fun b => m (c, b)) b

/-- The two tables' contents. -/
def tabs : pre0.Contents (Elt F) := fun | ⟨0, _⟩ => tab2 | ⟨1, _⟩ => tab3 | ⟨_ + 2, h⟩ => absurd h (Nat.not_lt.2 (Nat.le_add_left _ _))

/-- The tables, admitted. -/
def adm : (p : Fin 1) → (pcfgs (F := F) p).Adm := fun _ => ⟨tabs, trivial⟩

/-- The pipeline at those tables. -/
abbrev cfgA : Pipeline.Cfg sig Λ₀ := cfg0 (adm (F := F) 0)

/-- The staging buffers at a point. -/
abbrev sl (t : Fin (cfgA (F := F)).N) : (w : Fin 6) → Fin (spec0 w).nbuf := (cfgA (F := F)).slots t

/-- What a window's array shows at a point: its block there. -/
def blk (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V m c (Pipeline.arrRef spec0 w))

/-- The block the body leaves in the result's window. -/
def outB (c : Dev nD) (t : Fin (cfgA (F := F)).N) : S1x4096x128.Idx → Elt F .bf16 :=
  outBlock (blk m c 0 t) (blk m c 1 t) (blk m c 2 t) (blk m c 3 t) (blk m c 4 t)

/-- The arrays at the region's entry, what the body leaves in each window, and what it carries. -/
def dats (_ : Fin 1) (c : Dev nD) : Dat τ (Elt F) Unit ℕ (UR sig nD τ) ℕ (cfgA (F := F)) c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => outB m c t
  Φ _ := iprop(Pipeline.ΦA spec0 c ∗ Pipeline.ΦT pre0 (tabs (F := F)) c)
  q w := Pipeline.shareOf spec0 w
  owed _ := 0

theorem A_eq (c : Dev nD) (w : Fin (cfgA (F := F)).W) : (dats m 0 c).A w = V m c (Pipeline.arrRef spec0 w) := by
  dsimp only [dats]

theorem after_0 (c : Dev nD) (t : Fin (cfgA (F := F)).N) : (dats m 0 c).after 0 t = blk m c 0 t := rfl
theorem after_1 (c : Dev nD) (t : Fin (cfgA (F := F)).N) : (dats m 0 c).after 1 t = blk m c 1 t := rfl
theorem after_2 (c : Dev nD) (t : Fin (cfgA (F := F)).N) : (dats m 0 c).after 2 t = blk m c 2 t := rfl
theorem after_3 (c : Dev nD) (t : Fin (cfgA (F := F)).N) : (dats m 0 c).after 3 t = blk m c 3 t := rfl
theorem after_4 (c : Dev nD) (t : Fin (cfgA (F := F)).N) : (dats m 0 c).after 4 t = blk m c 4 t := rfl
theorem after_5 (c : Dev nD) (t : Fin (cfgA (F := F)).N) : (dats m 0 c).after 5 t = outB m c t := rfl

theorem before_0 (c : Dev nD) (t : Fin (cfgA (F := F)).N) (d) : (dats m 0 c).before 0 t d = blk m c 0 t :=
  ((dats m 0 c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin (cfgA (F := F)).N) (d) : (dats m 0 c).before 1 t d = blk m c 1 t :=
  ((dats m 0 c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin (cfgA (F := F)).N) (d) : (dats m 0 c).before 2 t d = blk m c 2 t :=
  ((dats m 0 c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin (cfgA (F := F)).N) (d) : (dats m 0 c).before 3 t d = blk m c 3 t :=
  ((dats m 0 c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin (cfgA (F := F)).N) (d) : (dats m 0 c).before 4 t d = blk m c 4 t :=
  ((dats m 0 c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)

/-- The tables as the body is handed them. -/
theorem tabs_eq (c : Dev nD) : (Pipeline.ΦT pre0 (tabs (F := F)) c : sProp 𝕄)
    = iprop((((c : Thread nD τ).loc main_c) ↦{fullShare.right} (tab2 : S136.Idx → BitVec 32)) ∗ (((c : Thread nD τ).loc main_c_0) ↦{fullShare.right} (tab3 : S136.Idx → BitVec 32))) := by
  unfold Pipeline.ΦT Pipeline.prefHeld
  rw [show (Finset.univ : Finset (Fin 2)) = insert (0 : Fin 2) {(1 : Fin 2)} from by decide, bigSep_insert (by decide), bigSep_singleton]
  rfl

/-- The body as it is called at a point. -/
def bodyAt (t : Fin (cfgA (F := F)).N) : Prog (TpuEff nD τ sig (Elt F) Λ₀ .tc) PUnit :=
  cc0_diff_flash_attention (grid0.coords t) (Memref.whole main_c) (Memref.isWhole_whole _) (Memref.whole main_c_0) (Memref.isWhole_whole _) (spec0_0.stage (sl t 0)) (hstage0_0 ((sl t 0).cast nbuf0_0)) (spec0_1.stage (sl t 1)) (hstage0_1 ((sl t 1).cast nbuf0_1)) (spec0_2.stage (sl t 2)) (hstage0_2 ((sl t 2).cast nbuf0_2)) (spec0_3.stage (sl t 3)) (hstage0_3 ((sl t 3).cast nbuf0_3)) (spec0_4.stage (sl t 4)) (hstage0_4 ((sl t 4).cast nbuf0_4)) (spec0_5.stage (sl t 5)) (hstage0_5 ((sl t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)

theorem row_eq (t : Fin (cfgA (F := F)).N) :
    defs₀ (F := F) .tc (cfgA (F := F)).body ((cfgA (F := F)).bodyArgs t ((cfgA (F := F)).slots t)) = bodyAt t := by
  unfold defs₀; rw [Defs.onTc_tc]; rfl

/-- What the body is called with, -/
def bodyPre (c : Dev nD) (t : Fin (cfgA (F := F)).N) : sProp 𝕄 :=
  iprop((dats m 0 c).Φ t.castSucc ∗ (dats m 0 c).owesAt () t.castSucc
    ∗ (∃ d, owns (c : Thread nD τ) (spec0_0.stage (sl t 0)) fullShare ((dats m 0 c).before 0 t d))
    ∗ (∃ d, owns (c : Thread nD τ) (spec0_1.stage (sl t 1)) fullShare ((dats m 0 c).before 1 t d))
    ∗ (∃ d, owns (c : Thread nD τ) (spec0_2.stage (sl t 2)) fullShare ((dats m 0 c).before 2 t d))
    ∗ (∃ d, owns (c : Thread nD τ) (spec0_3.stage (sl t 3)) fullShare ((dats m 0 c).before 3 t d))
    ∗ (∃ d, owns (c : Thread nD τ) (spec0_4.stage (sl t 4)) fullShare ((dats m 0 c).before 4 t d))
    ∗ (∃ d, owns (c : Thread nD τ) (spec0_5.stage (sl t 5)) fullShare ((dats m 0 c).before 5 t d)))

/-- and what it returns. -/
def bodyPost (c : Dev nD) (t : Fin (cfgA (F := F)).N) : sProp 𝕄 :=
  iprop((dats m 0 c).Φ t.succ ∗ (dats m 0 c).owesAt () t.succ
    ∗ owns (c : Thread nD τ) (spec0_0.stage (sl t 0)) fullShare ((dats m 0 c).after 0 t)
    ∗ owns (c : Thread nD τ) (spec0_1.stage (sl t 1)) fullShare ((dats m 0 c).after 1 t)
    ∗ owns (c : Thread nD τ) (spec0_2.stage (sl t 2)) fullShare ((dats m 0 c).after 2 t)
    ∗ owns (c : Thread nD τ) (spec0_3.stage (sl t 3)) fullShare ((dats m 0 c).after 3 t)
    ∗ owns (c : Thread nD τ) (spec0_4.stage (sl t 4)) fullShare ((dats m 0 c).after 4 t)
    ∗ owns (c : Thread nD τ) (spec0_5.stage (sl t 5)) fullShare ((dats m 0 c).after 5 t))

omit [Named F] in
/-- A whole buffer's points-to is the buffer held at its values. -/
theorem whole_pt (c : Dev nD) (b : Ref sig .tc) (q : PosShare TreeShare) (f : Buf (Elt F) ((c : Thread nD τ).loc b)) :
    (((c : Thread nD τ).loc b) ↦{q} f : sProp 𝕄) = pt c (Memref.whole b) q f :=
  (owns_whole (c : Thread nD τ) b q f).symm.trans (owns_eq_rep (c : Thread nD τ) (Memref.whole b) q f)

omit [Named F] in
theorem whole_in (c : Dev nD) (b : Ref sig .tc) (f : Buf (Elt F) ((c : Thread nD τ).loc b)) :
    (((c : Thread nD τ).loc b) ↦{fullShare} f : sProp 𝕄) ⊢ pt c (Memref.whole b) fullShare f := by rw [whole_pt]

omit [Named F] in
theorem whole_out (c : Dev nD) (b : Ref sig .tc) :
    (iprop(∃ x, pt (F := F) c (Memref.whole b) fullShare x) : sProp 𝕄) ⊢ iprop(∃ f : Buf (Elt F) ((c : Thread nD τ).loc b), ((c : Thread nD τ).loc b) ↦{fullShare} f) := by
  iintro ⟨%x, H⟩
  iexists x
  rw [whole_pt]
  iexact H

theorem body_at (c : Dev nD) (t : Fin (cfgA (F := F)).N) :
    bodyPre m c t ⊢ wp frame (wpE (defs₀ (F := F)) Variants.none c none) Set.univ (bodyAt t) (fun _ => bodyPost m c t) := by
  unfold bodyPre bodyPost bodyAt
  simp only [before_0, before_1, before_2, before_3, before_4]
  rw [show (dats m 0 c).Φ t.castSucc = iprop(Pipeline.ΦA spec0 c ∗ Pipeline.ΦT pre0 (tabs (F := F)) c) from rfl,
    show (dats m 0 c).Φ t.succ = iprop(Pipeline.ΦA spec0 c ∗ Pipeline.ΦT pre0 (tabs (F := F)) c) from rfl,
    show (dats m 0 c).owesAt () t.succ = (dats m 0 c).owesAt () t.castSucc from rfl, tabs_eq,
    after_0, after_1, after_2, after_3, after_4, after_5]
  unfold Pipeline.ΦA
  rw [scopedRest0_eq]
  rw [whole_pt c main_c, whole_pt c main_c_0]
  iintro ⟨⟨⟨⟨⟨%g0, S0⟩, ⟨%g1, S1⟩, ⟨%g2, S2⟩, ⟨%g3, S3⟩, ⟨%g4, S4⟩, ⟨%g5, S5⟩, ⟨%g6, S6⟩, ⟨%g7, S7⟩, ⟨%g8, S8⟩⟩, Hp⟩, HT2, HT3⟩, Ho, ⟨%d0, H4⟩, ⟨%d1, H5⟩, ⟨%d2, H6⟩, ⟨%d3, H7⟩, ⟨%d4, H8⟩, ⟨%d5, H9⟩⟩
  iapply (wp_wand_r frame (wpE (defs₀ (F := F)) Variants.none (c : Thread nD τ) none) Set.univ)
  isplitl [HT2 HT3 H4 H5 H6 H7 H8 H9 S0 S1 S2 S3 S4 S5 S6 S7 S8]
  · iapply (body_owns c Set.univ fullShare.right fullShare.right (grid0.coords t) (Memref.whole main_c) (Memref.isWhole_whole _) (Memref.whole main_c_0) (Memref.isWhole_whole _) (spec0_0.stage (sl t 0)) (hstage0_0 ((sl t 0).cast nbuf0_0)) (spec0_1.stage (sl t 1)) (hstage0_1 ((sl t 1).cast nbuf0_1)) (spec0_2.stage (sl t 2)) (hstage0_2 ((sl t 2).cast nbuf0_2)) (spec0_3.stage (sl t 3)) (hstage0_3 ((sl t 3).cast nbuf0_3)) (spec0_4.stage (sl t 4)) (hstage0_4 ((sl t 4).cast nbuf0_4)) (spec0_5.stage (sl t 5)) (hstage0_5 ((sl t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (blk m c 0 t) (blk m c 1 t) (blk m c 2 t) (blk m c 3 t) (blk m c 4 t) ((dats m 0 c).before 5 t d5))
    isplitl [HT2 HT3 H4 H5 H6 H7 H8]
    · isplitl [HT2]; · iexact HT2
      isplitl [HT3]; · iexact HT3
      isplitl [H4]; · iexact H4
      isplitl [H5]; · iexact H5
      isplitl [H6]; · iexact H6
      isplitl [H7]; · iexact H7
      iexact H8
    isplitl [H9]; · iexact H9
    isplitl [S0]; · unfold some; iexists g0; iapply (whole_in c cc0_scratch0 g0) $$ S0
    isplitl [S1]; · unfold some; iexists g1; iapply (whole_in c cc0_scratch1 g1) $$ S1
    isplitl [S2]; · unfold some; iexists g2; iapply (whole_in c cc0_scratch2 g2) $$ S2
    isplitl [S3]; · unfold some; iexists g3; iapply (whole_in c cc0_scratch3 g3) $$ S3
    isplitl [S4]; · unfold some; iexists g4; iapply (whole_in c cc0_scratch4 g4) $$ S4
    isplitl [S5]; · unfold some; iexists g5; iapply (whole_in c cc0_scratch5 g5) $$ S5
    isplitl [S6]; · unfold some; iexists g6; iapply (whole_in c cc0_scratch6 g6) $$ S6
    isplitl [S7]; · unfold some; iexists g7; iapply (whole_in c cc0_scratch7 g7) $$ S7
    unfold some; iexists g8; iapply (whole_in c cc0_scratch8 g8) $$ S8
  · iintro %_ ⟨⟨HT2, HT3, H4, H5, H6, H7, H8⟩, H9, S0, S1, S2, S3, S4, S5, S6, S7, S8⟩
    isplitl [S0 S1 S2 S3 S4 S5 S6 S7 S8 Hp HT2 HT3]
    · isplitl [S0 S1 S2 S3 S4 S5 S6 S7 S8 Hp]
      · isplitl [S0 S1 S2 S3 S4 S5 S6 S7 S8]
        · unfold some
          isplitl [S0]; · iapply (whole_out c cc0_scratch0) $$ S0
          isplitl [S1]; · iapply (whole_out c cc0_scratch1) $$ S1
          isplitl [S2]; · iapply (whole_out c cc0_scratch2) $$ S2
          isplitl [S3]; · iapply (whole_out c cc0_scratch3) $$ S3
          isplitl [S4]; · iapply (whole_out c cc0_scratch4) $$ S4
          isplitl [S5]; · iapply (whole_out c cc0_scratch5) $$ S5
          isplitl [S6]; · iapply (whole_out c cc0_scratch6) $$ S6
          isplitl [S7]; · iapply (whole_out c cc0_scratch7) $$ S7
          iapply (whole_out c cc0_scratch8) $$ S8
        · iexact Hp
      · isplitl [HT2]; · iexact HT2
        iexact HT3
    isplitl [Ho]; · iexact Ho
    isplitl [H4]; · iexact H4
    isplitl [H5]; · iexact H5
    isplitl [H6]; · iexact H6
    isplitl [H7]; · iexact H7
    isplitl [H8]; · iexact H8
    iexact H9

/-- The body obligation, at every point. -/
theorem body_obligation (c : Dev nD) : BodyObligation (dats (F := F) m 0 c) (defs₀ (F := F)) Variants.none () Set.univ := fun t => by
  rw [bigSep_W0, bigSep_W0, row_eq]
  exact triple_restated (body_at m c t) rfl .rfl fun _ => .rfl

theorem hostOps0_fresh : (hostOps0 (F := F)).Forall fun op => op.fresh = ∅ := by
  simp only [List.Forall]
  exact ⟨rfl, rfl, rfl⟩

theorem hmain : Pipeline.HMainP (Ix := Unit) (Name := ℕ) (U := UR sig nD τ) (Lvl := ℕ) (pcfgs (F := F)) 0 defs₀ Variants.none m main (V m) :=
  Pipeline.hmainP_prefixes _ 0 defs₀ Variants.none m main [hostOps0] (by simp only [List.Forall]; exact hostOps0_sub)
    (by simp only [List.Forall]; exact hostOps0_fresh) main_chain

theorem tabs_read (c : Dev nD) (k : Fin 2) : V m c (pre0.ref k) = tabs (F := F) k := by
  match k with
  | ⟨0, _⟩ => rfl
  | ⟨1, _⟩ => rfl

set_option backward.isDefEq.respectTransparency.types false in
/-- The run of the whole program. -/
theorem run_main : θ_run defs (onTc (τ := τ) (main (F := F))) (s₀ m ρ)
    (fun r => Pipeline.FramePost (Pipeline.pin (pcfgs (F := F)) adm) (dats m) 0 (V m) r ∧ r.2.sem = fun _ => 0) :=
  Pipeline.θ_run_frameP_shared (Q' := _) (pcfgs (F := F)) adm (dats m) (0 : Fin 1) launch₀0 defs₀ Variants.none m ρ main
    (hbody := fun c => (body_obligation m c).loose) (hq := fun _ _ _ => rfl) (howed := fun _ _ => rfl) (V := V m)
    (hmain := hmain m) (hA := A_eq m) (hpf := tabs_read m) (hΦ := fun _ _ => rfl)

/-- The arguments are as they were and nothing is left signalled. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ⟨?_, ?_, ?_⟩, h.2⟩) (run_main m ρ)
  · exact ((h.1 c).1 0).trans (((dats m 0 c).arrAt_in 0 rfl _).trans rfl)
  · exact ((h.1 c).1 3).trans (((dats m 0 c).arrAt_in 3 rfl _).trans rfl)
  · exact ((h.1 c).2 main_arg2 (show main_arg2 ∈ Pipeline.restRefs sig spec0 from by decide)).trans rfl

end Cert.Proof.KernelIdeal

end
-- ==== Proof.Sums.lean ====
/- Sums over the real numbers: the sum over the work items of a row block is the sum over the columns the row may see. -/
module

public import proofs.«01_k».proof.Proof.Items
public import Idealize.ShloMosaic.PureOps.Ideal.Laws

@[expose] public section

set_option maxRecDepth 8192

noncomputable section

namespace Cert.Proof.KernelIdeal

open Cert.KernelIdeal Cert.KernelIdeal.Gen
open Idealize.ShloMosaic

/-- A pattern whose exponent is not all ones denotes a real number. -/
theorem ieee_real {e m w : ℕ} (b : BitVec w) (h : (b.extractLsb' m e).toNat ≠ 2 ^ e - 1) : ∃ a : ℝ, Ideal.ieee e m b = ↑a := by
  unfold Ideal.ieee
  dsimp only
  rw [if_neg h]
  split <;> exact ⟨_, rfl⟩

/-- A sum of reals, taken among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The row block of item `n`, as a number. -/
def rowN (n : ℕ) : ℕ := (itemRow n).toNat

/-- The column block of item `n`, as a number. -/
def colN (n : ℕ) : ℕ := (itemCol n).toNat

/-- The item of row block `r` and column block `b`. -/
def itemOf (r b : ℕ) : ℕ := if b < r then r * (r - 1) / 2 + b else 120 + r

theorem itemRow_eq (n : ℕ) : itemRow n = BitVec.ofNat 32 (rowN n) := by simp [rowN]
theorem itemCol_eq (n : ℕ) : itemCol n = BitVec.ofNat 32 (colN n) := by simp [colN]

theorem rowN_lt (n : ℕ) : rowN n < 16 := by
  obtain ⟨r, hr⟩ := rows_lt (Fin.ofNat 136 n)
  unfold rowN itemRow
  rw [hr, BitVec.toNat_ofNat]
  have := r.isLt
  omega

theorem colN_lt (n : ℕ) : colN n < 16 := by
  obtain ⟨r, hr⟩ := cols_lt (Fin.ofNat 136 n)
  unfold colN itemCol
  rw [hr, BitVec.toNat_ofNat]
  have := r.isLt
  omega

theorem items_fwd : ∀ k : Fin 136, colN k.val ≤ rowN k.val ∧ itemOf (rowN k.val) (colN k.val) = k.val
    ∧ (k.val < 120 ↔ colN k.val < rowN k.val) := by decide

theorem items_bwd : ∀ r b : Fin 16, b.val ≤ r.val → itemOf r.val b.val < 136 ∧ rowN (itemOf r.val b.val) = r.val ∧ colN (itemOf r.val b.val) = b.val := by decide

/-- What item `k` adds to the sum of row `q` of its block: all its columns, or on the diagonal those up to the row. -/
def itemSum (w : ℕ → ℝ) (q k : ℕ) : ℝ := ∑ j : Fin 256, if k < 120 ∨ j.val ≤ q then w (256 * colN k + j.val) else 0

/-- What the first `n` items add to row `q` of row block `r`. -/
def partSum (w : ℕ → ℝ) (r q n : ℕ) : ℝ := ∑ k ∈ Finset.range n, if rowN k = r then itemSum w q k else 0

theorem sum_blocks (f : ℕ → ℝ) (n : ℕ) : ∑ j ∈ Finset.range (256 * n), f j = ∑ b ∈ Finset.range n, ∑ j : Fin 256, f (256 * b + j.val) := by
  induction n with
  | zero => simp
  | succ n ih =>
    rw [Finset.sum_range_succ, ← ih, Nat.mul_succ, Finset.sum_range_add, Finset.sum_range (fun x => f (256 * n + x))]

theorem partSum_all (w : ℕ → ℝ) (r q : ℕ) (hr : r < 16) (hq : q < 256) :
    partSum w r q 136 = ∑ j ∈ Finset.range 4096, if j ≤ 256 * r + q then w j else 0 := by
  unfold partSum
  rw [show 4096 = 256 * 16 from rfl, sum_blocks, ← Finset.sum_filter]
  have hz : ∀ b ∈ Finset.range 16, ¬ b ≤ r → (∑ j : Fin 256, if 256 * b + j.val ≤ 256 * r + q then w (256 * b + j.val) else 0) = 0 := by
    intro b _ hb
    refine Finset.sum_eq_zero fun j _ => if_neg ?_
    omega
  refine Eq.trans ?_ (Finset.sum_filter_of_ne (p := fun b => b ≤ r) (fun b hb hne => by by_contra hc; exact hne (hz b hb hc)))
  refine Finset.sum_nbij' colN (itemOf r) ?_ ?_ ?_ ?_ ?_
  · intro k hk
    simp only [Finset.mem_filter, Finset.mem_range] at hk ⊢
    have := (items_fwd ⟨k, hk.1⟩).1
    exact ⟨colN_lt k, hk.2 ▸ this⟩
  · intro b hb
    simp only [Finset.mem_filter, Finset.mem_range] at hb ⊢
    have := items_bwd ⟨r, hr⟩ ⟨b, hb.1⟩ hb.2
    exact ⟨this.1, this.2.1⟩
  · intro k hk
    simp only [Finset.mem_filter, Finset.mem_range] at hk
    have := (items_fwd ⟨k, hk.1⟩).2.1
    rw [← hk.2]; exact this
  · intro b hb
    simp only [Finset.mem_filter, Finset.mem_range] at hb
    exact (items_bwd ⟨r, hr⟩ ⟨b, hb.1⟩ hb.2).2.2
  · intro k hk
    simp only [Finset.mem_filter, Finset.mem_range] at hk
    have h1 := (items_fwd ⟨k, hk.1⟩).1
    have h2 := (items_fwd ⟨k, hk.1⟩).2.2
    simp only [hk.2] at h1 h2
    unfold itemSum
    refine Finset.sum_congr rfl fun j _ => if_congr ?_ rfl rfl
    have := j.isLt
    rw [h2]
    omega

end Cert.Proof.KernelIdeal

end
-- ==== Proof.Mix.lean ====
/- The attention of one head over the reals, and the row it is scaled to: what both programs compute. -/
module

public import proofs.«01_k».proof.Proof.Sums
public import Idealize.ShloMosaic.PureOps.Ideal.Laws

@[expose] public section

noncomputable section

namespace Cert.Proof

open Idealize.ShloMosaic
open KernelIdeal (coe_sum ieee_real)

section

variable (q k v : Fin 4096 → Fin 128 → ℝ)

/-- A query against a key, over one half of the features. -/
def dotHalf (c : Fin 2) (i j : Fin 4096) : ℝ := ∑ e : Fin 64, q i ⟨64 * c.val + e.val, by omega⟩ * k j ⟨64 * c.val + e.val, by omega⟩

/-- The weight of key `j` for query `i`: none for a later key. -/
def ex (c : Fin 2) (i j : Fin 4096) : ℝ := if j.val ≤ i.val then Real.rpow 2 (dotHalf q k c i j) else 0

/-- The weights' sum. -/
def den (c : Fin 2) (i : Fin 4096) : ℝ := ∑ j, ex q k c i j

/-- The weighted mean of the values. -/
def att (c : Fin 2) (i : Fin 4096) (d : Fin 128) : ℝ := (∑ j, ex q k c i j * v j d) / den q k c i

/-- The two maps' difference. -/
def mix (lam : ℝ) (i : Fin 4096) (d : Fin 128) : ℝ := att q k v 0 i d - lam * att q k v 1 i d

theorem ex_nonneg (c : Fin 2) (i j : Fin 4096) : 0 ≤ ex q k c i j := by
  unfold ex
  split
  · exact Real.rpow_nonneg (by norm_num) _
  · exact le_refl _

theorem den_pos (c : Fin 2) (i : Fin 4096) : 0 < den q k c i := by
  refine Finset.sum_pos' (fun j _ => ex_nonneg q k c i j) ⟨i, Finset.mem_univ _, ?_⟩
  unfold ex
  rw [if_pos (le_refl _)]
  exact Real.rpow_pos_of_pos (by norm_num) _

end

/-- A quotient of two reals that share a positive factor. -/
theorem div_scaled (s a b : ℝ) (hs : 0 < s) (hb : 0 < b) : Ideal.div ((s * a : ℝ) : EReal) ((s * b : ℝ) : EReal) = ((a / b : ℝ) : EReal) := by
  rw [Ideal.div_coe (mul_pos hs hb).ne', ← EReal.coe_mul]
  refine congrArg _ ?_
  field_simp

/-- The mixing parameter, from its four rows. -/
def lamOf (L : Fin 4 → Fin 64 → EReal) : EReal :=
  (Ideal.exp (∑ e, L 0 e * L 1 e) - Ideal.exp (∑ e, L 2 e * L 3 e)) + Ideal.ofBits .f32 0x3E4CCCCD#32

theorem lamOf_real (L : Fin 4 → Fin 64 → EReal) (l : Fin 4 → Fin 64 → ℝ) (h : ∀ a e, L a e = ↑(l a e)) : ∃ x : ℝ, lamOf L = ↑x := by
  obtain ⟨x, hx⟩ : ∃ x : ℝ, Ideal.ofBits .f32 0x3E4CCCCD#32 = ↑x := ieee_real (e := 8) (m := 23) (0x3E4CCCCD#32) (by decide)
  refine ⟨Real.exp (∑ e, l 0 e * l 1 e) - Real.exp (∑ e, l 2 e * l 3 e) + x, ?_⟩
  unfold lamOf
  simp only [h, ← EReal.coe_mul]
  rw [coe_sum, coe_sum, Ideal.exp_coe, Ideal.exp_coe, hx, ← EReal.coe_sub, ← EReal.coe_add]

/-- A row brought to unit mean square and weighted. -/
def rowOut (o : Fin 128 → EReal) (w : EReal) (d : Fin 128) : EReal :=
  o d * Ideal.rsqrt (Ideal.div (∑ x, o x * o x) (Ideal.ofBits .f32 0x43000000#32) + Ideal.ofBits .f32 0x3727C5AC#32) * w * Ideal.ofBits .f32 0x3F4CCCCD#32

end Cert.Proof

end
-- ==== Proof.Reads.lean ====
/- The stages' payloads read at an index, at the ideal values. -/
module

public import proofs.«01_k».proof.Proof.Sums
public import proofs.«01_k».proof.Proof.Arrays
public import Idealize.ShloMosaic.Lib.Pipeline.Value
public import Idealize.ShloMosaic.Lib.ValueIdx
public import Idealize.ShloMosaic.Lib.WordCmp
public import Idealize.ShloMosaic.PureOps.Ideal.Laws

@[expose] public section

set_option maxRecDepth 8192

noncomputable section

namespace Cert.Proof.KernelIdeal

open Cert.KernelIdeal Cert.KernelIdeal.Gen
open Idealize.ShloMosaic
open Idealize.ShloMosaic.ValueIdx

theorem off12_at : ∀ r : Fin 16, k0_off12 (BitVec.ofNat 32 r.val) = ![0, 256 * r.val, 0] := by decide
theorem off14_at : ∀ r : Fin 16, k0_off14 (BitVec.ofNat 32 r.val) = ![r.val, 0, 0] := by decide
theorem off16_at : ∀ r : Fin 16, k0_off16 (BitVec.ofNat 32 r.val) = ![r.val, 0, 0] := by decide
theorem off18_at : ∀ r : Fin 16, k0_off18 (BitVec.ofNat 32 r.val) = ![0, 256 * r.val, 0] := by decide
theorem off19_at : ∀ r : Fin 16, k0_off19 (BitVec.ofNat 32 r.val) = ![r.val, 0, 0] := by decide
theorem off20_at : ∀ r : Fin 16, k0_off20 (BitVec.ofNat 32 r.val) = ![r.val, 0, 128] := by decide

theorem off12_item (n : ℕ) : k0_off12 (itemCol n) = ![0, 256 * colN n, 0] := by rw [itemCol_eq]; exact off12_at ⟨_, colN_lt n⟩
theorem off18_item (n : ℕ) : k0_off18 (itemCol n) = ![0, 256 * colN n, 0] := by rw [itemCol_eq]; exact off18_at ⟨_, colN_lt n⟩
theorem off14_item (n : ℕ) : k0_off14 (itemRow n) = ![rowN n, 0, 0] := by rw [itemRow_eq]; exact off14_at ⟨_, rowN_lt n⟩
theorem off16_item (n : ℕ) : k0_off16 (itemRow n) = ![rowN n, 0, 0] := by rw [itemRow_eq]; exact off16_at ⟨_, rowN_lt n⟩
theorem off19_item (n : ℕ) : k0_off19 (itemRow n) = ![rowN n, 0, 0] := by rw [itemRow_eq]; exact off19_at ⟨_, rowN_lt n⟩
theorem off20_item (n : ℕ) : k0_off20 (itemRow n) = ![rowN n, 0, 128] := by rw [itemRow_eq]; exact off20_at ⟨_, rowN_lt n⟩

/-- A window read at an index is the array at that index moved by the offsets. -/
theorem window_at {s : Shape} {α : Type} (x : s.Idx → α) (off size : Fin s.rank → ℕ) (inb : ∀ a, off a + size a ≤ s.size a)
    (z : (Rect.unit off size inb).shape.Idx) (y : s.Idx) (off' : Fin s.rank → ℕ) (e : off = off') (h : ∀ a, (y a).val = off' a + (z a).val) :
    VecWindow.window x off size inb z = x y :=
  congrArg x (funext fun a => Fin.ext (by
    show off a + 1 * (z a).val = (y a).val
    have := h a; have := congrFun e a; omega))

/-- An array read inside the window just written. -/
theorem put_at {s : Shape} {α : Type} (x : s.Idx → α) (off size : Fin s.rank → ℕ) (w : ((a : Fin s.rank) → Fin (size a)) → α) (y : s.Idx)
    (z : (a : Fin s.rank) → Fin (size a)) (off' : Fin s.rank → ℕ) (e : off = off') (h : ∀ a, (y a).val = off' a + (z a).val) :
    VecWindow.put x off size w y = w z :=
  put_in x off size w y z fun a => by rw [h, e]

theorem scoresPay_at (kb : Vec Ideal S1x256x128 .bf16) (qb : Vec Ideal S1x512x128 .bf16) (i : Fin 512) (j : Fin 256) :
    scoresPay (F := Ideal) kb qb (ix2 i j) = ∑ e : Fin 128, (qb (ix3 0 i e) : EReal) * kb (ix3 0 j e) := by
  unfold scoresPay
  rw [shapeCast_self]
  simp only [matmul]
  rw [Ideal.matmul_constant_zero_apply, ← Equiv.sum_comp (contrEquiv1 dot_S512x128_S256x128_S512x256_1_1_0_0_n_n 128 rfl rfl).symm]
  refine Finset.sum_congr rfl fun e _ => ?_
  have hk := contrEquiv1_symm_val dot_S512x128_S256x128_S512x256_1_1_0_0_n_n 128 rfl rfl e
  refine congrArg₂ (fun a b : EReal => a * b) ?_ ?_
  · refine (shapeCast_dropUnit_apply ![512, 128] qb _ _).trans (congrArg qb (funext fun a => Fin.ext ?_))
    match a with
    | ⟨0, _⟩ => rfl
    | ⟨1, _⟩ => rfl
    | ⟨2, _⟩ => exact hk
  · refine (shapeCast_dropUnit_apply ![256, 128] kb _ _).trans (congrArg kb (funext fun a => Fin.ext ?_))
    match a with
    | ⟨0, _⟩ => rfl
    | ⟨1, _⟩ => rfl
    | ⟨2, _⟩ => exact hk

theorem low_bits : ∀ i : Fin 512, BitVec.ofNat 32 i.val &&& 255#32 = BitVec.ofNat 32 (i.val % 256) := by decide

theorem masked_at (sc : Vec Ideal S512x256 .f32) (i : Fin 512) (j : Fin 256) :
    masked (F := Ideal) sc (ix2 i j) = if j.val ≤ i.val % 256 then (sc (ix2 i j) : EReal) else ⊥ := by
  have hm : maskPay (ix2 i j) = IntOp.cmpi .sle (BitVec.ofNat 32 j.val) (BitVec.ofNat 32 (i.val % 256)) := by
    unfold maskPay
    show IntOp.cmpi .sle (iota .tc S512x256 32 [1] iota_S512x256_d1_w32 (ix2 i j)) (iota .tc S512x256 32 [0] iota_S512x256_d0_w32 (ix2 i j) &&& 255#32) = _
    rw [iota_single_apply, iota_single_apply]
    show IntOp.cmpi .sle (BitVec.ofNat 32 j.val) (BitVec.ofNat 32 i.val &&& 255#32) = _
    rw [low_bits]
  unfold masked
  rw [select_apply, hm]
  have hj := j.isLt
  by_cases h : j.val ≤ i.val % 256
  · rw [if_pos h, (WordCmp.cmpi_sle_ofNat_eq_one_iff (w := 32) (by omega) (by omega)).2 h, select_one]
  · rw [if_neg h, eq_zero_of_ne_one (fun e => h ((WordCmp.cmpi_sle_ofNat_eq_one_iff (w := 32) (by omega) (by omega)).1 e)), select_zero]
    rfl

theorem fold_max_lt {ι : Type} [DecidableEq ι] (s : Finset ι) (f : ι → EReal) (h : ∀ i ∈ s, f i < ⊤) : s.fold max ⊥ f < ⊤ := by
  induction s using Finset.induction_on with
  | empty => simp
  | insert a s ha ih =>
    rw [Finset.fold_insert ha]
    exact max_lt (h a (Finset.mem_insert_self ..)) (ih fun i hi => h i (Finset.mem_insert_of_mem hi))

theorem neutral_max : Ideal.ofBits .f32 0xFF800000#32 = ⊥ := by simp [Ideal.ofBits, Ideal.ieee]

/-- The new row maximum is real, and the same for every lane. -/
theorem maxPay_at (sc : Vec Ideal S512x256 .f32) (m : Vec Ideal S1x512x128 .f32) (i : Fin 512) (a : ℝ)
    (hs : ∀ j : Fin 256, (sc (ix2 i j) : EReal) < ⊤) (hm : ∀ l : Fin 128, (m (ix3 0 i l) : EReal) = ↑a) :
    ∃ b : ℝ, ∀ l : Fin 128, (maxPay (F := Ideal) sc m (ix2 i l) : EReal) = ↑b := by
  have key : ∃ f : Fin 128 → EReal, (∀ k, f k < ⊤) ∧ ∀ l : Fin 128, (maxPay (F := Ideal) sc m (ix2 i l) : EReal) = max ↑a (Finset.univ.fold max ⊥ f) := by
    refine ⟨fun k => max (sc (ix2 i ⟨k.val, by omega⟩) : EReal) (sc (ix2 i ⟨128 + k.val, by omega⟩)), fun k => max_lt (hs _) (hs _), fun l => ?_⟩
    unfold maxPay
    rw [maximumf_apply]
    refine congrArg₂ (fun x y : EReal => max x y) ?_ ?_
    · refine (shapeCast_dropUnit_apply ![512, 128] m _ _).trans (Eq.trans (congrArg m (funext fun d => Fin.ext ?_)) (hm l))
      match d with
      | ⟨0, _⟩ => rfl
      | ⟨1, _⟩ => rfl
      | ⟨2, _⟩ => rfl
    · refine (broadcastTo_apply _ _ _ (ix2 i 0) (fun d => ?_)).trans ?_
      · match d with
        | ⟨0, _⟩ => rfl
        | ⟨1, _⟩ => rfl
      refine (shapeCast_apply _ _ _ (ix1 i) ?_).trans ?_
      · rw [Shape.rowMajor_val_one, Shape.rowMajor_val_two]
        show i.val = i.val * 1 + 0
        omega
      refine (Ideal.multiReduction_maximumf_single _ _ _ _ _ _).trans ?_
      refine congrArg₂ (fun (x : EReal) (g : Fin 128 → EReal) => Finset.univ.fold max x g) neutral_max (funext fun k => ?_)
      show maximumf _ _ _ = _
      rw [maximumf_apply]
      refine congrArg₂ (fun x y : EReal => max x y) ?_ ?_
      · refine extractStridedSlice_apply _ _ _ _ _ fun d => ?_
        match d with
        | ⟨0, _⟩ => exact (Nat.zero_add _).symm
        | ⟨1, _⟩ => exact (Nat.zero_add _).symm
      · refine extractStridedSlice_apply _ _ _ _ _ fun d => ?_
        match d with
        | ⟨0, _⟩ => exact (Nat.zero_add _).symm
        | ⟨1, _⟩ => rfl
  obtain ⟨f, hf, h⟩ := key
  refine ⟨(max ↑a (Finset.univ.fold max ⊥ f) : EReal).toReal, fun l => (h l).trans (EReal.coe_toReal ?_ ?_).symm⟩
  · exact (max_lt (EReal.coe_lt_top a) (fold_max_lt _ f fun k _ => hf k)).ne
  · exact ((EReal.bot_lt_coe a).trans_le (le_max_left _ _)).ne'

theorem alphaPay_at (sc : Vec Ideal S512x256 .f32) (m : Vec Ideal S1x512x128 .f32) (i : Fin 512) (l : Fin 128) (a b : ℝ)
    (hm : (m (ix3 0 i l) : EReal) = ↑a) (hb : (maxPay (F := Ideal) sc m (ix2 i l) : EReal) = ↑b) :
    (alphaPay (F := Ideal) sc m (ix2 i l) : EReal) = ((Real.rpow 2 (a - b) : ℝ) : EReal) := by
  unfold alphaPay
  rw [shapeCast_self]
  show Ideal.exp2 (shapeCast S512x128 m shapeCasts_S1x512x128_S512x128 (ix2 i l) - maxPay (F := Ideal) sc m (ix2 i l)) = _
  have e : shapeCast S512x128 m shapeCasts_S1x512x128_S512x128 (ix2 i l) = (↑a : EReal) := by
    refine (shapeCast_dropUnit_apply ![512, 128] m _ _).trans (Eq.trans (congrArg m (funext fun d => Fin.ext ?_)) hm)
    match d with
    | ⟨0, _⟩ => rfl
    | ⟨1, _⟩ => rfl
    | ⟨2, _⟩ => rfl
  rw [e, hb, ← EReal.coe_sub, Ideal.exp2_coe]

theorem probPay_at (sc : Vec Ideal S512x256 .f32) (m : Vec Ideal S1x512x128 .f32) (i : Fin 512) (j : Fin 256) (b : ℝ)
    (hb : ∀ l : Fin 128, (maxPay (F := Ideal) sc m (ix2 i l) : EReal) = ↑b) :
    (probPay (F := Ideal) sc m (ix2 i j) : EReal) = Ideal.exp2 ((sc (ix2 i j) : EReal) - ↑b) := by
  unfold probPay
  rw [shapeCast_self]
  by_cases h : j.val < 128
  · refine (concatenate_pair_apply_left (s₁ := S512x128) (s₂ := S512x128) 1 _ _ _ (ix2 i j) rfl (ix2 i ⟨j.val, h⟩) (fun d => ?_)).trans ?_
    · match d with
      | ⟨0, _⟩ => rfl
      | ⟨1, _⟩ => rfl
    · show Ideal.exp2 (extractStridedSlice S512x128 ![0, 0] sc slices_S512x256_o0_0_S512x128 (ix2 i ⟨j.val, h⟩) - maxPay (F := Ideal) sc m (ix2 i ⟨j.val, h⟩)) = _
      rw [hb]
      refine congrArg (fun x : EReal => Ideal.exp2 (x - ↑b)) (extractStridedSlice_apply _ _ _ _ _ fun d => ?_)
      match d with
      | ⟨0, _⟩ => exact (Nat.zero_add _).symm
      | ⟨1, _⟩ => exact (Nat.zero_add _).symm
  · have hj := j.isLt
    refine (concatenate_pair_apply_right (s₁ := S512x128) (s₂ := S512x128) 1 _ _ _ (ix2 i j) rfl rfl (ix2 i ⟨j.val - 128, by omega⟩) (fun d hd => ?_) ?_).trans ?_
    · match d with
      | ⟨0, _⟩ => rfl
      | ⟨1, _⟩ => exact absurd rfl hd
    · show j.val - 128 + 128 = j.val
      omega
    · show Ideal.exp2 (extractStridedSlice S512x128 ![0, 128] sc slices_S512x256_o0_128_S512x128 (ix2 i ⟨j.val - 128, by omega⟩) - maxPay (F := Ideal) sc m (ix2 i ⟨j.val - 128, by omega⟩)) = _
      rw [hb]
      refine congrArg (fun x : EReal => Ideal.exp2 (x - ↑b)) (extractStridedSlice_apply _ _ _ _ _ fun d => ?_)
      match d with
      | ⟨0, _⟩ => exact (Nat.zero_add _).symm
      | ⟨1, _⟩ => show j.val = 128 + (j.val - 128); omega

theorem one_bf16 : Ideal.ofBits .bf16 0x3F80#16 = 1 := by
  simp [Ideal.ofBits, Ideal.ieee]
  rw [← EReal.coe_mul]
  norm_num

/-- The values with the ones beside them. -/
def augV (vb : Vec Ideal S1x256x128 .bf16) (j : Fin 256) (d : Fin 256) : EReal := if h : d.val < 128 then vb (ix3 0 j ⟨d.val, h⟩) else 1

theorem pvPay_at (vb : Vec Ideal S1x256x128 .bf16) (p : Vec Ideal S512x256 .bf16) (i : Fin 512) (d : Fin 256) :
    (pvPay (F := Ideal) vb p (ix2 i d) : EReal) = ∑ j : Fin 256, (p (ix2 i j) : EReal) * augV vb j d := by
  unfold pvPay
  simp only [matmul]
  rw [Ideal.matmul_constant_zero_apply, ← Equiv.sum_comp (contrEquiv1 dot_S512x256_S256x256_S512x256_1_0_0_1_n_n 256 rfl rfl).symm]
  refine Finset.sum_congr rfl fun e _ => ?_
  have hk := contrEquiv1_symm_val dot_S512x256_S256x256_S512x256_1_0_0_1_n_n 256 rfl rfl e
  refine congrArg₂ (fun a b : EReal => a * b) (congrArg p (funext fun a => Fin.ext ?_)) ?_
  · match a with
    | ⟨0, _⟩ => rfl
    | ⟨1, _⟩ => exact hk
  · unfold augV
    have ed : dot_S512x256_S256x256_S512x256_1_0_0_1_n_n.rhsIdx (ix2 i d) ((contrEquiv1 dot_S512x256_S256x256_S512x256_1_0_0_1_n_n 256 rfl rfl).symm e) = ix2 e d := funext fun a => Fin.ext (by
      match a with
      | ⟨0, _⟩ => exact hk
      | ⟨1, _⟩ => rfl)
    rw [ed]
    by_cases h : d.val < 128
    · rw [dif_pos h]
      refine (concatenate_pair_apply_left (s₁ := S256x128) (s₂ := S256x128) 1 _ _ _ (ix2 e d) rfl (ix2 e ⟨d.val, h⟩) (fun a => ?_)).trans ?_
      · match a with
        | ⟨0, _⟩ => rfl
        | ⟨1, _⟩ => rfl
      · refine (shapeCast_dropUnit_apply ![256, 128] vb _ _).trans (congrArg vb (funext fun a => Fin.ext ?_))
        match a with
        | ⟨0, _⟩ => rfl
        | ⟨1, _⟩ => rfl
        | ⟨2, _⟩ => rfl
    · rw [dif_neg h]
      have hd := d.isLt
      refine (concatenate_pair_apply_right (s₁ := S256x128) (s₂ := S256x128) 1 _ _ _ (ix2 e d) rfl rfl (ix2 e ⟨d.val - 128, by omega⟩) (fun a ha => ?_) ?_).trans ?_
      · match a with
        | ⟨0, _⟩ => rfl
        | ⟨1, _⟩ => exact absurd rfl ha
      · show d.val - 128 + 128 = d.val
        omega
      · exact one_bf16

/-- The accumulator's new block, its left half, -/
theorem accPay0_at (vb : Vec Ideal S1x256x128 .bf16) (p : Vec Ideal S512x256 .bf16) (al : Vec Ideal S512x128 .f32) (ac : Vec Ideal S1x512x128 .f32) (i : Fin 512) (d : Fin 128) :
    (accPay0 (F := Ideal) vb p al ac (ix3 0 i d) : EReal)
      = (al (ix2 i d) : EReal) * ac (ix3 0 i d) + ∑ j : Fin 256, (p (ix2 i j) : EReal) * augV vb j ⟨d.val, by omega⟩ := by
  unfold accPay0
  refine (shapeCast_addUnit_apply ![512, 128] _ _ _).trans ?_
  rw [show (fun a : Fin 2 => (ix3 (n0 := 1) (n1 := 512) (n2 := 128) 0 i d) a.succ) = ix2 i d from funext fun a => by match a with | ⟨0, _⟩ => rfl | ⟨1, _⟩ => rfl]
  rw [addf_apply, mulf_apply, ← pvPay_at]
  refine congrArg₂ (fun a b : EReal => a + b) (congrArg (fun b : EReal => (al (ix2 i d) : EReal) * b) ?_) ?_
  · refine (shapeCast_dropUnit_apply ![512, 128] ac _ _).trans (congrArg ac (funext fun a => Fin.ext ?_))
    match a with
    | ⟨0, _⟩ => rfl
    | ⟨1, _⟩ => rfl
    | ⟨2, _⟩ => rfl
  · refine extractStridedSlice_apply _ _ _ _ _ fun a => ?_
    match a with
    | ⟨0, _⟩ => exact (Nat.zero_add _).symm
    | ⟨1, _⟩ => exact (Nat.zero_add _).symm

/-- and its right half. -/
theorem accPay1_at (vb : Vec Ideal S1x256x128 .bf16) (p : Vec Ideal S512x256 .bf16) (al : Vec Ideal S512x128 .f32) (ac : Vec Ideal S1x512x128 .f32) (i : Fin 512) (d : Fin 128) :
    (accPay1 (F := Ideal) vb p al ac (ix3 0 i d) : EReal)
      = (al (ix2 i d) : EReal) * ac (ix3 0 i d) + ∑ j : Fin 256, (p (ix2 i j) : EReal) * augV vb j ⟨128 + d.val, by omega⟩ := by
  unfold accPay1
  refine (shapeCast_addUnit_apply ![512, 128] _ _ _).trans ?_
  rw [show (fun a : Fin 2 => (ix3 (n0 := 1) (n1 := 512) (n2 := 128) 0 i d) a.succ) = ix2 i d from funext fun a => by match a with | ⟨0, _⟩ => rfl | ⟨1, _⟩ => rfl]
  rw [addf_apply, mulf_apply, ← pvPay_at]
  refine congrArg₂ (fun a b : EReal => a + b) (congrArg (fun b : EReal => (al (ix2 i d) : EReal) * b) ?_) ?_
  · refine (shapeCast_dropUnit_apply ![512, 128] ac _ _).trans (congrArg ac (funext fun a => Fin.ext ?_))
    match a with
    | ⟨0, _⟩ => rfl
    | ⟨1, _⟩ => rfl
    | ⟨2, _⟩ => rfl
  · refine extractStridedSlice_apply _ _ _ _ _ fun a => ?_
    match a with
    | ⟨0, _⟩ => exact (Nat.zero_add _).symm
    | ⟨1, _⟩ => rfl

end Cert.Proof.KernelIdeal

end
-- ==== Proof.Online.lean ====
/- What the pipeline has accumulated before each work item, as sums of reals. -/
module

public import proofs.«01_k».proof.Proof.Reads
public import proofs.«01_k».proof.Proof.Arrays

@[expose] public section

set_option maxRecDepth 8192

noncomputable section

namespace Cert.Proof.KernelIdeal

open Cert.KernelIdeal Cert.KernelIdeal.Gen
open Idealize.ShloMosaic
open Idealize.ShloMosaic.ValueIdx

section

variable (K V : S1x4096x128.Idx → Elt Ideal .bf16) (Q : S16x512x128.Idx → Elt Ideal .bf16)
  (kr vr : S1x4096x128.Idx → ℝ) (qr : S16x512x128.Idx → ℝ)

/-- The score of row `i` of row block `r` against key `j`. -/
def score (r : Fin 16) (i : Fin 512) (j : Fin 4096) : ℝ := ∑ e : Fin 128, qr (ix3 r i e) * kr (ix3 0 j e)

/-- The values with the ones beside them, over all rows. -/
def va (j : Fin 4096) (d : Fin 256) : ℝ := if h : d.val < 128 then vr (ix3 0 j ⟨d.val, h⟩) else 1

/-- What key `j` contributes, before anything is scaled. -/
def wt (r : Fin 16) (i : Fin 512) (d : Fin 256) (j : ℕ) : ℝ :=
  if h : j < 4096 then Real.rpow 2 (score kr qr r i ⟨j, h⟩) * va vr ⟨j, h⟩ d else 0

variable (hK : ∀ i, (K i : EReal) = ↑(kr i)) (hV : ∀ i, (V i : EReal) = ↑(vr i)) (hQ : ∀ i, (Q i : EReal) = ↑(qr i))

theorem col_lt (n : ℕ) (j : Fin 256) : 256 * colN n + j.val < 4096 := by have := colN_lt n; have := j.isLt; omega

include hK hQ in
theorem itemS_at (n : ℕ) (i : Fin 512) (j : Fin 256) :
    (itemS (F := Ideal) K Q n (ix2 i j) : EReal) = ↑(score kr qr ⟨rowN n, rowN_lt n⟩ i ⟨256 * colN n + j.val, col_lt n j⟩) := by
  unfold itemS score
  rw [scoresPay_at, ← coe_sum]
  refine Finset.sum_congr rfl fun e _ => ?_
  rw [EReal.coe_mul, ← hQ, ← hK]
  refine congrArg₂ (fun a b : EReal => a * b) (window_at _ _ _ _ _ _ _ (off14_item n) fun a => ?_) (window_at _ _ _ _ _ _ _ (off12_item n) fun a => ?_)
  · match a with
    | ⟨0, _⟩ => rfl
    | ⟨1, _⟩ => exact (Nat.zero_add _).symm
    | ⟨2, _⟩ => exact (Nat.zero_add _).symm
  · match a with
    | ⟨0, _⟩ => rfl
    | ⟨1, _⟩ => rfl
    | ⟨2, _⟩ => exact (Nat.zero_add _).symm

include hK hQ in
/-- The scores as they are taken into the softmax: minus infinity where they are masked. -/
theorem gated_at (n : ℕ) (i : Fin 512) (j : Fin 256) :
    (gate n (itemS (F := Ideal) K Q n) (ix2 i j) : EReal)
      = if n < 120 ∨ j.val ≤ i.val % 256 then (↑(score kr qr ⟨rowN n, rowN_lt n⟩ i ⟨256 * colN n + j.val, col_lt n j⟩) : EReal) else ⊥ := by
  unfold gate
  by_cases h : n < 120
  · rw [if_pos h, if_pos (Or.inl h)]
    exact itemS_at K Q kr qr hK hQ n i j
  · rw [if_neg h, masked_at]
    refine if_congr ⟨Or.inr, fun h' => h'.resolve_left h⟩ (itemS_at K Q kr qr hK hQ n i j) rfl

include hV in
theorem augV_at (n : ℕ) (j d : Fin 256) :
    augV (VecWindow.window V (k0_off18 (itemCol n)) S1x256x128.size (k0_off18_inb _ (col_chk9 n))) j d = ↑(va vr ⟨256 * colN n + j.val, col_lt n j⟩ d) := by
  unfold augV va
  by_cases h : d.val < 128
  · rw [dif_pos h, dif_pos h, ← hV]
    refine window_at _ _ _ _ _ _ _ (off18_item n) fun a => ?_
    match a with
    | ⟨0, _⟩ => rfl
    | ⟨1, _⟩ => rfl
    | ⟨2, _⟩ => exact (Nat.zero_add _).symm
  · rw [dif_neg h, dif_neg h, EReal.coe_one]

/-- What one item does to one element of the accumulator. -/
theorem step_sum (r : Fin 16) (n : ℕ) (hr : rowN n = r.val) (i : Fin 512) (d : Fin 256) (a b P : ℝ) (hP : P = partSum (wt kr vr qr r i d) r.val (i.val % 256) n) :
    ((Real.rpow 2 (a - b) : ℝ) : EReal) * ((Real.rpow 2 (-a) * P : ℝ) : EReal)
      + ∑ j : Fin 256, Ideal.exp2 ((if n < 120 ∨ j.val ≤ i.val % 256 then (↑(score kr qr r i ⟨256 * colN n + j.val, col_lt n j⟩) : EReal) else ⊥) - ↑b)
          * ((va vr ⟨256 * colN n + j.val, col_lt n j⟩ d : ℝ) : EReal)
      = ((Real.rpow 2 (-b) * partSum (wt kr vr qr r i d) r.val (i.val % 256) (n + 1) : ℝ) : EReal) := by
  have h2 : (0 : ℝ) < 2 := by norm_num
  have hterm : ∀ j : Fin 256, Ideal.exp2 ((if n < 120 ∨ j.val ≤ i.val % 256 then (↑(score kr qr r i ⟨256 * colN n + j.val, col_lt n j⟩) : EReal) else ⊥) - ↑b)
          * ((va vr ⟨256 * colN n + j.val, col_lt n j⟩ d : ℝ) : EReal)
      = ((Real.rpow 2 (-b) * (if n < 120 ∨ j.val ≤ i.val % 256 then wt kr vr qr r i d (256 * colN n + j.val) else 0) : ℝ) : EReal) := by
    intro j
    by_cases h : n < 120 ∨ j.val ≤ i.val % 256
    · rw [if_pos h, if_pos h, ← EReal.coe_sub, Ideal.exp2_coe, ← EReal.coe_mul]
      unfold wt
      rw [dif_pos (col_lt n j), ← mul_assoc]
      refine congrArg (fun x : ℝ => ((x * _ : ℝ) : EReal)) ?_
      refine Eq.trans ?_ (Real.rpow_add h2 _ _)
      rw [sub_eq_add_neg, add_comm]
      rfl
    · rw [if_neg h, if_neg h, EReal.bot_sub, Ideal.exp2_bot, zero_mul, mul_zero, EReal.coe_zero]
  rw [Finset.sum_congr rfl fun j _ => hterm j, coe_sum, ← EReal.coe_mul, ← EReal.coe_add, ← Finset.mul_sum]
  refine congrArg _ ?_
  have hp : partSum (wt kr vr qr r i d) r.val (i.val % 256) (n + 1)
      = P + ∑ j : Fin 256, (if n < 120 ∨ j.val ≤ i.val % 256 then wt kr vr qr r i d (256 * colN n + j.val) else 0) := by
    rw [hP]
    unfold partSum
    rw [Finset.sum_range_succ, if_pos hr]
    rfl
  rw [hp, mul_add, ← mul_assoc]
  refine congrArg (fun x : ℝ => x * P + _) ?_
  refine (Real.rpow_add h2 _ _).symm.trans ?_
  refine congrArg (Real.rpow 2) ?_
  ring

/-- The maxima and the accumulator before item `n`: a real maximum for each row, and the sums of the items so far scaled by it. -/
def Inv (n : ℕ) : Prop := ∀ (r : Fin 16) (i : Fin 512), ∃ a : ℝ,
  (∀ l : Fin 128, (itemM (F := Ideal) K Q mArr n (ix3 r i l) : EReal) = ↑a)
  ∧ ∀ d : Fin 256, (itemA (F := Ideal) K V Q mArr aArr n (ix3 r i d) : EReal) = ↑(Real.rpow 2 (-a) * partSum (wt kr vr qr r i d) r.val (i.val % 256) n)

theorem inv_zero (hm : ∃ a : ℝ, Ideal.ofBits .f32 0xF149F2CA#32 = ↑a) : Inv K V Q kr vr qr 0 := by
  intro r i
  obtain ⟨a, ha⟩ := hm
  refine ⟨a, fun l => ?_, fun d => ?_⟩
  · exact ha
  · have : partSum (wt kr vr qr r i d) r.val (i.val % 256) 0 = 0 := rfl
    rw [this, mul_zero, EReal.coe_zero]
    exact Ideal.ofBits_zero_f32

include hK hV hQ in
theorem inv_succ (n : ℕ) (ih : Inv K V Q kr vr qr n) : Inv K V Q kr vr qr (n + 1) := by
  intro r i
  obtain ⟨a, hm, hA⟩ := ih r i
  by_cases hr : rowN n = r.val
  · have er : (⟨rowN n, rowN_lt n⟩ : Fin 16) = r := Fin.ext hr
    have e16 : k0_off16 (itemRow n) = ![r.val, 0, 0] := (off16_item n).trans (by rw [hr])
    have e19 : k0_off19 (itemRow n) = ![r.val, 0, 0] := (off19_item n).trans (by rw [hr])
    have e20 : k0_off20 (itemRow n) = ![r.val, 0, 128] := (off20_item n).trans (by rw [hr])
    have hgate := gated_at K Q kr qr hK hQ n i
    rw [er] at hgate
    have hw : ∀ l : Fin 128, (VecWindow.window (itemM (F := Ideal) K Q mArr n) (k0_off16 (itemRow n)) S1x512x128.size (k0_off16_inb _ (row_chk8 n)) (ix3 0 i l) : EReal) = ↑a := fun l => by
      refine Eq.trans (window_at _ _ _ _ _ (ix3 r i l) _ e16 fun x => ?_) (hm l)
      match x with
      | ⟨0, _⟩ => rfl
      | ⟨1, _⟩ => exact (Nat.zero_add _).symm
      | ⟨2, _⟩ => exact (Nat.zero_add _).symm
    have hlt : ∀ j : Fin 256, (gate n (itemS (F := Ideal) K Q n) (ix2 i j) : EReal) < ⊤ := fun j => by
      rw [hgate]
      by_cases h : n < 120 ∨ j.val ≤ i.val % 256
      · rw [if_pos h]; exact EReal.coe_lt_top _
      · rw [if_neg h]; exact bot_lt_top
    obtain ⟨b, hb⟩ := maxPay_at _ _ i a hlt hw
    have hp : ∀ j : Fin 256, (itemP (F := Ideal) K Q mArr n (ix2 i j) : EReal)
        = Ideal.exp2 ((if n < 120 ∨ j.val ≤ i.val % 256 then (↑(score kr qr r i ⟨256 * colN n + j.val, col_lt n j⟩) : EReal) else ⊥) - ↑b) := fun j => by
      rw [← hgate]
      exact probPay_at _ _ i j b hb
    have hal : ∀ l : Fin 128, (itemL (F := Ideal) K Q mArr n (ix2 i l) : EReal) = ((Real.rpow 2 (a - b) : ℝ) : EReal) := fun l =>
      alphaPay_at _ _ i l a b (hw l) (hb l)
    refine ⟨b, fun l => ?_, fun d => ?_⟩
    · show VecWindow.put _ _ _ _ _ = _
      refine (put_at (s := S16x512x128) _ _ S1x512x128.size _ (ix3 r i l) (ix3 (n0 := 1) (n1 := 512) (n2 := 128) 0 i l) _ e16 fun x => ?_).trans ?_
      · match x with
        | ⟨0, _⟩ => rfl
        | ⟨1, _⟩ => exact (Nat.zero_add _).symm
        | ⟨2, _⟩ => exact (Nat.zero_add _).symm
      · refine (shapeCast_addUnit_apply ![512, 128] _ _ _).trans (Eq.trans (congrArg _ (funext fun x => ?_)) (hb l))
        match x with
        | ⟨0, _⟩ => rfl
        | ⟨1, _⟩ => rfl
    · have hsum := step_sum kr vr qr r n hr i d a b _ rfl
      show accNew _ _ _ _ _ _ _ _ _ = _
      unfold accNew
      by_cases h : d.val < 128
      · refine (put_out _ _ _ _ _ 2 (Or.inl ?_)).trans ?_
        · rw [off20_item]; exact h
        refine (put_at (s := S16x512x256) _ _ S1x512x128.size _ (ix3 r i d) (ix3 (n0 := 1) (n1 := 512) (n2 := 128) 0 i ⟨d.val, h⟩) _ e19 fun x => ?_).trans ?_
        · match x with
          | ⟨0, _⟩ => rfl
          | ⟨1, _⟩ => exact (Nat.zero_add _).symm
          | ⟨2, _⟩ => exact (Nat.zero_add _).symm
        rw [accPay0_at]
        refine Eq.trans (congrArg₂ (fun x y : EReal => x + y) (congrArg₂ (fun x y : EReal => x * y) (hal _) ?_) (Finset.sum_congr rfl fun j _ => congrArg₂ (fun x y : EReal => x * y) (hp j) (augV_at V vr hV n j d))) hsum
        refine Eq.trans (window_at _ _ _ _ _ (ix3 r i d) _ e19 fun x => ?_) (hA d)
        match x with
        | ⟨0, _⟩ => rfl
        | ⟨1, _⟩ => exact (Nat.zero_add _).symm
        | ⟨2, _⟩ => exact (Nat.zero_add _).symm
      · have hd := d.isLt
        have ed : d = ⟨128 + (d.val - 128), by omega⟩ := Fin.ext (by show d.val = 128 + (d.val - 128); omega)
        refine (put_at (s := S16x512x256) _ _ S1x512x128.size _ (ix3 r i d) (ix3 (n0 := 1) (n1 := 512) (n2 := 128) 0 i ⟨d.val - 128, by omega⟩) _ e20 fun x => ?_).trans ?_
        · match x with
          | ⟨0, _⟩ => rfl
          | ⟨1, _⟩ => exact (Nat.zero_add _).symm
          | ⟨2, _⟩ => show d.val = 128 + (d.val - 128); omega
        rw [accPay1_at, ← ed]
        refine Eq.trans (congrArg₂ (fun x y : EReal => x + y) (congrArg₂ (fun x y : EReal => x * y) (hal _) ?_) (Finset.sum_congr rfl fun j _ => congrArg₂ (fun x y : EReal => x * y) (hp j) (augV_at V vr hV n j d))) hsum
        refine Eq.trans (window_at _ _ _ _ _ (ix3 r i d) _ e20 fun x => ?_) ((put_out _ _ _ _ _ 2 (Or.inr ?_)).trans (hA d))
        · match x with
          | ⟨0, _⟩ => rfl
          | ⟨1, _⟩ => exact (Nat.zero_add _).symm
          | ⟨2, _⟩ => show d.val = 128 + (d.val - 128); omega
        · rw [off19_item]
          show 0 + 128 ≤ d.val
          omega
  · have hne : r.val < rowN n ∨ rowN n + 1 ≤ r.val := by omega
    refine ⟨a, fun l => ?_, fun d => ?_⟩
    · show VecWindow.put _ _ _ _ _ = _
      refine (put_out _ _ _ _ _ 0 ?_).trans (hm l)
      rw [off16_item]; exact hne
    · have hp : partSum (wt kr vr qr r i d) r.val (i.val % 256) (n + 1) = partSum (wt kr vr qr r i d) r.val (i.val % 256) n := by
        unfold partSum
        rw [Finset.sum_range_succ, if_neg hr, add_zero]
      rw [hp]
      show accNew _ _ _ _ _ _ _ _ _ = _
      unfold accNew
      refine (put_out _ _ _ _ _ 0 ?_).trans ((put_out _ _ _ _ _ 0 ?_).trans (hA d))
      · rw [off20_item]; exact hne
      · rw [off19_item]; exact hne

theorem start_real : ∃ a : ℝ, Ideal.ofBits .f32 0xF149F2CA#32 = ↑a :=
  ieee_real (e := 8) (m := 23) (0xF149F2CA#32) (by decide)

include hK hV hQ in
theorem inv_all (n : ℕ) : Inv K V Q kr vr qr n := by
  induction n with
  | zero => exact inv_zero K V Q kr vr qr start_real
  | succ n ih => exact inv_succ K V Q kr vr qr hK hV hQ n ih

end

end Cert.Proof.KernelIdeal

end
-- ==== Proof.Value.lean ====
/- What the kernel's body leaves in its block, element by element. -/
module

public import proofs.«01_k».proof.Proof.Mix
public import proofs.«01_k».proof.Proof.Online
public import proofs.«01_k».proof.Proof.Run

@[expose] public section

set_option maxRecDepth 8192

noncomputable section

namespace Cert.Proof.KernelIdeal

open Cert.KernelIdeal Cert.KernelIdeal.Gen
open Idealize.ShloMosaic
open Idealize.ShloMosaic.ValueIdx

/-- The payload that ends a row, read at an element. -/
theorem rowPay_at (lam : FVec Ideal S1x1 .f32) (sw : FVec Ideal S1x128 .f32) (A0 A1 : Vec Ideal S1x256x256 .f32) (i : Fin 256) (d : Fin 128) :
    (k0_pay1 (F := Ideal) lam sw A0 A1 (ix3 0 i d) : EReal)
      = (fun o : Fin 128 → EReal => o d * Ideal.rsqrt (Ideal.div (∑ x, o x * o x) (Ideal.ofBits .f32 0x43000000#32) + Ideal.ofBits .f32 0x3727C5AC#32) * sw (ix2 0 d))
        fun x => Ideal.div (A0 (ix3 0 i ⟨x.val, by omega⟩)) (A0 (ix3 0 i ⟨128 + x.val, by omega⟩))
          - lam (ix2 0 0) * Ideal.div (A1 (ix3 0 i ⟨x.val, by omega⟩)) (A1 (ix3 0 i ⟨128 + x.val, by omega⟩)) := by
  have hlo : ∀ (A : Vec Ideal S1x256x256 .f32) (x : Fin 128),
      extractStridedSlice S256x128 ![0, 0] (shapeCast S256x256 A shapeCasts_S1x256x256_S256x256) slices_S256x256_o0_0_S256x128 (ix2 i x) = A (ix3 0 i ⟨x.val, by omega⟩) := fun A x => by
    refine (extractStridedSlice_apply _ _ _ _ (ix2 i ⟨x.val, by omega⟩) fun a => ?_).trans ?_
    · match a with
      | ⟨0, _⟩ => exact (Nat.zero_add _).symm
      | ⟨1, _⟩ => exact (Nat.zero_add _).symm
    refine (shapeCast_dropUnit_apply ![256, 256] _ _ _).trans (congrArg A (funext fun a => ?_))
    match a with
    | ⟨0, _⟩ => rfl
    | ⟨1, _⟩ => rfl
    | ⟨2, _⟩ => rfl
  have hhi : ∀ (A : Vec Ideal S1x256x256 .f32) (x : Fin 128),
      extractStridedSlice S256x128 ![0, 128] (shapeCast S256x256 A shapeCasts_S1x256x256_S256x256) slices_S256x256_o0_128_S256x128 (ix2 i x) = A (ix3 0 i ⟨128 + x.val, by omega⟩) := fun A x => by
    refine (extractStridedSlice_apply _ _ _ _ (ix2 i ⟨128 + x.val, by omega⟩) fun a => ?_).trans ?_
    · match a with
      | ⟨0, _⟩ => exact (Nat.zero_add _).symm
      | ⟨1, _⟩ => rfl
    refine (shapeCast_dropUnit_apply ![256, 256] _ _ _).trans (congrArg A (funext fun a => ?_))
    match a with
    | ⟨0, _⟩ => rfl
    | ⟨1, _⟩ => rfl
    | ⟨2, _⟩ => rfl
  have hlam : ∀ x : Fin 128, broadcastTo S256x128 lam broadcasts_S1x1_S256x128 (ix2 i x) = lam (ix2 0 0) := fun x =>
    broadcastTo_apply _ _ _ _ fun a => by
      match a with
      | ⟨0, _⟩ => rfl
      | ⟨1, _⟩ => rfl
  have ho : ∀ x : Fin 128, (subf (divf (extractStridedSlice S256x128 ![0, 0] (shapeCast S256x256 A0 shapeCasts_S1x256x256_S256x256) slices_S256x256_o0_0_S256x128) (extractStridedSlice S256x128 ![0, 128] (shapeCast S256x256 A0 shapeCasts_S1x256x256_S256x256) slices_S256x256_o0_128_S256x128))
        (mulf (broadcastTo S256x128 lam broadcasts_S1x1_S256x128) (divf (extractStridedSlice S256x128 ![0, 0] (shapeCast S256x256 A1 shapeCasts_S1x256x256_S256x256) slices_S256x256_o0_0_S256x128) (extractStridedSlice S256x128 ![0, 128] (shapeCast S256x256 A1 shapeCasts_S1x256x256_S256x256) slices_S256x256_o0_128_S256x128))) (ix2 i x) : EReal)
      = Ideal.div (A0 (ix3 0 i ⟨x.val, by omega⟩)) (A0 (ix3 0 i ⟨128 + x.val, by omega⟩)) - lam (ix2 0 0) * Ideal.div (A1 (ix3 0 i ⟨x.val, by omega⟩)) (A1 (ix3 0 i ⟨128 + x.val, by omega⟩)) := fun x =>
    congrArg₂ (fun x y : EReal => x - y) (congrArg₂ Ideal.div (hlo A0 x) (hhi A0 x)) (congrArg₂ (fun x y : EReal => x * y) (hlam x) (congrArg₂ Ideal.div (hlo A1 x) (hhi A1 x)))
  unfold k0_pay1
  refine (shapeCast_addUnit_apply ![256, 128] _ _ _).trans ?_
  rw [show (fun a : Fin 2 => (ix3 (n0 := 1) (n1 := 256) (n2 := 128) 0 i d) a.succ) = ix2 i d from funext fun a => by match a with | ⟨0, _⟩ => rfl | ⟨1, _⟩ => rfl]
  refine congrArg₂ (fun x y : EReal => x * y) (congrArg₂ (fun x y : EReal => x * y) (ho d) ?_) ?_
  · refine (broadcastTo_apply _ _ _ (ix2 i 0) fun a => ?_).trans ?_
    · match a with
      | ⟨0, _⟩ => rfl
      | ⟨1, _⟩ => rfl
    refine congrArg Ideal.rsqrt (congrArg₂ (fun x y : EReal => x + y) (congrArg (fun x : EReal => Ideal.div x _) ?_) rfl)
    refine (shapeCast_apply _ _ (ix2 i 0) (ix1 i) ?_).trans ?_
    · rw [Shape.rowMajor_val_one, Shape.rowMajor_val_two]
      show i.val = i.val * 1 + 0
      omega
    refine (Ideal.multiReduction_add_single _ _ _ _ _ _).trans (Finset.sum_congr rfl fun x _ => ?_)
    refine congrArg₂ (fun x y : EReal => x * y) (Eq.trans (congrArg _ (funext fun a => ?_)) (ho x)) (Eq.trans (congrArg _ (funext fun a => ?_)) (ho x))
    · match a with
      | ⟨0, _⟩ => rfl
      | ⟨1, _⟩ => rfl
    · match a with
      | ⟨0, _⟩ => rfl
      | ⟨1, _⟩ => rfl
  · refine broadcastTo_apply _ _ _ _ fun a => ?_
    match a with
    | ⟨0, _⟩ => rfl
    | ⟨1, _⟩ => rfl

/-- The mixing parameter as the kernel computes it. -/
theorem lamPay_at (L : Vec Ideal S4x64 .f32) : (k0_pay311 (F := Ideal) L (ix2 0 0) : EReal) = lamOf fun a e => L (ix2 a e) := by
  have hrow : ∀ (r : Fin 4) (off : Fin 2 → ℕ) (hs : S4x64.Slices off S1x64) (_ : off = ![r.val, 0]) (e : Fin 64), extractStridedSlice S1x64 off L hs (ix2 0 e) = L (ix2 r e) := fun r off hs ho e => by
    refine extractStridedSlice_apply _ _ _ _ _ fun a => ?_
    subst ho
    match a with
    | ⟨0, _⟩ => rfl
    | ⟨1, _⟩ => exact (Nat.zero_add _).symm
  have hsum : ∀ (r s : Fin 4) (o p : Fin 2 → ℕ) (hs : S4x64.Slices o S1x64) (hp : S4x64.Slices p S1x64) (_ : o = ![r.val, 0]) (_ : p = ![s.val, 0]),
      (shapeCast S1x1 (multiReduction (F := Ideal) .add [1] S1 (mulf (extractStridedSlice S1x64 o L hs) (extractStridedSlice S1x64 p L hp)) 0x00000000#32 reduces_S1x64_S1 (.inl rfl) rfl) shapeCasts_S1_S1x1 : FVec Ideal S1x1 .f32) (ix2 0 0)
        = ∑ e, (L (ix2 r e) : EReal) * L (ix2 s e) := fun r s o p hs hp ho hp' => by
    refine (shapeCast_apply _ _ (ix2 0 0) (ix1 0) rfl).trans ?_
    refine (Ideal.multiReduction_add_single _ _ _ _ _ _).trans (Finset.sum_congr rfl fun e _ => ?_)
    refine congrArg₂ (fun x y : EReal => x * y) (Eq.trans (congrArg _ (funext fun a => ?_)) (hrow r o hs ho e)) (Eq.trans (congrArg _ (funext fun a => ?_)) (hrow s p hp hp' e))
    · match a with
      | ⟨0, _⟩ => rfl
      | ⟨1, _⟩ => rfl
    · match a with
      | ⟨0, _⟩ => rfl
      | ⟨1, _⟩ => rfl
  unfold k0_pay311 lamOf
  exact congrArg₂ (fun x y : EReal => x + y) (congrArg₂ (fun x y : EReal => x - y) (congrArg Ideal.exp (hsum 0 1 _ _ _ _ rfl rfl)) (congrArg Ideal.exp (hsum 2 3 _ _ _ _ rfl rfl))) rfl

theorem rowWeight_at (W : Vec Ideal S1x128 .f32) (d : Fin 128) : (k0_pay312 (F := Ideal) W (ix2 0 d) : EReal) = (W (ix2 0 d) : EReal) * Ideal.ofBits .f32 0x3F4CCCCD#32 := by
  unfold k0_pay312
  rw [shapeCast_self]
  rfl

section

variable (X K V : S1x4096x128.Idx → Elt Ideal .bf16) (q k v : Fin 4096 → Fin 128 → ℝ)

/-- The queries as the kernel lays them: each block twice, with one half of the features and with the other. -/
def qSplit (j : S16x512x128.Idx) : ℝ :=
  if ((j 1).val < 256) ↔ ((j 2).val < 64) then q ⟨256 * (j 0).val + (j 1).val % 256, by have : (j 0).val < 16 := (j 0).isLt; omega⟩ (j 2) else 0

theorem zero_bf16 : Ideal.ofBits .bf16 0x0000#16 = 0 := by simp [Ideal.ofBits, Ideal.ieee]

theorem pay147_at (Y : Vec Ideal S1x256x128 .bf16) (i : Fin 256) (e : Fin 128) : (k0_pay147 (F := Ideal) Y (ix2 i e) : EReal) = Y (ix3 0 i e) := by
  unfold k0_pay147
  refine (shapeCast_dropUnit_apply ![256, 128] _ _ _).trans (congrArg Y (funext fun a => ?_))
  match a with
  | ⟨0, _⟩ => rfl
  | ⟨1, _⟩ => rfl
  | ⟨2, _⟩ => rfl

/-- The queries with the first half of the features kept, -/
theorem lowPay_at (Y : Vec Ideal S1x256x128 .bf16) (i : Fin 256) (e : Fin 128) : (k0_pay149 (F := Ideal) Y (ix3 0 i e) : EReal) = if e.val < 64 then (Y (ix3 0 i e) : EReal) else 0 := by
  unfold k0_pay149
  refine (shapeCast_addUnit_apply ![256, 128] _ _ _).trans ?_
  rw [show (fun a : Fin 2 => (ix3 (n0 := 1) (n1 := 256) (n2 := 128) 0 i e) a.succ) = ix2 i e from funext fun a => by match a with | ⟨0, _⟩ => rfl | ⟨1, _⟩ => rfl]
  refine (select_apply _ _ _ _).trans ?_
  have hc : (cmpi .slt (iota .tc S256x128 32 [1] iota_S256x128_d1_w32) (broadcast S256x128 64#32) (ix2 i e) = 1#1) ↔ e.val < 64 := by
    show (IntOp.cmpi .slt (iota .tc S256x128 32 [1] iota_S256x128_d1_w32 (ix2 i e)) (BitVec.ofNat 32 64) = 1#1) ↔ _
    rw [iota_single_apply]
    exact WordCmp.cmpi_slt_ofNat_eq_one_iff (w := 32) (by show e.val < _; omega) (by decide)
  by_cases he : e.val < 64
  · rw [hc.2 he, if_pos he]
    exact (select_one _ _).trans (pay147_at Y i e)
  · rw [eq_zero_of_ne_one (fun x => he (hc.1 x)), if_neg he]
    exact (select_zero _ _).trans zero_bf16

/-- and with the second. -/
theorem highPay_at (Y : Vec Ideal S1x256x128 .bf16) (i : Fin 256) (e : Fin 128) : (k0_pay150 (F := Ideal) Y (ix3 0 i e) : EReal) = if e.val < 64 then 0 else (Y (ix3 0 i e) : EReal) := by
  unfold k0_pay150
  refine (shapeCast_addUnit_apply ![256, 128] _ _ _).trans ?_
  rw [show (fun a : Fin 2 => (ix3 (n0 := 1) (n1 := 256) (n2 := 128) 0 i e) a.succ) = ix2 i e from funext fun a => by match a with | ⟨0, _⟩ => rfl | ⟨1, _⟩ => rfl]
  refine (select_apply _ _ _ _).trans ?_
  have hc : (cmpi .sge (iota .tc S256x128 32 [1] iota_S256x128_d1_w32) (broadcast S256x128 64#32) (ix2 i e) = 1#1) ↔ 64 ≤ e.val := by
    show (IntOp.cmpi .sge (iota .tc S256x128 32 [1] iota_S256x128_d1_w32 (ix2 i e)) (BitVec.ofNat 32 64) = 1#1) ↔ _
    rw [iota_single_apply]
    exact WordCmp.cmpi_sge_ofNat_eq_one_iff (w := 32) (by show e.val < _; omega) (by decide)
  by_cases he : e.val < 64
  · rw [eq_zero_of_ne_one (fun x => absurd (hc.1 x) (by omega)), if_pos he]
    exact (select_zero _ _).trans zero_bf16
  · rw [hc.2 (by omega), if_neg he]
    exact (select_one _ _).trans (pay147_at Y i e)

theorem qWin_at (t : Fin k0_t1_loop.trips) (i : Fin 256) (e : Fin 128) (hX : ∀ i e, (X (ix3 0 i e) : EReal) = ↑(q i e)) (y : Fin 4096) (hy : y.val = 256 * t.val + i.val) :
    (VecWindow.window X (k0_off1 t) S1x256x128.size (k0_off1_inb t) (ix3 0 i e) : EReal) = ↑(q y e) := by
  refine (window_at _ _ _ _ _ (ix3 0 y e) _ (off1_eq t) fun a => ?_).trans (hX _ _)
  match a with
  | ⟨0, _⟩ => rfl
  | ⟨1, _⟩ => exact hy
  | ⟨2, _⟩ => exact (Nat.zero_add _).symm

theorem qArr_at (hX : ∀ i e, (X (ix3 0 i e) : EReal) = ↑(q i e)) (j : S16x512x128.Idx) : (qArr (F := Ideal) X j : EReal) = ↑(qSplit q j) := by
  have h0 : (j 0).val < 16 := (j 0).isLt
  have h1 : (j 1).val < 512 := (j 1).isLt
  unfold qArr qSplit
  dsimp only
  by_cases h : (j 1).val < 256
  · rw [dif_pos h]
    refine (lowPay_at _ _ _).trans ?_
    by_cases he : (j 2).val < 64
    · rw [if_pos he, if_pos ⟨fun _ => he, fun _ => h⟩]
      exact qWin_at X q _ _ _ hX _ (by show 256 * (j 0).val + (j 1).val % 256 = 256 * (j 0).val + (j 1).val; omega)
    · rw [if_neg he, if_neg (fun e => he (e.1 h))]
      rfl
  · rw [dif_neg h]
    refine (highPay_at _ _ _).trans ?_
    by_cases he : (j 2).val < 64
    · rw [if_pos he, if_neg (fun e => h (e.2 he))]
      rfl
    · rw [if_neg he, if_pos ⟨fun e => absurd e h, fun e => absurd e he⟩]
      exact qWin_at X q _ _ _ hX _ (by show 256 * (j 0).val + (j 1).val % 256 = 256 * (j 0).val + ((j 1).val - 256); omega)

/-- A sum over the features is one over each half. -/
theorem sum_halves (f : Fin 128 → ℝ) : ∑ e, f e = ∑ e : Fin 64, f ⟨e.val, by omega⟩ + ∑ e : Fin 64, f ⟨64 + e.val, by omega⟩ :=
  Fin.sum_univ_add (a := 64) (b := 64) f

theorem score_half (c : Fin 2) (r : Fin 16) (i : Fin 256) (j : Fin 4096) :
    score (fun z => k (z 1) (z 2)) (qSplit q) r ⟨256 * c.val + i.val, by omega⟩ j = dotHalf q k c ⟨256 * r.val + i.val, by omega⟩ j := by
  have hrow : (⟨256 * r.val + (256 * c.val + i.val) % 256, by omega⟩ : Fin 4096) = ⟨256 * r.val + i.val, by omega⟩ := Fin.ext (by show 256 * r.val + (256 * c.val + i.val) % 256 = 256 * r.val + i.val; omega)
  have hq : ∀ e : Fin 128, qSplit q (ix3 r ⟨256 * c.val + i.val, by omega⟩ e) = if (256 * c.val + i.val < 256) ↔ (e.val < 64) then q ⟨256 * r.val + i.val, by omega⟩ e else 0 := fun e => by
    rw [← hrow]; rfl
  unfold score dotHalf
  rw [sum_halves]
  simp only [hq]
  match c with
  | ⟨0, _⟩ =>
    refine (congrArg₂ (fun x y : ℝ => x + y) (Finset.sum_congr rfl fun e _ => ?_) (Finset.sum_eq_zero fun e _ => ?_)).trans (add_zero _)
    · rw [if_pos ⟨fun _ => e.isLt, fun _ => by show 256 * 0 + i.val < 256; omega⟩]
      refine congrArg₂ (fun x y : ℝ => x * y) (congrArg _ (Fin.ext ?_)) (congrArg (k j) (Fin.ext ?_))
      · show e.val = 64 * 0 + e.val; omega
      · show e.val = 64 * 0 + e.val; omega
    · rw [if_neg (fun h => absurd (h.1 (by show 256 * 0 + i.val < 256; omega)) (by show ¬ 64 + e.val < 64; omega)), zero_mul]
  | ⟨1, _⟩ =>
    refine (congrArg₂ (fun x y : ℝ => x + y) (Finset.sum_eq_zero fun e _ => ?_) (Finset.sum_congr rfl fun e _ => ?_)).trans (zero_add _)
    · rw [if_neg (fun h => absurd (h.2 e.isLt) (by show ¬ 256 * 1 + i.val < 256; omega)), zero_mul]
    · rw [if_pos ⟨fun h => absurd h (by show ¬ 256 * 1 + i.val < 256; omega), fun h => absurd h (by show ¬ 64 + e.val < 64; omega)⟩]
      rfl

variable (hX : ∀ i e, (X (ix3 0 i e) : EReal) = ↑(q i e)) (hK : ∀ i e, (K (ix3 0 i e) : EReal) = ↑(k i e)) (hV : ∀ i e, (V (ix3 0 i e) : EReal) = ↑(v i e))

include hX hK hV in
/-- What is accumulated over all items, for a row and a feature. -/
theorem acc_at (c : Fin 2) (r : Fin 16) (i : Fin 256) : ∃ s : ℝ, 0 < s ∧ ∀ d : Fin 256,
    (itemA (F := Ideal) K V (qArr X) mArr aArr 136 (ix3 r ⟨256 * c.val + i.val, by omega⟩ d) : EReal)
      = ↑(s * ∑ j, ex q k c ⟨256 * r.val + i.val, by omega⟩ j * va (fun z => v (z 1) (z 2)) j d) := by
  have hz : ∀ (Y : S1x4096x128.Idx → Elt Ideal .bf16) (y : Fin 4096 → Fin 128 → ℝ), (∀ i e, (Y (ix3 0 i e) : EReal) = ↑(y i e)) → ∀ z, (Y z : EReal) = ↑(y (z 1) (z 2)) := fun Y y hY z => by
    refine (congrArg Y (funext fun a => ?_)).trans (hY (z 1) (z 2))
    match a with
    | ⟨0, _⟩ => exact Fin.ext (by have : (z 0).val < 1 := (z 0).isLt; show (z 0).val = 0; omega)
    | ⟨1, _⟩ => rfl
    | ⟨2, _⟩ => rfl
  obtain ⟨a, _, hA⟩ := inv_all K V (qArr X) (fun z => k (z 1) (z 2)) (fun z => v (z 1) (z 2)) (qSplit q) (hz K k hK) (hz V v hV) (qArr_at X q hX) 136 r ⟨256 * c.val + i.val, by omega⟩
  refine ⟨Real.rpow 2 (-a), Real.rpow_pos_of_pos (by norm_num) _, fun d => (hA d).trans ?_⟩
  refine congrArg (fun x : ℝ => ((Real.rpow 2 (-a) * x : ℝ) : EReal)) ?_
  rw [partSum_all _ _ _ r.isLt (Nat.mod_lt _ (by decide)), Finset.sum_range]
  refine Finset.sum_congr rfl fun j _ => ?_
  have hi : (256 * c.val + i.val) % 256 = i.val := by omega
  show (if j.val ≤ 256 * r.val + (256 * c.val + i.val) % 256 then _ else _) = _
  rw [hi]
  unfold ex wt
  by_cases h : j.val ≤ 256 * r.val + i.val
  · rw [if_pos h, dif_pos j.isLt, if_pos h, score_half]
  · rw [if_neg h, if_neg h, zero_mul]

include hX hK hV in
/-- An element of the block the kernel's body leaves. -/
theorem outBlock_at (L : Vec Ideal S4x64 .f32) (W : Vec Ideal S1x128 .f32) (lam : ℝ) (hl : (lamOf fun a e => (L (ix2 a e) : EReal)) = ↑lam) (i : Fin 4096) (d : Fin 128) :
    (outBlock (F := Ideal) X K V L W (ix3 0 i d) : EReal) = rowOut (fun x => ↑(mix q k v lam i x)) (W (ix2 0 d)) d := by
  have hi := i.isLt
  unfold outBlock oArr
  dsimp only
  refine (rowPay_at _ _ _ _ ⟨i.val % 256, Nat.mod_lt _ (by decide)⟩ d).trans ?_
  dsimp only
  have hrow : (⟨256 * (i.val / 256) + i.val % 256, by omega⟩ : Fin 4096) = i := Fin.ext (by show 256 * (i.val / 256) + i.val % 256 = i.val; omega)
  have hA : ∀ c : Fin 2, ∃ s : ℝ, 0 < s ∧ ∀ y : Fin 256,
      (itemA (F := Ideal) K V (qArr X) mArr aArr 136 (ix3 ⟨i.val / 256, by omega⟩ ⟨256 * c.val + i.val % 256, by omega⟩ y) : EReal) = ↑(s * ∑ j, ex q k c i j * va (fun z => v (z 1) (z 2)) j y) := fun c => by
    obtain ⟨s, hs, h⟩ := acc_at X K V q k v hX hK hV c ⟨i.val / 256, by omega⟩ ⟨i.val % 256, Nat.mod_lt _ (by decide)⟩
    refine ⟨s, hs, fun y => ?_⟩
    exact (h y).trans (congrArg (fun x : Fin 4096 => ((s * ∑ j, ex q k c x j * va (fun z => v (z 1) (z 2)) j y : ℝ) : EReal)) hrow)
  have hdiv : ∀ (c : Fin 2) (B : Vec Ideal S1x256x256 .f32), (∀ y : Fin 256, B (ix3 0 ⟨i.val % 256, Nat.mod_lt _ (by decide)⟩ y) = itemA (F := Ideal) K V (qArr X) mArr aArr 136 (ix3 ⟨i.val / 256, by omega⟩ ⟨256 * c.val + i.val % 256, by omega⟩ y)) →
      ∀ x : Fin 128, Ideal.div (B (ix3 0 ⟨i.val % 256, Nat.mod_lt _ (by decide)⟩ ⟨x.val, by omega⟩)) (B (ix3 0 ⟨i.val % 256, Nat.mod_lt _ (by decide)⟩ ⟨128 + x.val, by omega⟩)) = ↑(att q k v c i x) := fun c B hB x => by
    obtain ⟨s, hs, h⟩ := hA c
    rw [hB, hB, h, h]
    have hnum : ∑ j, ex q k c i j * va (fun z => v (z 1) (z 2)) j ⟨x.val, by omega⟩ = ∑ j, ex q k c i j * v j x := Finset.sum_congr rfl fun j _ => by
      unfold va
      rw [dif_pos x.isLt]
    have hden : ∑ j, ex q k c i j * va (fun z => v (z 1) (z 2)) j ⟨128 + x.val, by omega⟩ = den q k c i := Finset.sum_congr rfl fun j _ => by
      unfold va
      rw [dif_neg (by show ¬ 128 + x.val < 128; omega), mul_one]
    rw [hnum, hden]
    exact div_scaled s _ _ hs (den_pos q k c i)
  have hB0 := hdiv 0 (VecWindow.window (itemA (F := Ideal) K V (qArr X) mArr aArr 136) (k0_off198 ⟨i.val / 256, by show i.val / 256 < 16; omega⟩) S1x256x256.size (k0_off198_inb _))
    fun y => window_at _ _ _ _ _ _ _ (off198_eq _) fun a => by
      match a with
      | ⟨0, _⟩ => rfl
      | ⟨1, _⟩ => rfl
      | ⟨2, _⟩ => exact (Nat.zero_add _).symm
  have hB1 := hdiv 1 (VecWindow.window (itemA (F := Ideal) K V (qArr X) mArr aArr 136) (k0_off199 ⟨i.val / 256, by show i.val / 256 < 16; omega⟩) S1x256x256.size (k0_off199_inb _))
    fun y => window_at _ _ _ _ _ _ _ (off199_eq _) fun a => by
      match a with
      | ⟨0, _⟩ => rfl
      | ⟨1, _⟩ => rfl
      | ⟨2, _⟩ => exact (Nat.zero_add _).symm
  have ho := fun x : Fin 128 => (congrArg₂ (fun x y : EReal => x - y) (hB0 x) (congrArg₂ (fun x y : EReal => x * y) ((lamPay_at L).trans hl) (hB1 x))).trans
    (show _ = ((mix q k v lam i x : ℝ) : EReal) by unfold mix; rw [EReal.coe_sub, EReal.coe_mul])
  unfold rowOut
  rw [mul_assoc (_ * _) (W (ix2 0 d) : EReal)]
  refine congrArg₂ (fun x y : EReal => x * y) (congrArg₂ (fun x y : EReal => x * y) (ho d) (congrArg Ideal.rsqrt (congrArg (fun x : EReal => Ideal.div x _ + _) (Finset.sum_congr rfl fun x _ => ?_)))) (rowWeight_at W d)
  exact congrArg₂ (fun x y : EReal => x * y) (ho x) (ho x)

end

end Cert.Proof.KernelIdeal

end
-- ==== Proof.Reference.lean ====
/- What the reference computes, element by element. -/
module

public import proofs.«01_k».proof.Proof.Mix
public import proofs.«01_k».proof.Proof.Reads
public import proofs.«01_k».proof.Proof.Gen.ReferenceIdeal
public import proofs.«01_k».proof.Proof.Gen.ReferenceIdeal.Read
public import Idealize.ShloMosaic.Lib.KernelVsHost

@[expose] public section

set_option maxRecDepth 8192

noncomputable section

namespace Cert.Proof.ReferenceIdeal

open Cert.ReferenceIdeal Cert.ReferenceIdeal.Gen Cert.ReferenceIdeal.Read
open Idealize.ShloMosaic
open KernelIdeal (coe_sum ieee_real)
open Idealize.ShloMosaic.ValueIdx

theorem two_f32 : Ideal.ofBits .f32 0x40000000#32 = ((2 : ℝ) : EReal) := by
  simp [Ideal.ofBits, Ideal.ieee]
  rw [← EReal.coe_mul]
  norm_num

variable (x0 : (⟨S16x4096x3072, .bf16⟩ : BufTy).Contents (Elt Ideal)) (x1 : (⟨S4x64, .f32⟩ : BufTy).Contents (Elt Ideal)) (x2 : (⟨S128, .f32⟩ : BufTy).Contents (Elt Ideal))
  (b : Fin 16) (h : Fin 8) (q k v : Fin 4096 → Fin 128 → ℝ)

theorem v4_at (i : Fin 4096) (c : Fin 2) (e : Fin 64) :
    (val_main_v4 (F := Ideal) x0 (ix5 b i h c e) : EReal) = x0 (ix3 b i ⟨128 * h.val + (64 * c.val + e.val), by omega⟩) := by
  rw [val_main_v4_apply, val_main_v1_apply, val_main_v0_apply]
  refine congrArg x0 (funext fun a => Fin.ext ?_)
  match a with
  | ⟨0, _⟩ => show ((((b.val * 4096 + i.val) * 8 + h.val) * 2 + c.val) * 64 + e.val) / 4194304 = b.val; omega
  | ⟨1, _⟩ => show ((((b.val * 4096 + i.val) * 8 + h.val) * 2 + c.val) * 64 + e.val) / 1024 % 4096 = i.val; omega
  | ⟨2, _⟩ => show ((((b.val * 4096 + i.val) * 8 + h.val) * 2 + c.val) * 64 + e.val) % 1024 = 128 * h.val + (64 * c.val + e.val); omega

theorem v5_at (i : Fin 4096) (c : Fin 2) (e : Fin 64) :
    (val_main_v5 (F := Ideal) x0 (ix5 b i h c e) : EReal) = x0 (ix3 b i ⟨1024 + (128 * h.val + (64 * c.val + e.val)), by omega⟩) := by
  rw [val_main_v5_apply, val_main_v2_apply, val_main_v0_apply]
  refine congrArg x0 (funext fun a => Fin.ext ?_)
  match a with
  | ⟨0, _⟩ => show ((((b.val * 4096 + i.val) * 8 + h.val) * 2 + c.val) * 64 + e.val) / 4194304 = b.val; omega
  | ⟨1, _⟩ => show ((((b.val * 4096 + i.val) * 8 + h.val) * 2 + c.val) * 64 + e.val) / 1024 % 4096 = i.val; omega
  | ⟨2, _⟩ => show 1024 + ((((b.val * 4096 + i.val) * 8 + h.val) * 2 + c.val) * 64 + e.val) % 1024 = 1024 + (128 * h.val + (64 * c.val + e.val)); omega

theorem v6_at (i : Fin 4096) (d : Fin 128) :
    (val_main_v6 (F := Ideal) x0 (ix4 b i h d) : EReal) = x0 (ix3 b i ⟨2048 + (128 * h.val + d.val), by omega⟩) := by
  rw [val_main_v6_apply, val_main_v3_apply, val_main_v0_apply]
  refine congrArg x0 (funext fun a => Fin.ext ?_)
  match a with
  | ⟨0, _⟩ => show (((b.val * 4096 + i.val) * 8 + h.val) * 128 + d.val) / 4194304 = b.val; omega
  | ⟨1, _⟩ => show (((b.val * 4096 + i.val) * 8 + h.val) * 128 + d.val) / 1024 % 4096 = i.val; omega
  | ⟨2, _⟩ => show 2048 + (((b.val * 4096 + i.val) * 8 + h.val) * 128 + d.val) % 1024 = 2048 + (128 * h.val + d.val); omega

variable (hq : ∀ i (e : Fin 128), (x0 (ix3 b i ⟨128 * h.val + e.val, by omega⟩) : EReal) = ↑(q i e))
  (hk : ∀ i (e : Fin 128), (x0 (ix3 b i ⟨1024 + (128 * h.val + e.val), by omega⟩) : EReal) = ↑(k i e))
  (hv : ∀ i (e : Fin 128), (x0 (ix3 b i ⟨2048 + (128 * h.val + e.val), by omega⟩) : EReal) = ↑(v i e))

include hq hk in
theorem v23_at (c : Fin 2) (i j : Fin 4096) : (val_main_v23 (F := Ideal) x0 (ix5 b h c i j) : EReal) = ↑(dotHalf q k c i j) := by
  rw [val_main_v23_apply]
  unfold dotHalf
  rw [← coe_sum]
  refine Finset.sum_congr rfl fun e _ => ?_
  rw [EReal.coe_mul, ← hq i ⟨64 * c.val + e.val, by omega⟩, ← hk j ⟨64 * c.val + e.val, by omega⟩, ← v4_at x0 b h i c e, ← v5_at x0 b h j c e]
  refine congrArg₂ (fun x y : EReal => x * y) (congrArg _ (funext fun a => ?_)) (congrArg _ (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

include hq hk in
theorem v27_at (c : Fin 2) (i j : Fin 4096) : (val_main_v27 (F := Ideal) x0 (ix5 b h c i j) : EReal) = ↑(dotHalf q k c i j * Real.log 2) := by
  rw [val_main_v27_apply, val_main_v26_apply, val_main_v25_apply, val_main_v24_apply, EReal.coe_mul, ← v23_at x0 b h q k hq hk]
  refine congrArg (fun x : EReal => val_main_v23 (F := Ideal) x0 (ix5 b h c i j) * x) ?_
  show Ideal.log (Ideal.ofBits .f32 0x40000000#32) = _
  rw [two_f32, Ideal.log_coe, if_neg (by norm_num)]

include hq hk in
theorem v34_at (c : Fin 2) (i j : Fin 4096) : (val_main_v34 (F := Ideal) x0 (ix5 b h c i j) : EReal)
    = if j.val ≤ i.val then ((dotHalf q k c i j * Real.log 2 : ℝ) : EReal) else ⊥ := by
  rw [val_main_v34_apply, v27_at x0 b h q k hq hk]
  have hw : (val_main_call0_v1 (F := Ideal) (ix5 b h c i j) = 1#1) ↔ j.val ≤ i.val := by
    rw [val_main_call0_v1_apply, val_main_v33_apply, val_main_v31_apply, val_main_v32_apply, val_main_v29_apply, val_main_v30_apply, val_main_v28_apply, val_main_v28_apply]
    exact WordCmp.cmpi_sle_ofNat_eq_one_iff (w := 32) (by show j.val < _; omega) (by show i.val < _; omega)
  by_cases hji : j.val ≤ i.val
  · rw [if_pos hji, hw.2 hji]
    exact select_one _ _
  · rw [if_neg hji, eq_zero_of_ne_one (fun e => hji (hw.1 e))]
    refine (select_zero _ _).trans ?_
    rw [val_main_call0_v2_apply, val_main_call0_v0_apply, val_main_cst_3_apply]
    exact KernelIdeal.neutral_max

include hq hk in
/-- The row maximum is real. -/
theorem v37_real (c : Fin 2) (i : Fin 4096) : ∃ M : ℝ, (val_main_v37 (F := Ideal) x0 (ix4 b h c i) : EReal) = ↑M := by
  have e : (val_main_v37 (F := Ideal) x0 (ix4 b h c i) : EReal) = (Finset.univ : Finset (Fin 4096)).fold max ⊥ (fun j => (val_main_v34 (F := Ideal) x0 (ix5 b h c i j) : EReal)) := by
    rw [val_main_v37_apply, val_main_v36_apply, val_main_cst_5_apply]
    refine (show max (Ideal.ofBits .f32 0xFF800000#32) (val_main_v35 (F := Ideal) x0 (ix4 b h c i) : EReal) = val_main_v35 (F := Ideal) x0 (ix4 b h c i) by rw [KernelIdeal.neutral_max]; exact max_eq_right bot_le).trans ?_
    unfold val_main_v35
    refine (congrFun (hostReduce_maximumf_eq_multiReduction (F := Ideal) _ _ _ h_S_ (by decide) (.inl rfl) rfl) _).trans ?_
    refine (Ideal.multiReduction_maximumf_single _ _ _ _ _ _).trans ?_
    refine congrArg₂ (fun (x : EReal) (g : Fin 4096 → EReal) => Finset.univ.fold max x g) KernelIdeal.neutral_max (funext fun j => ?_)
    refine congrArg (val_main_v34 (F := Ideal) x0) (funext fun a => ?_)
    match a with
    | ⟨0, _⟩ => rfl
    | ⟨1, _⟩ => rfl
    | ⟨2, _⟩ => rfl
    | ⟨3, _⟩ => rfl
    | ⟨4, _⟩ => rfl
  rw [e]
  refine ⟨_, (EReal.coe_toReal ?_ ?_).symm⟩
  · refine (KernelIdeal.fold_max_lt _ _ fun j _ => ?_).ne
    rw [v34_at x0 b h q k hq hk]
    split
    · exact EReal.coe_lt_top _
    · exact bot_lt_top
  · have hle := (Finset.le_fold_max (s := (Finset.univ : Finset (Fin 4096))) (b := (⊥ : EReal)) (f := fun j => (val_main_v34 (F := Ideal) x0 (ix5 b h c i j) : EReal)) (c := ((dotHalf q k c i i * Real.log 2 : ℝ) : EReal))).2
      (Or.inr ⟨i, Finset.mem_univ _, by rw [v34_at x0 b h q k hq hk, if_pos (le_refl _)]⟩)
    exact ((EReal.bot_lt_coe _).trans_le hle).ne'

include hq hk in
theorem v41_at (c : Fin 2) (i : Fin 4096) : ∃ s : ℝ, 0 < s ∧ ∀ j : Fin 4096, (val_main_v41 (F := Ideal) x0 (ix5 b h c i j) : EReal) = ↑(s * ex q k c i j) := by
  obtain ⟨M, hM⟩ := v37_real x0 b h q k hq hk c i
  refine ⟨Real.exp (-M), Real.exp_pos _, fun j => ?_⟩
  rw [val_main_v41_apply, val_main_v40_apply, val_main_v39_apply, val_main_v38_apply]
  have hidx : idx_main_v38 (idx_main_v39 (ix5 b h c i j)) = ix4 b h c i := funext fun a => by
    match a with
    | ⟨0, _⟩ => rfl
    | ⟨1, _⟩ => rfl
    | ⟨2, _⟩ => rfl
    | ⟨3, _⟩ => rfl
  rw [hidx, hM, v34_at x0 b h q k hq hk]
  show Ideal.exp (_ - (M : EReal)) = _
  unfold ex
  by_cases hji : j.val ≤ i.val
  · rw [if_pos hji, if_pos hji, ← EReal.coe_sub, Ideal.exp_coe]
    refine congrArg _ ?_
    refine Eq.trans ?_ (congrArg (fun x => Real.exp (-M) * x) (Real.rpow_def_of_pos (by norm_num) _).symm)
    rw [← Real.exp_add]
    refine congrArg _ ?_
    ring
  · rw [if_neg hji, if_neg hji, EReal.bot_sub, Ideal.exp_bot, mul_zero, EReal.coe_zero]

include hq hk in
theorem v45_at (c : Fin 2) (i j : Fin 4096) : (val_main_v45 (F := Ideal) x0 (ix5 b h c i j) : EReal) = ↑(ex q k c i j / den q k c i) := by
  obtain ⟨s, hs, hex⟩ := v41_at x0 b h q k hq hk c i
  rw [val_main_v45_apply, val_main_v44_apply, val_main_v43_apply, val_main_v42_apply]
  have hidx : ∀ x, idx_main_v42 (idx_main_v43 (idx_main_v44 (ix5 b h c i j))) x = ix5 b h c i x := fun x => funext fun a => by
    match a with
    | ⟨0, _⟩ => rfl
    | ⟨1, _⟩ => rfl
    | ⟨2, _⟩ => rfl
    | ⟨3, _⟩ => rfl
    | ⟨4, _⟩ => rfl
  simp only [hidx, hex]
  rw [coe_sum, ← Finset.mul_sum, val_main_cst_6_apply]
  refine (congrArg (fun x : EReal => Ideal.div ((s * ex q k c i j : ℝ) : EReal) (x + _)) Ideal.ofBits_zero_f32).trans ?_
  rw [zero_add]
  exact div_scaled s _ _ hs (den_pos q k c i)

include hq hk in
theorem v47_at (i j : Fin 4096) : (val_main_v47 (F := Ideal) x0 (ix4 b h i j) : EReal) = ↑(ex q k 0 i j / den q k 0 i) := by
  rw [val_main_v47_apply, val_main_v46_apply, ← v45_at x0 b h q k hq hk 0 i j]
  refine congrArg (val_main_v45 (F := Ideal) x0) (funext fun a => Fin.ext ?_)
  match a with
  | ⟨0, _⟩ => show (((b.val * 8 + h.val) * 4096 + i.val) * 4096 + j.val) / 134217728 = b.val; omega
  | ⟨1, _⟩ => show (((b.val * 8 + h.val) * 4096 + i.val) * 4096 + j.val) / 16777216 % 8 = h.val; omega
  | ⟨2, _⟩ => rfl
  | ⟨3, _⟩ => show (((b.val * 8 + h.val) * 4096 + i.val) * 4096 + j.val) / 4096 % 4096 = i.val; omega
  | ⟨4, _⟩ => show (((b.val * 8 + h.val) * 4096 + i.val) * 4096 + j.val) % 4096 = j.val; omega

include hq hk in
theorem v49_at (i j : Fin 4096) : (val_main_v49 (F := Ideal) x0 (ix4 b h i j) : EReal) = ↑(ex q k 1 i j / den q k 1 i) := by
  rw [val_main_v49_apply, val_main_v48_apply, ← v45_at x0 b h q k hq hk 1 i j]
  refine congrArg (val_main_v45 (F := Ideal) x0) (funext fun a => Fin.ext ?_)
  match a with
  | ⟨0, _⟩ => show (((b.val * 8 + h.val) * 4096 + i.val) * 4096 + j.val) / 134217728 = b.val; omega
  | ⟨1, _⟩ => show (((b.val * 8 + h.val) * 4096 + i.val) * 4096 + j.val) / 16777216 % 8 = h.val; omega
  | ⟨2, _⟩ => rfl
  | ⟨3, _⟩ => show (((b.val * 8 + h.val) * 4096 + i.val) * 4096 + j.val) / 4096 % 4096 = i.val; omega
  | ⟨4, _⟩ => show (((b.val * 8 + h.val) * 4096 + i.val) * 4096 + j.val) % 4096 = j.val; omega

/-- A row of the mixing parameters. -/
theorem rows_at (e : Fin 64) : val_main_v8 (F := Ideal) x1 (ix1 e) = x1 (ix2 0 e) ∧ val_main_v10 (F := Ideal) x1 (ix1 e) = x1 (ix2 1 e)
    ∧ val_main_v12 (F := Ideal) x1 (ix1 e) = x1 (ix2 2 e) ∧ val_main_v14 (F := Ideal) x1 (ix1 e) = x1 (ix2 3 e) := by
  have he := e.isLt
  refine ⟨?_, ?_, ?_, ?_⟩
  · rw [val_main_v8_apply, val_main_v7_apply]
    refine congrArg x1 (funext fun a => Fin.ext ?_)
    match a with
    | ⟨0, _⟩ => rfl
    | ⟨1, _⟩ => exact Nat.mod_eq_of_lt he
  · rw [val_main_v10_apply, val_main_v9_apply]
    refine congrArg x1 (funext fun a => Fin.ext ?_)
    match a with
    | ⟨0, _⟩ => rfl
    | ⟨1, _⟩ => exact Nat.mod_eq_of_lt he
  · rw [val_main_v12_apply, val_main_v11_apply]
    refine congrArg x1 (funext fun a => Fin.ext ?_)
    match a with
    | ⟨0, _⟩ => rfl
    | ⟨1, _⟩ => exact Nat.mod_eq_of_lt he
  · rw [val_main_v14_apply, val_main_v13_apply]
    refine congrArg x1 (funext fun a => Fin.ext ?_)
    match a with
    | ⟨0, _⟩ => rfl
    | ⟨1, _⟩ => exact Nat.mod_eq_of_lt he

/-- A sum over a rank-one shape's indices. -/
theorem sum_idx1 (f : S64.Idx → EReal) : ∑ j : S64.Idx, f j = ∑ e : Fin 64, f (ix1 e) :=
  Fintype.sum_equiv ⟨fun j => j 0, fun e => ix1 e, fun j => (eq_ix1 j).symm, fun _ => rfl⟩ _ _ fun j => congrArg f (eq_ix1 j)

theorem v22_at (i : S_.Idx) : (val_main_v22 (F := Ideal) x1 i : EReal) = lamOf fun a e => x1 (ix2 a e) := by
  rw [val_main_v22_apply, val_main_v21_apply, val_main_v17_apply, val_main_v20_apply, val_main_v16_apply, val_main_v19_apply, sum_idx1, sum_idx1]
  unfold lamOf
  refine congrArg₂ (fun x y : EReal => x + y) (congrArg₂ (fun x y : EReal => x - y) (congrArg Ideal.exp ?_) (congrArg Ideal.exp ?_)) rfl
  · refine (congrArg (fun x : EReal => x + _) Ideal.ofBits_zero_f32).trans ((zero_add _).trans (Finset.sum_congr rfl fun e _ => ?_))
    rw [val_main_v15_apply, (rows_at x1 e).1, (rows_at x1 e).2.1]; rfl
  · refine (congrArg (fun x : EReal => x + _) Ideal.ofBits_zero_f32).trans ((zero_add _).trans (Finset.sum_congr rfl fun e _ => ?_))
    rw [val_main_v18_apply, (rows_at x1 e).2.2.1, (rows_at x1 e).2.2.2]; rfl

variable (lam : ℝ) (hl : (lamOf fun a e => (x1 (ix2 a e) : EReal)) = ↑lam)

include hq hk hv hl in
theorem v54_at (i : Fin 4096) (d : Fin 128) : (val_main_v54 (F := Ideal) x0 x1 (ix4 b i h d) : EReal) = ↑(mix q k v lam i d) := by
  rw [val_main_v54_apply, val_main_v53_apply]
  have hterm : ∀ j : Fin 4096, ((val_main_v6 (F := Ideal) x0) (lidx_main_v53 (idx_main_v54 (ix4 b i h d)) j) * (val_main_v52 (F := Ideal) x0 x1) (ridx_main_v53 (idx_main_v54 (ix4 b i h d)) j) : EReal)
      = ((v j d * (ex q k 0 i j / den q k 0 i - lam * (ex q k 1 i j / den q k 1 i)) : ℝ) : EReal) := fun j => by
    rw [show lidx_main_v53 (idx_main_v54 (ix4 b i h d)) j = ix4 b j h d from funext fun a => by
        match a with
        | ⟨0, _⟩ => rfl
        | ⟨1, _⟩ => rfl
        | ⟨2, _⟩ => rfl
        | ⟨3, _⟩ => rfl,
      show ridx_main_v53 (idx_main_v54 (ix4 b i h d)) j = ix4 b h i j from funext fun a => by
        match a with
        | ⟨0, _⟩ => rfl
        | ⟨1, _⟩ => rfl
        | ⟨2, _⟩ => rfl
        | ⟨3, _⟩ => rfl, v6_at, hv, val_main_v52_apply, val_main_v51_apply, val_main_v50_apply, v22_at, hl, v47_at x0 b h q k hq hk, v49_at x0 b h q k hq hk]
    show (v j d : EReal) * (((ex q k 0 i j / den q k 0 i : ℝ) : EReal) - (lam : EReal) * ((ex q k 1 i j / den q k 1 i : ℝ) : EReal)) = _
    rw [← EReal.coe_mul, ← EReal.coe_sub, ← EReal.coe_mul]
  refine (Finset.sum_congr rfl fun j _ => hterm j).trans ?_
  rw [coe_sum]
  refine congrArg _ ?_
  unfold mix att
  rw [Finset.sum_div, Finset.sum_div, Finset.mul_sum, ← Finset.sum_sub_distrib]
  refine Finset.sum_congr rfl fun j _ => ?_
  ring

include hq hk hv hl in
/-- An element of the reference's result. -/
theorem v71_at (i : Fin 4096) (d : Fin 128) : (val_main_v71 (F := Ideal) x0 x1 x2 (ix3 b i ⟨128 * h.val + d.val, by omega⟩) : EReal)
    = rowOut (fun x => ↑(mix q k v lam i x)) (x2 (ix1 d)) d := by
  rw [val_main_v71_apply, val_main_v70_apply]
  have hidx : idx_main_v70 (ix3 b i ⟨128 * h.val + d.val, by omega⟩) = ix4 b i h d := funext fun a => Fin.ext (by
    match a with
    | ⟨0, _⟩ => show ((b.val * 4096 + i.val) * 1024 + (128 * h.val + d.val)) / 4194304 = b.val; omega
    | ⟨1, _⟩ => show ((b.val * 4096 + i.val) * 1024 + (128 * h.val + d.val)) / 1024 % 4096 = i.val; omega
    | ⟨2, _⟩ => show ((b.val * 4096 + i.val) * 1024 + (128 * h.val + d.val)) / 128 % 8 = h.val; omega
    | ⟨3, _⟩ => show ((b.val * 4096 + i.val) * 1024 + (128 * h.val + d.val)) % 128 = d.val; omega)
  rw [hidx]
  unfold rowOut
  show (val_main_v69 (F := Ideal) x0 x1 x2 (ix4 b i h d) : EReal) = _
  rw [val_main_v69_apply, val_main_v68_apply, val_main_v67_apply, val_main_v66_apply, val_main_v65_apply, val_main_v64_apply, val_main_v63_apply, val_main_v62_apply, val_main_v61_apply,
    val_main_v60_apply, val_main_v59_apply, val_main_v58_apply, val_main_v57_apply, val_main_v56_apply]
  refine congrArg₂ (fun x y : EReal => x * y) (congrArg₂ (fun x y : EReal => x * y) (congrArg₂ (fun x y : EReal => x * y) (v54_at x0 x1 b h q k v hq hk hv lam hl i d)
    (congrArg Ideal.rsqrt (congrArg₂ (fun x y : EReal => x + y) (congrArg (fun x : EReal => Ideal.div x _) ?_) rfl))) (congrArg x2 (funext fun a => ?_))) rfl
  · refine (congrArg (fun x : EReal => x + _) Ideal.ofBits_zero_f32).trans ((zero_add _).trans (Finset.sum_congr rfl fun e _ => ?_))
    rw [val_main_v55_apply, show idx_main_v56 (idx_main_v57 (idx_main_v63 (ix4 b i h d))) e = ix4 b i h e from funext fun a => by
        match a with
        | ⟨0, _⟩ => rfl
        | ⟨1, _⟩ => rfl
        | ⟨2, _⟩ => rfl
        | ⟨3, _⟩ => rfl, v54_at x0 x1 b h q k v hq hk hv lam hl i e]
    rfl
  · match a with
    | ⟨0, _⟩ => rfl

omit hq hk hv lam hl in
/-- The same, the columns given by their positions. -/
theorem v71_col (hq : ∀ (i : Fin 4096) (e : Fin 128) (w : Fin 3072), w.val = 128 * h.val + e.val → (x0 (ix3 b i w) : EReal) = ↑(q i e))
    (hk : ∀ (i : Fin 4096) (e : Fin 128) (w : Fin 3072), w.val = 1024 + (128 * h.val + e.val) → (x0 (ix3 b i w) : EReal) = ↑(k i e))
    (hv : ∀ (i : Fin 4096) (e : Fin 128) (w : Fin 3072), w.val = 2048 + (128 * h.val + e.val) → (x0 (ix3 b i w) : EReal) = ↑(v i e))
    (lam : ℝ) (hl : (lamOf fun a e => (x1 (ix2 a e) : EReal)) = ↑lam) (i : Fin 4096) (d : Fin 128) (w : Fin 1024) (hw : w.val = 128 * h.val + d.val) :
    (val_main_v71 (F := Ideal) x0 x1 x2 (ix3 b i w) : EReal) = rowOut (fun x => ↑(mix q k v lam i x)) (x2 (ix1 d)) d := by
  refine (congrArg (fun w => (val_main_v71 (F := Ideal) x0 x1 x2 (ix3 b i w) : EReal)) (Fin.ext (b := ⟨128 * h.val + d.val, hw ▸ w.isLt⟩) hw)).trans ?_
  exact v71_at x0 x1 x2 b h q k v (fun i e => hq i e _ rfl) (fun i e => hk i e _ rfl) (fun i e => hv i e _ rfl) lam hl i d

end Cert.Proof.ReferenceIdeal

end
-- ==== Proof.Result.lean ====
/- The kernel's result array is the reference's, when the rotated projections and the gate's parameters are finite. -/
module

public import proofs.«01_k».proof.Proof.Value
public import proofs.«01_k».proof.Proof.Reference
public import proofs.«01_k».proof.Proof.Launch
public import proofs.«01_k».proof.Defs
public import Idealize.ShloMosaic.Lib.ReduceAll
public import Idealize.ShloMosaic.Lib.Pipeline.Covers
public import Idealize.ShloMosaic.Lib.Pipeline.ValueKit.Geometry

@[expose] public section

set_option maxRecDepth 8192

noncomputable section

namespace Cert.Proof.KernelIdeal

open Cert.KernelIdeal Cert.KernelIdeal.Gen
open Idealize.ShloMosaic Idealize.ShloMosaic.TcCoe
open Idealize.SL.Sem
open Idealize.ShloMosaic.ValueIdx

/-! ## What the precondition says -/

/-- A value whose size is below infinity is a real. -/
theorem real_of_abs_lt (x y : EReal) (hy : y = ⊤) (h : Ideal.cmp .olt (max x (-x)) y = 1#1) : x = ↑x.toReal := by
  have hlt : max x (-x) < ⊤ := by
    by_contra hn
    rw [hy] at h
    unfold Ideal.cmp at h
    simp [hn] at h
  refine (EReal.coe_toReal (fun e => ?_) fun e => ?_).symm
  · rw [e] at hlt; simp at hlt
  · rw [e] at hlt; simp at hlt

theorem top_bf16 : Ideal.ofBits .bf16 0x7F80#16 = (⊤ : EReal) := by
  simp [Ideal.ofBits, Ideal.ieee]

theorem top_f32 : Ideal.ofBits .f32 0x7F800000#32 = (⊤ : EReal) := by
  simp [Ideal.ofBits, Ideal.ieee]

instance : Subsingleton Cert.Pre_finite.S_.Idx := ⟨fun x y => funext fun a => a.elim0⟩

variable [Cert.Pre_finite.Facts]

/-- Under the precondition the first two arguments hold reals. -/
theorem reals_of_finite (x0 : Vec Ideal S16x4096x3072 .bf16) (x1 : Vec Ideal S4x64 .f32) (x2 : Vec Ideal S128 .f32)
    (h : Cert.Pre_finite.fn (F := Ideal) x0 x1 x2 = fun _ => 1#1) :
    (∀ z, (x0 z : EReal) = ↑(EReal.toReal (x0 z))) ∧ ∀ z, (x1 z : EReal) = ↑(EReal.toReal (x1 z)) := by
  have h' := congrFun h (fun a => a.elim0)
  obtain ⟨h0, h1⟩ := IntOp.andi_eq_one.1 h'
  exact ⟨fun z => real_of_abs_lt _ _ top_bf16 (Host.reduce_andi_all _ _ _ _ _ h0 z),
    fun z => real_of_abs_lt _ _ top_f32 (Host.reduce_andi_all _ _ _ _ _ h1 z)⟩

/-! ## The blocks at coordinates -/

omit [Cert.Pre_finite.Facts]

/-- The batch and the head of a point. -/
def bat (i : grid0.Coords) : Fin 16 := ⟨(i 0).val, (i 0).isLt⟩
def hd (i : grid0.Coords) : Fin 8 := ⟨(i 1).val, (i 1).isLt⟩

theorem tr_batch (i : grid0.Coords) : (BitVec.ofNat 32 (i 0).val).toNat = (bat i).val := by
  have := (bat i).isLt
  show (i 0).val % 2 ^ 32 = (i 0).val
  exact Nat.mod_eq_of_lt (Nat.lt_trans this (by decide))

theorem tr_head (i : grid0.Coords) (n : Nat) (hn : n ≤ 16) : (Scalar.addi (BitVec.ofNat 32 n) (BitVec.ofNat 32 (i 1).val)).toNat = n + (hd i).val := by
  have := (hd i).isLt
  have e : (hd i).val = (i 1).val := rfl
  show (BitVec.ofNat 32 n + BitVec.ofNat 32 (i 1).val).toNat = _
  rw [BitVec.toNat_add, BitVec.toNat_ofNat, BitVec.toNat_ofNat]
  omega

variable (m : (ℓ : Loc nD τ sig) → Buf (Elt Ideal) ℓ) (ρ : Dev nD → PrngReg) (c : Dev nD)

/-- A point's coordinates. -/
abbrev co (t : Fin (cfgA (F := Ideal)).N) : grid0.Coords := grid0.coords t

theorem blk0_at (t : Fin (cfgA (F := Ideal)).N) (i : Fin 4096) (e : Fin 128) :
    (blk m c 0 t (ix3 0 i e) : EReal) = m ((c.tc : Thread nD τ).loc main_arg0) (ix3 (bat (co t)) i ⟨128 * (hd (co t)).val + e.val, by have := (hd (co t)).isLt; omega⟩) := by
  refine congrArg (m ((c.tc : Thread nD τ).loc main_arg0)) (funext fun a => Fin.ext ?_)
  refine (Pipeline.Window.rect_emb_val ((cfgA (F := Ideal)).win 0) t _ a).trans ?_
  match a with
  | ⟨0, _⟩ =>
    show (BitVec.ofNat 32 ((co t) 0).val).toNat * 1 + 0 = (bat (co t)).val
    rw [tr_batch]; omega
  | ⟨1, _⟩ =>
    show (0#32 : BitVec 32).toNat * 4096 + i.val = i.val
    simp
  | ⟨2, _⟩ =>
    show (Scalar.addi (BitVec.ofNat 32 0) (BitVec.ofNat 32 ((co t) 1).val)).toNat * 128 + e.val = 128 * (hd (co t)).val + e.val
    rw [tr_head _ 0 (by decide)]; omega

theorem blk1_at (t : Fin (cfgA (F := Ideal)).N) (i : Fin 4096) (e : Fin 128) :
    (blk m c 1 t (ix3 0 i e) : EReal) = m ((c.tc : Thread nD τ).loc main_arg0) (ix3 (bat (co t)) i ⟨1024 + (128 * (hd (co t)).val + e.val), by have := (hd (co t)).isLt; omega⟩) := by
  refine congrArg (m ((c.tc : Thread nD τ).loc main_arg0)) (funext fun a => Fin.ext ?_)
  refine (Pipeline.Window.rect_emb_val ((cfgA (F := Ideal)).win 1) t _ a).trans ?_
  match a with
  | ⟨0, _⟩ =>
    show (BitVec.ofNat 32 ((co t) 0).val).toNat * 1 + 0 = (bat (co t)).val
    rw [tr_batch]; omega
  | ⟨1, _⟩ =>
    show (0#32 : BitVec 32).toNat * 4096 + i.val = i.val
    simp
  | ⟨2, _⟩ =>
    show (Scalar.addi (BitVec.ofNat 32 8) (BitVec.ofNat 32 ((co t) 1).val)).toNat * 128 + e.val = 1024 + (128 * (hd (co t)).val + e.val)
    rw [tr_head _ 8 (by decide)]; omega

theorem blk2_at (t : Fin (cfgA (F := Ideal)).N) (i : Fin 4096) (e : Fin 128) :
    (blk m c 2 t (ix3 0 i e) : EReal) = m ((c.tc : Thread nD τ).loc main_arg0) (ix3 (bat (co t)) i ⟨2048 + (128 * (hd (co t)).val + e.val), by have := (hd (co t)).isLt; omega⟩) := by
  refine congrArg (m ((c.tc : Thread nD τ).loc main_arg0)) (funext fun a => Fin.ext ?_)
  refine (Pipeline.Window.rect_emb_val ((cfgA (F := Ideal)).win 2) t _ a).trans ?_
  match a with
  | ⟨0, _⟩ =>
    show (BitVec.ofNat 32 ((co t) 0).val).toNat * 1 + 0 = (bat (co t)).val
    rw [tr_batch]; omega
  | ⟨1, _⟩ =>
    show (0#32 : BitVec 32).toNat * 4096 + i.val = i.val
    simp
  | ⟨2, _⟩ =>
    show (Scalar.addi (BitVec.ofNat 32 16) (BitVec.ofNat 32 ((co t) 1).val)).toNat * 128 + e.val = 2048 + (128 * (hd (co t)).val + e.val)
    rw [tr_head _ 16 (by decide)]; omega

theorem blk3_at (t : Fin (cfgA (F := Ideal)).N) (a : Fin 4) (e : Fin 64) :
    (blk m c 3 t (ix2 a e) : EReal) = m ((c.tc : Thread nD τ).loc main_arg1) (ix2 a e) := by
  refine congrArg (m ((c.tc : Thread nD τ).loc main_arg1)) (funext fun x => Fin.ext ?_)
  refine (Pipeline.Window.rect_emb_val_of_index_zero ((cfgA (F := Ideal)).win 3) t x ?_ _).trans ?_
  · match x with
    | ⟨0, _⟩ => rfl
    | ⟨1, _⟩ => rfl
  · match x with
    | ⟨0, _⟩ => rfl
    | ⟨1, _⟩ => rfl

theorem blk4_at (t : Fin (cfgA (F := Ideal)).N) (d : Fin 128) :
    (blk m c 4 t (ix2 0 d) : EReal) = m ((c.tc : Thread nD τ).loc main_arg2) (ix1 d) := by
  have hV : V m c main_v0 = shapeCast S1x128 (m ((c.tc : Thread nD τ).loc main_arg2)) shapeCasts_S128_S1x128 := rfl
  have hx : ((((cfgA (F := Ideal)).win 4).blk t).view.emb (ix2 0 d) : S1x128.Idx) = ix2 0 d := funext fun x => Fin.ext (by
    refine (Pipeline.Window.rect_emb_val_of_index_zero ((cfgA (F := Ideal)).win 4) t x ?_ _).trans ?_
    · match x with
      | ⟨0, _⟩ => rfl
      | ⟨1, _⟩ => rfl
    · match x with
      | ⟨0, _⟩ => rfl
      | ⟨1, _⟩ => rfl)
  show V m c main_v0 ((((cfgA (F := Ideal)).win 4).blk t).view.emb (ix2 0 d)) = _
  rw [hV]
  refine (congrArg (shapeCast S1x128 (m ((c.tc : Thread nD τ).loc main_arg2)) shapeCasts_S128_S1x128) hx).trans ?_
  refine (shapeCast_apply _ _ _ (ix1 d) ?_)
  rw [Shape.rowMajor_val_one, Shape.rowMajor_val_two]
  show d.val = 0 * 128 + d.val
  omega

/-! ## The result array -/

/-- What the reference makes of the kernel's arguments. -/
def goal : Buf (Elt Ideal) ((c.tc : Thread nD τ).loc main_v1) :=
  Cert.ReferenceIdeal.Read.val_main_v71 (F := Ideal) (m ((c.tc : Thread nD τ).loc main_arg0)) (m ((c.tc : Thread nD τ).loc main_arg1)) (m ((c.tc : Thread nD τ).loc main_arg2))

/-- Where an element of a point's block of the result sits. -/
theorem emb5 (t : Fin (cfgA (F := Ideal)).N) (i : Fin 4096) (d : Fin 128) :
    ((((cfgA (F := Ideal)).win 5).blk t).view.emb (ix3 0 i d) : S16x4096x1024.Idx) = ix3 (bat (co t)) i ⟨128 * (hd (co t)).val + d.val, by have := (hd (co t)).isLt; omega⟩ := by
  refine funext fun a => Fin.ext ?_
  refine (Pipeline.Window.rect_emb_val ((cfgA (F := Ideal)).win 5) t _ a).trans ?_
  match a with
  | ⟨0, _⟩ =>
    show (BitVec.ofNat 32 ((co t) 0).val).toNat * 1 + 0 = (bat (co t)).val
    rw [tr_batch]; omega
  | ⟨1, _⟩ =>
    show (0#32 : BitVec 32).toNat * 4096 + i.val = i.val
    simp
  | ⟨2, _⟩ =>
    show (Scalar.addi (BitVec.ofNat 32 0) (BitVec.ofNat 32 ((co t) 1).val)).toNat * 128 + d.val = 128 * (hd (co t)).val + d.val
    rw [tr_head _ 0 (by decide)]; omega

/-- Equal blocks from equal index maps. -/
theorem mem_of_index_eq (t t' : Fin (cfgA (F := Ideal)).N) (h : ((cfgA (F := Ideal)).win 5).index t' = ((cfgA (F := Ideal)).win 5).index t)
    (i : Fin 4096) (d : Fin 128) : (((cfgA (F := Ideal)).win 5).blk t').view.emb (ix3 0 i d) = (((cfgA (F := Ideal)).win 5).blk t).view.emb (ix3 0 i d) := by
  refine funext fun a => Fin.ext ?_
  refine (Pipeline.Window.rect_emb_val ((cfgA (F := Ideal)).win 5) t' _ a).trans (Eq.trans ?_ (Pipeline.Window.rect_emb_val ((cfgA (F := Ideal)).win 5) t _ a).symm)
  exact congrArg (fun n : Nat => n * _ + _) (congrFun h a)

/-- Every element of the result is in some point's block. -/
theorem cover5 (z : S16x4096x1024.Idx) :
    ∃ t : Fin (cfgA (F := Ideal)).N, ((cfgA (F := Ideal)).win 5).flush t = true ∧ z ∈ (((cfgA (F := Ideal)).win 5).blk t).view.set := by
  have hz2 : (z 2).val < 1024 := (z 2).isLt
  obtain ⟨t₀, h₀⟩ := Pipeline.Grid.coords_surjective grid0 (fun a => match a with
    | ⟨0, _⟩ => ⟨(z 0).val, (z 0).isLt⟩
    | ⟨1, _⟩ => ⟨(z 2).val / 128, by show (z 2).val / 128 < 8; omega⟩)
  obtain ⟨t, _, hf, hix⟩ := Pipeline.Window.exists_flush_same_index ((cfgA (F := Ideal)).win 5) rfl t₀
  refine ⟨t, hf, ?_⟩
  have hmem := (((cfgA (F := Ideal)).win 5).blk t).view.emb_mem_set (ix3 0 (z 1) ⟨(z 2).val % 128, Nat.mod_lt _ (by decide)⟩)
  have heq := mem_of_index_eq t₀ t hix (z 1) ⟨(z 2).val % 128, Nat.mod_lt _ (by decide)⟩
  have hb : (bat (co t₀)).val = (z 0).val := by
    show (grid0.coords t₀ 0).val = _
    rw [h₀]
  have hh : (hd (co t₀)).val = (z 2).val / 128 := by
    show (grid0.coords t₀ 1).val = _
    rw [h₀]
  have he := emb5 t₀ (z 1) ⟨(z 2).val % 128, Nat.mod_lt _ (by decide)⟩
  have hz : z = ix3 (bat (co t₀)) (z 1) ⟨128 * (hd (co t₀)).val + (z 2).val % 128, by omega⟩ := funext fun a => Fin.ext (by
    match a with
    | ⟨0, _⟩ => exact hb.symm
    | ⟨1, _⟩ => rfl
    | ⟨2, _⟩ => show (z 2).val = 128 * (hd (co t₀)).val + (z 2).val % 128; omega)
  have hzt : z = (((cfgA (F := Ideal)).win 5).blk t).view.emb (ix3 0 (z 1) ⟨(z 2).val % 128, Nat.mod_lt _ (by decide)⟩) := hz.trans (he.symm.trans heq.symm)
  exact Eq.mpr (congrArg (fun x => x ∈ (((cfgA (F := Ideal)).win 5).blk t).view.set) hzt) hmem

variable [Cert.Pre_finite.Facts]

/-- What a point writes back is its block of the reference's result. -/
theorem flushed5 (hfin : Cert.Pre_finite.fn (F := Ideal) (m ((c.tc : Thread nD τ).loc main_arg0)) (m ((c.tc : Thread nD τ).loc main_arg1)) (m ((c.tc : Thread nD τ).loc main_arg2)) = fun _ => 1#1)
    (t : Fin (cfgA (F := Ideal)).N) : (dats m 0 c).flushed 5 t = (((cfgA (F := Ideal)).win 5).blk t).view.read (Elt Ideal) (goal m c) := by
  obtain ⟨h0, h1⟩ := reals_of_finite _ _ _ hfin
  obtain ⟨lam, hl⟩ := lamOf_real (fun a e => m ((c.tc : Thread nD τ).loc main_arg1) (ix2 a e)) _ fun a e => h1 (ix2 a e)
  funext y
  obtain ⟨y0, i, d, rfl⟩ : ∃ (y0 : Fin 1) (i : Fin 4096) (d : Fin 128), y = ix3 y0 i d := ⟨y 0, y 1, y 2, (eq_ix3 y)⟩
  obtain rfl : y0 = 0 := Subsingleton.elim _ _
  refine (outBlock_at (blk m c 0 t) (blk m c 1 t) (blk m c 2 t) _ _ _ (fun i e => (blk0_at m c t i e).trans (h0 _))
    (fun i e => (blk1_at m c t i e).trans (h0 _)) (fun i e => (blk2_at m c t i e).trans (h0 _)) (blk m c 3 t) (blk m c 4 t) lam
    ((congrArg lamOf (funext fun a => funext fun e => blk3_at m c t a e)).trans hl) i d).trans ?_
  refine (congrArg (fun w : EReal => rowOut _ w d) (blk4_at m c t d)).trans ?_
  refine (ReferenceIdeal.v71_col (m ((c.tc : Thread nD τ).loc main_arg0)) (m ((c.tc : Thread nD τ).loc main_arg1)) (m ((c.tc : Thread nD τ).loc main_arg2))
    (bat (co t)) (hd (co t)) _ _ _ (fun i e w hw => (congrArg (fun x => (m ((c.tc : Thread nD τ).loc main_arg0) (ix3 (bat (co t)) i x) : EReal)) (Fin.ext hw)).trans (h0 _))
    (fun i e w hw => (congrArg (fun x => (m ((c.tc : Thread nD τ).loc main_arg0) (ix3 (bat (co t)) i x) : EReal)) (Fin.ext hw)).trans (h0 _))
    (fun i e w hw => (congrArg (fun x => (m ((c.tc : Thread nD τ).loc main_arg0) (ix3 (bat (co t)) i x) : EReal)) (Fin.ext hw)).trans (h0 _)) lam hl i d ⟨128 * (hd (co t)).val + d.val, by have := (hd (co t)).isLt; omega⟩ rfl).symm.trans ?_
  exact (congrArg (goal m c) (emb5 t i d)).symm

/-- The result array after the run is the reference's result. -/
theorem final5 (hfin : Cert.Pre_finite.fn (F := Ideal) (m ((c.tc : Thread nD τ).loc main_arg0)) (m ((c.tc : Thread nD τ).loc main_arg1)) (m ((c.tc : Thread nD τ).loc main_arg2)) = fun _ => 1#1) :
    (dats m 0 c).arrAt 5 (cfgA (F := Ideal)).N = goal m c :=
  (dats m 0 c).arrAt_eq_of_cover 5 (goal m c) (fun t _ => flushed5 m c hfin t) cover5

/-- The run with the result array named. -/
theorem run_value (hfin : Pre_KernelIdeal_finite m) :
    θ_run defs (onTc (τ := τ) (main (F := Ideal))) ⟨m, fun _ => 0, ρ⟩ fun r => ∀ c : Dev nD,
      r.2.mem ((c.tc : Thread nD τ).loc main_v1) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (run_main m ρ)
  · exact ((h.1 c).1 5).trans (final5 m c (hfin c))
  · exact ((h.1 c).1 0).trans (((dats m 0 c).arrAt_in 0 rfl _).trans rfl)
  · exact ((h.1 c).1 3).trans (((dats m 0 c).arrAt_in 3 rfl _).trans rfl)
  · exact ((h.1 c).2 main_arg2 (show main_arg2 ∈ Pipeline.restRefs sig spec0 from by decide)).trans rfl

end Cert.Proof.KernelIdeal

end
-- ==== Proof.Post.Rows.lean ====
/- One row of the output projection and feed-forward block, over the extended reals, and the two ways to write the gate. -/
module

public import proofs.«01_k».proof.Proof.Sums
public import Idealize.ShloMosaic.PureOps.Ideal.Laws

@[expose] public section

noncomputable section

namespace Cert.Proof.Rows

open Idealize.ShloMosaic
open KernelIdeal (coe_sum)

/-- The residual row after the output projection. -/
def resid (y x : Fin 1024 → EReal) (wo : Fin 1024 → Fin 1024 → EReal) (d : Fin 1024) : EReal := x d + ∑ k, y k * wo k d

/-- A row divided by its root mean square and weighted. -/
def normed (X w : Fin 1024 → EReal) (d : Fin 1024) : EReal :=
  X d * Ideal.rsqrt (Ideal.div (∑ k, X k * X k) (Ideal.ofBits .f32 0x44800000#32) + Ideal.ofBits .f32 0x358637BD#32) * w d

/-- A column of a projection. -/
def proj {n : ℕ} (xn : Fin 1024 → EReal) (win : Fin 1024 → Fin n → EReal) (j : Fin n) : EReal := ∑ k, xn k * win k j

/-- The gate as the kernel writes it. -/
def gateT (g u : EReal) : EReal :=
  (Ideal.ofBits .f32 0x3F000000#32 * g * Ideal.tanh (Ideal.ofBits .f32 0x3F000000#32 * g) + Ideal.ofBits .f32 0x3F000000#32 * g) * u

/-- The gate as the reference writes it. -/
def gateS (g u : EReal) : EReal :=
  g * Ideal.div (Ideal.ofBits .f32 0x3F800000#32) (Ideal.ofBits .f32 0x3F800000#32 + Ideal.exp (-g)) * u

/-- A hidden unit: the gate over its two columns. -/
def hid (gate : EReal → EReal → EReal) (xn : Fin 1024 → EReal) (win : Fin 1024 → Fin 5632 → EReal) (j : Fin 2816) : EReal :=
  gate (proj xn win ⟨j.val, by omega⟩) (proj xn win ⟨2816 + j.val, by omega⟩)

/-- The row after the second projection. -/
def sumRow (X : Fin 1024 → EReal) (h : Fin 2816 → EReal) (wout : Fin 2816 → Fin 1024 → EReal) (d : Fin 1024) : EReal := X d + ∑ j, h j * wout j d

/-- The whole row without the last norm, by the gate. -/
def midRow (gate : EReal → EReal → EReal) (y x : Fin 1024 → EReal) (wo : Fin 1024 → Fin 1024 → EReal) (nw : Fin 1024 → EReal)
    (win : Fin 1024 → Fin 5632 → EReal) (wout : Fin 2816 → Fin 1024 → EReal) : Fin 1024 → EReal :=
  sumRow (resid y x wo) (hid gate (normed (resid y x wo) nw) win) wout

/-- The whole row with the last norm. -/
def wholeRow (gate : EReal → EReal → EReal) (y x : Fin 1024 → EReal) (wo : Fin 1024 → Fin 1024 → EReal) (nw : Fin 1024 → EReal)
    (win : Fin 1024 → Fin 5632 → EReal) (wout : Fin 2816 → Fin 1024 → EReal) (fw : Fin 1024 → EReal) : Fin 1024 → EReal :=
  normed (midRow gate y x wo nw win wout) fw

/-! ## The constants -/

theorem half_f32 : Ideal.ofBits .f32 0x3F000000#32 = ((1 / 2 : ℝ) : EReal) := by
  simp [Ideal.ofBits, Ideal.ieee]
  rw [← EReal.coe_mul]
  norm_num

theorem one_f32 : Ideal.ofBits .f32 0x3F800000#32 = ((1 : ℝ) : EReal) := by
  simp [Ideal.ofBits, Ideal.ieee]
  rw [← EReal.coe_mul]
  norm_num

theorem dim_f32 : Ideal.ofBits .f32 0x44800000#32 = ((1024 : ℝ) : EReal) := by
  simp [Ideal.ofBits, Ideal.ieee]
  rw [← EReal.coe_mul]
  norm_num

theorem eps_f32 : ∃ a : ℝ, 0 < a ∧ Ideal.ofBits .f32 0x358637BD#32 = ↑a := by
  simp [Ideal.ofBits, Ideal.ieee]
  exact ⟨_, by positivity, (EReal.coe_mul _ _).symm⟩

/-! ## The gate -/

theorem gate_real (g : ℝ) : 1 / 2 * g * Real.tanh (1 / 2 * g) + 1 / 2 * g = g * (1 / (1 + Real.exp (-g))) := by
  have hp := Real.exp_pos (1 / 2 * g)
  have hn := Real.exp_pos (-(1 / 2 * g))
  have h1 : Real.exp (1 / 2 * g) * Real.exp (-(1 / 2 * g)) = 1 := by rw [← Real.exp_add]; simp
  have h2 : Real.exp (-g) = Real.exp (-(1 / 2 * g)) * Real.exp (-(1 / 2 * g)) := by rw [← Real.exp_add]; ring_nf
  rw [Real.tanh_eq_sinh_div_cosh, Real.sinh_eq, Real.cosh_eq, h2]
  have hd : Real.exp (1 / 2 * g) + Real.exp (-(1 / 2 * g)) ≠ 0 := by positivity
  have hd2 : 1 + Real.exp (-(1 / 2 * g)) * Real.exp (-(1 / 2 * g)) ≠ 0 := by positivity
  generalize Real.exp (1 / 2 * g) = a at *
  generalize Real.exp (-(1 / 2 * g)) = b at *
  field_simp
  linear_combination (2 * g * b) * h1

/-- At a real gate value the two agree, whatever the other column holds. -/
theorem gate_eq (g : ℝ) (u : EReal) : gateT ↑g u = gateS ↑g u := by
  unfold gateT gateS
  rw [half_f32, one_f32, ← EReal.coe_mul, Ideal.tanh_coe, ← EReal.coe_neg, Ideal.exp_coe, ← EReal.coe_add,
    Ideal.div_coe (ne_of_gt (by positivity)), ← EReal.coe_mul, ← EReal.coe_mul, ← EReal.coe_mul, ← EReal.coe_add, one_mul, gate_real]

/-! ## Real rows stay real -/

/-- A value that is a real number. -/
def IsReal (x : EReal) : Prop := ∃ a : ℝ, x = ↑a

theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩
theorem IsReal.sum {n : ℕ} {f : Fin n → EReal} (h : ∀ i, IsReal (f i)) : IsReal (∑ i, f i) := by
  choose g hg using h
  exact ⟨∑ i, g i, by rw [← coe_sum]; exact Finset.sum_congr rfl fun i _ => hg i⟩

theorem mul_self_nonneg' (x : EReal) : 0 ≤ x * x := by
  induction x with
  | bot => simp
  | top => simp
  | coe a => rw [← EReal.coe_mul]; exact_mod_cast mul_self_nonneg a

theorem mul_self_top {x : EReal} (h : ¬ IsReal x) : x * x = ⊤ := by
  induction x with
  | bot => simp
  | top => simp
  | coe a => exact absurd ⟨a, rfl⟩ h

/-- A normed row is real when its weights are: a row with an infinite element comes out zero. -/
theorem normed_real {X w : Fin 1024 → EReal} (hw : ∀ k, IsReal (w k)) (d : Fin 1024) : IsReal (normed X w d) := by
  unfold normed
  obtain ⟨e, he, hee⟩ := eps_f32
  rw [hee, dim_f32, Ideal.div_coe (by norm_num)]
  by_cases hX : ∀ k, IsReal (X k)
  · refine ((hX d).mul ?_).mul (hw d)
    choose f hf using hX
    have hs : ∑ k, X k * X k = ((∑ k, f k * f k : ℝ) : EReal) := by
      rw [← coe_sum]
      exact Finset.sum_congr rfl fun k _ => by rw [hf, EReal.coe_mul]
    have h0 : 0 ≤ ∑ k, f k * f k := Finset.sum_nonneg fun k _ => mul_self_nonneg _
    have hp : 0 < (∑ k, f k * f k) * (1 / 1024) + e := by positivity
    rw [hs, ← EReal.coe_mul, ← EReal.coe_add, Ideal.rsqrt_coe, if_neg (not_lt.2 hp.le), if_neg hp.ne']
    exact ⟨_, rfl⟩
  · obtain ⟨k, hk⟩ := not_forall.1 hX
    have hs : ∑ k, X k * X k = ⊤ := top_le_iff.1 ((mul_self_top hk).symm.le.trans (Finset.single_le_sum (f := fun k => X k * X k) (fun i _ => mul_self_nonneg' (X i)) (Finset.mem_univ k)))
    rw [hs, EReal.top_mul_coe_of_pos (by norm_num), EReal.top_add_coe, Ideal.rsqrt_top, mul_zero, zero_mul]
    exact ⟨0, rfl⟩

theorem proj_real {xn : Fin 1024 → EReal} {win : Fin 1024 → Fin 5632 → EReal} (hx : ∀ k, IsReal (xn k)) (hw : ∀ k j, IsReal (win k j)) (j : Fin 5632) :
    IsReal (proj xn win j) := IsReal.sum fun k => (hx k).mul (hw k j)

/-- With real norm weights and first-projection weights the two whole rows agree. -/
theorem midRow_eq (y x : Fin 1024 → EReal) (wo : Fin 1024 → Fin 1024 → EReal) {nw : Fin 1024 → EReal} {win : Fin 1024 → Fin 5632 → EReal}
    (hnw : ∀ k, IsReal (nw k)) (hwin : ∀ k j, IsReal (win k j)) (wout : Fin 2816 → Fin 1024 → EReal) :
    midRow gateT y x wo nw win wout = midRow gateS y x wo nw win wout := by
  unfold midRow
  refine congrArg (fun h => sumRow _ h wout) (funext fun j => ?_)
  unfold hid
  obtain ⟨g, hg⟩ := proj_real (normed_real (X := resid y x wo) hnw) hwin ⟨j.val, by omega⟩
  rw [hg, gate_eq]

end Cert.Proof.Rows

end
-- ==== Proof.Post.Payloads.lean ====
/- The payloads of the output projection and feed-forward kernel read at an index, at the ideal values. -/
module

public import proofs.«01_k».proof.Proof.Post.Rows
public import proofs.«01_k».proof.Proof.Gen.PostIdeal
public import proofs.«01_k».proof.Proof.Gen.PostIdeal.Value
public import Idealize.ShloMosaic.Lib.Pipeline.Value
public import Idealize.ShloMosaic.Lib.Pipeline.ValueKit.Tiles
public import Idealize.ShloMosaic.Lib.ValueIdx

@[expose] public section

set_option maxRecDepth 8192

noncomputable section

namespace Cert.Proof.PostIdeal

open Cert.PostIdeal Cert.PostIdeal.Gen
open Idealize.ShloMosaic
open Idealize.ShloMosaic.ValueIdx
open Rows

/-- A part of a whole two-axis buffer, read back. -/
theorem part_at {σ : RefSig} {n0 n1 m0 m1 : ℕ} {e : EltTy} (a : Memref σ .tc .vmem ⟨2, ![n0, n1]⟩ e) (ha : a.IsWhole) (x : Vec Ideal ⟨2, ![n0, n1]⟩ e) (o0 o1 : ℕ)
    (inb : ∀ d, (![o0, o1] : Fin 2 → ℕ) d + (![m0, m1] : Fin 2 → ℕ) d ≤ (⟨2, ![n0, n1]⟩ : Shape).size d) (i : Fin m0) (j : Fin m1) (p : Fin n0) (q : Fin n1)
    (hp : p.val = o0 + i.val) (hq : q.val = o1 + j.val) :
    View.readAt (Elt Ideal) a.view (Rect.unit (s := ⟨2, ![n0, n1]⟩) ![o0, o1] ![m0, m1] inb).toLoadRect (ha.unread x) (ix2 i j) = x (ix2 p q) := by
  rw [View.readAt_eq_ld, ha.read_unread]
  refine View.ld_unit_apply_of x _ _ _ _ _ fun d => ?_
  match d with
  | ⟨0, _⟩ => exact hp
  | ⟨1, _⟩ => exact hq

/-- A product of two matrices at an element. -/
theorem outproj_at (v1 : FVec Ideal S512x1024 .bf16) (v2 : FVec Ideal S1024x1024 .bf16) (i : Fin 512) (d : Fin 1024) :
    (matmul (F := Ideal) dot_S512x1024_S1024x1024_S512x1024_1_0_0_1_n_n none v1 v2 (constant S512x1024 .f32 0x00000000#32) (ix2 i d) : EReal)
      = ∑ k : Fin 1024, (v1 (ix2 i k) : EReal) * v2 (ix2 k d) := by
  simp only [matmul]
  rw [Ideal.matmul_constant_zero_apply, ← Equiv.sum_comp (contrEquiv1 dot_S512x1024_S1024x1024_S512x1024_1_0_0_1_n_n 1024 rfl rfl).symm]
  refine Finset.sum_congr rfl fun e _ => ?_
  have hk := contrEquiv1_symm_val dot_S512x1024_S1024x1024_S512x1024_1_0_0_1_n_n 1024 rfl rfl e
  refine congrArg₂ (fun a b : EReal => a * b) (congrArg v1 (funext fun a => Fin.ext ?_)) (congrArg v2 (funext fun a => Fin.ext ?_))
  · match a with
    | ⟨0, _⟩ => rfl
    | ⟨1, _⟩ => exact hk
  · match a with
    | ⟨0, _⟩ => exact hk
    | ⟨1, _⟩ => rfl

theorem inproj_at (v1 : FVec Ideal S512x1024 .bf16) (v2 : FVec Ideal S1024x256 .bf16) (i : Fin 512) (j : Fin 256) :
    (matmul (F := Ideal) dot_S512x1024_S1024x256_S512x256_1_0_0_1_n_n none v1 v2 (constant S512x256 .f32 0x00000000#32) (ix2 i j) : EReal)
      = ∑ k : Fin 1024, (v1 (ix2 i k) : EReal) * v2 (ix2 k j) := by
  simp only [matmul]
  rw [Ideal.matmul_constant_zero_apply, ← Equiv.sum_comp (contrEquiv1 dot_S512x1024_S1024x256_S512x256_1_0_0_1_n_n 1024 rfl rfl).symm]
  refine Finset.sum_congr rfl fun e _ => ?_
  have hk := contrEquiv1_symm_val dot_S512x1024_S1024x256_S512x256_1_0_0_1_n_n 1024 rfl rfl e
  refine congrArg₂ (fun a b : EReal => a * b) (congrArg v1 (funext fun a => Fin.ext ?_)) (congrArg v2 (funext fun a => Fin.ext ?_))
  · match a with
    | ⟨0, _⟩ => rfl
    | ⟨1, _⟩ => exact hk
  · match a with
    | ⟨0, _⟩ => exact hk
    | ⟨1, _⟩ => rfl

theorem ffnproj_at (v1 : FVec Ideal S512x2816 .bf16) (v2 : FVec Ideal S2816x1024 .bf16) (i : Fin 512) (d : Fin 1024) :
    (matmul (F := Ideal) dot_S512x2816_S2816x1024_S512x1024_1_0_0_1_n_n none v1 v2 (constant S512x1024 .f32 0x00000000#32) (ix2 i d) : EReal)
      = ∑ k : Fin 2816, (v1 (ix2 i k) : EReal) * v2 (ix2 k d) := by
  simp only [matmul]
  rw [Ideal.matmul_constant_zero_apply, ← Equiv.sum_comp (contrEquiv1 dot_S512x2816_S2816x1024_S512x1024_1_0_0_1_n_n 2816 rfl rfl).symm]
  refine Finset.sum_congr rfl fun e _ => ?_
  have hk := contrEquiv1_symm_val dot_S512x2816_S2816x1024_S512x1024_1_0_0_1_n_n 2816 rfl rfl e
  refine congrArg₂ (fun a b : EReal => a * b) (congrArg v1 (funext fun a => Fin.ext ?_)) (congrArg v2 (funext fun a => Fin.ext ?_))
  · match a with
    | ⟨0, _⟩ => rfl
    | ⟨1, _⟩ => exact hk
  · match a with
    | ⟨0, _⟩ => exact hk
    | ⟨1, _⟩ => rfl

theorem residPay_at (v0 : Vec Ideal S512x1024 .f32) (v1 : Vec Ideal S512x1024 .bf16) (v2 : Vec Ideal S1024x1024 .bf16) (i : Fin 512) (d : Fin 1024) :
    (k0_pay3 (F := Ideal) v0 v1 v2 (ix2 i d) : EReal) = resid (fun k => v1 (ix2 i k)) (fun k => v0 (ix2 i k)) (fun k d => v2 (ix2 k d)) d := by
  unfold k0_pay3
  rw [shapeCast_self]
  exact congrArg (fun x : EReal => v0 (ix2 i d) + x) (outproj_at v1 v2 i d)

/-- Rows divided by their root mean squares and weighted, as the payloads spell it. -/
def normPay (X : FVec Ideal S512x1024 .f32) (w : Vec Ideal S1x1024 .f32) : FVec Ideal S512x1024 .f32 :=
  mulf (mulf X (broadcastTo S512x1024 (rsqrt (addf (divf (shapeCast S512x1 (multiReduction .add [1] S512 (mulf X X) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024))
    (broadcastTo S512x1024 (shapeCast S1x1024 w shapeCasts_S1x1024_S1x1024) broadcasts_S1x1024_S512x1024)

theorem normPay_at (X : FVec Ideal S512x1024 .f32) (w : Vec Ideal S1x1024 .f32) (i : Fin 512) (d : Fin 1024) :
    (normPay X w (ix2 i d) : EReal) = normed (fun k => X (ix2 i k)) (fun k => w (ix2 0 k)) d := by
  unfold normPay normed
  rw [shapeCast_self]
  refine congrArg₂ (fun x y : EReal => x * y) (congrArg (fun y : EReal => X (ix2 i d) * y) ?_) ?_
  · refine (broadcastTo_apply _ _ _ (ix2 i 0) fun a => ?_).trans ?_
    · match a with
      | ⟨0, _⟩ => rfl
      | ⟨1, _⟩ => rfl
    refine congrArg Ideal.rsqrt (congrArg₂ (fun x y : EReal => x + y) (congrArg (fun x : EReal => Ideal.div x _) ?_) rfl)
    refine (shapeCast_apply _ _ (ix2 i 0) (ix1 i) ?_).trans ?_
    · rw [Shape.rowMajor_val_one, Shape.rowMajor_val_two]
      show i.val = i.val * 1 + 0
      omega
    refine (Ideal.multiReduction_add_single _ _ _ _ _ _).trans (Finset.sum_congr rfl fun x _ => ?_)
    refine congrArg (fun z => (X z : EReal) * X z) (funext fun a => ?_)
    match a with
    | ⟨0, _⟩ => rfl
    | ⟨1, _⟩ => rfl
  · refine broadcastTo_apply _ _ _ (ix2 0 d) fun a => ?_
    match a with
    | ⟨0, _⟩ => rfl
    | ⟨1, _⟩ => rfl

theorem pay5_eq (v0 : Vec Ideal S512x1024 .f32) (v1 : Vec Ideal S512x1024 .bf16) (v2 : Vec Ideal S1024x1024 .bf16) (w : Vec Ideal S1x1024 .f32) :
    k0_pay5 (F := Ideal) v0 v1 v2 w = normPay (k0_pay3 v0 v1 v2) w := rfl

theorem pay7_eq (v0 : Vec Ideal S512x1024 .f32) (v1 : Vec Ideal S512x1024 .bf16) (v2 : Vec Ideal S1024x1024 .bf16) (w : Vec Ideal S1x1024 .f32) :
    k0_pay7 (F := Ideal) (k0_pay6 v0 v1 v2) w = normPay (k0_pay3 v0 v1 v2) w := rfl

/-- The second projection and the residual sum. -/
def sumPay (X : FVec Ideal S512x1024 .f32) (h : FVec Ideal S512x2816 .bf16) (wo : Vec Ideal S2816x1024 .bf16) : FVec Ideal S512x1024 .f32 :=
  addf X (matmul dot_S512x2816_S2816x1024_S512x1024_1_0_0_1_n_n none h (shapeCast (α := Ideal .bf16) S2816x1024 wo shapeCasts_S2816x1024_S2816x1024) (constant S512x1024 .f32 0x00000000#32))

theorem sumPay_at (X : FVec Ideal S512x1024 .f32) (h : FVec Ideal S512x2816 .bf16) (wo : Vec Ideal S2816x1024 .bf16) (i : Fin 512) (d : Fin 1024) :
    (sumPay X h wo (ix2 i d) : EReal) = sumRow (fun k => X (ix2 i k)) (fun j => h (ix2 i j)) (fun j k => wo (ix2 j k)) d := by
  unfold sumPay
  rw [shapeCast_self]
  exact congrArg (fun x : EReal => X (ix2 i d) + x) (ffnproj_at h wo i d)

/-- The last payload: the sum and the last norm. -/
theorem pay2_eq (X : FVec Ideal S512x1024 .f32) (h : Vec Ideal S512x2816 .bf16) (wo : Vec Ideal S2816x1024 .bf16) (w : Vec Ideal S1x1024 .f32) :
    k0_pay2 (F := Ideal) X h wo w = normPay (sumPay X h wo) w := rfl

theorem pay24_eq (X : FVec Ideal S512x1024 .f32) (h : Vec Ideal S512x2816 .bf16) (wo : Vec Ideal S2816x1024 .bf16) (w : Vec Ideal S1x1024 .f32) :
    k0_pay24 (F := Ideal) X h (k0_pay23 wo) w = normPay (sumPay X h wo) w := rfl

/-- A chunk of the gate. -/
theorem gatePay_at (xn : FVec Ideal S512x1024 .bf16) (g u : Vec Ideal S1024x256 .bf16) (i : Fin 512) (j : Fin 256) :
    (k0_pay8 (F := Ideal) xn g u (ix2 i j) : EReal) = gateT (∑ k, (xn (ix2 i k) : EReal) * g (ix2 k j)) (∑ k, (xn (ix2 i k) : EReal) * u (ix2 k j)) := by
  unfold k0_pay8
  simp only [shapeCast_self]
  unfold gateT
  rw [← inproj_at, ← inproj_at]
  rfl

end Cert.Proof.PostIdeal

end
-- ==== Proof.Post.Block.lean ====
/- What a half of a point's block holds, over the memrefs of any of the two launches: the residual rows, the hidden units in the scratch. -/
module

public import proofs.«01_k».proof.Proof.Post.Payloads

@[expose] public section

set_option maxRecDepth 8192

noncomputable section

namespace Cert.Proof.PostIdeal

open Cert.PostIdeal Cert.PostIdeal.Gen
open Idealize.ShloMosaic
open Idealize.ShloMosaic.ValueIdx
open Rows

variable {σ : RefSig} (arg1 : Memref σ .tc .vmem S1024x1024 .bf16) (harg1 : arg1.IsWhole) (arg2 : Memref σ .tc .vmem S1024x1024 .f32) (harg2 : arg2.IsWhole)
  (arg3 : Memref σ .tc .vmem S1024x1024 .bf16) (harg3 : arg3.IsWhole) (arg4 : Memref σ .tc .vmem S1x1024 .f32) (harg4 : arg4.IsWhole)
  (arg5 : Memref σ .tc .vmem S1024x5632 .bf16) (harg5 : arg5.IsWhole) (arg6 : Memref σ .tc .vmem S2816x1024 .bf16) (harg6 : arg6.IsWhole)
  (x0 : Vec Ideal S1024x1024 .bf16) (x1 : Vec Ideal S1024x1024 .f32) (x2 : Vec Ideal S1024x1024 .bf16) (x3 : Vec Ideal S1x1024 .f32)
  (x4 : Vec Ideal S1024x5632 .bf16) (x5 : Vec Ideal S2816x1024 .bf16) (x6 : Vec Ideal S1x1024 .f32)

/-- Row `r` of the block's residual stream, of its normed rows, and the hidden units. -/
def resRow (r : Fin 1024) : Fin 1024 → EReal := resid (fun k => x0 (ix2 r k)) (fun k => x1 (ix2 r k)) fun k d => x2 (ix2 k d)
def nrmRow (r : Fin 1024) : Fin 1024 → EReal := normed (resRow x0 x1 x2 r) fun k => x3 (ix2 0 k)
def hidArr (z : S1024x2816.Idx) : EReal := hid gateT (nrmRow x0 x1 x2 x3 (z 0)) (fun k j => x4 (ix2 k j)) (z 1)

/-- Half a block of the residual stream. -/
theorem half_at (o : ℕ) (inb : ∀ d, (![o, 0] : Fin 2 → ℕ) d + (![512, 1024] : Fin 2 → ℕ) d ≤ S1024x1024.size d)
    (inb' : ∀ d, (![0, 0] : Fin 2 → ℕ) d + (![1024, 1024] : Fin 2 → ℕ) d ≤ S1024x1024.size d) (p : Fin 512) (d r : Fin 1024) (hr : r.val = o + p.val) :
    (k0_pay3 (F := Ideal) (View.readAt (Elt Ideal) arg2.view (Rect.unit (s := S1024x1024) ![o, 0] ![512, 1024] inb).toLoadRect (harg2.unread x1))
      (View.readAt (Elt Ideal) arg1.view (Rect.unit (s := S1024x1024) ![o, 0] ![512, 1024] inb).toLoadRect (harg1.unread x0))
      (View.readAt (Elt Ideal) arg3.view (Rect.unit (s := S1024x1024) ![0, 0] ![1024, 1024] inb').toLoadRect (harg3.unread x2)) (ix2 p d) : EReal)
      = resRow x0 x1 x2 r d := by
  refine (residPay_at _ _ _ p d).trans ?_
  unfold resRow
  have h1 : ∀ k : Fin 1024, View.readAt (Elt Ideal) arg1.view (Rect.unit (s := S1024x1024) ![o, 0] ![512, 1024] inb).toLoadRect (harg1.unread x0) (ix2 p k) = x0 (ix2 r k) :=
    fun k => part_at arg1 harg1 x0 o 0 inb p k r k hr (Nat.zero_add _).symm
  have h2 : ∀ k : Fin 1024, View.readAt (Elt Ideal) arg2.view (Rect.unit (s := S1024x1024) ![o, 0] ![512, 1024] inb).toLoadRect (harg2.unread x1) (ix2 p k) = x1 (ix2 r k) :=
    fun k => part_at arg2 harg2 x1 o 0 inb p k r k hr (Nat.zero_add _).symm
  have h3 : ∀ k e : Fin 1024, View.readAt (Elt Ideal) arg3.view (Rect.unit (s := S1024x1024) ![0, 0] ![1024, 1024] inb').toLoadRect (harg3.unread x2) (ix2 k e) = x2 (ix2 k e) :=
    fun k e => part_at arg3 harg3 x2 0 0 inb' k e k e (Nat.zero_add _).symm (Nat.zero_add _).symm
  unfold resid
  exact congrArg₂ (fun a b : EReal => a + b) (h2 d) (Finset.sum_congr rfl fun k _ => congrArg₂ (fun a b : EReal => a * b) (h1 k) (h3 k d))

/-- The one row of a weight vector, read back. -/
theorem weight_at (a : Memref σ .tc .vmem S1x1024 .f32) (ha : a.IsWhole) (x : Vec Ideal S1x1024 .f32)
    (inb : ∀ d, (![0, 0] : Fin 2 → ℕ) d + (![1, 1024] : Fin 2 → ℕ) d ≤ S1x1024.size d) (k : Fin 1024) :
    View.readAt (Elt Ideal) a.view (Rect.unit (s := S1x1024) ![0, 0] ![1, 1024] inb).toLoadRect (ha.unread x) (ix2 0 k) = x (ix2 0 k) :=
  part_at a ha x 0 0 inb 0 k 0 k rfl (Nat.zero_add _).symm

/-- Half the normed rows. -/
theorem halfNorm_at (o : ℕ) (X : FVec Ideal S512x1024 .f32) (hX : ∀ (p : Fin 512) (d r : Fin 1024), r.val = o + p.val → (X (ix2 p d) : EReal) = resRow x0 x1 x2 r d)
    (inb : ∀ d, (![0, 0] : Fin 2 → ℕ) d + (![1, 1024] : Fin 2 → ℕ) d ≤ S1x1024.size d) (p : Fin 512) (k r : Fin 1024) (hr : r.val = o + p.val) :
    (normPay X (View.readAt (Elt Ideal) arg4.view (Rect.unit (s := S1x1024) ![0, 0] ![1, 1024] inb).toLoadRect (harg4.unread x3)) (ix2 p k) : EReal) = nrmRow x0 x1 x2 x3 r k := by
  rw [normPay_at]
  exact congrArg₂ (fun X w => normed X w k) (funext fun d => hX p d r hr) (funext fun d => weight_at arg4 harg4 x3 _ d)

/-- A stored chunk holds its part of the hidden units. -/
theorem chunk_ok (xn : FVec Ideal S512x1024 .bf16) (o0 o1 o2 : ℕ) (h2 : o2 = 2816 + o1)
    (inb : ∀ d, (![o0, o1] : Fin 2 → ℕ) d + (![512, 256] : Fin 2 → ℕ) d ≤ S1024x2816.size d)
    (inbg : ∀ d, (![0, o1] : Fin 2 → ℕ) d + (![1024, 256] : Fin 2 → ℕ) d ≤ S1024x5632.size d)
    (inbu : ∀ d, (![0, o2] : Fin 2 → ℕ) d + (![1024, 256] : Fin 2 → ℕ) d ≤ S1024x5632.size d)
    (hx : ∀ (p : Fin 512) (k r : Fin 1024), r.val = o0 + p.val → (xn (ix2 p k) : EReal) = nrmRow x0 x1 x2 x3 r k)
    (x : (Rect.unit (s := S1024x2816) ![o0, o1] ![512, 256] inb).shape.Idx) :
    (k0_pay8 (F := Ideal) xn (View.readAt (Elt Ideal) arg5.view (Rect.unit (s := S1024x5632) ![0, o1] ![1024, 256] inbg).toLoadRect (harg5.unread x4))
      (View.readAt (Elt Ideal) arg5.view (Rect.unit (s := S1024x5632) ![0, o2] ![1024, 256] inbu).toLoadRect (harg5.unread x4)) x : EReal)
      = hidArr x0 x1 x2 x3 x4 ((Rect.unit (s := S1024x2816) ![o0, o1] ![512, 256] inb).emb x) := by
  obtain ⟨p, q, rfl⟩ : ∃ (p : Fin 512) (q : Fin 256), x = ix2 p q := ⟨x 0, x 1, eq_ix2 x⟩
  have hb0 : o0 + 512 ≤ 1024 := inb 0
  have hb1 : o1 + 256 ≤ 2816 := inb 1
  have hz : (Rect.unit (s := S1024x2816) ![o0, o1] ![512, 256] inb).emb (ix2 p q) = (ix2 ⟨o0 + p.val, by omega⟩ ⟨o1 + q.val, by omega⟩ : S1024x2816.Idx) :=
    funext fun a => Fin.ext (by
      rw [Rect.emb_apply]
      refine (Rect.idx_unit_val (s := S1024x2816) ![o0, o1] ![512, 256] inb (ix2 p q) a).trans ?_
      match a with
      | ⟨0, _⟩ => rfl
      | ⟨1, _⟩ => rfl)
  refine (gatePay_at xn _ _ p q).trans (Eq.trans ?_ (congrArg (hidArr x0 x1 x2 x3 x4) hz).symm)
  have hg : ∀ (o : ℕ) (ib : ∀ d, (![0, o] : Fin 2 → ℕ) d + (![1024, 256] : Fin 2 → ℕ) d ≤ S1024x5632.size d) (j : Fin 5632), j.val = o + q.val →
      (∑ k : Fin 1024, (xn (ix2 p k) : EReal) * View.readAt (Elt Ideal) arg5.view (Rect.unit (s := S1024x5632) ![0, o] ![1024, 256] ib).toLoadRect (harg5.unread x4) (ix2 k q))
        = proj (nrmRow x0 x1 x2 x3 ⟨o0 + p.val, by omega⟩) (fun k j => x4 (ix2 k j)) j := fun o ib j hj => by
    unfold proj
    exact Finset.sum_congr rfl fun k _ => congrArg₂ (fun a b : EReal => a * b) (hx p k _ rfl) (part_at arg5 harg5 x4 0 o ib k q k j (Nat.zero_add _).symm hj)
  unfold hidArr hid
  exact congrArg₂ gateT (hg o1 inbg _ rfl) (hg o2 inbu _ (by show 2816 + (o1 + q.val) = o2 + q.val; omega))

/-- A part of a two-axis array lies in it. -/
theorem inb2 {n0 n1 o0 o1 m0 m1 : ℕ} (h0 : o0 + m0 ≤ n0) (h1 : o1 + m1 ≤ n1) :
    ∀ d, (![o0, o1] : Fin 2 → ℕ) d + (![m0, m1] : Fin 2 → ℕ) d ≤ (⟨2, ![n0, n1]⟩ : Shape).size d := fun d => match d with
  | ⟨0, _⟩ => h0
  | ⟨1, _⟩ => h1

/-- A chunk of half the scratch, and all of a half's chunks, the last stored first. -/
def chunk (xn : FVec Ideal S512x1024 .bf16) (o0 : ℕ) (h0 : o0 + 512 ≤ 1024) (o1 : ℕ) (h1 : o1 + 256 ≤ 2816) : View.Piece (Elt Ideal) S1024x2816 .bf16 :=
  ⟨Rect.unit (s := S1024x2816) ![o0, o1] ![512, 256] (inb2 h0 h1),
    k0_pay8 (F := Ideal) xn (View.readAt (Elt Ideal) arg5.view (Rect.unit (s := S1024x5632) ![0, o1] ![1024, 256] (inb2 (by omega) (by omega))).toLoadRect (harg5.unread x4))
      (View.readAt (Elt Ideal) arg5.view (Rect.unit (s := S1024x5632) ![0, 2816 + o1] ![1024, 256] (inb2 (by omega) (by omega))).toLoadRect (harg5.unread x4))⟩

def chunks (xn : FVec Ideal S512x1024 .bf16) (o0 : ℕ) (h0 : o0 + 512 ≤ 1024) : List (View.Piece (Elt Ideal) S1024x2816 .bf16) :=
  [chunk arg5 harg5 x4 xn o0 h0 2560 (by omega), chunk arg5 harg5 x4 xn o0 h0 2304 (by omega), chunk arg5 harg5 x4 xn o0 h0 2048 (by omega),
    chunk arg5 harg5 x4 xn o0 h0 1792 (by omega), chunk arg5 harg5 x4 xn o0 h0 1536 (by omega), chunk arg5 harg5 x4 xn o0 h0 1280 (by omega),
    chunk arg5 harg5 x4 xn o0 h0 1024 (by omega), chunk arg5 harg5 x4 xn o0 h0 768 (by omega), chunk arg5 harg5 x4 xn o0 h0 512 (by omega),
    chunk arg5 harg5 x4 xn o0 h0 256 (by omega), chunk arg5 harg5 x4 xn o0 h0 0 (by omega)]

theorem one_ok (xn : FVec Ideal S512x1024 .bf16) (o0 : ℕ) (h0 : o0 + 512 ≤ 1024) (o1 : ℕ) (h1 : o1 + 256 ≤ 2816)
    (hx : ∀ (p : Fin 512) (k r : Fin 1024), r.val = o0 + p.val → (xn (ix2 p k) : EReal) = nrmRow x0 x1 x2 x3 r k)
    (x : (chunk arg5 harg5 x4 xn o0 h0 o1 h1).1.shape.Idx) :
    (chunk arg5 harg5 x4 xn o0 h0 o1 h1).2 x = hidArr x0 x1 x2 x3 x4 ((chunk arg5 harg5 x4 xn o0 h0 o1 h1).1.emb x) :=
  chunk_ok arg5 harg5 x0 x1 x2 x3 x4 xn o0 o1 (2816 + o1) rfl (inb2 h0 h1) (inb2 (by omega) (by omega)) (inb2 (by omega) (by omega)) hx x

/-- Every chunk of a half holds hidden units. -/
theorem chunks_ok (xn : FVec Ideal S512x1024 .bf16) (o0 : ℕ) (h0 : o0 + 512 ≤ 1024)
    (hx : ∀ (p : Fin 512) (k r : Fin 1024), r.val = o0 + p.val → (xn (ix2 p k) : EReal) = nrmRow x0 x1 x2 x3 r k) :
    ∀ p ∈ chunks arg5 harg5 x4 xn o0 h0, ∀ x : p.1.shape.Idx, p.2 x = hidArr x0 x1 x2 x3 x4 (p.1.emb x) := by
  intro p hp x
  simp only [chunks, List.mem_cons, List.mem_nil_iff, or_false] at hp
  rcases hp with rfl | rfl | rfl | rfl | rfl | rfl | rfl | rfl | rfl | rfl | rfl <;> exact one_ok arg5 harg5 x0 x1 x2 x3 x4 xn o0 h0 _ _ hx x

/-- Each index of a half lies in one of its chunks. -/
theorem chunks_cover (xn : FVec Ideal S512x1024 .bf16) (o0 : ℕ) (h0 : o0 + 512 ≤ 1024) (z : S1024x2816.Idx) (hl : o0 ≤ (z 0).val) (hu : (z 0).val < o0 + 512) :
    ∃ p ∈ chunks arg5 harg5 x4 xn o0 h0, z ∈ p.1.set := by
  have h1 : (z 1).val < 2816 := (z 1).isLt
  have key : ∀ (o : ℕ) (h : o + 256 ≤ 2816), o ≤ (z 1).val → (z 1).val < o + 256 → z ∈ (chunk arg5 harg5 x4 xn o0 h0 o h).1.set :=
    fun o h hl' hu' => (Rect.mem_set_unit (s := S1024x2816) (off := ![o0, o]) (inb := inb2 h0 h)).2 fun a => by
      match a with
      | ⟨0, _⟩ => exact ⟨hl, hu⟩
      | ⟨1, _⟩ => exact ⟨hl', hu'⟩
  have hk : ∀ t : ℕ, (z 1).val / 256 = t → ∀ h : 256 * t + 256 ≤ 2816, z ∈ (chunk arg5 harg5 x4 xn o0 h0 (256 * t) h).1.set :=
    fun t ht h => key _ h (by omega) (by omega)
  simp only [chunks, List.exists_mem_cons_iff, List.not_mem_nil, false_and, exists_false, or_false]
  obtain h | h | h | h | h | h | h | h | h | h | h : (z 1).val / 256 = 10 ∨ (z 1).val / 256 = 9 ∨ (z 1).val / 256 = 8 ∨ (z 1).val / 256 = 7 ∨ (z 1).val / 256 = 6
    ∨ (z 1).val / 256 = 5 ∨ (z 1).val / 256 = 4 ∨ (z 1).val / 256 = 3 ∨ (z 1).val / 256 = 2 ∨ (z 1).val / 256 = 1 ∨ (z 1).val / 256 = 0 := by omega
  all_goals have h' := hk _ h (by omega)
  · exact .inl h'
  · exact .inr (.inl h')
  · exact .inr (.inr (.inl h'))
  · exact .inr (.inr (.inr (.inl h')))
  · exact .inr (.inr (.inr (.inr (.inl h'))))
  · exact .inr (.inr (.inr (.inr (.inr (.inl h')))))
  · exact .inr (.inr (.inr (.inr (.inr (.inr (.inl h'))))))
  · exact .inr (.inr (.inr (.inr (.inr (.inr (.inr (.inl h')))))))
  · exact .inr (.inr (.inr (.inr (.inr (.inr (.inr (.inr (.inl h'))))))))
  · exact .inr (.inr (.inr (.inr (.inr (.inr (.inr (.inr (.inr (.inl h')))))))))
  · exact .inr (.inr (.inr (.inr (.inr (.inr (.inr (.inr (.inr (.inr h')))))))))

/-- Where an element of half the scratch sits. -/
theorem half_idx (o : ℕ) (inb : ∀ d, (![o, 0] : Fin 2 → ℕ) d + (![512, 2816] : Fin 2 → ℕ) d ≤ S1024x2816.size d) (p : Fin 512) (j : Fin 2816) (r : Fin 1024) (hr : r.val = o + p.val) :
    (Rect.unit (s := S1024x2816) ![o, 0] ![512, 2816] inb).idx (ix2 p j) = (ix2 r j : S1024x2816.Idx) :=
  funext fun a => Fin.ext (by
    refine (Rect.idx_unit_val (s := S1024x2816) ![o, 0] ![512, 2816] inb (ix2 p j) a).trans ?_
    match a with
    | ⟨0, _⟩ => exact hr.symm
    | ⟨1, _⟩ => exact Nat.zero_add _)

/-- Half the scratch read back, once its pieces hold hidden units and cover it. -/
theorem scratch_at (a : Memref σ .tc .vmem S1024x2816 .bf16) (L : List (View.Piece (Elt Ideal) S1024x2816 .bf16)) (o : ℕ)
    (inb : ∀ d, (![o, 0] : Fin 2 → ℕ) d + (![512, 2816] : Fin 2 → ℕ) d ≤ S1024x2816.size d)
    (hL : ∀ p ∈ L, ∀ x : p.1.shape.Idx, p.2 x = hidArr x0 x1 x2 x3 x4 (p.1.emb x))
    (hc : ∀ z : S1024x2816.Idx, o ≤ (z 0).val → (z 0).val < o + 512 → ∃ p ∈ L, z ∈ p.1.set) (p : Fin 512) (j : Fin 2816) (r : Fin 1024) (hr : r.val = o + p.val) :
    (a.view.readCov L (Rect.unit (s := S1024x2816) ![o, 0] ![512, 2816] inb).toLoadRect (ix2 p j) : EReal) = hidArr x0 x1 x2 x3 x4 (ix2 r j) := by
  rw [View.readCov_eq_canon']
  refine (congrArg (View.canon _) (half_idx o inb p j r hr)).trans ?_
  exact View.canon_apply_of_pieces (hidArr x0 x1 x2 x3 x4) _ hL _ (hc (ix2 r j) (by show o ≤ r.val; omega) (by show r.val < o + 512; omega))

/-- The block a point leaves, without the last norm and with it. -/
def midArr (z : S1024x1024.Idx) : EReal :=
  midRow gateT (fun k => x0 (ix2 (z 0) k)) (fun k => x1 (ix2 (z 0) k)) (fun k d => x2 (ix2 k d)) (fun k => x3 (ix2 0 k)) (fun k j => x4 (ix2 k j))
    (fun j d => x5 (ix2 j d)) (z 1)
def outArr (z : S1024x1024.Idx) : EReal :=
  wholeRow gateT (fun k => x0 (ix2 (z 0) k)) (fun k => x1 (ix2 (z 0) k)) (fun k d => x2 (ix2 k d)) (fun k => x3 (ix2 0 k)) (fun k j => x4 (ix2 k j))
    (fun j d => x5 (ix2 j d)) (fun k => x6 (ix2 0 k)) (z 1)

/-- Where an element of a stored half sits. -/
theorem half_emb (o : ℕ) (inb : ∀ d, (![o, 0] : Fin 2 → ℕ) d + (![512, 1024] : Fin 2 → ℕ) d ≤ S1024x1024.size d) (p : Fin 512) (d r : Fin 1024) (hr : r.val = o + p.val) :
    (Rect.unit (s := S1024x1024) ![o, 0] ![512, 1024] inb).emb (ix2 p d) = (ix2 r d : S1024x1024.Idx) :=
  funext fun a => Fin.ext (by
    rw [Rect.emb_apply]
    refine (Rect.idx_unit_val (s := S1024x1024) ![o, 0] ![512, 1024] inb (ix2 p d) a).trans ?_
    match a with
    | ⟨0, _⟩ => exact hr.symm
    | ⟨1, _⟩ => exact Nat.zero_add _)

/-- Half the residual sum. -/
theorem halfSum_at (X : FVec Ideal S512x1024 .f32) (h : FVec Ideal S512x2816 .bf16) (o : ℕ)
    (inb6 : ∀ d, (![0, 0] : Fin 2 → ℕ) d + (![2816, 1024] : Fin 2 → ℕ) d ≤ S2816x1024.size d)
    (hX : ∀ (p : Fin 512) (d r : Fin 1024), r.val = o + p.val → (X (ix2 p d) : EReal) = resRow x0 x1 x2 r d)
    (hh : ∀ (p : Fin 512) (j : Fin 2816) (r : Fin 1024), r.val = o + p.val → (h (ix2 p j) : EReal) = hidArr x0 x1 x2 x3 x4 (ix2 r j))
    (p : Fin 512) (d r : Fin 1024) (hr : r.val = o + p.val) :
    (sumPay X h (View.readAt (Elt Ideal) arg6.view (Rect.unit (s := S2816x1024) ![0, 0] ![2816, 1024] inb6).toLoadRect (harg6.unread x5)) (ix2 p d) : EReal)
      = midArr x0 x1 x2 x3 x4 x5 (ix2 r d) := by
  rw [sumPay_at, show (fun k => (X (ix2 p k) : EReal)) = resRow x0 x1 x2 r from funext fun k => hX p k _ hr,
    show (fun j => (h (ix2 p j) : EReal)) = fun j => hidArr x0 x1 x2 x3 x4 (ix2 r j) from funext fun j => hh p j _ hr,
    show (fun (j : Fin 2816) (k : Fin 1024) => (View.readAt (Elt Ideal) arg6.view (Rect.unit (s := S2816x1024) ![0, 0] ![2816, 1024] inb6).toLoadRect (harg6.unread x5) (ix2 j k) : EReal))
      = fun j k => x5 (ix2 j k) from funext fun j => funext fun k => part_at arg6 harg6 x5 0 0 inb6 j k j k (Nat.zero_add _).symm (Nat.zero_add _).symm]
  rfl

/-- Row `p` of a point's block in the arrays. -/
def rowOf (n : Fin 64) (p : Fin 1024) : Fin 65536 := ⟨1024 * n.val + p.val, by omega⟩

theorem tr_row (n : Fin 64) (p : Fin 1024) : (BitVec.ofNat 32 n.val).toNat * 1024 + p.val = (rowOf n p).val := by
  rw [BitVec.toNat_ofNat]
  show _ = 1024 * n.val + p.val
  omega

/-- A vector cast to one row. -/
theorem row_at (x : Vec Ideal S1024 .f32) (d : Fin 1024) : shapeCast S1x1024 x shapeCasts_S1024_S1x1024 (ix2 0 d) = x (ix1 d) := by
  refine shapeCast_apply _ _ _ (ix1 d) ?_
  rw [Shape.rowMajor_val_one, Shape.rowMajor_val_two]
  show d.val = 0 * 1024 + d.val
  omega

end Cert.Proof.PostIdeal

end
-- ==== Proof.Post.Out.lean ====
/- What one grid point leaves in its output block, element by element, with the last norm. -/
module

public import proofs.«01_k».proof.Proof.Post.Block
public import proofs.«01_k».proof.Proof.Gen.PostIdeal.Value

@[expose] public section

set_option maxRecDepth 8192

noncomputable section

namespace Cert.Proof.PostIdeal

open Cert.PostIdeal Cert.PostIdeal.Gen
open Idealize.ShloMosaic
open Idealize.ShloMosaic.ValueIdx
open Rows

variable (c : Dev nD) (i : grid0.Coords) (arg1 : Memref sig .tc .vmem S1024x1024 .bf16) (harg1 : arg1.IsWhole) (arg2 : Memref sig .tc .vmem S1024x1024 .f32) (harg2 : arg2.IsWhole)
  (arg3 : Memref sig .tc .vmem S1024x1024 .bf16) (harg3 : arg3.IsWhole) (arg4 : Memref sig .tc .vmem S1x1024 .f32) (harg4 : arg4.IsWhole)
  (arg5 : Memref sig .tc .vmem S1024x5632 .bf16) (harg5 : arg5.IsWhole) (arg6 : Memref sig .tc .vmem S2816x1024 .bf16) (harg6 : arg6.IsWhole)
  (arg7 : Memref sig .tc .vmem S1x1024 .f32) (harg7 : arg7.IsWhole) (arg8 : Memref sig .tc .vmem S1024x1024 .f32) (harg8 : arg8.IsWhole)
  (arg9 : Memref sig .tc .vmem S1024x2816 .bf16) (harg9 : arg9.IsWhole)
  (x0 : Vec Ideal S1024x1024 .bf16) (x1 : Vec Ideal S1024x1024 .f32) (x2 : Vec Ideal S1024x1024 .bf16) (x3 : Vec Ideal S1x1024 .f32)
  (x4 : Vec Ideal S1024x5632 .bf16) (x5 : Vec Ideal S2816x1024 .bf16) (x6 : Vec Ideal S1x1024 .f32)

theorem r_at (p : Fin 512) (d r : Fin 1024) (hr : r.val = 0 + p.val) :
    (kernelRun0_A.sl.r (F := Ideal) c arg1 harg1 arg2 harg2 arg3 harg3 x0 x1 x2 (ix2 p d) : EReal) = resRow x0 x1 x2 r d :=
  PostIdeal.half_at arg1 harg1 arg2 harg2 arg3 harg3 x0 x1 x2 0 inb_S1024x1024_S512x1024_0_0 inb_S1024x1024_S1024x1024_0_0 p d r hr

theorem r1_at (p : Fin 512) (d r : Fin 1024) (hr : r.val = 512 + p.val) :
    (kernelRun0_A.sl.r_1 (F := Ideal) c arg1 harg1 arg2 harg2 arg3 harg3 x0 x1 x2 (ix2 p d) : EReal) = resRow x0 x1 x2 r d :=
  PostIdeal.half_at arg1 harg1 arg2 harg2 arg3 harg3 x0 x1 x2 512 inb_S1024x1024_S512x1024_512_0 inb_S1024x1024_S1024x1024_0_0 p d r hr

theorem r2_at (p : Fin 512) (k r : Fin 1024) (hr : r.val = 0 + p.val) :
    (kernelRun0_A.sl.r_2 (F := Ideal) c arg1 harg1 arg2 harg2 arg3 harg3 arg4 harg4 x0 x1 x2 x3 (ix2 p k) : EReal) = nrmRow x0 x1 x2 x3 r k :=
  PostIdeal.halfNorm_at arg4 harg4 x0 x1 x2 x3 0 _ (r_at c arg1 harg1 arg2 harg2 arg3 harg3 x0 x1 x2) inb_S1x1024_S1x1024_0_0 p k r hr

theorem r4_at (p : Fin 512) (k r : Fin 1024) (hr : r.val = 512 + p.val) :
    (kernelRun0_A.sl.r_4 (F := Ideal) c arg1 harg1 arg2 harg2 arg3 harg3 arg4 harg4 x0 x1 x2 x3 (ix2 p k) : EReal) = nrmRow x0 x1 x2 x3 r k :=
  PostIdeal.halfNorm_at arg4 harg4 x0 x1 x2 x3 512 _ (r1_at c arg1 harg1 arg2 harg2 arg3 harg3 x0 x1 x2) inb_S1x1024_S1x1024_0_0 p k r hr

/-- The pieces of the scratch are a half's chunks, and then both halves'. -/
theorem pieces_first : kernelRun0_A.sl.HS0_11 (F := Ideal) c arg1 harg1 arg2 harg2 arg3 harg3 arg4 harg4 arg5 harg5 x0 x1 x2 x3 x4
    = chunks arg5 harg5 x4 (kernelRun0_A.sl.r_2 c arg1 harg1 arg2 harg2 arg3 harg3 arg4 harg4 x0 x1 x2 x3) 0 (by omega) := rfl

theorem pieces_both : kernelRun0_A.sl.HS0_22 (F := Ideal) c arg1 harg1 arg2 harg2 arg3 harg3 arg4 harg4 arg5 harg5 x0 x1 x2 x3 x4
    = chunks arg5 harg5 x4 (kernelRun0_A.sl.r_4 c arg1 harg1 arg2 harg2 arg3 harg3 arg4 harg4 x0 x1 x2 x3) 512 (by omega)
      ++ chunks arg5 harg5 x4 (kernelRun0_A.sl.r_2 c arg1 harg1 arg2 harg2 arg3 harg3 arg4 harg4 x0 x1 x2 x3) 0 (by omega) := rfl

theorem v218_at (p : Fin 512) (j : Fin 2816) (r : Fin 1024) (hr : r.val = 0 + p.val) :
    (kernelRun0_A.sl.v218 (F := Ideal) c arg1 harg1 arg2 harg2 arg3 harg3 arg4 harg4 arg5 harg5 arg9 x0 x1 x2 x3 x4 (ix2 p j) : EReal) = hidArr x0 x1 x2 x3 x4 (ix2 r j) := by
  unfold kernelRun0_A.sl.v218
  refine PostIdeal.scratch_at x0 x1 x2 x3 x4 arg9 _ 0 inb_S1024x2816_S512x2816_0_0 ?_ ?_ p j r hr
  · rw [pieces_first]
    exact PostIdeal.chunks_ok arg5 harg5 x0 x1 x2 x3 x4 _ 0 _ (r2_at c arg1 harg1 arg2 harg2 arg3 harg3 arg4 harg4 x0 x1 x2 x3)
  · rw [pieces_first]
    exact PostIdeal.chunks_cover arg5 harg5 x4 _ 0 _

theorem v414_at (p : Fin 512) (j : Fin 2816) (r : Fin 1024) (hr : r.val = 512 + p.val) :
    (kernelRun0_A.sl.v414 (F := Ideal) c arg1 harg1 arg2 harg2 arg3 harg3 arg4 harg4 arg5 harg5 arg9 x0 x1 x2 x3 x4 (ix2 p j) : EReal) = hidArr x0 x1 x2 x3 x4 (ix2 r j) := by
  unfold kernelRun0_A.sl.v414
  refine PostIdeal.scratch_at x0 x1 x2 x3 x4 arg9 _ 512 inb_S1024x2816_S512x2816_512_0 ?_ ?_ p j r hr
  · rw [pieces_both]
    intro q hq
    rcases List.mem_append.1 hq with hq | hq
    · exact PostIdeal.chunks_ok arg5 harg5 x0 x1 x2 x3 x4 _ 512 _ (r4_at c arg1 harg1 arg2 harg2 arg3 harg3 arg4 harg4 x0 x1 x2 x3) q hq
    · exact PostIdeal.chunks_ok arg5 harg5 x0 x1 x2 x3 x4 _ 0 _ (r2_at c arg1 harg1 arg2 harg2 arg3 harg3 arg4 harg4 x0 x1 x2 x3) q hq
  · rw [pieces_both]
    intro z hl hu
    obtain ⟨q, hq, hz⟩ := PostIdeal.chunks_cover arg5 harg5 x4 (kernelRun0_A.sl.r_4 c arg1 harg1 arg2 harg2 arg3 harg3 arg4 harg4 x0 x1 x2 x3) 512 (by omega) z hl hu
    exact ⟨q, List.mem_append_left _ hq, hz⟩

/-- A stored half of the output. -/
theorem outHalf_ok (X : FVec Ideal S512x1024 .f32) (h : Vec Ideal S512x2816 .bf16) (o : ℕ) (inb : ∀ d, (![o, 0] : Fin 2 → ℕ) d + (![512, 1024] : Fin 2 → ℕ) d ≤ S1024x1024.size d)
    (inb6 : ∀ d, (![0, 0] : Fin 2 → ℕ) d + (![2816, 1024] : Fin 2 → ℕ) d ≤ S2816x1024.size d) (inb7 : ∀ d, (![0, 0] : Fin 2 → ℕ) d + (![1, 1024] : Fin 2 → ℕ) d ≤ S1x1024.size d)
    (hX : ∀ (p : Fin 512) (d r : Fin 1024), r.val = o + p.val → (X (ix2 p d) : EReal) = resRow x0 x1 x2 r d)
    (hh : ∀ (p : Fin 512) (j : Fin 2816) (r : Fin 1024), r.val = o + p.val → (h (ix2 p j) : EReal) = hidArr x0 x1 x2 x3 x4 (ix2 r j))
    (x : (Rect.unit (s := S1024x1024) ![o, 0] ![512, 1024] inb).shape.Idx) :
    (normPay (sumPay X h (View.readAt (Elt Ideal) arg6.view (Rect.unit (s := S2816x1024) ![0, 0] ![2816, 1024] inb6).toLoadRect (harg6.unread x5)))
      (View.readAt (Elt Ideal) arg7.view (Rect.unit (s := S1x1024) ![0, 0] ![1, 1024] inb7).toLoadRect (harg7.unread x6)) x : EReal)
      = outArr x0 x1 x2 x3 x4 x5 x6 ((Rect.unit (s := S1024x1024) ![o, 0] ![512, 1024] inb).emb x) := by
  obtain ⟨p, d, rfl⟩ : ∃ (p : Fin 512) (d : Fin 1024), x = ix2 p d := ⟨x 0, x 1, eq_ix2 x⟩
  have hb : o + 512 ≤ 1024 := inb 0
  rw [normPay_at]
  refine Eq.trans (congrArg₂ (fun X w => normed X w d) (funext fun k => halfSum_at arg6 harg6 x0 x1 x2 x3 x4 x5 X h o inb6 hX hh p k ⟨o + p.val, by omega⟩ rfl)
    (funext fun k => weight_at arg7 harg7 x6 inb7 k)) (congrArg (outArr x0 x1 x2 x3 x4 x5 x6) (half_emb o inb p d ⟨o + p.val, by omega⟩ rfl)).symm

/-- A point's block of the result, at an element. -/
theorem out_at (y : S1024x1024.Idx) :
    (out0_A_7 (F := Ideal) c i arg1 harg1 arg2 harg2 arg3 harg3 arg4 harg4 arg5 harg5 arg6 harg6 arg7 harg7 arg8 harg8 arg9 harg9 x0 x1 x2 x3 x4 x5 x6 y : EReal)
      = outArr x0 x1 x2 x3 x4 x5 x6 y := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  refine View.canon_apply_of_pieces (outArr x0 x1 x2 x3 x4 x5 x6) _ (fun p hp x => ?_) y
    (cover0_A_7 c i arg1 harg1 arg2 harg2 arg3 harg3 arg4 harg4 arg5 harg5 arg6 harg6 arg7 harg7 arg8 harg8 arg9 harg9 x0 x1 x2 x3 x4 x5 x6 y)
  unfold kernelRun0_A at hp
  dsimp only at hp
  simp only [List.mem_cons, List.mem_nil_iff, or_false] at hp
  rcases hp with rfl | rfl
  · exact outHalf_ok arg6 harg6 arg7 harg7 x0 x1 x2 x3 x4 x5 x6 _ _ 512 inb_S1024x1024_S512x1024_512_0 inb_S2816x1024_S2816x1024_0_0 inb_S1x1024_S1x1024_0_0
      (r1_at c arg1 harg1 arg2 harg2 arg3 harg3 x0 x1 x2) (v414_at c arg1 harg1 arg2 harg2 arg3 harg3 arg4 harg4 arg5 harg5 arg9 x0 x1 x2 x3 x4) x
  · exact outHalf_ok arg6 harg6 arg7 harg7 x0 x1 x2 x3 x4 x5 x6 _ _ 0 inb_S1024x1024_S512x1024_0_0 inb_S2816x1024_S2816x1024_0_0 inb_S1x1024_S1x1024_0_0
      (r_at c arg1 harg1 arg2 harg2 arg3 harg3 x0 x1 x2) (v218_at c arg1 harg1 arg2 harg2 arg3 harg3 arg4 harg4 arg5 harg5 arg9 x0 x1 x2 x3 x4) x

end Cert.Proof.PostIdeal

end
-- ==== Proof.Post.Reference.lean ====
/- What the reference of the second call computes, element by element. -/
module

public import proofs.«01_k».proof.Proof.Post.Rows
public import proofs.«01_k».proof.Proof.Gen.PostReferenceIdeal
public import proofs.«01_k».proof.Proof.Gen.PostReferenceIdeal.Read
public import Idealize.ShloMosaic.Lib.ValueIdx

@[expose] public section

set_option maxRecDepth 8192

noncomputable section

namespace Cert.Proof.PostReferenceIdeal

open Cert.PostReferenceIdeal Cert.PostReferenceIdeal.Gen Cert.PostReferenceIdeal.Read
open Idealize.ShloMosaic
open Idealize.ShloMosaic.ValueIdx
open Rows

variable (x0 : (⟨S65536x1024, .bf16⟩ : BufTy).Contents (Elt Ideal)) (x1 : (⟨S65536x1024, .f32⟩ : BufTy).Contents (Elt Ideal))
  (x2 : (⟨S1024x1024, .f32⟩ : BufTy).Contents (Elt Ideal)) (x3 : (⟨S1024, .f32⟩ : BufTy).Contents (Elt Ideal))
  (x4 : (⟨S1024x5632, .f32⟩ : BufTy).Contents (Elt Ideal)) (x5 : (⟨S2816x1024, .f32⟩ : BufTy).Contents (Elt Ideal))
  (x6 : (⟨S1024, .f32⟩ : BufTy).Contents (Elt Ideal))

/-- Row `r` of the residual stream after the output projection. -/
def res (r : Fin 65536) : Fin 1024 → EReal := resid (fun k => x0 (ix2 r k)) (fun k => x1 (ix2 r k)) fun k d => x2 (ix2 k d)

theorem ext2 {n0 n1 : ℕ} {z w : (⟨2, ![n0, n1]⟩ : Shape).Idx} (h0 : (z 0).val = (w 0).val) (h1 : (z 1).val = (w 1).val) : z = w :=
  funext fun a => Fin.ext (by
    match a with
    | ⟨0, _⟩ => exact h0
    | ⟨1, _⟩ => exact h1)

theorem v2_at (r : Fin 65536) (d : Fin 1024) : (val_main_v2 (F := Ideal) x0 x1 x2 (ix2 r d) : EReal) = res x0 x1 x2 r d := by
  rw [val_main_v2_apply, val_main_v1_apply]
  unfold res resid
  refine congrArg (fun w : EReal => x1 (ix2 r d) + w) (Finset.sum_congr rfl fun k _ => ?_)
  rw [val_main_v0_apply]
  exact congrArg₂ (fun a b : EReal => a * b) (congrArg x0 (ext2 rfl rfl)) (congrArg x2 (ext2 rfl rfl))

theorem v15_at (r : Fin 65536) (d : Fin 1024) :
    (val_main_v15 (F := Ideal) x0 x1 x2 x3 (ix2 r d) : EReal) = normed (res x0 x1 x2 r) (fun k => x3 (ix1 k)) d := by
  rw [val_main_v15_apply, val_main_v14_apply, val_main_v13_apply, val_main_v12_apply, val_main_v11_apply, val_main_v10_apply, val_main_v9_apply,
    val_main_v8_apply, val_main_v7_apply, val_main_v6_apply, val_main_v5_apply, val_main_v4_apply]
  unfold normed
  refine congrArg₂ (fun a b : EReal => a * b) (congrArg₂ (fun a b : EReal => a * b) (v2_at x0 x1 x2 r d)
    (congrArg Ideal.rsqrt (congrArg₂ (fun x y : EReal => x + y) (congrArg (fun x : EReal => Ideal.div x _) ?_) rfl))) (congrArg x3 (funext fun a => ?_))
  · refine (congrArg (fun x : EReal => x + _) Ideal.ofBits_zero_f32).trans ((zero_add _).trans (Finset.sum_congr rfl fun e _ => ?_))
    rw [val_main_v3_apply, show idx_main_v4 (idx_main_v5 (idx_main_v11 (ix2 r d))) e = ix2 r e from ext2 rfl rfl]
    exact congrArg₂ (fun a b : EReal => a * b) (v2_at x0 x1 x2 r e) (v2_at x0 x1 x2 r e)
  · match a with
    | ⟨0, _⟩ => rfl

/-- The normed row. -/
def nrm (r : Fin 65536) : Fin 1024 → EReal := normed (res x0 x1 x2 r) fun k => x3 (ix1 k)

theorem v16_at (r : Fin 65536) (j : Fin 5632) :
    (val_main_v16 (F := Ideal) x0 x1 x2 x3 x4 (ix2 r j) : EReal) = proj (nrm x0 x1 x2 x3 r) (fun k j => x4 (ix2 k j)) j := by
  rw [val_main_v16_apply]
  unfold proj
  refine Finset.sum_congr rfl fun k _ => ?_
  refine congrArg₂ (fun a b : EReal => a * b) ?_ (congrArg x4 (ext2 rfl rfl))
  rw [show lidx_main_v16 (ix2 r j) k = ix2 r k from ext2 rfl rfl]
  exact v15_at x0 x1 x2 x3 r k

theorem v20_at (r : Fin 65536) (j : Fin 2816) :
    (val_main_v20 (F := Ideal) x0 x1 x2 x3 x4 (ix2 r j) : EReal) = hid gateS (nrm x0 x1 x2 x3 r) (fun k j => x4 (ix2 k j)) j := by
  have hg : (val_main_v17 (F := Ideal) x0 x1 x2 x3 x4 (ix2 r j) : EReal) = proj (nrm x0 x1 x2 x3 r) (fun k j => x4 (ix2 k j)) ⟨j.val, by omega⟩ := by
    rw [val_main_v17_apply, show idx_main_v17 (ix2 r j) = ix2 r ⟨j.val, by omega⟩ from ext2 rfl rfl]
    exact v16_at x0 x1 x2 x3 x4 r _
  have hu : (val_main_v18 (F := Ideal) x0 x1 x2 x3 x4 (ix2 r j) : EReal) = proj (nrm x0 x1 x2 x3 r) (fun k j => x4 (ix2 k j)) ⟨2816 + j.val, by omega⟩ := by
    rw [val_main_v18_apply, show idx_main_v18 (ix2 r j) = ix2 r ⟨2816 + j.val, by omega⟩ from ext2 rfl rfl]
    exact v16_at x0 x1 x2 x3 x4 r _
  rw [val_main_v20_apply, val_main_v19_apply, val_main_call0_v5_apply, val_main_call0_v4_apply, val_main_call0_v3_apply, val_main_call0_v2_apply,
    val_main_call0_v1_apply, val_main_call0_v0_apply]
  unfold hid
  rw [← hg, ← hu]
  rfl

theorem v22_at (r : Fin 65536) (d : Fin 1024) : (val_main_v22 (F := Ideal) x0 x1 x2 x3 x4 x5 (ix2 r d) : EReal)
    = midRow gateS (fun k => x0 (ix2 r k)) (fun k => x1 (ix2 r k)) (fun k d => x2 (ix2 k d)) (fun k => x3 (ix1 k)) (fun k j => x4 (ix2 k j)) (fun j d => x5 (ix2 j d)) d := by
  rw [val_main_v22_apply, val_main_v21_apply]
  unfold midRow sumRow
  refine congrArg₂ (fun a b : EReal => a + b) (v2_at x0 x1 x2 r d) (Finset.sum_congr rfl fun j _ => ?_)
  refine congrArg₂ (fun a b : EReal => a * b) ?_ (congrArg x5 (ext2 rfl rfl))
  rw [show lidx_main_v21 (ix2 r d) j = ix2 r j from ext2 rfl rfl]
  exact v20_at x0 x1 x2 x3 x4 r j

/-- An element of the reference's result. -/
theorem v35_at (r : Fin 65536) (d : Fin 1024) : (val_main_v35 (F := Ideal) x0 x1 x2 x3 x4 x5 x6 (ix2 r d) : EReal)
    = wholeRow gateS (fun k => x0 (ix2 r k)) (fun k => x1 (ix2 r k)) (fun k d => x2 (ix2 k d)) (fun k => x3 (ix1 k)) (fun k j => x4 (ix2 k j))
      (fun j d => x5 (ix2 j d)) (fun k => x6 (ix1 k)) d := by
  rw [val_main_v35_apply, val_main_v34_apply, val_main_v33_apply, val_main_v32_apply, val_main_v31_apply, val_main_v30_apply, val_main_v29_apply,
    val_main_v28_apply, val_main_v27_apply, val_main_v26_apply, val_main_v25_apply, val_main_v24_apply]
  unfold wholeRow normed
  refine congrArg₂ (fun a b : EReal => a * b) (congrArg₂ (fun a b : EReal => a * b) (v22_at x0 x1 x2 x3 x4 x5 r d)
    (congrArg Ideal.rsqrt (congrArg₂ (fun x y : EReal => x + y) (congrArg (fun x : EReal => Ideal.div x _) ?_) rfl))) (congrArg x6 (funext fun a => ?_))
  · refine (congrArg (fun x : EReal => x + _) Ideal.ofBits_zero_f32).trans ((zero_add _).trans (Finset.sum_congr rfl fun e _ => ?_))
    rw [val_main_v23_apply, show idx_main_v24 (idx_main_v25 (idx_main_v31 (ix2 r d))) e = ix2 r e from ext2 rfl rfl]
    exact congrArg₂ (fun a b : EReal => a * b) (v22_at x0 x1 x2 x3 x4 x5 r e) (v22_at x0 x1 x2 x3 x4 x5 r e)
  · match a with
    | ⟨0, _⟩ => rfl

end Cert.Proof.PostReferenceIdeal

end
-- ==== Proof.Post.Result.lean ====
/- The second call's result array is the reference's, when the norm weights and the first projection's weights are finite. -/
module

public import proofs.«01_k».proof.Proof.Post.Out
public import proofs.«01_k».proof.Proof.Post.Reference
public import proofs.«01_k».proof.Proof.Result
public import proofs.«01_k».proof.Defs

@[expose] public section

set_option maxRecDepth 8192

noncomputable section

namespace Cert.Proof.PostIdeal

open Cert.PostIdeal Cert.PostIdeal.Gen
open Idealize.ShloMosaic Idealize.ShloMosaic.TcCoe
open Idealize.SL.Sem
open Idealize.ShloMosaic.ValueIdx
open Rows

instance : Subsingleton Cert.Pre_finite2.S_.Idx := ⟨fun x y => funext fun a => a.elim0⟩

/-- Under the precondition the norm weights and the first projection's weights are reals. -/
theorem reals_of_finite2 [Cert.Pre_finite2.Facts] (x0 : Vec Ideal S65536x1024 .bf16) (x1 : Vec Ideal S65536x1024 .f32) (x2 : Vec Ideal S1024x1024 .f32) (x3 : Vec Ideal S1024 .f32)
    (x4 : Vec Ideal S1024x5632 .f32) (x5 : Vec Ideal S2816x1024 .f32) (x6 : Vec Ideal S1024 .f32)
    (h : Cert.Pre_finite2.fn (F := Ideal) x0 x1 x2 x3 x4 x5 x6 = fun _ => 1#1) : (∀ z, IsReal (x3 z)) ∧ ∀ z, IsReal (x4 z) := by
  have h' := congrFun h (fun a => a.elim0)
  obtain ⟨h0, h1⟩ := IntOp.andi_eq_one.1 h'
  exact ⟨fun z => ⟨_, KernelIdeal.real_of_abs_lt _ _ KernelIdeal.top_f32 (Host.reduce_andi_all _ _ _ _ _ h0 z)⟩,
    fun z => ⟨_, KernelIdeal.real_of_abs_lt _ _ KernelIdeal.top_f32 (Host.reduce_andi_all _ _ _ _ _ h1 z)⟩⟩

variable (m : (ℓ : Loc nD τ sig) → Buf (Elt Ideal) ℓ) (ρ : Dev nD → PrngReg) (c : Dev nD)

/-! ## The blocks at coordinates -/

theorem iblk0_at (t : Fin cfg0.N) (p k : Fin 1024) : (iblk m c 0 t (ix2 p k) : EReal) = m ((c.tc : Thread nD τ).loc main_arg0) (ix2 (rowOf (grid0.coords t 0) p) k) := by
  refine Eq.trans ?_ (congrFun (V_main_arg0 m c) (ix2 (rowOf (grid0.coords t 0) p) k))
  refine congrArg (V m c main_arg0) (funext fun a => Fin.ext ?_)
  refine (Pipeline.Window.rect_emb_val (cfg0.win 0) t _ a).trans ?_
  match a with
  | ⟨0, _⟩ => exact tr_row (grid0.coords t 0) p
  | ⟨1, _⟩ => show (0#32 : BitVec 32).toNat * 1024 + k.val = k.val; simp

theorem iblk1_at (t : Fin cfg0.N) (p k : Fin 1024) : (iblk m c 1 t (ix2 p k) : EReal) = m ((c.tc : Thread nD τ).loc main_arg1) (ix2 (rowOf (grid0.coords t 0) p) k) := by
  refine Eq.trans ?_ (congrFun (V_main_arg1 m c) (ix2 (rowOf (grid0.coords t 0) p) k))
  refine congrArg (V m c main_arg1) (funext fun a => Fin.ext ?_)
  refine (Pipeline.Window.rect_emb_val (cfg0.win 1) t _ a).trans ?_
  match a with
  | ⟨0, _⟩ => exact tr_row (grid0.coords t 0) p
  | ⟨1, _⟩ => show (0#32 : BitVec 32).toNat * 1024 + k.val = k.val; simp

theorem iblk2_at (t : Fin cfg0.N) (k d : Fin 1024) : (iblk m c 2 t (ix2 k d) : EReal) = m ((c.tc : Thread nD τ).loc main_arg2) (ix2 k d) := by
  have hV : V m c main_v0 = (m ((c.tc : Thread nD τ).loc main_arg2) : S1024x1024.Idx → EReal) := rfl
  show (V m c main_v0 (((cfg0.win 2).blk t).view.emb (ix2 k d)) : EReal) = _
  rw [hV]
  refine congrArg (m ((c.tc : Thread nD τ).loc main_arg2)) (funext fun x => Fin.ext ?_)
  refine (Pipeline.Window.rect_emb_val_of_index_zero (cfg0.win 2) t x ?_ _).trans ?_ <;> (match x with | ⟨0, _⟩ => rfl | ⟨1, _⟩ => rfl)

theorem iblk4_at (t : Fin cfg0.N) (k : Fin 1024) (j : Fin 5632) : (iblk m c 4 t (ix2 k j) : EReal) = m ((c.tc : Thread nD τ).loc main_arg4) (ix2 k j) := by
  have hV : V m c main_v1 = (m ((c.tc : Thread nD τ).loc main_arg4) : S1024x5632.Idx → EReal) := rfl
  show (V m c main_v1 (((cfg0.win 4).blk t).view.emb (ix2 k j)) : EReal) = _
  rw [hV]
  refine congrArg (m ((c.tc : Thread nD τ).loc main_arg4)) (funext fun x => Fin.ext ?_)
  refine (Pipeline.Window.rect_emb_val_of_index_zero (cfg0.win 4) t x ?_ _).trans ?_ <;> (match x with | ⟨0, _⟩ => rfl | ⟨1, _⟩ => rfl)

theorem iblk5_at (t : Fin cfg0.N) (j : Fin 2816) (d : Fin 1024) : (iblk m c 5 t (ix2 j d) : EReal) = m ((c.tc : Thread nD τ).loc main_arg5) (ix2 j d) := by
  have hV : V m c main_v2 = (m ((c.tc : Thread nD τ).loc main_arg5) : S2816x1024.Idx → EReal) := rfl
  show (V m c main_v2 (((cfg0.win 5).blk t).view.emb (ix2 j d)) : EReal) = _
  rw [hV]
  refine congrArg (m ((c.tc : Thread nD τ).loc main_arg5)) (funext fun x => Fin.ext ?_)
  refine (Pipeline.Window.rect_emb_val_of_index_zero (cfg0.win 5) t x ?_ _).trans ?_ <;> (match x with | ⟨0, _⟩ => rfl | ⟨1, _⟩ => rfl)

theorem iblk3_at (t : Fin cfg0.N) (d : Fin 1024) : (iblk m c 3 t (ix2 0 d) : EReal) = m ((c.tc : Thread nD τ).loc main_arg3) (ix1 d) := by
  have hV : V m c main_v3 = shapeCast S1x1024 (m ((c.tc : Thread nD τ).loc main_arg3)) shapeCasts_S1024_S1x1024 := rfl
  show (V m c main_v3 (((cfg0.win 3).blk t).view.emb (ix2 0 d)) : EReal) = _
  rw [hV]
  refine Eq.trans (congrArg (shapeCast S1x1024 (m ((c.tc : Thread nD τ).loc main_arg3)) shapeCasts_S1024_S1x1024) (funext fun x => Fin.ext ?_)) (row_at _ d)
  refine (Pipeline.Window.rect_emb_val_of_index_zero (cfg0.win 3) t x ?_ _).trans ?_ <;> (match x with | ⟨0, _⟩ => rfl | ⟨1, _⟩ => rfl)

theorem iblk6_at (t : Fin cfg0.N) (d : Fin 1024) : (iblk m c 6 t (ix2 0 d) : EReal) = m ((c.tc : Thread nD τ).loc main_arg6) (ix1 d) := by
  have hV : V m c main_v4 = shapeCast S1x1024 (m ((c.tc : Thread nD τ).loc main_arg6)) shapeCasts_S1024_S1x1024 := rfl
  show (V m c main_v4 (((cfg0.win 6).blk t).view.emb (ix2 0 d)) : EReal) = _
  rw [hV]
  refine Eq.trans (congrArg (shapeCast S1x1024 (m ((c.tc : Thread nD τ).loc main_arg6)) shapeCasts_S1024_S1x1024) (funext fun x => Fin.ext ?_)) (row_at _ d)
  refine (Pipeline.Window.rect_emb_val_of_index_zero (cfg0.win 6) t x ?_ _).trans ?_ <;> (match x with | ⟨0, _⟩ => rfl | ⟨1, _⟩ => rfl)

/-! ## The result array -/

/-- What the reference makes of the kernel's arguments. -/
def goal : Buf (Elt Ideal) ((c.tc : Thread nD τ).loc main_v5) :=
  Cert.PostReferenceIdeal.Read.val_main_v35 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- Where an element of a point's block of the result sits. -/
theorem emb7 (t : Fin cfg0.N) (p d : Fin 1024) :
    (((cfg0.win 7).blk t).view.emb (ix2 p d) : S65536x1024.Idx) = ix2 (rowOf (grid0.coords t 0) p) d := by
  refine funext fun a => Fin.ext ?_
  refine (Pipeline.Window.rect_emb_val (cfg0.win 7) t _ a).trans ?_
  match a with
  | ⟨0, _⟩ => exact tr_row (grid0.coords t 0) p
  | ⟨1, _⟩ => show (0#32 : BitVec 32).toNat * 1024 + d.val = d.val; simp

/-- Every element of the result is in some point's block. -/
theorem cover7 (z : S65536x1024.Idx) :
    ∃ t : Fin cfg0.N, (cfg0.win 7).flush t = true ∧ z ∈ ((cfg0.win 7).blk t).view.set := by
  have hz0 : (z 0).val < 65536 := (z 0).isLt
  obtain ⟨t₀, h₀⟩ := Pipeline.Grid.coords_surjective grid0 (fun a => match a with
    | ⟨0, _⟩ => ⟨(z 0).val / 1024, by show (z 0).val / 1024 < 64; omega⟩)
  obtain ⟨t, _, hf, hix⟩ := Pipeline.Window.exists_flush_same_index (cfg0.win 7) rfl t₀
  obtain rfl : t = t₀ := Cert.PostIdeal.Value.idx_inj7 t t₀ hix
  refine ⟨t, hf, ?_⟩
  have hmem := ((cfg0.win 7).blk t).view.emb_mem_set (ix2 ⟨(z 0).val % 1024, Nat.mod_lt _ (by decide)⟩ (z 1))
  have hc : (grid0.coords t 0).val = (z 0).val / 1024 := by rw [h₀]
  have hz : z = ix2 (rowOf (grid0.coords t 0) ⟨(z 0).val % 1024, Nat.mod_lt _ (by decide)⟩) (z 1) := funext fun a => Fin.ext (by
    match a with
    | ⟨0, _⟩ => show (z 0).val = 1024 * (grid0.coords t 0).val + (z 0).val % 1024; omega
    | ⟨1, _⟩ => rfl)
  exact Eq.mpr (congrArg (fun x => x ∈ ((cfg0.win 7).blk t).view.set) (hz.trans (emb7 t _ _).symm)) hmem

variable [Cert.Pre_finite2.Facts]

/-- What a point writes back is its block of the reference's result. -/
theorem flushed7 (hfin : Pre_PostIdeal_finite2 m) (t : Fin cfg0.N) :
    (dats m 0 c).flushed 7 t = ((cfg0.win 7).blk t).view.read (Elt Ideal) (goal m c) := by
  obtain ⟨h3, h4⟩ := reals_of_finite2 _ _ _ _ _ _ _ (hfin c)
  rw [Cert.PostIdeal.Value.flushed7_A]
  funext y
  obtain ⟨p, d, rfl⟩ : ∃ (p d : Fin 1024), y = ix2 p d := ⟨y 0, y 1, eq_ix2 y⟩
  refine (out_at c (grid0.coords t) _ _ _ _ _ _ _ _ _ _ _ _ _ _ _ _ _ _ (iblk m c 0 t) (iblk m c 1 t) (iblk m c 2 t) (iblk m c 3 t) (iblk m c 4 t) (iblk m c 5 t) (iblk m c 6 t) (ix2 p d)).trans ?_
  refine Eq.trans ?_ ((PostReferenceIdeal.v35_at (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (rowOf (grid0.coords t 0) p) d).symm.trans (congrArg (goal m c) (emb7 t p d)).symm)
  refine Eq.trans ?_ (congrArg (fun X => normed X (fun k => m ((c.tc : Thread nD τ).loc main_arg6) (ix1 k)) d) (midRow_eq (fun k => m ((c.tc : Thread nD τ).loc main_arg0) (ix2 (rowOf (grid0.coords t 0) p) k)) (fun k => m ((c.tc : Thread nD τ).loc main_arg1) (ix2 (rowOf (grid0.coords t 0) p) k))
    (fun k d => m ((c.tc : Thread nD τ).loc main_arg2) (ix2 k d)) (fun k => h3 (ix1 k)) (fun k j => h4 (ix2 k j)) (fun j d => m ((c.tc : Thread nD τ).loc main_arg5) (ix2 j d))))
  show wholeRow gateT (fun k => iblk m c 0 t (ix2 p k)) (fun k => iblk m c 1 t (ix2 p k)) (fun k d => iblk m c 2 t (ix2 k d)) (fun k => iblk m c 3 t (ix2 0 k)) (fun k j => iblk m c 4 t (ix2 k j))
    (fun j d => iblk m c 5 t (ix2 j d)) (fun k => iblk m c 6 t (ix2 0 k)) d = _
  rw [show (fun k => (iblk m c 0 t (ix2 p k) : EReal)) = _ from funext fun k => iblk0_at m c t p k, show (fun k => (iblk m c 1 t (ix2 p k) : EReal)) = _ from funext fun k => iblk1_at m c t p k,
    show (fun k d => (iblk m c 2 t (ix2 k d) : EReal)) = _ from funext fun k => funext fun d => iblk2_at m c t k d, show (fun k => (iblk m c 3 t (ix2 0 k) : EReal)) = _ from funext fun k => iblk3_at m c t k,
    show (fun k j => (iblk m c 4 t (ix2 k j) : EReal)) = _ from funext fun k => funext fun j => iblk4_at m c t k j, show (fun j d => (iblk m c 5 t (ix2 j d) : EReal)) = _ from funext fun j => funext fun d => iblk5_at m c t j d,
    show (fun k => (iblk m c 6 t (ix2 0 k) : EReal)) = _ from funext fun k => iblk6_at m c t k]
  rfl

/-- The run with the result array named. -/
theorem run_value (hfin : Pre_PostIdeal_finite2 m) :
    θ_run defs (onTc (τ := τ) (main (F := Ideal))) ⟨m, fun _ => 0, ρ⟩ fun r => ∀ c : Dev nD,
      r.2.mem ((c.tc : Thread nD τ).loc main_v5) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((dats m 0 c).arrAt_eq_of_cover 7 (goal m c) (fun t _ => flushed7 m c hfin t) cover7), (h c).2⟩)
    (Cert.PostIdeal.Value.run_blocks m ρ)

end Cert.Proof.PostIdeal

end
-- ==== Proof.Mid.Out.lean ====
/- What one grid point leaves in its output block, element by element, without the last norm. -/
module

public import proofs.«01_k».proof.Proof.Post.Block
public import proofs.«01_k».proof.Proof.Gen.MidIdeal.Value

@[expose] public section

set_option maxRecDepth 8192

noncomputable section

namespace Cert.Proof.MidIdeal

open Cert.MidIdeal Cert.MidIdeal.Gen
open Idealize.ShloMosaic
open Idealize.ShloMosaic.ValueIdx
open Rows
open PostIdeal (resRow nrmRow hidArr midArr chunks)

variable (c : Dev nD) (i : grid0.Coords) (arg1 : Memref sig .tc .vmem S1024x1024 .bf16) (harg1 : arg1.IsWhole) (arg2 : Memref sig .tc .vmem S1024x1024 .f32) (harg2 : arg2.IsWhole)
  (arg3 : Memref sig .tc .vmem S1024x1024 .bf16) (harg3 : arg3.IsWhole) (arg4 : Memref sig .tc .vmem S1x1024 .f32) (harg4 : arg4.IsWhole)
  (arg5 : Memref sig .tc .vmem S1024x5632 .bf16) (harg5 : arg5.IsWhole) (arg6 : Memref sig .tc .vmem S2816x1024 .bf16) (harg6 : arg6.IsWhole)
  (arg7 : Memref sig .tc .vmem S1024x1024 .f32) (harg7 : arg7.IsWhole) (arg8 : Memref sig .tc .vmem S1024x2816 .bf16) (harg8 : arg8.IsWhole)
  (x0 : Vec Ideal S1024x1024 .bf16) (x1 : Vec Ideal S1024x1024 .f32) (x2 : Vec Ideal S1024x1024 .bf16) (x3 : Vec Ideal S1x1024 .f32)
  (x4 : Vec Ideal S1024x5632 .bf16) (x5 : Vec Ideal S2816x1024 .bf16)

theorem r_at (p : Fin 512) (d r : Fin 1024) (hr : r.val = 0 + p.val) :
    (kernelRun0_A.sl.r (F := Ideal) c arg1 harg1 arg2 harg2 arg3 harg3 x0 x1 x2 (ix2 p d) : EReal) = resRow x0 x1 x2 r d :=
  PostIdeal.half_at arg1 harg1 arg2 harg2 arg3 harg3 x0 x1 x2 0 inb_S1024x1024_S512x1024_0_0 inb_S1024x1024_S1024x1024_0_0 p d r hr

theorem r1_at (p : Fin 512) (d r : Fin 1024) (hr : r.val = 512 + p.val) :
    (kernelRun0_A.sl.r_1 (F := Ideal) c arg1 harg1 arg2 harg2 arg3 harg3 x0 x1 x2 (ix2 p d) : EReal) = resRow x0 x1 x2 r d :=
  PostIdeal.half_at arg1 harg1 arg2 harg2 arg3 harg3 x0 x1 x2 512 inb_S1024x1024_S512x1024_512_0 inb_S1024x1024_S1024x1024_0_0 p d r hr

theorem r2_at (p : Fin 512) (k r : Fin 1024) (hr : r.val = 0 + p.val) :
    (kernelRun0_A.sl.r_2 (F := Ideal) c arg1 harg1 arg2 harg2 arg3 harg3 arg4 harg4 x0 x1 x2 x3 (ix2 p k) : EReal) = nrmRow x0 x1 x2 x3 r k :=
  PostIdeal.halfNorm_at arg4 harg4 x0 x1 x2 x3 0 _ (r_at c arg1 harg1 arg2 harg2 arg3 harg3 x0 x1 x2) inb_S1x1024_S1x1024_0_0 p k r hr

theorem r4_at (p : Fin 512) (k r : Fin 1024) (hr : r.val = 512 + p.val) :
    (kernelRun0_A.sl.r_4 (F := Ideal) c arg1 harg1 arg2 harg2 arg3 harg3 arg4 harg4 x0 x1 x2 x3 (ix2 p k) : EReal) = nrmRow x0 x1 x2 x3 r k :=
  PostIdeal.halfNorm_at arg4 harg4 x0 x1 x2 x3 512 _ (r1_at c arg1 harg1 arg2 harg2 arg3 harg3 x0 x1 x2) inb_S1x1024_S1x1024_0_0 p k r hr

/-- The pieces of the scratch are a half's chunks, and then both halves'. -/
theorem pieces_first : kernelRun0_A.sl.HS0_11 (F := Ideal) c arg1 harg1 arg2 harg2 arg3 harg3 arg4 harg4 arg5 harg5 x0 x1 x2 x3 x4
    = chunks arg5 harg5 x4 (kernelRun0_A.sl.r_2 c arg1 harg1 arg2 harg2 arg3 harg3 arg4 harg4 x0 x1 x2 x3) 0 (by omega) := rfl

theorem pieces_both : kernelRun0_A.sl.HS0_22 (F := Ideal) c arg1 harg1 arg2 harg2 arg3 harg3 arg4 harg4 arg5 harg5 x0 x1 x2 x3 x4
    = chunks arg5 harg5 x4 (kernelRun0_A.sl.r_4 c arg1 harg1 arg2 harg2 arg3 harg3 arg4 harg4 x0 x1 x2 x3) 512 (by omega)
      ++ chunks arg5 harg5 x4 (kernelRun0_A.sl.r_2 c arg1 harg1 arg2 harg2 arg3 harg3 arg4 harg4 x0 x1 x2 x3) 0 (by omega) := rfl

theorem v218_at (p : Fin 512) (j : Fin 2816) (r : Fin 1024) (hr : r.val = 0 + p.val) :
    (kernelRun0_A.sl.v218 (F := Ideal) c arg1 harg1 arg2 harg2 arg3 harg3 arg4 harg4 arg5 harg5 arg8 x0 x1 x2 x3 x4 (ix2 p j) : EReal) = hidArr x0 x1 x2 x3 x4 (ix2 r j) := by
  unfold kernelRun0_A.sl.v218
  refine PostIdeal.scratch_at x0 x1 x2 x3 x4 arg8 _ 0 inb_S1024x2816_S512x2816_0_0 ?_ ?_ p j r hr
  · rw [pieces_first]
    exact PostIdeal.chunks_ok arg5 harg5 x0 x1 x2 x3 x4 _ 0 _ (r2_at c arg1 harg1 arg2 harg2 arg3 harg3 arg4 harg4 x0 x1 x2 x3)
  · rw [pieces_first]
    exact PostIdeal.chunks_cover arg5 harg5 x4 _ 0 _

theorem v400_at (p : Fin 512) (j : Fin 2816) (r : Fin 1024) (hr : r.val = 512 + p.val) :
    (kernelRun0_A.sl.v400 (F := Ideal) c arg1 harg1 arg2 harg2 arg3 harg3 arg4 harg4 arg5 harg5 arg8 x0 x1 x2 x3 x4 (ix2 p j) : EReal) = hidArr x0 x1 x2 x3 x4 (ix2 r j) := by
  unfold kernelRun0_A.sl.v400
  refine PostIdeal.scratch_at x0 x1 x2 x3 x4 arg8 _ 512 inb_S1024x2816_S512x2816_512_0 ?_ ?_ p j r hr
  · rw [pieces_both]
    intro q hq
    rcases List.mem_append.1 hq with hq | hq
    · exact PostIdeal.chunks_ok arg5 harg5 x0 x1 x2 x3 x4 _ 512 _ (r4_at c arg1 harg1 arg2 harg2 arg3 harg3 arg4 harg4 x0 x1 x2 x3) q hq
    · exact PostIdeal.chunks_ok arg5 harg5 x0 x1 x2 x3 x4 _ 0 _ (r2_at c arg1 harg1 arg2 harg2 arg3 harg3 arg4 harg4 x0 x1 x2 x3) q hq
  · rw [pieces_both]
    intro z hl hu
    obtain ⟨q, hq, hz⟩ := PostIdeal.chunks_cover arg5 harg5 x4 (kernelRun0_A.sl.r_4 c arg1 harg1 arg2 harg2 arg3 harg3 arg4 harg4 x0 x1 x2 x3) 512 (by omega) z hl hu
    exact ⟨q, List.mem_append_left _ hq, hz⟩

/-- A stored half of the output. -/
theorem outHalf_ok (X : FVec Ideal S512x1024 .f32) (h : Vec Ideal S512x2816 .bf16) (o : ℕ) (inb : ∀ d, (![o, 0] : Fin 2 → ℕ) d + (![512, 1024] : Fin 2 → ℕ) d ≤ S1024x1024.size d)
    (inb6 : ∀ d, (![0, 0] : Fin 2 → ℕ) d + (![2816, 1024] : Fin 2 → ℕ) d ≤ S2816x1024.size d)
    (hX : ∀ (p : Fin 512) (d r : Fin 1024), r.val = o + p.val → (X (ix2 p d) : EReal) = resRow x0 x1 x2 r d)
    (hh : ∀ (p : Fin 512) (j : Fin 2816) (r : Fin 1024), r.val = o + p.val → (h (ix2 p j) : EReal) = hidArr x0 x1 x2 x3 x4 (ix2 r j))
    (x : (Rect.unit (s := S1024x1024) ![o, 0] ![512, 1024] inb).shape.Idx) :
    (PostIdeal.sumPay X h (View.readAt (Elt Ideal) arg6.view (Rect.unit (s := S2816x1024) ![0, 0] ![2816, 1024] inb6).toLoadRect (harg6.unread x5)) x : EReal)
      = midArr x0 x1 x2 x3 x4 x5 ((Rect.unit (s := S1024x1024) ![o, 0] ![512, 1024] inb).emb x) := by
  obtain ⟨p, d, rfl⟩ : ∃ (p : Fin 512) (d : Fin 1024), x = ix2 p d := ⟨x 0, x 1, eq_ix2 x⟩
  have hb : o + 512 ≤ 1024 := inb 0
  exact (PostIdeal.halfSum_at arg6 harg6 x0 x1 x2 x3 x4 x5 X h o inb6 hX hh p d ⟨o + p.val, by omega⟩ rfl).trans
    (congrArg (midArr x0 x1 x2 x3 x4 x5) (PostIdeal.half_emb o inb p d ⟨o + p.val, by omega⟩ rfl)).symm

/-- A point's block of the result, at an element. -/
theorem out_at (y : S1024x1024.Idx) :
    (out0_A_6 (F := Ideal) c i arg1 harg1 arg2 harg2 arg3 harg3 arg4 harg4 arg5 harg5 arg6 harg6 arg7 harg7 arg8 harg8 x0 x1 x2 x3 x4 x5 y : EReal)
      = midArr x0 x1 x2 x3 x4 x5 y := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  refine View.canon_apply_of_pieces (midArr x0 x1 x2 x3 x4 x5) _ (fun p hp x => ?_) y
    (cover0_A_6 c i arg1 harg1 arg2 harg2 arg3 harg3 arg4 harg4 arg5 harg5 arg6 harg6 arg7 harg7 arg8 harg8 x0 x1 x2 x3 x4 x5 y)
  unfold kernelRun0_A at hp
  dsimp only at hp
  simp only [List.mem_cons, List.mem_nil_iff, or_false] at hp
  rcases hp with rfl | rfl
  · exact outHalf_ok arg6 harg6 x0 x1 x2 x3 x4 x5 _ _ 512 inb_S1024x1024_S512x1024_512_0 inb_S2816x1024_S2816x1024_0_0
      (r1_at c arg1 harg1 arg2 harg2 arg3 harg3 x0 x1 x2) (v400_at c arg1 harg1 arg2 harg2 arg3 harg3 arg4 harg4 arg5 harg5 arg8 x0 x1 x2 x3 x4) x
  · exact outHalf_ok arg6 harg6 x0 x1 x2 x3 x4 x5 _ _ 0 inb_S1024x1024_S512x1024_0_0 inb_S2816x1024_S2816x1024_0_0
      (r_at c arg1 harg1 arg2 harg2 arg3 harg3 x0 x1 x2) (v218_at c arg1 harg1 arg2 harg2 arg3 harg3 arg4 harg4 arg5 harg5 arg8 x0 x1 x2 x3 x4) x

end Cert.Proof.MidIdeal

end
-- ==== Proof.Mid.Result.lean ====
/- The result array of the call without the last norm is the reference's, when the norm weights and the first projection's weights are finite. -/
module

public import proofs.«01_k».proof.Proof.Mid.Out
public import proofs.«01_k».proof.Proof.Post.Reference
public import proofs.«01_k».proof.Proof.Gen.MidReferenceIdeal
public import proofs.«01_k».proof.Proof.Gen.MidReferenceIdeal.Read
public import proofs.«01_k».proof.Proof.Result
public import proofs.«01_k».proof.Defs

@[expose] public section

set_option maxRecDepth 8192

noncomputable section

namespace Cert.Proof.MidIdeal

open Cert.MidIdeal Cert.MidIdeal.Gen
open Idealize.ShloMosaic Idealize.ShloMosaic.TcCoe
open Idealize.SL.Sem
open Idealize.ShloMosaic.ValueIdx
open Rows
open PostIdeal (rowOf tr_row row_at)

instance : Subsingleton Cert.Pre_finite3.S_.Idx := ⟨fun x y => funext fun a => a.elim0⟩

/-- Under the precondition the norm weights and the first projection's weights are reals. -/
theorem reals_of_finite3 [Cert.Pre_finite3.Facts] (x0 : Vec Ideal S65536x1024 .bf16) (x1 : Vec Ideal S65536x1024 .f32) (x2 : Vec Ideal S1024x1024 .f32) (x3 : Vec Ideal S1024 .f32)
    (x4 : Vec Ideal S1024x5632 .f32) (x5 : Vec Ideal S2816x1024 .f32)
    (h : Cert.Pre_finite3.fn (F := Ideal) x0 x1 x2 x3 x4 x5 = fun _ => 1#1) : (∀ z, IsReal (x3 z)) ∧ ∀ z, IsReal (x4 z) := by
  have h' := congrFun h (fun a => a.elim0)
  obtain ⟨h0, h1⟩ := IntOp.andi_eq_one.1 h'
  exact ⟨fun z => ⟨_, KernelIdeal.real_of_abs_lt _ _ KernelIdeal.top_f32 (Host.reduce_andi_all _ _ _ _ _ h0 z)⟩,
    fun z => ⟨_, KernelIdeal.real_of_abs_lt _ _ KernelIdeal.top_f32 (Host.reduce_andi_all _ _ _ _ _ h1 z)⟩⟩

variable (m : (ℓ : Loc nD τ sig) → Buf (Elt Ideal) ℓ) (ρ : Dev nD → PrngReg) (c : Dev nD)

/-! ## The blocks at coordinates -/

theorem iblk0_at (t : Fin cfg0.N) (p k : Fin 1024) : (iblk m c 0 t (ix2 p k) : EReal) = m ((c.tc : Thread nD τ).loc main_arg0) (ix2 (rowOf (grid0.coords t 0) p) k) := by
  refine Eq.trans ?_ (congrFun (V_main_arg0 m c) (ix2 (rowOf (grid0.coords t 0) p) k))
  refine congrArg (V m c main_arg0) (funext fun a => Fin.ext ?_)
  refine (Pipeline.Window.rect_emb_val (cfg0.win 0) t _ a).trans ?_
  match a with
  | ⟨0, _⟩ => exact tr_row (grid0.coords t 0) p
  | ⟨1, _⟩ => show (0#32 : BitVec 32).toNat * 1024 + k.val = k.val; simp

theorem iblk1_at (t : Fin cfg0.N) (p k : Fin 1024) : (iblk m c 1 t (ix2 p k) : EReal) = m ((c.tc : Thread nD τ).loc main_arg1) (ix2 (rowOf (grid0.coords t 0) p) k) := by
  refine Eq.trans ?_ (congrFun (V_main_arg1 m c) (ix2 (rowOf (grid0.coords t 0) p) k))
  refine congrArg (V m c main_arg1) (funext fun a => Fin.ext ?_)
  refine (Pipeline.Window.rect_emb_val (cfg0.win 1) t _ a).trans ?_
  match a with
  | ⟨0, _⟩ => exact tr_row (grid0.coords t 0) p
  | ⟨1, _⟩ => show (0#32 : BitVec 32).toNat * 1024 + k.val = k.val; simp

theorem iblk2_at (t : Fin cfg0.N) (k d : Fin 1024) : (iblk m c 2 t (ix2 k d) : EReal) = m ((c.tc : Thread nD τ).loc main_arg2) (ix2 k d) := by
  have hV : V m c main_v0 = (m ((c.tc : Thread nD τ).loc main_arg2) : S1024x1024.Idx → EReal) := rfl
  show (V m c main_v0 (((cfg0.win 2).blk t).view.emb (ix2 k d)) : EReal) = _
  rw [hV]
  refine congrArg (m ((c.tc : Thread nD τ).loc main_arg2)) (funext fun x => Fin.ext ?_)
  refine (Pipeline.Window.rect_emb_val_of_index_zero (cfg0.win 2) t x ?_ _).trans ?_ <;> (match x with | ⟨0, _⟩ => rfl | ⟨1, _⟩ => rfl)

theorem iblk4_at (t : Fin cfg0.N) (k : Fin 1024) (j : Fin 5632) : (iblk m c 4 t (ix2 k j) : EReal) = m ((c.tc : Thread nD τ).loc main_arg4) (ix2 k j) := by
  have hV : V m c main_v1 = (m ((c.tc : Thread nD τ).loc main_arg4) : S1024x5632.Idx → EReal) := rfl
  show (V m c main_v1 (((cfg0.win 4).blk t).view.emb (ix2 k j)) : EReal) = _
  rw [hV]
  refine congrArg (m ((c.tc : Thread nD τ).loc main_arg4)) (funext fun x => Fin.ext ?_)
  refine (Pipeline.Window.rect_emb_val_of_index_zero (cfg0.win 4) t x ?_ _).trans ?_ <;> (match x with | ⟨0, _⟩ => rfl | ⟨1, _⟩ => rfl)

theorem iblk5_at (t : Fin cfg0.N) (j : Fin 2816) (d : Fin 1024) : (iblk m c 5 t (ix2 j d) : EReal) = m ((c.tc : Thread nD τ).loc main_arg5) (ix2 j d) := by
  have hV : V m c main_v2 = (m ((c.tc : Thread nD τ).loc main_arg5) : S2816x1024.Idx → EReal) := rfl
  show (V m c main_v2 (((cfg0.win 5).blk t).view.emb (ix2 j d)) : EReal) = _
  rw [hV]
  refine congrArg (m ((c.tc : Thread nD τ).loc main_arg5)) (funext fun x => Fin.ext ?_)
  refine (Pipeline.Window.rect_emb_val_of_index_zero (cfg0.win 5) t x ?_ _).trans ?_ <;> (match x with | ⟨0, _⟩ => rfl | ⟨1, _⟩ => rfl)

theorem iblk3_at (t : Fin cfg0.N) (d : Fin 1024) : (iblk m c 3 t (ix2 0 d) : EReal) = m ((c.tc : Thread nD τ).loc main_arg3) (ix1 d) := by
  have hV : V m c main_v3 = shapeCast S1x1024 (m ((c.tc : Thread nD τ).loc main_arg3)) shapeCasts_S1024_S1x1024 := rfl
  show (V m c main_v3 (((cfg0.win 3).blk t).view.emb (ix2 0 d)) : EReal) = _
  rw [hV]
  refine Eq.trans (congrArg (shapeCast S1x1024 (m ((c.tc : Thread nD τ).loc main_arg3)) shapeCasts_S1024_S1x1024) (funext fun x => Fin.ext ?_)) (row_at _ d)
  refine (Pipeline.Window.rect_emb_val_of_index_zero (cfg0.win 3) t x ?_ _).trans ?_ <;> (match x with | ⟨0, _⟩ => rfl | ⟨1, _⟩ => rfl)

/-! ## The result array -/

/-- What the reference makes of the kernel's arguments. -/
def goal : Buf (Elt Ideal) ((c.tc : Thread nD τ).loc main_v4) :=
  Cert.MidReferenceIdeal.Read.val_main_v22 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- Where an element of a point's block of the result sits. -/
theorem emb6 (t : Fin cfg0.N) (p d : Fin 1024) :
    (((cfg0.win 6).blk t).view.emb (ix2 p d) : S65536x1024.Idx) = ix2 (rowOf (grid0.coords t 0) p) d := by
  refine funext fun a => Fin.ext ?_
  refine (Pipeline.Window.rect_emb_val (cfg0.win 6) t _ a).trans ?_
  match a with
  | ⟨0, _⟩ => exact tr_row (grid0.coords t 0) p
  | ⟨1, _⟩ => show (0#32 : BitVec 32).toNat * 1024 + d.val = d.val; simp

/-- Every element of the result is in some point's block. -/
theorem cover6 (z : S65536x1024.Idx) :
    ∃ t : Fin cfg0.N, (cfg0.win 6).flush t = true ∧ z ∈ ((cfg0.win 6).blk t).view.set := by
  have hz0 : (z 0).val < 65536 := (z 0).isLt
  obtain ⟨t₀, h₀⟩ := Pipeline.Grid.coords_surjective grid0 (fun a => match a with
    | ⟨0, _⟩ => ⟨(z 0).val / 1024, by show (z 0).val / 1024 < 64; omega⟩)
  obtain ⟨t, _, hf, hix⟩ := Pipeline.Window.exists_flush_same_index (cfg0.win 6) rfl t₀
  obtain rfl : t = t₀ := Cert.MidIdeal.Value.idx_inj6 t t₀ hix
  refine ⟨t, hf, ?_⟩
  have hmem := ((cfg0.win 6).blk t).view.emb_mem_set (ix2 ⟨(z 0).val % 1024, Nat.mod_lt _ (by decide)⟩ (z 1))
  have hc : (grid0.coords t 0).val = (z 0).val / 1024 := by rw [h₀]
  have hz : z = ix2 (rowOf (grid0.coords t 0) ⟨(z 0).val % 1024, Nat.mod_lt _ (by decide)⟩) (z 1) := funext fun a => Fin.ext (by
    match a with
    | ⟨0, _⟩ => show (z 0).val = 1024 * (grid0.coords t 0).val + (z 0).val % 1024; omega
    | ⟨1, _⟩ => rfl)
  exact Eq.mpr (congrArg (fun x => x ∈ ((cfg0.win 6).blk t).view.set) (hz.trans (emb6 t _ _).symm)) hmem

variable [Cert.Pre_finite3.Facts]

/-- What a point writes back is its block of the reference's result. -/
theorem flushed6 (hfin : Pre_MidIdeal_finite3 m) (t : Fin cfg0.N) :
    (dats m 0 c).flushed 6 t = ((cfg0.win 6).blk t).view.read (Elt Ideal) (goal m c) := by
  obtain ⟨h3, h4⟩ := reals_of_finite3 _ _ _ _ _ _ (hfin c)
  rw [Cert.MidIdeal.Value.flushed6_A]
  funext y
  obtain ⟨p, d, rfl⟩ : ∃ (p d : Fin 1024), y = ix2 p d := ⟨y 0, y 1, eq_ix2 y⟩
  refine (out_at c (grid0.coords t) _ _ _ _ _ _ _ _ _ _ _ _ _ _ _ _ (iblk m c 0 t) (iblk m c 1 t) (iblk m c 2 t) (iblk m c 3 t) (iblk m c 4 t) (iblk m c 5 t) (ix2 p d)).trans ?_
  refine Eq.trans ?_ ((PostReferenceIdeal.v22_at (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (rowOf (grid0.coords t 0) p) d).symm.trans (congrArg (goal m c) (emb6 t p d)).symm)
  refine Eq.trans ?_ (congrFun (midRow_eq (fun k => m ((c.tc : Thread nD τ).loc main_arg0) (ix2 (rowOf (grid0.coords t 0) p) k)) (fun k => m ((c.tc : Thread nD τ).loc main_arg1) (ix2 (rowOf (grid0.coords t 0) p) k))
    (fun k d => m ((c.tc : Thread nD τ).loc main_arg2) (ix2 k d)) (fun k => h3 (ix1 k)) (fun k j => h4 (ix2 k j)) (fun j d => m ((c.tc : Thread nD τ).loc main_arg5) (ix2 j d))) d)
  show midRow gateT (fun k => iblk m c 0 t (ix2 p k)) (fun k => iblk m c 1 t (ix2 p k)) (fun k d => iblk m c 2 t (ix2 k d)) (fun k => iblk m c 3 t (ix2 0 k)) (fun k j => iblk m c 4 t (ix2 k j))
    (fun j d => iblk m c 5 t (ix2 j d)) d = _
  rw [show (fun k => (iblk m c 0 t (ix2 p k) : EReal)) = _ from funext fun k => iblk0_at m c t p k, show (fun k => (iblk m c 1 t (ix2 p k) : EReal)) = _ from funext fun k => iblk1_at m c t p k,
    show (fun k d => (iblk m c 2 t (ix2 k d) : EReal)) = _ from funext fun k => funext fun d => iblk2_at m c t k d, show (fun k => (iblk m c 3 t (ix2 0 k) : EReal)) = _ from funext fun k => iblk3_at m c t k,
    show (fun k j => (iblk m c 4 t (ix2 k j) : EReal)) = _ from funext fun k => funext fun j => iblk4_at m c t k j, show (fun j d => (iblk m c 5 t (ix2 j d) : EReal)) = _ from funext fun j => funext fun d => iblk5_at m c t j d]

/-- The run with the result array named. -/
theorem run_value (hfin : Pre_MidIdeal_finite3 m) :
    θ_run defs (onTc (τ := τ) (main (F := Ideal))) ⟨m, fun _ => 0, ρ⟩ fun r => ∀ c : Dev nD,
      r.2.mem ((c.tc : Thread nD τ).loc main_v4) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((dats m 0 c).arrAt_eq_of_cover 6 (goal m c) (fun t _ => flushed6 m c hfin t) cover6), (h c).2⟩)
    (Cert.MidIdeal.Value.run_blocks m ρ)

end Cert.Proof.MidIdeal

end
-- ==== Proof.Proj.Result.lean ====
/- The norm and the input projection: the result array is the reference's, whatever the arguments. -/
module

public import proofs.«01_k».proof.Proof.Post.Block
public import proofs.«01_k».proof.Proof.Post.Reference
public import proofs.«01_k».proof.Proof.Gen.ProjIdeal.Value
public import proofs.«01_k».proof.Proof.Gen.ProjReferenceIdeal
public import proofs.«01_k».proof.Proof.Gen.ProjReferenceIdeal.Read
public import proofs.«01_k».proof.Proof.Result
public import proofs.«01_k».proof.Defs
public import Idealize.ShloMosaic.Lib.Pipeline.ValueKit.Tiles

@[expose] public section

set_option maxRecDepth 8192

noncomputable section

/-! ## The reference -/

namespace Cert.Proof.ProjReferenceIdeal

open Cert.ProjReferenceIdeal Cert.ProjReferenceIdeal.Gen Cert.ProjReferenceIdeal.Read
open Idealize.ShloMosaic
open Idealize.ShloMosaic.ValueIdx
open Rows
open PostReferenceIdeal (ext2)

variable (x0 : (⟨S65536x1024, .f32⟩ : BufTy).Contents (Elt Ideal)) (x1 : (⟨S1024, .f32⟩ : BufTy).Contents (Elt Ideal))
  (x2 : (⟨S1024x4096, .f32⟩ : BufTy).Contents (Elt Ideal))

theorem v12_at (r : Fin 65536) (d : Fin 1024) :
    (val_main_v12 (F := Ideal) x0 x1 (ix2 r d) : EReal) = normed (fun k => x0 (ix2 r k)) (fun k => x1 (ix1 k)) d := by
  rw [val_main_v12_apply, val_main_v11_apply, val_main_v10_apply, val_main_v9_apply, val_main_v8_apply, val_main_v7_apply, val_main_v6_apply,
    val_main_v5_apply, val_main_v4_apply, val_main_v3_apply, val_main_v2_apply, val_main_v1_apply]
  unfold normed
  refine congrArg₂ (fun a b : EReal => a * b) (congrArg (fun b : EReal => x0 (ix2 r d) * b)
    (congrArg Ideal.rsqrt (congrArg₂ (fun x y : EReal => x + y) (congrArg (fun x : EReal => Ideal.div x _) ?_) rfl))) (congrArg x1 (funext fun a => ?_))
  · refine (congrArg (fun x : EReal => x + _) Ideal.ofBits_zero_f32).trans ((zero_add _).trans (Finset.sum_congr rfl fun e _ => ?_))
    rw [val_main_v0_apply, show idx_main_v1 (idx_main_v2 (idx_main_v8 (ix2 r d))) e = ix2 r e from ext2 rfl rfl]
    rfl
  · match a with
    | ⟨0, _⟩ => rfl

/-- An element of the reference's result. -/
theorem v14_at (r : Fin 65536) (j : Fin 4096) : (val_main_v14 (F := Ideal) x0 x1 x2 (ix2 r j) : EReal)
    = proj (normed (fun k => x0 (ix2 r k)) (fun k => x1 (ix1 k))) (fun k j => x2 (ix2 k j)) j := by
  rw [val_main_v14_apply]
  refine (val_main_v13_apply x0 x1 x2 (ix2 r j)).trans ?_
  unfold proj
  refine Finset.sum_congr rfl fun k _ => ?_
  refine congrArg₂ (fun a b : EReal => a * b) ?_ (congrArg x2 (ext2 rfl rfl))
  rw [show lidx_main_v13 (ix2 r j) k = ix2 r k from ext2 rfl rfl]
  exact v12_at x0 x1 r k

end Cert.Proof.ProjReferenceIdeal

namespace Cert.Proof.ProjIdeal

open Cert.ProjIdeal Cert.ProjIdeal.Gen
open Idealize.ShloMosaic Idealize.ShloMosaic.TcCoe
open Idealize.SL.Sem
open Idealize.ShloMosaic.ValueIdx
open Rows
open PostIdeal (rowOf tr_row row_at)

/-! ## A point's block -/

variable (x0 : Vec Ideal S1024x1024 .f32) (x1 : Vec Ideal S1x1024 .f32) (x2 : Vec Ideal S1024x4096 .bf16)

theorem dot_at (v1 : FVec Ideal S512x1024 .bf16) (v2 : FVec Ideal S1024x512 .bf16) (i : Fin 512) (d : Fin 512) :
    (matmul (F := Ideal) dot_S512x1024_S1024x512_S512x512_1_0_0_1_n_n none v1 v2 (constant S512x512 .f32 0x00000000#32) (ix2 i d) : EReal)
      = ∑ k : Fin 1024, (v1 (ix2 i k) : EReal) * v2 (ix2 k d) := by
  simp only [matmul]
  rw [Ideal.matmul_constant_zero_apply, ← Equiv.sum_comp (contrEquiv1 dot_S512x1024_S1024x512_S512x512_1_0_0_1_n_n 1024 rfl rfl).symm]
  refine Finset.sum_congr rfl fun e _ => ?_
  have hk := contrEquiv1_symm_val dot_S512x1024_S1024x512_S512x512_1_0_0_1_n_n 1024 rfl rfl e
  refine congrArg₂ (fun a b : EReal => a * b) (congrArg v1 (funext fun a => Fin.ext ?_)) (congrArg v2 (funext fun a => Fin.ext ?_))
  · match a with
    | ⟨0, _⟩ => rfl
    | ⟨1, _⟩ => exact hk
  · match a with
    | ⟨0, _⟩ => exact hk
    | ⟨1, _⟩ => rfl

theorem pay_at (xn : FVec Ideal S512x1024 .bf16) (w : Vec Ideal S1024x512 .bf16) (i j : Fin 512) :
    (k0_pay1 (F := Ideal) xn w (ix2 i j) : EReal) = ∑ k : Fin 1024, (xn (ix2 i k) : EReal) * w (ix2 k j) := by
  unfold k0_pay1
  rw [shapeCast_self]
  exact dot_at xn w i j

/-- Row `r` of the block, normed, and the block a point leaves. -/
def nrmRow (r : Fin 1024) : Fin 1024 → EReal := normed (fun k => x0 (ix2 r k)) fun k => x1 (ix2 0 k)
def projArr : Vec Ideal S1024x4096 .bf16 := fun z => proj (nrmRow x0 x1 (z 0)) (fun k j => x2 (ix2 k j)) (z 1)

/-- Half the normed rows. -/
theorem half_at (o : ℕ) (inb : ∀ d, (![o, 0] : Fin 2 → ℕ) d + (![512, 1024] : Fin 2 → ℕ) d ≤ S1024x1024.size d) (p : Fin 512) (k r : Fin 1024) (hr : r.val = o + p.val) :
    (k0_pay5 (F := Ideal) (View.ld x0 (Rect.unit (s := S1024x1024) ![o, 0] ![512, 1024] inb)) (View.ld x1 r0_1) (ix2 p k) : EReal) = nrmRow x0 x1 r k := by
  show (PostIdeal.normPay (View.ld x0 (Rect.unit (s := S1024x1024) ![o, 0] ![512, 1024] inb)) (View.ld x1 r0_1) (ix2 p k) : EReal) = _
  rw [PostIdeal.normPay_at]
  refine congrArg₂ (fun X w => normed X w k) (funext fun d => ?_) (funext fun d => ?_)
  · exact View.ld_unit_apply_of x0 ![o, 0] ![512, 1024] inb (ix2 p d) (ix2 r d) fun a => match a with
      | ⟨0, _⟩ => hr
      | ⟨1, _⟩ => (Nat.zero_add _).symm
  · exact View.ld_unit_apply_of x1 ![0, 0] ![1, 1024] inb_S1x1024_S1x1024_0_0 (ix2 0 d) (ix2 0 d) fun a => match a with
      | ⟨0, _⟩ => (Nat.zero_add _).symm
      | ⟨1, _⟩ => (Nat.zero_add _).symm

/-- A stored chunk holds its part of the projection. -/
theorem chunk_ok (xn : FVec Ideal S512x1024 .bf16) (o0 o1 : ℕ)
    (inb : ∀ d, (![o0, o1] : Fin 2 → ℕ) d + (![512, 512] : Fin 2 → ℕ) d ≤ S1024x4096.size d)
    (inbw : ∀ d, (![0, o1] : Fin 2 → ℕ) d + (![1024, 512] : Fin 2 → ℕ) d ≤ S1024x4096.size d)
    (hx : ∀ (p : Fin 512) (k r : Fin 1024), r.val = o0 + p.val → (xn (ix2 p k) : EReal) = nrmRow x0 x1 r k)
    (x : (Rect.unit (s := S1024x4096) ![o0, o1] ![512, 512] inb).shape.Idx) :
    (k0_pay1 (F := Ideal) xn (View.ld x2 (Rect.unit (s := S1024x4096) ![0, o1] ![1024, 512] inbw)) x : EReal)
      = projArr x0 x1 x2 ((Rect.unit (s := S1024x4096) ![o0, o1] ![512, 512] inb).emb x) := by
  obtain ⟨p, q, rfl⟩ : ∃ p q : Fin 512, x = ix2 p q := ⟨x 0, x 1, eq_ix2 x⟩
  have hb0 : o0 + 512 ≤ 1024 := inb 0
  have hb1 : o1 + 512 ≤ 4096 := inb 1
  have hz : (Rect.unit (s := S1024x4096) ![o0, o1] ![512, 512] inb).emb (ix2 p q) = (ix2 ⟨o0 + p.val, by omega⟩ ⟨o1 + q.val, by omega⟩ : S1024x4096.Idx) :=
    funext fun a => Fin.ext (by
      rw [Rect.emb_apply]
      refine (Rect.idx_unit_val (s := S1024x4096) ![o0, o1] ![512, 512] inb (ix2 p q) a).trans ?_
      match a with
      | ⟨0, _⟩ => rfl
      | ⟨1, _⟩ => rfl)
  refine (pay_at xn _ p q).trans (Eq.trans ?_ (congrArg (projArr x0 x1 x2) hz).symm)
  unfold projArr proj
  refine Finset.sum_congr rfl fun k _ => congrArg₂ (fun a b : EReal => a * b) (hx p k _ rfl) ?_
  exact View.ld_unit_apply_of x2 ![0, o1] ![1024, 512] inbw (ix2 k q) (ix2 k ⟨o1 + q.val, by omega⟩) fun a => match a with
    | ⟨0, _⟩ => (Nat.zero_add _).symm
    | ⟨1, _⟩ => rfl

/-- A point's block of the result, at an element. -/
theorem out_at (y : S1024x4096.Idx) : (out0_3 (F := Ideal) x0 x1 x2 y : EReal) = projArr x0 x1 x2 y := by
  have h0 := half_at x0 x1 0 inb_S1024x1024_S512x1024_0_0
  have h1 := half_at x0 x1 512 inb_S1024x1024_S512x1024_512_0
  unfold out0_3
  refine View.canon_apply_of_pieces (projArr x0 x1 x2) _ (fun p hp x => ?_) y (cover0_3 _ _ _ _ _ _ _ _ _ _ _ _ _ _ _ _ y)
  simp only [List.mem_cons, List.mem_nil_iff, or_false] at hp
  rcases hp with rfl | rfl | rfl | rfl | rfl | rfl | rfl | rfl | rfl | rfl | rfl | rfl | rfl | rfl | rfl | rfl
  · exact chunk_ok x0 x1 x2 _ 512 3584 inb_S1024x4096_S512x512_512_3584 inb_S1024x4096_S1024x512_0_3584 h1 x
  · exact chunk_ok x0 x1 x2 _ 512 3072 inb_S1024x4096_S512x512_512_3072 inb_S1024x4096_S1024x512_0_3072 h1 x
  · exact chunk_ok x0 x1 x2 _ 512 2560 inb_S1024x4096_S512x512_512_2560 inb_S1024x4096_S1024x512_0_2560 h1 x
  · exact chunk_ok x0 x1 x2 _ 512 2048 inb_S1024x4096_S512x512_512_2048 inb_S1024x4096_S1024x512_0_2048 h1 x
  · exact chunk_ok x0 x1 x2 _ 512 1536 inb_S1024x4096_S512x512_512_1536 inb_S1024x4096_S1024x512_0_1536 h1 x
  · exact chunk_ok x0 x1 x2 _ 512 1024 inb_S1024x4096_S512x512_512_1024 inb_S1024x4096_S1024x512_0_1024 h1 x
  · exact chunk_ok x0 x1 x2 _ 512 512 inb_S1024x4096_S512x512_512_512 inb_S1024x4096_S1024x512_0_512 h1 x
  · exact chunk_ok x0 x1 x2 _ 512 0 inb_S1024x4096_S512x512_512_0 inb_S1024x4096_S1024x512_0_0 h1 x
  · exact chunk_ok x0 x1 x2 _ 0 3584 inb_S1024x4096_S512x512_0_3584 inb_S1024x4096_S1024x512_0_3584 h0 x
  · exact chunk_ok x0 x1 x2 _ 0 3072 inb_S1024x4096_S512x512_0_3072 inb_S1024x4096_S1024x512_0_3072 h0 x
  · exact chunk_ok x0 x1 x2 _ 0 2560 inb_S1024x4096_S512x512_0_2560 inb_S1024x4096_S1024x512_0_2560 h0 x
  · exact chunk_ok x0 x1 x2 _ 0 2048 inb_S1024x4096_S512x512_0_2048 inb_S1024x4096_S1024x512_0_2048 h0 x
  · exact chunk_ok x0 x1 x2 _ 0 1536 inb_S1024x4096_S512x512_0_1536 inb_S1024x4096_S1024x512_0_1536 h0 x
  · exact chunk_ok x0 x1 x2 _ 0 1024 inb_S1024x4096_S512x512_0_1024 inb_S1024x4096_S1024x512_0_1024 h0 x
  · exact chunk_ok x0 x1 x2 _ 0 512 inb_S1024x4096_S512x512_0_512 inb_S1024x4096_S1024x512_0_512 h0 x
  · exact chunk_ok x0 x1 x2 _ 0 0 inb_S1024x4096_S512x512_0_0 inb_S1024x4096_S1024x512_0_0 h0 x

/-! ## The blocks at coordinates -/

variable (m : (ℓ : Loc nD τ sig) → Buf (Elt Ideal) ℓ) (ρ : Dev nD → PrngReg) (c : Dev nD)

theorem iblk0_at (t : Fin cfg0.N) (p k : Fin 1024) : (iblk m c 0 t (ix2 p k) : EReal) = m ((c.tc : Thread nD τ).loc main_arg0) (ix2 (rowOf (grid0.coords t 0) p) k) := by
  refine Eq.trans ?_ (congrFun (V_main_arg0 m c) (ix2 (rowOf (grid0.coords t 0) p) k))
  refine congrArg (V m c main_arg0) (funext fun a => Fin.ext ?_)
  refine (Pipeline.Window.rect_emb_val (cfg0.win 0) t _ a).trans ?_
  match a with
  | ⟨0, _⟩ => exact tr_row (grid0.coords t 0) p
  | ⟨1, _⟩ => show (0#32 : BitVec 32).toNat * 1024 + k.val = k.val; simp

theorem iblk1_at (t : Fin cfg0.N) (d : Fin 1024) : (iblk m c 1 t (ix2 0 d) : EReal) = m ((c.tc : Thread nD τ).loc main_arg1) (ix1 d) := by
  have hV : V m c main_v1 = shapeCast S1x1024 (m ((c.tc : Thread nD τ).loc main_arg1)) shapeCasts_S1024_S1x1024 := rfl
  show (V m c main_v1 (((cfg0.win 1).blk t).view.emb (ix2 0 d)) : EReal) = _
  rw [hV]
  refine Eq.trans (congrArg (shapeCast S1x1024 (m ((c.tc : Thread nD τ).loc main_arg1)) shapeCasts_S1024_S1x1024) (funext fun x => Fin.ext ?_)) (row_at _ d)
  refine (Pipeline.Window.rect_emb_val_of_index_zero (cfg0.win 1) t x ?_ _).trans ?_ <;> (match x with | ⟨0, _⟩ => rfl | ⟨1, _⟩ => rfl)

theorem iblk2_at (t : Fin cfg0.N) (k : Fin 1024) (j : Fin 4096) : (iblk m c 2 t (ix2 k j) : EReal) = m ((c.tc : Thread nD τ).loc main_arg2) (ix2 k j) := by
  have hV : V m c main_v0 = (m ((c.tc : Thread nD τ).loc main_arg2) : S1024x4096.Idx → EReal) := rfl
  show (V m c main_v0 (((cfg0.win 2).blk t).view.emb (ix2 k j)) : EReal) = _
  rw [hV]
  refine congrArg (m ((c.tc : Thread nD τ).loc main_arg2)) (funext fun x => Fin.ext ?_)
  refine (Pipeline.Window.rect_emb_val_of_index_zero (cfg0.win 2) t x ?_ _).trans ?_ <;> (match x with | ⟨0, _⟩ => rfl | ⟨1, _⟩ => rfl)

/-! ## The result array -/

/-- What the reference makes of the kernel's arguments. -/
def goal : Buf (Elt Ideal) ((c.tc : Thread nD τ).loc main_v2) :=
  Cert.ProjReferenceIdeal.Read.val_main_v14 (F := Ideal) (m ((c.tc : Thread nD τ).loc main_arg0)) (m ((c.tc : Thread nD τ).loc main_arg1)) (m ((c.tc : Thread nD τ).loc main_arg2))

/-- Where an element of a point's block of the result sits. -/
theorem emb3 (t : Fin cfg0.N) (p : Fin 1024) (d : Fin 4096) :
    (((cfg0.win 3).blk t).view.emb (ix2 p d) : S65536x4096.Idx) = ix2 (rowOf (grid0.coords t 0) p) d := by
  refine funext fun a => Fin.ext ?_
  refine (Pipeline.Window.rect_emb_val (cfg0.win 3) t _ a).trans ?_
  match a with
  | ⟨0, _⟩ => exact tr_row (grid0.coords t 0) p
  | ⟨1, _⟩ => show (0#32 : BitVec 32).toNat * 4096 + d.val = d.val; simp

/-- Every element of the result is in some point's block. -/
theorem cover3 (z : S65536x4096.Idx) :
    ∃ t : Fin cfg0.N, (cfg0.win 3).flush t = true ∧ z ∈ ((cfg0.win 3).blk t).view.set := by
  have hz0 : (z 0).val < 65536 := (z 0).isLt
  obtain ⟨t₀, h₀⟩ := Pipeline.Grid.coords_surjective grid0 (fun a => match a with
    | ⟨0, _⟩ => ⟨(z 0).val / 1024, by show (z 0).val / 1024 < 64; omega⟩)
  obtain ⟨t, _, hf, hix⟩ := Pipeline.Window.exists_flush_same_index (cfg0.win 3) rfl t₀
  obtain rfl : t = t₀ := Cert.ProjIdeal.Value.idx_inj3 t t₀ hix
  refine ⟨t, hf, ?_⟩
  have hmem := ((cfg0.win 3).blk t).view.emb_mem_set (ix2 ⟨(z 0).val % 1024, Nat.mod_lt _ (by decide)⟩ (z 1))
  have hc : (grid0.coords t 0).val = (z 0).val / 1024 := by rw [h₀]
  have hz : z = ix2 (rowOf (grid0.coords t 0) ⟨(z 0).val % 1024, Nat.mod_lt _ (by decide)⟩) (z 1) := funext fun a => Fin.ext (by
    match a with
    | ⟨0, _⟩ => show (z 0).val = 1024 * (grid0.coords t 0).val + (z 0).val % 1024; omega
    | ⟨1, _⟩ => rfl)
  exact Eq.mpr (congrArg (fun x => x ∈ ((cfg0.win 3).blk t).view.set) (hz.trans (emb3 t _ _).symm)) hmem

/-- What a point writes back is its block of the reference's result. -/
theorem flushed3 (t : Fin cfg0.N) :
    (dats m 0 c).flushed 3 t = ((cfg0.win 3).blk t).view.read (Elt Ideal) (goal m c) := by
  rw [Cert.ProjIdeal.Value.flushed3]
  funext y
  obtain ⟨p, d, rfl⟩ : ∃ (p : Fin 1024) (d : Fin 4096), y = ix2 p d := ⟨y 0, y 1, eq_ix2 y⟩
  refine (out_at (iblk m c 0 t) (iblk m c 1 t) (iblk m c 2 t) (ix2 p d)).trans ?_
  refine Eq.trans ?_ ((ProjReferenceIdeal.v14_at (m ((c.tc : Thread nD τ).loc main_arg0)) (m ((c.tc : Thread nD τ).loc main_arg1)) (m ((c.tc : Thread nD τ).loc main_arg2))
    (rowOf (grid0.coords t 0) p) d).symm.trans (congrArg (goal m c) (emb3 t p d)).symm)
  show proj (normed (fun k => iblk m c 0 t (ix2 p k)) (fun k => iblk m c 1 t (ix2 0 k))) (fun k j => iblk m c 2 t (ix2 k j)) d = _
  rw [show (fun k => (iblk m c 0 t (ix2 p k) : EReal)) = _ from funext fun k => iblk0_at m c t p k, show (fun k => (iblk m c 1 t (ix2 0 k) : EReal)) = _ from funext fun k => iblk1_at m c t k,
    show (fun k j => (iblk m c 2 t (ix2 k j) : EReal)) = _ from funext fun k => funext fun j => iblk2_at m c t k j]

/-- The run with the result array named. -/
theorem run_value :
    θ_run defs (onTc (τ := τ) (main (F := Ideal))) ⟨m, fun _ => 0, ρ⟩ fun r => ∀ c : Dev nD,
      r.2.mem ((c.tc : Thread nD τ).loc main_v2) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((dats m 0 c).arrAt_eq_of_cover 3 (goal m c) (fun t _ => flushed3 m c t) cover3), (h c).2⟩)
    (Cert.ProjIdeal.Value.run_blocks m ρ)

end Cert.Proof.ProjIdeal

end
-- ==== Proof.Rope.Turn.lean ====
/- The rotation of a row by its tables, and the pieces of the kernel's block read at an element, at the ideal values. -/
module

public import proofs.«01_k».proof.Proof.Proj.Result
public import proofs.«01_k».proof.Proof.Gen.RopeIdeal
public import Idealize.ShloMosaic.Lib.KernelVsHost

@[expose] public section

set_option maxRecDepth 8192

noncomputable section

/-! ## Rows -/

namespace Cert.Proof.Rows

open Idealize.ShloMosaic

/-- The column a rotated column is paired with: 32 on in the first half of its 64, 32 back in the second. -/
def partner (j : Fin 3072) : Fin 3072 := ⟨if j.val / 32 % 2 = 0 then j.val + 32 else j.val - 32, by split <;> omega⟩

/-- A column times its cosine and its partner times the signed sine. -/
def turn (y : Fin 3072 → EReal) (C S : Fin 128 → EReal) (j : Fin 3072) : EReal :=
  y j * C ⟨j.val % 128, Nat.mod_lt _ (by decide)⟩ + y (partner j) * S ⟨j.val % 128, Nat.mod_lt _ (by decide)⟩

/-- What the queries are multiplied by: the scores' scale over the natural logarithm of two. -/
def qScale : EReal := (((8 * Real.log 2)⁻¹ : ℝ) : EReal)

/-- A row of queries, keys and values: queries rotated and scaled, keys rotated, values as they are. -/
def ropeRow (y : Fin 3072 → EReal) (C S : Fin 128 → EReal) (j : Fin 3072) : EReal :=
  if j.val < 1024 then turn y C S j * qScale else if j.val < 2048 then turn y C S j else y j

end Cert.Proof.Rows

namespace Cert.Proof.RopeIdeal

open Cert.RopeIdeal Cert.RopeIdeal.Gen
open Idealize.ShloMosaic
open Idealize.ShloMosaic.ValueIdx
open Rows
open PostIdeal (part_at)
open ProjIdeal (nrmRow)

/-! ## The rotation -/

/-- Which lanes are in the first half of their 64. -/
def firstHalf : IVec S512x128 1 := cmpi .eq (andi (iota .tc S512x128 32 [1] iota_S512x128_d1_w32) (broadcast S512x128 32#32)) (broadcast S512x128 0#32)

theorem firstHalf_at (p : Fin 512) (j : Fin 128) : firstHalf (ix2 p j) = if j.val / 32 % 2 = 0 then 1#1 else 0#1 := by
  have h : ∀ j : Fin 128, IntOp.cmpi .eq (BitVec.ofNat 32 (0 * 128 + j.val) &&& 32#32) 0#32 = if j.val / 32 % 2 = 0 then 1#1 else 0#1 := by decide +kernel
  exact h j

/-- 128 columns of a product rotated by their tables, as the payloads spell it. -/
def turnPay (q : FVec Ideal S512x512 .f32) (a : ℕ) (ha : S512x512.Slices ![0, a] S512x128) (C S : FVec Ideal S512x128 .f32) : FVec Ideal S512x128 .f32 :=
  addf (mulf (extractStridedSlice S512x128 ![0, a] q ha) C)
    (mulf (select firstHalf (dynamicRotate 1 96#32 none (extractStridedSlice S512x128 ![0, a] q ha) rotates_S512x128_d1)
      (dynamicRotate 1 32#32 none (extractStridedSlice S512x128 ![0, a] q ha) rotates_S512x128_d1)) S)

theorem factor_eq : (Named.named (F := Ideal) κ "q_scale" 0x3E38AA3B#32 : Ideal .f32) = qScale := IdealRules.named_const.ideal_named_scalar _ _ _ _ rfl

/-- The same, scaled. -/
def scaledPay (q : FVec Ideal S512x512 .f32) (a : ℕ) (ha : S512x512.Slices ![0, a] S512x128) (C S : FVec Ideal S512x128 .f32) : FVec Ideal S512x128 .f32 :=
  mulf (turnPay q a ha C S) (broadcast S512x128 (Named.named (F := Ideal) κ "q_scale" 0x3E38AA3B#32 : Ideal .f32))

theorem slice_at (q : FVec Ideal S512x512 .f32) (a : ℕ) (ha : S512x512.Slices ![0, a] S512x128) (p : Fin 512) (j : Fin 128) (k : Fin 512) (hk : k.val = a + j.val) :
    extractStridedSlice S512x128 ![0, a] q ha (ix2 p j) = q (ix2 p k) :=
  extractStridedSlice_apply ![0, a] q ha (ix2 p j) (ix2 p k) fun b => match b with
    | ⟨0, _⟩ => (Nat.zero_add _).symm
    | ⟨1, _⟩ => hk

theorem rotate_at (y : FVec Ideal S512x128 .f32) (w : BitVec 32) (p : Fin 512) (j k : Fin 128) (hk : k.val = (j.val + 128 - w.toNat % 128) % 128) :
    dynamicRotate 1 w none y rotates_S512x128_d1 (ix2 p j) = y (ix2 p k) :=
  dynamicRotate_apply 1 w y rotates_S512x128_d1 (ix2 p j) (ix2 p k) fun b => match b with
    | ⟨0, _⟩ => rfl
    | ⟨1, _⟩ => hk

theorem turnPay_at (q : FVec Ideal S512x512 .f32) (a : ℕ) (ha : S512x512.Slices ![0, a] S512x128) (C S : FVec Ideal S512x128 .f32) (p : Fin 512) (j : Fin 128) (k l : Fin 512)
    (hk : k.val = a + j.val) (hl : l.val = a + if j.val / 32 % 2 = 0 then j.val + 32 else j.val - 32) :
    (turnPay q a ha C S (ix2 p j) : EReal) = (q (ix2 p k) : EReal) * C (ix2 p j) + (q (ix2 p l) : EReal) * S (ix2 p j) := by
  refine congrArg₂ (fun x y : EReal => x * C (ix2 p j) + y * S (ix2 p j)) (slice_at q a ha p j k hk) ?_
  rw [select_apply, firstHalf_at]
  by_cases h : j.val / 32 % 2 = 0
  · rw [if_pos h] at hl ⊢
    refine (rotate_at _ 96#32 p j ⟨j.val + 32, by omega⟩ ?_).trans (slice_at q a ha p _ l hl)
    show j.val + 32 = (j.val + 128 - 96) % 128
    omega
  · rw [if_neg h] at hl ⊢
    refine (rotate_at _ 32#32 p j ⟨j.val - 32, by omega⟩ ?_).trans (slice_at q a ha p _ l hl)
    show j.val - 32 = (j.val + 128 - 32) % 128
    omega

/-! ## The pieces -/

variable {σ : RefSig} (arg1 : Memref σ .tc .vmem S1024x1024 .f32) (harg1 : arg1.IsWhole) (arg2 : Memref σ .tc .vmem S1x1024 .f32) (harg2 : arg2.IsWhole)
  (arg3 : Memref σ .tc .vmem S1024x3072 .bf16) (harg3 : arg3.IsWhole) (arg4 : Memref σ .tc .vmem S1024x128 .f32) (harg4 : arg4.IsWhole)
  (x0 : Vec Ideal S1024x1024 .f32) (x1 : Vec Ideal S1x1024 .f32) (x2 : Vec Ideal S1024x3072 .bf16) (x3 x4 : Vec Ideal S1024x128 .f32)

/-- Half the normed rows. -/
theorem half_at (o : ℕ) (inb : ∀ d, (![o, 0] : Fin 2 → ℕ) d + (![512, 1024] : Fin 2 → ℕ) d ≤ S1024x1024.size d)
    (inb1 : ∀ d, (![0, 0] : Fin 2 → ℕ) d + (![1, 1024] : Fin 2 → ℕ) d ≤ S1x1024.size d) (p : Fin 512) (k r : Fin 1024) (hr : r.val = o + p.val) :
    (PostIdeal.normPay (View.readAt (Elt Ideal) arg1.view (Rect.unit (s := S1024x1024) ![o, 0] ![512, 1024] inb).toLoadRect (harg1.unread x0))
      (View.readAt (Elt Ideal) arg2.view (Rect.unit (s := S1x1024) ![0, 0] ![1, 1024] inb1).toLoadRect (harg2.unread x1)) (ix2 p k) : EReal) = nrmRow x0 x1 r k := by
  rw [PostIdeal.normPay_at]
  refine congrArg₂ (fun X w => normed X w k) (funext fun d => ?_) (funext fun d => ?_)
  · exact part_at arg1 harg1 x0 o 0 inb p d r d hr (Nat.zero_add _).symm
  · exact part_at arg2 harg2 x1 0 0 inb1 0 d 0 d rfl (Nat.zero_add _).symm

/-- Half a table. -/
theorem table_at (o : ℕ) (inb : ∀ d, (![o, 0] : Fin 2 → ℕ) d + (![512, 128] : Fin 2 → ℕ) d ≤ S1024x128.size d) (p : Fin 512) (l : Fin 128) (r : Fin 1024) (hr : r.val = o + p.val) :
    shapeCast (α := Ideal .f32) S512x128 (View.readAt (Elt Ideal) arg4.view (Rect.unit (s := S1024x128) ![o, 0] ![512, 128] inb).toLoadRect (harg4.unread x3))
      shapeCasts_S512x128_S512x128 (ix2 p l) = x3 (ix2 r l) := by
  exact (congrFun (shapeCast_self (s := S512x128) _ _) (ix2 p l)).trans (part_at arg4 harg4 x3 o 0 inb p l r l hr (Nat.zero_add _).symm)

/-- A product of normed rows with 512 columns of the weights, and where its elements stand in a row's projection. -/
def prodPay (xn : FVec Ideal S512x1024 .bf16) (o1 : ℕ) (inb : ∀ d, (![0, o1] : Fin 2 → ℕ) d + (![1024, 512] : Fin 2 → ℕ) d ≤ S1024x3072.size d) : FVec Ideal S512x512 .f32 :=
  matmul dot_S512x1024_S1024x512_S512x512_1_0_0_1_n_n none xn
    (shapeCast (α := Ideal .bf16) S1024x512 (View.readAt (Elt Ideal) arg3.view (Rect.unit (s := S1024x3072) ![0, o1] ![1024, 512] inb).toLoadRect (harg3.unread x2))
      shapeCasts_S1024x512_S1024x512) (constant S512x512 .f32 0x00000000#32)

/-- The projection of row `r` of the block, and the block a point leaves. -/
def yRow (r : Fin 1024) : Fin 3072 → EReal := proj (nrmRow x0 x1 r) fun k j => x2 (ix2 k j)
def ropeArr : Vec Ideal S1024x3072 .bf16 := fun z => ropeRow (yRow x0 x1 x2 (z 0)) (fun l => x3 (ix2 (z 0) l)) (fun l => x4 (ix2 (z 0) l)) (z 1)

variable (xn : FVec Ideal S512x1024 .bf16) (C S : FVec Ideal S512x128 .f32) (o0 : ℕ)
  (hx : ∀ (p : Fin 512) (k r : Fin 1024), r.val = o0 + p.val → (xn (ix2 p k) : EReal) = nrmRow x0 x1 r k)
  (hC : ∀ (p : Fin 512) (l : Fin 128) (r : Fin 1024), r.val = o0 + p.val → C (ix2 p l) = x3 (ix2 r l))
  (hS : ∀ (p : Fin 512) (l : Fin 128) (r : Fin 1024), r.val = o0 + p.val → S (ix2 p l) = x4 (ix2 r l))

include hx in
theorem prodPay_at (o1 : ℕ) (inb : ∀ d, (![0, o1] : Fin 2 → ℕ) d + (![1024, 512] : Fin 2 → ℕ) d ≤ S1024x3072.size d) (p j : Fin 512) (r : Fin 1024) (hr : r.val = o0 + p.val)
    (k : Fin 3072) (hk : k.val = o1 + j.val) : (prodPay arg3 harg3 x2 xn o1 inb (ix2 p j) : EReal) = yRow x0 x1 x2 r k := by
  unfold prodPay
  refine (ProjIdeal.dot_at xn _ p j).trans ?_
  unfold yRow proj
  refine Finset.sum_congr rfl fun d _ => congrArg₂ (fun a b : EReal => a * b) (hx p d r hr) ?_
  exact (congrFun (shapeCast_self (s := S1024x512) _ _) (ix2 d j)).trans (part_at arg3 harg3 x2 0 o1 inb d j d k (Nat.zero_add _).symm hk)

/-- Where an element of a stored piece sits in the block. -/
theorem piece_emb (n o : ℕ) (inb : ∀ d, (![o0, o] : Fin 2 → ℕ) d + (![512, n] : Fin 2 → ℕ) d ≤ S1024x3072.size d) (p : Fin 512) (j : Fin n) (r : Fin 1024) (k : Fin 3072)
    (hr : r.val = o0 + p.val) (hk : k.val = o + j.val) : (Rect.unit (s := S1024x3072) ![o0, o] ![512, n] inb).emb (ix2 p j) = (ix2 r k : S1024x3072.Idx) :=
  funext fun a => Fin.ext (by
    rw [Rect.emb_apply]
    refine (Rect.idx_unit_val (s := S1024x3072) ![o0, o] ![512, n] inb (ix2 p j) a).trans ?_
    match a with
    | ⟨0, _⟩ => exact hr.symm
    | ⟨1, _⟩ => exact hk.symm)

include hx hC hS in
theorem turned_at (o1 a o : ℕ) (inbw : ∀ d, (![0, o1] : Fin 2 → ℕ) d + (![1024, 512] : Fin 2 → ℕ) d ≤ S1024x3072.size d) (ha : S512x512.Slices ![0, a] S512x128)
    (ho : o = o1 + a) (hm : o % 128 = 0) (hb : a + 128 ≤ 512) (p : Fin 512) (j : Fin 128) (r : Fin 1024) (k : Fin 3072) (hr : r.val = o0 + p.val) (hk : k.val = o + j.val) :
    (turnPay (prodPay arg3 harg3 x2 xn o1 inbw) a ha C S (ix2 p j) : EReal) = turn (yRow x0 x1 x2 r) (fun l => x3 (ix2 r l)) (fun l => x4 (ix2 r l)) k := by
  have hj : (⟨k.val % 128, Nat.mod_lt _ (by decide)⟩ : Fin 128) = j := Fin.ext (by show k.val % 128 = j.val; omega)
  have hl : (if j.val / 32 % 2 = 0 then j.val + 32 else j.val - 32) < 128 := by split <;> omega
  refine (turnPay_at _ a ha C S p j ⟨a + j.val, by omega⟩ ⟨a + if j.val / 32 % 2 = 0 then j.val + 32 else j.val - 32, by omega⟩ rfl rfl).trans ?_
  unfold turn
  rw [hj, hC p j r hr, hS p j r hr]
  refine congrArg₂ (fun x y : EReal => x * x3 (ix2 r j) + y * x4 (ix2 r j))
    (prodPay_at arg3 harg3 x0 x1 x2 xn o0 hx o1 inbw p _ r hr k (by show k.val = o1 + (a + j.val); omega))
    (prodPay_at arg3 harg3 x0 x1 x2 xn o0 hx o1 inbw p _ r hr (partner k) ?_)
  show (if k.val / 32 % 2 = 0 then k.val + 32 else k.val - 32) = o1 + (a + if j.val / 32 % 2 = 0 then j.val + 32 else j.val - 32)
  have e : k.val / 32 % 2 = j.val / 32 % 2 := by omega
  rw [e]
  split <;> omega

include hx hC hS in
/-- A stored piece of the queries. -/
theorem query_ok (o1 a o : ℕ) (inb : ∀ d, (![o0, o] : Fin 2 → ℕ) d + (![512, 128] : Fin 2 → ℕ) d ≤ S1024x3072.size d)
    (inbw : ∀ d, (![0, o1] : Fin 2 → ℕ) d + (![1024, 512] : Fin 2 → ℕ) d ≤ S1024x3072.size d) (ha : S512x512.Slices ![0, a] S512x128)
    (ho : o = o1 + a) (hm : o % 128 = 0) (hb : a + 128 ≤ 512) (hlt : o + 128 ≤ 1024) (x : (Rect.unit (s := S1024x3072) ![o0, o] ![512, 128] inb).shape.Idx) :
    (scaledPay (prodPay arg3 harg3 x2 xn o1 inbw) a ha C S x : EReal) = ropeArr x0 x1 x2 x3 x4 ((Rect.unit (s := S1024x3072) ![o0, o] ![512, 128] inb).emb x) := by
  obtain ⟨p, j, rfl⟩ : ∃ (p : Fin 512) (j : Fin 128), x = ix2 p j := ⟨x 0, x 1, eq_ix2 x⟩
  have hb0 : o0 + 512 ≤ 1024 := inb 0
  rw [piece_emb o0 128 o inb p j ⟨o0 + p.val, by omega⟩ ⟨o + j.val, by omega⟩ rfl rfl]
  refine Eq.trans ?_ (if_pos (show o + j.val < 1024 by omega)).symm
  exact congrArg₂ (fun z w : EReal => z * w) (turned_at arg3 harg3 x0 x1 x2 x3 x4 xn C S o0 hx hC hS o1 a o inbw ha ho hm hb p j _ _ rfl rfl) factor_eq

include hx hC hS in
/-- A stored piece of the keys. -/
theorem key_ok (o1 a o : ℕ) (inb : ∀ d, (![o0, o] : Fin 2 → ℕ) d + (![512, 128] : Fin 2 → ℕ) d ≤ S1024x3072.size d)
    (inbw : ∀ d, (![0, o1] : Fin 2 → ℕ) d + (![1024, 512] : Fin 2 → ℕ) d ≤ S1024x3072.size d) (ha : S512x512.Slices ![0, a] S512x128)
    (ho : o = o1 + a) (hm : o % 128 = 0) (hb : a + 128 ≤ 512) (hge : 1024 ≤ o) (hlt : o + 128 ≤ 2048) (x : (Rect.unit (s := S1024x3072) ![o0, o] ![512, 128] inb).shape.Idx) :
    (turnPay (prodPay arg3 harg3 x2 xn o1 inbw) a ha C S x : EReal) = ropeArr x0 x1 x2 x3 x4 ((Rect.unit (s := S1024x3072) ![o0, o] ![512, 128] inb).emb x) := by
  obtain ⟨p, j, rfl⟩ : ∃ (p : Fin 512) (j : Fin 128), x = ix2 p j := ⟨x 0, x 1, eq_ix2 x⟩
  have hb0 : o0 + 512 ≤ 1024 := inb 0
  rw [piece_emb o0 128 o inb p j ⟨o0 + p.val, by omega⟩ ⟨o + j.val, by omega⟩ rfl rfl]
  refine Eq.trans ?_ ((if_neg (show ¬o + j.val < 1024 by omega)).trans (if_pos (show o + j.val < 2048 by omega))).symm
  exact turned_at arg3 harg3 x0 x1 x2 x3 x4 xn C S o0 hx hC hS o1 a o inbw ha ho hm hb p j _ _ rfl rfl

include hx in
/-- A stored piece of the values. -/
theorem value_ok (o : ℕ) (inb : ∀ d, (![o0, o] : Fin 2 → ℕ) d + (![512, 512] : Fin 2 → ℕ) d ≤ S1024x3072.size d)
    (inbw : ∀ d, (![0, o] : Fin 2 → ℕ) d + (![1024, 512] : Fin 2 → ℕ) d ≤ S1024x3072.size d) (hge : 2048 ≤ o)
    (x : (Rect.unit (s := S1024x3072) ![o0, o] ![512, 512] inb).shape.Idx) :
    (prodPay arg3 harg3 x2 xn o inbw x : EReal) = ropeArr x0 x1 x2 x3 x4 ((Rect.unit (s := S1024x3072) ![o0, o] ![512, 512] inb).emb x) := by
  obtain ⟨p, j, rfl⟩ : ∃ p j : Fin 512, x = ix2 p j := ⟨x 0, x 1, eq_ix2 x⟩
  have hb0 : o0 + 512 ≤ 1024 := inb 0
  have hb1 : o + 512 ≤ 3072 := inb 1
  rw [piece_emb o0 512 o inb p j ⟨o0 + p.val, by omega⟩ ⟨o + j.val, by omega⟩ rfl rfl]
  refine Eq.trans ?_ ((if_neg (show ¬o + j.val < 1024 by omega)).trans (if_neg (show ¬o + j.val < 2048 by omega))).symm
  exact prodPay_at arg3 harg3 x0 x1 x2 xn o0 hx o inbw p j _ rfl _ rfl

end Cert.Proof.RopeIdeal

end
-- ==== Proof.Rope.Out.lean ====
/- What one grid point of the projection with its rotation leaves in its output block, element by element. -/
module

public import proofs.«01_k».proof.Proof.Rope.Turn
public import proofs.«01_k».proof.Proof.Gen.RopeIdeal.Value

@[expose] public section

set_option maxRecDepth 8192

noncomputable section

namespace Cert.Proof.RopeIdeal

open Cert.RopeIdeal Cert.RopeIdeal.Gen
open Idealize.ShloMosaic
open Idealize.ShloMosaic.ValueIdx
open Rows
open PostIdeal (inb2)
open ProjIdeal (nrmRow)

section Half

variable {σ : RefSig} (arg3 : Memref σ .tc .vmem S1024x3072 .bf16) (harg3 : arg3.IsWhole)
  (x0 : Vec Ideal S1024x1024 .f32) (x1 : Vec Ideal S1x1024 .f32) (x2 : Vec Ideal S1024x3072 .bf16) (x3 x4 : Vec Ideal S1024x128 .f32)
  (xn : FVec Ideal S512x1024 .bf16) (C S : FVec Ideal S512x128 .f32) (o0 : ℕ) (h0 : o0 + 512 ≤ 1024)

theorem cut (a : ℕ) (h : a + 128 ≤ 512) : S512x512.Slices ![0, a] S512x128 := ⟨rfl, fun d => match d with
  | ⟨0, _⟩ => Nat.le_refl 512
  | ⟨1, _⟩ => h⟩

/-- A piece of the queries, one of the keys and one of the values: the columns from `o` on, cut at `a` from the product with the weights' columns from `o1` on. -/
def query (o o1 a : ℕ) (ho : o + 128 ≤ 3072) (h1 : o1 + 512 ≤ 3072) (ha : a + 128 ≤ 512) : View.Piece (Elt Ideal) S1024x3072 .bf16 :=
  ⟨Rect.unit (s := S1024x3072) ![o0, o] ![512, 128] (inb2 h0 ho), scaledPay (prodPay arg3 harg3 x2 xn o1 (inb2 (Nat.le_refl 1024) h1)) a (cut a ha) C S⟩

def key (o o1 a : ℕ) (ho : o + 128 ≤ 3072) (h1 : o1 + 512 ≤ 3072) (ha : a + 128 ≤ 512) : View.Piece (Elt Ideal) S1024x3072 .bf16 :=
  ⟨Rect.unit (s := S1024x3072) ![o0, o] ![512, 128] (inb2 h0 ho), turnPay (prodPay arg3 harg3 x2 xn o1 (inb2 (Nat.le_refl 1024) h1)) a (cut a ha) C S⟩

def value (o : ℕ) (ho : o + 512 ≤ 3072) : View.Piece (Elt Ideal) S1024x3072 .bf16 :=
  ⟨Rect.unit (s := S1024x3072) ![o0, o] ![512, 512] (inb2 h0 ho), prodPay arg3 harg3 x2 xn o (inb2 (Nat.le_refl 1024) ho)⟩

/-- All of a half's pieces, the last stored first. -/
def values : List (View.Piece (Elt Ideal) S1024x3072 .bf16) :=
  [value arg3 harg3 x2 xn o0 h0 2560 (by omega), value arg3 harg3 x2 xn o0 h0 2048 (by omega)]

def keys : List (View.Piece (Elt Ideal) S1024x3072 .bf16) :=
  [key arg3 harg3 x2 xn C S o0 h0 1920 1536 384 (by omega) (by omega) (by omega), key arg3 harg3 x2 xn C S o0 h0 1792 1536 256 (by omega) (by omega) (by omega),
    key arg3 harg3 x2 xn C S o0 h0 1664 1536 128 (by omega) (by omega) (by omega), key arg3 harg3 x2 xn C S o0 h0 1536 1536 0 (by omega) (by omega) (by omega),
    key arg3 harg3 x2 xn C S o0 h0 1408 1024 384 (by omega) (by omega) (by omega), key arg3 harg3 x2 xn C S o0 h0 1280 1024 256 (by omega) (by omega) (by omega),
    key arg3 harg3 x2 xn C S o0 h0 1152 1024 128 (by omega) (by omega) (by omega), key arg3 harg3 x2 xn C S o0 h0 1024 1024 0 (by omega) (by omega) (by omega)]

def queries : List (View.Piece (Elt Ideal) S1024x3072 .bf16) :=
  [query arg3 harg3 x2 xn C S o0 h0 896 512 384 (by omega) (by omega) (by omega), query arg3 harg3 x2 xn C S o0 h0 768 512 256 (by omega) (by omega) (by omega),
    query arg3 harg3 x2 xn C S o0 h0 640 512 128 (by omega) (by omega) (by omega), query arg3 harg3 x2 xn C S o0 h0 512 512 0 (by omega) (by omega) (by omega),
    query arg3 harg3 x2 xn C S o0 h0 384 0 384 (by omega) (by omega) (by omega), query arg3 harg3 x2 xn C S o0 h0 256 0 256 (by omega) (by omega) (by omega),
    query arg3 harg3 x2 xn C S o0 h0 128 0 128 (by omega) (by omega) (by omega), query arg3 harg3 x2 xn C S o0 h0 0 0 0 (by omega) (by omega) (by omega)]

def pieces : List (View.Piece (Elt Ideal) S1024x3072 .bf16) :=
  values arg3 harg3 x2 xn o0 h0 ++ (keys arg3 harg3 x2 xn C S o0 h0 ++ queries arg3 harg3 x2 xn C S o0 h0)

variable (hx : ∀ (p : Fin 512) (k r : Fin 1024), r.val = o0 + p.val → (xn (ix2 p k) : EReal) = nrmRow x0 x1 r k)
  (hC : ∀ (p : Fin 512) (l : Fin 128) (r : Fin 1024), r.val = o0 + p.val → C (ix2 p l) = x3 (ix2 r l))
  (hS : ∀ (p : Fin 512) (l : Fin 128) (r : Fin 1024), r.val = o0 + p.val → S (ix2 p l) = x4 (ix2 r l))

include hx hC hS

theorem query_piece_ok (o o1 a : ℕ) (ho : o + 128 ≤ 3072) (h1 : o1 + 512 ≤ 3072) (ha : a + 128 ≤ 512) (he : o = o1 + a) (hm : o % 128 = 0) (hlt : o + 128 ≤ 1024)
    (x : (query arg3 harg3 x2 xn C S o0 h0 o o1 a ho h1 ha).1.shape.Idx) :
    (query arg3 harg3 x2 xn C S o0 h0 o o1 a ho h1 ha).2 x = ropeArr x0 x1 x2 x3 x4 ((query arg3 harg3 x2 xn C S o0 h0 o o1 a ho h1 ha).1.emb x) :=
  query_ok arg3 harg3 x0 x1 x2 x3 x4 xn C S o0 hx hC hS o1 a o (inb2 h0 ho) (inb2 (Nat.le_refl 1024) h1) (cut a ha) he hm ha hlt x

theorem key_piece_ok (o o1 a : ℕ) (ho : o + 128 ≤ 3072) (h1 : o1 + 512 ≤ 3072) (ha : a + 128 ≤ 512) (he : o = o1 + a) (hm : o % 128 = 0) (hge : 1024 ≤ o) (hlt : o + 128 ≤ 2048)
    (x : (key arg3 harg3 x2 xn C S o0 h0 o o1 a ho h1 ha).1.shape.Idx) :
    (key arg3 harg3 x2 xn C S o0 h0 o o1 a ho h1 ha).2 x = ropeArr x0 x1 x2 x3 x4 ((key arg3 harg3 x2 xn C S o0 h0 o o1 a ho h1 ha).1.emb x) :=
  key_ok arg3 harg3 x0 x1 x2 x3 x4 xn C S o0 hx hC hS o1 a o (inb2 h0 ho) (inb2 (Nat.le_refl 1024) h1) (cut a ha) he hm ha hge hlt x

omit hC hS in
theorem value_piece_ok (o : ℕ) (ho : o + 512 ≤ 3072) (hge : 2048 ≤ o) (x : (value arg3 harg3 x2 xn o0 h0 o ho).1.shape.Idx) :
    (value arg3 harg3 x2 xn o0 h0 o ho).2 x = ropeArr x0 x1 x2 x3 x4 ((value arg3 harg3 x2 xn o0 h0 o ho).1.emb x) :=
  value_ok arg3 harg3 x0 x1 x2 x3 x4 xn o0 hx o (inb2 h0 ho) (inb2 (Nat.le_refl 1024) ho) hge x

/-- Every piece of a half holds its part of the rotated rows. -/
theorem pieces_ok : ∀ p ∈ pieces arg3 harg3 x2 xn C S o0 h0, ∀ x : p.1.shape.Idx, p.2 x = ropeArr x0 x1 x2 x3 x4 (p.1.emb x) := by
  intro p hp x
  rcases List.mem_append.1 hp with hp | hp
  · simp only [values, List.mem_cons, List.mem_nil_iff, or_false] at hp
    rcases hp with rfl | rfl <;> exact value_piece_ok arg3 harg3 x0 x1 x2 x3 x4 xn o0 h0 hx _ _ (by decide) x
  rcases List.mem_append.1 hp with hp | hp
  · simp only [keys, List.mem_cons, List.mem_nil_iff, or_false] at hp
    rcases hp with rfl | rfl | rfl | rfl | rfl | rfl | rfl | rfl <;>
      exact key_piece_ok arg3 harg3 x0 x1 x2 x3 x4 xn C S o0 h0 hx hC hS _ _ _ _ _ _ rfl rfl (by decide) (by decide) x
  · simp only [queries, List.mem_cons, List.mem_nil_iff, or_false] at hp
    rcases hp with rfl | rfl | rfl | rfl | rfl | rfl | rfl | rfl <;>
      exact query_piece_ok arg3 harg3 x0 x1 x2 x3 x4 xn C S o0 h0 hx hC hS _ _ _ _ _ _ rfl rfl (by decide) x

end Half

variable (c : Dev nD) (i : grid0.Coords) (arg1 : Memref sig .tc .vmem S1024x1024 .f32) (harg1 : arg1.IsWhole) (arg2 : Memref sig .tc .vmem S1x1024 .f32) (harg2 : arg2.IsWhole)
  (arg3 : Memref sig .tc .vmem S1024x3072 .bf16) (harg3 : arg3.IsWhole) (arg4 : Memref sig .tc .vmem S1024x128 .f32) (harg4 : arg4.IsWhole)
  (arg5 : Memref sig .tc .vmem S1024x128 .f32) (harg5 : arg5.IsWhole) (arg6 : Memref sig .tc .vmem S1024x3072 .bf16) (harg6 : arg6.IsWhole)
  (x0 : Vec Ideal S1024x1024 .f32) (x1 : Vec Ideal S1x1024 .f32) (x2 : Vec Ideal S1024x3072 .bf16) (x3 x4 : Vec Ideal S1024x128 .f32)

/-- The pieces a point stores are both halves'. -/
theorem run_pieces : (kernelRun0_A (F := Ideal) c i arg1 harg1 arg2 harg2 arg3 harg3 arg4 harg4 arg5 harg5 arg6 harg6 x0 x1 x2 x3 x4).1
    = pieces arg3 harg3 x2 (kernelRun0_A.sl.r_1 c arg1 harg1 arg2 harg2 x0 x1) (kernelRun0_A.sl.r_14 c arg4 harg4 x3) (kernelRun0_A.sl.r_15 c arg5 harg5 x4) 512 (by omega)
      ++ pieces arg3 harg3 x2 (kernelRun0_A.sl.r c arg1 harg1 arg2 harg2 x0 x1) (kernelRun0_A.sl.r_2 c arg4 harg4 x3) (kernelRun0_A.sl.r_3 c arg5 harg5 x4) 0 (by omega) := rfl

/-- A point's block of the result, at an element. -/
theorem out_at (y : S1024x3072.Idx) :
    (out0_A_5 (F := Ideal) c i arg1 harg1 arg2 harg2 arg3 harg3 arg4 harg4 arg5 harg5 arg6 harg6 x0 x1 x2 x3 x4 y : EReal) = ropeArr x0 x1 x2 x3 x4 y := by
  unfold out0_A_5
  rw [View.read_writes_eq_canon _ _ _ (cover0_A_5 c i arg1 harg1 arg2 harg2 arg3 harg3 arg4 harg4 arg5 harg5 arg6 harg6 x0 x1 x2 x3 x4)]
  refine View.canon_apply_of_pieces (ropeArr x0 x1 x2 x3 x4) _ (fun p hp x => ?_) y
    (cover0_A_5 c i arg1 harg1 arg2 harg2 arg3 harg3 arg4 harg4 arg5 harg5 arg6 harg6 x0 x1 x2 x3 x4 y)
  rw [run_pieces] at hp
  rcases List.mem_append.1 hp with hp | hp
  · exact pieces_ok arg3 harg3 x0 x1 x2 x3 x4 _ _ _ 512 _ (half_at arg1 harg1 arg2 harg2 x0 x1 512 inb_S1024x1024_S512x1024_512_0 inb_S1x1024_S1x1024_0_0)
      (table_at arg4 harg4 x3 512 inb_S1024x128_S512x128_512_0) (table_at arg5 harg5 x4 512 inb_S1024x128_S512x128_512_0) p hp x
  · exact pieces_ok arg3 harg3 x0 x1 x2 x3 x4 _ _ _ 0 _ (half_at arg1 harg1 arg2 harg2 x0 x1 0 inb_S1024x1024_S512x1024_0_0 inb_S1x1024_S1x1024_0_0)
      (table_at arg4 harg4 x3 0 inb_S1024x128_S512x128_0_0) (table_at arg5 harg5 x4 0 inb_S1024x128_S512x128_0_0) p hp x

end Cert.Proof.RopeIdeal

end
-- ==== Proof.Rope.Reference.lean ====
/- The reference of the projection with its rotation, read at an element: the row the kernel computes. -/
module

public import proofs.«01_k».proof.Proof.Rope.Turn
public import proofs.«01_k».proof.Proof.Reference
public import proofs.«01_k».proof.Proof.Gen.RopeReferenceIdeal
public import proofs.«01_k».proof.Proof.Gen.RopeReferenceIdeal.Read

@[expose] public section

set_option maxRecDepth 8192

noncomputable section

namespace Cert.Proof.RopeReferenceIdeal

open Cert.RopeReferenceIdeal Cert.RopeReferenceIdeal.Gen Cert.RopeReferenceIdeal.Read
open Idealize.ShloMosaic
open Idealize.ShloMosaic.ValueIdx
open Rows
open PostReferenceIdeal (ext2)
open ReferenceIdeal (two_f32)

variable (x0 : (⟨S65536x1024, .f32⟩ : BufTy).Contents (Elt Ideal)) (x1 : (⟨S1024, .f32⟩ : BufTy).Contents (Elt Ideal))
  (x2 : (⟨S1024x3072, .f32⟩ : BufTy).Contents (Elt Ideal)) (x3 x4 : (⟨S65536x32, .f32⟩ : BufTy).Contents (Elt Ideal))

/-! ## The projection -/

/-- The projection of row `r`. -/
def row (r : Fin 65536) : Fin 3072 → EReal := proj (normed (fun k => x0 (ix2 r k)) (fun k => x1 (ix1 k))) fun k j => x2 (ix2 k j)

theorem v13_at (r : Fin 65536) (j : Fin 3072) : (val_main_v13 (F := Ideal) x0 x1 x2 (ix2 r j) : EReal) = row x0 x1 x2 r j := by
  refine (val_main_v13_apply x0 x1 x2 (ix2 r j)).trans ?_
  unfold row proj
  refine Finset.sum_congr rfl fun k _ => ?_
  refine congrArg₂ (fun a b : EReal => a * b) ?_ (congrArg x2 (ext2 rfl rfl))
  rw [show lidx_main_v13 (ix2 r j) k = ix2 r k from ext2 rfl rfl]
  exact ProjReferenceIdeal.v12_at x0 x1 r k

/-! ## The rotation -/

/-- A head's halves, and a table spread over the heads. -/
def first (Y : FVec Ideal S65536x1024 .f32) : FVec Ideal S65536x8x2x32 .f32 :=
  extractStridedSlice S65536x8x2x32 ![0, 0, 0, 0] (shapeCast S65536x8x2x64 Y shapeCasts_S65536x1024_S65536x8x2x64) slices_S65536x8x2x64_S65536x8x2x32_0_0_0_0
def second (Y : FVec Ideal S65536x1024 .f32) : FVec Ideal S65536x8x2x32 .f32 :=
  extractStridedSlice S65536x8x2x32 ![0, 0, 0, 32] (shapeCast S65536x8x2x64 Y shapeCasts_S65536x1024_S65536x8x2x64) slices_S65536x8x2x64_S65536x8x2x32_0_0_0_32
def table (t : FVec Ideal S65536x32 .f32) : FVec Ideal S65536x8x2x32 .f32 :=
  broadcastInDim S65536x8x2x32 ![0, 1, 2, 3] bcast_S65536x1x1x32_S65536x8x2x32_0_1_2_3 (broadcastInDim S65536x1x1x32 ![0, 3] bcast_S65536x32_S65536x1x1x32_0_3 t)

/-- The rotation of all heads by the tables. -/
def rotated (Y : FVec Ideal S65536x1024 .f32) (cos sin : FVec Ideal S65536x32 .f32) : FVec Ideal S65536x1024 .f32 :=
  shapeCast S65536x1024 (concatenate S65536x8x2x64 3 [⟨S65536x8x2x32, subf (mulf (first Y) (table cos)) (mulf (second Y) (table sin))⟩,
    ⟨S65536x8x2x32, addf (mulf (second Y) (table cos)) (mulf (first Y) (table sin))⟩] concatenates_S65536x8x2x32_S65536x8x2x32_S65536x8x2x64_d3)
    shapeCasts_S65536x8x2x64_S65536x1024

theorem v33_eq : val_main_v33 (F := Ideal) x0 x1 x2 x3 x4 = rotated (val_main_v14 (F := Ideal) x0 x1 x2) x3 x4 := rfl
theorem v50_eq : val_main_v50 (F := Ideal) x0 x1 x2 x3 x4 = rotated (val_main_v15 (F := Ideal) x0 x1 x2) x3 x4 := rfl

theorem heads_at (Y : FVec Ideal S65536x1024 .f32) (r : Fin 65536) (h : Fin 8) (g : Fin 2) (l : Fin 64) (j : Fin 1024) (hj : j.val = 128 * h.val + 64 * g.val + l.val) :
    shapeCast S65536x8x2x64 Y shapeCasts_S65536x1024_S65536x8x2x64 (ix4 r h g l) = Y (ix2 r j) := by
  refine shapeCast_apply _ _ _ (ix2 r j) ?_
  rw [Shape.rowMajor_val_two, Shape.rowMajor_val_four]
  show r.val * 1024 + j.val = ((r.val * 8 + h.val) * 2 + g.val) * 64 + l.val
  omega

theorem first_at (Y : FVec Ideal S65536x1024 .f32) (r : Fin 65536) (h : Fin 8) (g : Fin 2) (l : Fin 32) (j : Fin 1024) (hj : j.val = 128 * h.val + 64 * g.val + l.val) :
    first Y (ix4 r h g l) = Y (ix2 r j) := by
  refine (extractStridedSlice_apply _ _ _ (ix4 r h g l) (ix4 r h g ⟨l.val, by omega⟩) fun a => ?_).trans (heads_at Y r h g _ j hj)
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

theorem second_at (Y : FVec Ideal S65536x1024 .f32) (r : Fin 65536) (h : Fin 8) (g : Fin 2) (l : Fin 32) (j : Fin 1024) (hj : j.val = 128 * h.val + 64 * g.val + (32 + l.val)) :
    second Y (ix4 r h g l) = Y (ix2 r j) := by
  refine (extractStridedSlice_apply _ _ _ (ix4 r h g l) (ix4 r h g ⟨32 + l.val, by omega⟩) fun a => ?_).trans (heads_at Y r h g _ j hj)
  match a with
  | ⟨0, _⟩ => exact (Nat.zero_add _).symm
  | ⟨1, _⟩ => exact (Nat.zero_add _).symm
  | ⟨2, _⟩ => exact (Nat.zero_add _).symm
  | ⟨3, _⟩ => rfl

theorem table_at (t : FVec Ideal S65536x32 .f32) (r : Fin 65536) (h : Fin 8) (g : Fin 2) (l : Fin 32) : table t (ix4 r h g l) = t (ix2 r l) := by
  refine (broadcastInDim_apply _ _ _ (ix4 r h g l) (ix4 r 0 0 l) fun a => ?_).trans (broadcastInDim_apply _ _ _ (ix4 r 0 0 l) (ix2 r l) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl

theorem pair_left (A B : FVec Ideal S65536x8x2x32 .f32) (r : Fin 65536) (h : Fin 8) (g : Fin 2) (l : Fin 32) (k : Fin 64) (hk : l.val = k.val) :
    concatenate S65536x8x2x64 3 [⟨S65536x8x2x32, A⟩, ⟨S65536x8x2x32, B⟩] concatenates_S65536x8x2x32_S65536x8x2x32_S65536x8x2x64_d3 (ix4 r h g k) = A (ix4 r h g l) :=
  concatenate_pair_apply_left (t := S65536x8x2x64) (s₁ := S65536x8x2x32) (s₂ := S65536x8x2x32) 3 A B _ _ rfl _ fun b => match b with
    | ⟨0, _⟩ => rfl
    | ⟨1, _⟩ => rfl
    | ⟨2, _⟩ => rfl
    | ⟨3, _⟩ => hk

theorem pair_right (A B : FVec Ideal S65536x8x2x32 .f32) (r : Fin 65536) (h : Fin 8) (g : Fin 2) (l : Fin 32) (k : Fin 64) (hk : l.val + 32 = k.val) :
    concatenate S65536x8x2x64 3 [⟨S65536x8x2x32, A⟩, ⟨S65536x8x2x32, B⟩] concatenates_S65536x8x2x32_S65536x8x2x32_S65536x8x2x64_d3 (ix4 r h g k) = B (ix4 r h g l) :=
  concatenate_pair_apply_right (t := S65536x8x2x64) (s₁ := S65536x8x2x32) (s₂ := S65536x8x2x32) 3 A B _ _ rfl rfl (ix4 r h g l) (fun b hb => match b with
    | ⟨0, _⟩ => rfl
    | ⟨1, _⟩ => rfl
    | ⟨2, _⟩ => rfl
    | ⟨3, _⟩ => absurd rfl hb) hk

/-- One of three arrays side by side. -/
theorem three_at (X : Fin 3 → FVec Ideal S65536x1024 .f32) (n : Fin 3) (r : Fin 65536) (l : Fin 1024) (k : Fin 3072) (hk : 1024 * n.val + l.val = k.val) :
    concatenate S65536x3072 1 [⟨S65536x1024, X 0⟩, ⟨S65536x1024, X 1⟩, ⟨S65536x1024, X 2⟩] concatenates_S65536x1024_S65536x1024_S65536x1024_S65536x3072_d1 (ix2 r k)
      = X n (ix2 r l) := by
  refine concatenate_apply_piece (t := S65536x3072) 1 [⟨S65536x1024, X 0⟩, ⟨S65536x1024, X 1⟩, ⟨S65536x1024, X 2⟩] _ _ n.val n.isLt S65536x1024 (X n) ?_ rfl (1024 * n.val) ?_
    (ix2 r l) (fun b hb => match b with
      | ⟨0, _⟩ => rfl
      | ⟨1, _⟩ => absurd rfl hb) hk
  · match n with
    | 0 => rfl
    | 1 => rfl
    | 2 => rfl
  · match n with
    | 0 => rfl
    | 1 => rfl
    | 2 => rfl

/-- The tables as the kernel has them, 128 wide. -/
def cosRow (t : FVec Ideal S65536x32 .f32) (r : Fin 65536) (l : Fin 128) : EReal := t (ix2 r ⟨l.val % 32, Nat.mod_lt _ (by decide)⟩)
def sinRow (t : FVec Ideal S65536x32 .f32) (r : Fin 65536) (l : Fin 128) : EReal :=
  if l.val / 32 % 2 = 0 then -(t (ix2 r ⟨l.val % 32, Nat.mod_lt _ (by decide)⟩) : EReal) else t (ix2 r ⟨l.val % 32, Nat.mod_lt _ (by decide)⟩)

/-- The rotation at an element: the column and its partner by the tables. -/
theorem rotated_at (Y : FVec Ideal S65536x1024 .f32) (cos sin : FVec Ideal S65536x32 .f32) (y : Fin 3072 → EReal) (r : Fin 65536) (o : ℕ) (ho : o + 1024 ≤ 3072) (hm : o % 128 = 0)
    (hY : ∀ (j : Fin 1024) (k : Fin 3072), k.val = o + j.val → (Y (ix2 r j) : EReal) = y k) (j : Fin 1024) (k : Fin 3072) (hk : k.val = o + j.val) :
    (rotated Y cos sin (ix2 r j) : EReal) = turn y (cosRow cos r) (sinRow sin r) k := by
  let h : Fin 8 := ⟨j.val / 128, by omega⟩
  let g : Fin 2 := ⟨j.val / 64 % 2, by omega⟩
  let l : Fin 32 := ⟨j.val % 32, by omega⟩
  have hcos : cosRow cos r ⟨k.val % 128, Nat.mod_lt _ (by decide)⟩ = cos (ix2 r l) :=
    congrArg cos (ext2 rfl (by show k.val % 128 % 32 = j.val % 32; omega))
  have hsin : (sin (ix2 r ⟨k.val % 128 % 32, Nat.mod_lt _ (by decide)⟩) : EReal) = sin (ix2 r l) :=
    congrArg sin (ext2 rfl (by show k.val % 128 % 32 = j.val % 32; omega))
  unfold rotated
  refine (shapeCast_apply _ _ _ (ix4 r h g ⟨j.val % 64, by omega⟩) ?_).trans ?_
  · rw [Shape.rowMajor_val_two, Shape.rowMajor_val_four]
    show ((r.val * 8 + j.val / 128) * 2 + j.val / 64 % 2) * 64 + j.val % 64 = r.val * 1024 + j.val
    omega
  unfold turn
  rw [hcos]
  by_cases hj : j.val % 64 < 32
  · have hs : sinRow sin r ⟨k.val % 128, Nat.mod_lt _ (by decide)⟩ = -(sin (ix2 r l) : EReal) :=
      (if_pos (by show k.val % 128 / 32 % 2 = 0; omega)).trans (congrArg (fun z : EReal => -z) hsin)
    have hp : (partner k).val = o + (j.val + 32) := (if_pos (by omega)).trans (by omega)
    refine (pair_left _ _ r h g l _ (by show j.val % 32 = j.val % 64; omega)).trans ?_
    rw [hs, mul_neg, ← sub_eq_add_neg]
    refine congrArg₂ (fun x y : EReal => x - y) (congrArg₂ (fun x y : EReal => x * y) ?_ (table_at cos r h g l)) (congrArg₂ (fun x y : EReal => x * y) ?_ (table_at sin r h g l))
    · exact (first_at Y r h g l j (by show j.val = 128 * (j.val / 128) + 64 * (j.val / 64 % 2) + j.val % 32; omega)).trans (hY j k hk)
    · exact (second_at Y r h g l ⟨j.val + 32, by omega⟩ (by show j.val + 32 = 128 * (j.val / 128) + 64 * (j.val / 64 % 2) + (32 + j.val % 32); omega)).trans (hY _ _ hp)
  · have hs : sinRow sin r ⟨k.val % 128, Nat.mod_lt _ (by decide)⟩ = (sin (ix2 r l) : EReal) :=
      (if_neg (by show ¬k.val % 128 / 32 % 2 = 0; omega)).trans hsin
    have hp : (partner k).val = o + (j.val - 32) := (if_neg (by omega)).trans (by omega)
    refine (pair_right _ _ r h g l _ (by show j.val % 32 + 32 = j.val % 64; omega)).trans ?_
    rw [hs]
    refine congrArg₂ (fun x y : EReal => x + y) (congrArg₂ (fun x y : EReal => x * y) ?_ (table_at cos r h g l)) (congrArg₂ (fun x y : EReal => x * y) ?_ (table_at sin r h g l))
    · exact (second_at Y r h g l j (by show j.val = 128 * (j.val / 128) + 64 * (j.val / 64 % 2) + (32 + j.val % 32); omega)).trans (hY j k hk)
    · exact (first_at Y r h g l ⟨j.val - 32, by omega⟩ (by show j.val - 32 = 128 * (j.val / 128) + 64 * (j.val / 64 % 2) + j.val % 32; omega)).trans (hY _ _ hp)

/-! ## The result -/

theorem eighth_f32 : Ideal.ofBits .f32 0x3E000000#32 = ((1 / 8 : ℝ) : EReal) := by
  simp [Ideal.ofBits, Ideal.ieee]
  rw [← EReal.coe_mul]
  norm_num

/-- The reference's factor of the queries, an eighth over the logarithm of two. -/
theorem factor_at (i : S65536x1024.Idx) : (val_main_v54 (F := Ideal) i : EReal) = qScale := by
  rw [val_main_v54_apply]
  show Ideal.div (Ideal.ofBits .f32 0x3E000000#32) (Ideal.log (Ideal.ofBits .f32 0x40000000#32)) = _
  rw [eighth_f32, two_f32, Ideal.log_coe, if_neg (by norm_num), Ideal.div_coe (Real.log_pos (by norm_num)).ne', ← EReal.coe_mul]
  exact congrArg (fun r : ℝ => (r : EReal)) (by rw [mul_inv, one_div, one_div])

/-- An element of the reference's result. -/
theorem v57_at (r : Fin 65536) (j : Fin 3072) :
    (val_main_v57 (F := Ideal) x0 x1 x2 x3 x4 (ix2 r j) : EReal) = ropeRow (row x0 x1 x2 r) (cosRow x3 r) (sinRow x4 r) j := by
  have side := three_at ![val_main_v55 (F := Ideal) x0 x1 x2 x3 x4, val_main_v50 (F := Ideal) x0 x1 x2 x3 x4, val_main_v16 (F := Ideal) x0 x1 x2]
  show (val_main_v56 (F := Ideal) x0 x1 x2 x3 x4 (ix2 r j) : EReal) = _
  unfold ropeRow
  by_cases h1 : j.val < 1024
  · rw [if_pos h1]
    refine (side 0 r ⟨j.val, h1⟩ j (Nat.zero_add _)).trans ?_
    refine congrArg₂ (fun x y : EReal => x * y) ?_ (factor_at _)
    rw [v33_eq]
    refine rotated_at _ x3 x4 (row x0 x1 x2 r) r 0 (by decide) rfl (fun l k hk => ?_) _ j (Nat.zero_add _).symm
    rw [val_main_v14_apply, show idx_main_v14 (ix2 r l) = ix2 r k from ext2 rfl (by show l.val = k.val; omega)]
    exact v13_at x0 x1 x2 r k
  rw [if_neg h1]
  by_cases h2 : j.val < 2048
  · rw [if_pos h2]
    refine (side 1 r ⟨j.val - 1024, by omega⟩ j (by show 1024 + (j.val - 1024) = j.val; omega)).trans ?_
    show (val_main_v50 (F := Ideal) x0 x1 x2 x3 x4 (ix2 r ⟨j.val - 1024, by omega⟩) : EReal) = _
    rw [v50_eq]
    refine rotated_at _ x3 x4 (row x0 x1 x2 r) r 1024 (by decide) rfl (fun l k hk => ?_) _ j (by show j.val = 1024 + (j.val - 1024); omega)
    rw [val_main_v15_apply, show idx_main_v15 (ix2 r l) = ix2 r k from ext2 rfl (by show 1024 + l.val = k.val; omega)]
    exact v13_at x0 x1 x2 r k
  · rw [if_neg h2]
    refine (side 2 r ⟨j.val - 2048, by omega⟩ j (by show 2048 + (j.val - 2048) = j.val; omega)).trans ?_
    show (val_main_v16 (F := Ideal) x0 x1 x2 (ix2 r ⟨j.val - 2048, by omega⟩) : EReal) = _
    rw [val_main_v16_apply, show idx_main_v16 (ix2 r ⟨j.val - 2048, by omega⟩) = ix2 r j from ext2 rfl (by show 2048 + (j.val - 2048) = j.val; omega)]
    exact v13_at x0 x1 x2 r j

end Cert.Proof.RopeReferenceIdeal

end
-- ==== Proof.Rope.Result.lean ====
/- The projection with its rotation: the result array is the reference's, whatever the arguments. -/
module

public import proofs.«01_k».proof.Proof.Rope.Out
public import proofs.«01_k».proof.Proof.Rope.Reference
public import proofs.«01_k».proof.Proof.Result
public import proofs.«01_k».proof.Defs

@[expose] public section

set_option maxRecDepth 8192

noncomputable section

namespace Cert.Proof.RopeIdeal

open Cert.RopeIdeal Cert.RopeIdeal.Gen
open Idealize.ShloMosaic Idealize.ShloMosaic.TcCoe
open Idealize.SL.Sem
open Idealize.ShloMosaic.ValueIdx
open Rows
open PostIdeal (rowOf tr_row row_at)
open PostReferenceIdeal (ext2)
open RopeReferenceIdeal (cosRow sinRow)

/-! ## The blocks at coordinates -/

variable (m : (ℓ : Loc nD τ sig) → Buf (Elt Ideal) ℓ) (ρ : Dev nD → PrngReg) (c : Dev nD)

theorem iblk0_at (t : Fin cfg0.N) (p k : Fin 1024) : (iblk m c 0 t (ix2 p k) : EReal) = m ((c.tc : Thread nD τ).loc main_arg0) (ix2 (rowOf (grid0.coords t 0) p) k) := by
  refine Eq.trans ?_ (congrFun (V_main_arg0 m c) (ix2 (rowOf (grid0.coords t 0) p) k))
  refine congrArg (V m c main_arg0) (funext fun a => Fin.ext ?_)
  refine (Pipeline.Window.rect_emb_val (cfg0.win 0) t _ a).trans ?_
  match a with
  | ⟨0, _⟩ => exact tr_row (grid0.coords t 0) p
  | ⟨1, _⟩ => show (0#32 : BitVec 32).toNat * 1024 + k.val = k.val; simp

theorem iblk1_at (t : Fin cfg0.N) (d : Fin 1024) : (iblk m c 1 t (ix2 0 d) : EReal) = m ((c.tc : Thread nD τ).loc main_arg1) (ix1 d) := by
  have hV : V m c main_v5 = shapeCast S1x1024 (m ((c.tc : Thread nD τ).loc main_arg1)) shapeCasts_S1024_S1x1024 := rfl
  show (V m c main_v5 (((cfg0.win 1).blk t).view.emb (ix2 0 d)) : EReal) = _
  rw [hV]
  refine Eq.trans (congrArg (shapeCast S1x1024 (m ((c.tc : Thread nD τ).loc main_arg1)) shapeCasts_S1024_S1x1024) (funext fun x => Fin.ext ?_)) (row_at _ d)
  refine (Pipeline.Window.rect_emb_val_of_index_zero (cfg0.win 1) t x ?_ _).trans ?_ <;> (match x with | ⟨0, _⟩ => rfl | ⟨1, _⟩ => rfl)

theorem iblk2_at (t : Fin cfg0.N) (k : Fin 1024) (j : Fin 3072) : (iblk m c 2 t (ix2 k j) : EReal) = m ((c.tc : Thread nD τ).loc main_arg2) (ix2 k j) := by
  have hV : V m c main_v4 = (m ((c.tc : Thread nD τ).loc main_arg2) : S1024x3072.Idx → EReal) := rfl
  show (V m c main_v4 (((cfg0.win 2).blk t).view.emb (ix2 k j)) : EReal) = _
  rw [hV]
  refine congrArg (m ((c.tc : Thread nD τ).loc main_arg2)) (funext fun x => Fin.ext ?_)
  refine (Pipeline.Window.rect_emb_val_of_index_zero (cfg0.win 2) t x ?_ _).trans ?_ <;> (match x with | ⟨0, _⟩ => rfl | ⟨1, _⟩ => rfl)

/-- Four narrow tables side by side. -/
theorem four_at (X : Fin 4 → FVec Ideal S65536x32 .f32) (n : Fin 4) (r : Fin 65536) (l : Fin 32) (k : Fin 128) (hk : 32 * n.val + l.val = k.val) :
    concatenate S65536x128 1 [⟨S65536x32, X 0⟩, ⟨S65536x32, X 1⟩, ⟨S65536x32, X 2⟩, ⟨S65536x32, X 3⟩] concatenates_S65536x32_S65536x32_S65536x32_S65536x32_S65536x128_d1 (ix2 r k)
      = X n (ix2 r l) := by
  refine concatenate_apply_piece (t := S65536x128) 1 [⟨S65536x32, X 0⟩, ⟨S65536x32, X 1⟩, ⟨S65536x32, X 2⟩, ⟨S65536x32, X 3⟩] _ _ n.val n.isLt S65536x32 (X n) ?_ rfl (32 * n.val) ?_
    (ix2 r l) (fun b hb => match b with
      | ⟨0, _⟩ => rfl
      | ⟨1, _⟩ => absurd rfl hb) hk
  · match n with
    | 0 => rfl
    | 1 => rfl
    | 2 => rfl
    | 3 => rfl
  · match n with
    | 0 => rfl
    | 1 => rfl
    | 2 => rfl
    | 3 => rfl

/-- The cosines' block is the table four times over, the sines' the table with its sign turned in every first half. -/
theorem iblk3_at (t : Fin cfg0.N) (p : Fin 1024) (l : Fin 128) :
    (iblk m c 3 t (ix2 p l) : EReal) = cosRow (m ((c.tc : Thread nD τ).loc main_arg3)) (rowOf (grid0.coords t 0) p) l := by
  have side := four_at ![m ((c.tc : Thread nD τ).loc main_arg3), m ((c.tc : Thread nD τ).loc main_arg3), m ((c.tc : Thread nD τ).loc main_arg3), m ((c.tc : Thread nD τ).loc main_arg3)]
    ⟨l.val / 32, by omega⟩ (rowOf (grid0.coords t 0) p) ⟨l.val % 32, Nat.mod_lt _ (by decide)⟩ l (by show 32 * (l.val / 32) + l.val % 32 = l.val; omega)
  have hz : ((cfg0.win 3).blk t).view.emb (ix2 p l) = (ix2 (rowOf (grid0.coords t 0) p) l : S65536x128.Idx) := funext fun a => Fin.ext (by
    refine (Pipeline.Window.rect_emb_val (cfg0.win 3) t _ a).trans ?_
    match a with
    | ⟨0, _⟩ => exact tr_row (grid0.coords t 0) p
    | ⟨1, _⟩ => show (0#32 : BitVec 32).toNat * 128 + l.val = l.val; simp)
  show (V m c main_v0 (((cfg0.win 3).blk t).view.emb (ix2 p l)) : EReal) = _
  rw [hz]
  refine Eq.trans side ?_
  obtain h | h | h | h : l.val / 32 = 0 ∨ l.val / 32 = 1 ∨ l.val / 32 = 2 ∨ l.val / 32 = 3 := by omega
  all_goals
    simp only [h]
    rfl

theorem iblk4_at (t : Fin cfg0.N) (p : Fin 1024) (l : Fin 128) :
    (iblk m c 4 t (ix2 p l) : EReal) = sinRow (m ((c.tc : Thread nD τ).loc main_arg4)) (rowOf (grid0.coords t 0) p) l := by
  have side := four_at ![Host.negf (F := Ideal) (s := S65536x32) (φ := .f32) (m ((c.tc : Thread nD τ).loc main_arg4)), m ((c.tc : Thread nD τ).loc main_arg4),
      Host.negf (F := Ideal) (s := S65536x32) (φ := .f32) (m ((c.tc : Thread nD τ).loc main_arg4)), m ((c.tc : Thread nD τ).loc main_arg4)]
    ⟨l.val / 32, by omega⟩ (rowOf (grid0.coords t 0) p) ⟨l.val % 32, Nat.mod_lt _ (by decide)⟩ l (by show 32 * (l.val / 32) + l.val % 32 = l.val; omega)
  have hz : ((cfg0.win 4).blk t).view.emb (ix2 p l) = (ix2 (rowOf (grid0.coords t 0) p) l : S65536x128.Idx) := funext fun a => Fin.ext (by
    refine (Pipeline.Window.rect_emb_val (cfg0.win 4) t _ a).trans ?_
    match a with
    | ⟨0, _⟩ => exact tr_row (grid0.coords t 0) p
    | ⟨1, _⟩ => show (0#32 : BitVec 32).toNat * 128 + l.val = l.val; simp)
  show (V m c main_v3 (((cfg0.win 4).blk t).view.emb (ix2 p l)) : EReal) = _
  rw [hz]
  refine Eq.trans side ?_
  unfold sinRow
  obtain h | h | h | h : l.val / 32 = 0 ∨ l.val / 32 = 1 ∨ l.val / 32 = 2 ∨ l.val / 32 = 3 := by omega
  all_goals
    simp only [h]
    rfl

/-! ## The result array -/

/-- What the reference makes of the kernel's arguments. -/
def goal : Buf (Elt Ideal) ((c.tc : Thread nD τ).loc main_v6) :=
  Cert.RopeReferenceIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- Where an element of a point's block of the result sits. -/
theorem emb5 (t : Fin cfg0.N) (p : Fin 1024) (d : Fin 3072) :
    (((cfg0.win 5).blk t).view.emb (ix2 p d) : S65536x3072.Idx) = ix2 (rowOf (grid0.coords t 0) p) d := by
  refine funext fun a => Fin.ext ?_
  refine (Pipeline.Window.rect_emb_val (cfg0.win 5) t _ a).trans ?_
  match a with
  | ⟨0, _⟩ => exact tr_row (grid0.coords t 0) p
  | ⟨1, _⟩ => show (0#32 : BitVec 32).toNat * 3072 + d.val = d.val; simp

/-- Every element of the result is in some point's block. -/
theorem cover5 (z : S65536x3072.Idx) :
    ∃ t : Fin cfg0.N, (cfg0.win 5).flush t = true ∧ z ∈ ((cfg0.win 5).blk t).view.set := by
  have hz0 : (z 0).val < 65536 := (z 0).isLt
  obtain ⟨t₀, h₀⟩ := Pipeline.Grid.coords_surjective grid0 (fun a => match a with
    | ⟨0, _⟩ => ⟨(z 0).val / 1024, by show (z 0).val / 1024 < 64; omega⟩)
  obtain ⟨t, _, hf, hix⟩ := Pipeline.Window.exists_flush_same_index (cfg0.win 5) rfl t₀
  obtain rfl : t = t₀ := Cert.RopeIdeal.Value.idx_inj5 t t₀ hix
  refine ⟨t, hf, ?_⟩
  have hmem := ((cfg0.win 5).blk t).view.emb_mem_set (ix2 ⟨(z 0).val % 1024, Nat.mod_lt _ (by decide)⟩ (z 1))
  have hc : (grid0.coords t 0).val = (z 0).val / 1024 := by rw [h₀]
  have hz : z = ix2 (rowOf (grid0.coords t 0) ⟨(z 0).val % 1024, Nat.mod_lt _ (by decide)⟩) (z 1) := funext fun a => Fin.ext (by
    match a with
    | ⟨0, _⟩ => show (z 0).val = 1024 * (grid0.coords t 0).val + (z 0).val % 1024; omega
    | ⟨1, _⟩ => rfl)
  exact Eq.mpr (congrArg (fun x => x ∈ ((cfg0.win 5).blk t).view.set) (hz.trans (emb5 t _ _).symm)) hmem

/-- What a point writes back is its block of the reference's result. -/
theorem flushed5 (t : Fin cfg0.N) :
    (dats m 0 c).flushed 5 t = ((cfg0.win 5).blk t).view.read (Elt Ideal) (goal m c) := by
  rw [Cert.RopeIdeal.Value.flushed5_A]
  funext y
  obtain ⟨p, d, rfl⟩ : ∃ (p : Fin 1024) (d : Fin 3072), y = ix2 p d := ⟨y 0, y 1, eq_ix2 y⟩
  refine (out_at c (grid0.coords t) _ _ _ _ _ _ _ _ _ _ _ _ (iblk m c 0 t) (iblk m c 1 t) (iblk m c 2 t) (iblk m c 3 t) (iblk m c 4 t) (ix2 p d)).trans ?_
  refine Eq.trans ?_ ((RopeReferenceIdeal.v57_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (rowOf (grid0.coords t 0) p) d).symm.trans (congrArg (goal m c) (emb5 t p d)).symm)
  show ropeRow (proj (normed (fun k => iblk m c 0 t (ix2 p k)) (fun k => iblk m c 1 t (ix2 0 k))) (fun k j => iblk m c 2 t (ix2 k j))) (fun l => iblk m c 3 t (ix2 p l)) (fun l => iblk m c 4 t (ix2 p l)) d = _
  rw [show (fun k => (iblk m c 0 t (ix2 p k) : EReal)) = _ from funext fun k => iblk0_at m c t p k, show (fun k => (iblk m c 1 t (ix2 0 k) : EReal)) = _ from funext fun k => iblk1_at m c t k,
    show (fun k j => (iblk m c 2 t (ix2 k j) : EReal)) = _ from funext fun k => funext fun j => iblk2_at m c t k j, show (fun l => (iblk m c 3 t (ix2 p l) : EReal)) = _ from funext fun l => iblk3_at m c t p l,
    show (fun l => (iblk m c 4 t (ix2 p l) : EReal)) = _ from funext fun l => iblk4_at m c t p l]
  rfl

/-- The run with the result array named. -/
theorem run_value :
    θ_run defs (onTc (τ := τ) (main (F := Ideal))) ⟨m, fun _ => 0, ρ⟩ fun r => ∀ c : Dev nD,
      r.2.mem ((c.tc : Thread nD τ).loc main_v6) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((dats m 0 c).arrAt_eq_of_cover 5 (goal m c) (fun t _ => flushed5 m c t) cover5), (h c).2⟩)
    (Cert.RopeIdeal.Value.run_blocks m ρ)

end Cert.Proof.RopeIdeal

end
-- ==== Proof.Tables.Reference.lean ====
/- The reference of the rotation tables, read at an element: the cosine of a position's angle, and its sine with the sign turned in every first half. -/
module

public import proofs.«01_k».proof.Proof.Post.Reference
public import proofs.«01_k».proof.Proof.Gen.TablesReferenceIdeal
public import proofs.«01_k».proof.Proof.Gen.TablesReferenceIdeal.Read

@[expose] public section

set_option maxRecDepth 8192

noncomputable section

namespace Cert.Proof.TablesReferenceIdeal

open Cert.TablesReferenceIdeal Cert.TablesReferenceIdeal.Gen Cert.TablesReferenceIdeal.Read
open Idealize.ShloMosaic
open Idealize.ShloMosaic.ValueIdx
open PostReferenceIdeal (ext2)

variable (x0 : (⟨S16x4096, .i32⟩ : BufTy).Contents (Elt Ideal))

theorem ext3 {n0 n1 n2 : ℕ} {z w : (⟨3, ![n0, n1, n2]⟩ : Shape).Idx} (h0 : (z 0).val = (w 0).val) (h1 : (z 1).val = (w 1).val) (h2 : (z 2).val = (w 2).val) : z = w :=
  funext fun a => Fin.ext (match a with
    | ⟨0, _⟩ => h0
    | ⟨1, _⟩ => h1
    | ⟨2, _⟩ => h2)

/-- Where row `r` has its position, and which of the 32 frequencies lane `k` has. -/
def place (r : Fin 65536) : S16x4096.Idx := ix2 ⟨r.val / 4096, by omega⟩ ⟨r.val % 4096, Nat.mod_lt _ (by decide)⟩
def lane (k : Fin 128) : Fin 32 := ⟨k.val % 32, Nat.mod_lt _ (by decide)⟩

/-- The angle of row `r` at frequency `l`. -/
def angle (r : Fin 65536) (l : Fin 32) : EReal :=
  FloatOps.mulf (F := Ideal) (φ := .f32) (FloatOps.sitofp .f32 (x0 (place r))) (val_main_v10 (F := Ideal) (ix1 l))

def cosAt (r : Fin 65536) (k : Fin 128) : EReal := Ideal.cos (angle x0 r (lane k))
def sinAt (r : Fin 65536) (k : Fin 128) : EReal := if k.val / 32 % 2 = 0 then -Ideal.sin (angle x0 r (lane k)) else Ideal.sin (angle x0 r (lane k))

theorem v16_at (r : Fin 65536) (l : Fin 32) (z : S16x4096x32.Idx) (h0 : (z 0).val = r.val / 4096) (h1 : (z 1).val = r.val % 4096) (h2 : (z 2).val = l.val) :
    (val_main_v16 (F := Ideal) x0 z : EReal) = angle x0 r l := by
  refine (val_main_v16_apply x0 z).trans ?_
  rw [val_main_v14_apply, val_main_v12_apply, val_main_v11_apply, val_main_v15_apply, val_main_v13_apply]
  unfold angle
  refine congrArg₂ (fun a b : EReal => FloatOps.mulf (F := Ideal) (φ := .f32) a b) ?_ ?_
  · exact congrArg (fun i => FloatOps.sitofp (F := Ideal) .f32 (x0 i)) (ext2 h0 h1)
  · exact congrArg (val_main_v10 (F := Ideal)) (funext fun a => Fin.ext (match a with | ⟨0, _⟩ => h2))

/-- Four tables side by side. -/
theorem four_at (X : Fin 4 → FVec Ideal S16x4096x32 .f32) (n : Fin 4) (z : S16x4096x128.Idx) (l : Fin 32) (hk : 32 * n.val + l.val = (z 2).val) :
    concatenate S16x4096x128 2 [⟨S16x4096x32, X 0⟩, ⟨S16x4096x32, X 1⟩, ⟨S16x4096x32, X 2⟩, ⟨S16x4096x32, X 3⟩] concatenates_S16x4096x32_S16x4096x32_S16x4096x32_S16x4096x32_S16x4096x128_d2 z
      = X n (ix3 (z 0) (z 1) l) := by
  refine concatenate_apply_piece (t := S16x4096x128) 2 [⟨S16x4096x32, X 0⟩, ⟨S16x4096x32, X 1⟩, ⟨S16x4096x32, X 2⟩, ⟨S16x4096x32, X 3⟩] _ z n.val n.isLt S16x4096x32 (X n) ?_ rfl (32 * n.val) ?_
    (ix3 (z 0) (z 1) l) (fun b hb => match b with
      | ⟨0, _⟩ => rfl
      | ⟨1, _⟩ => rfl
      | ⟨2, _⟩ => absurd rfl hb) hk
  · match n with
    | 0 => rfl
    | 1 => rfl
    | 2 => rfl
    | 3 => rfl
  · match n with
    | 0 => rfl
    | 1 => rfl
    | 2 => rfl
    | 3 => rfl

theorem v23_at (r : Fin 65536) (k : Fin 128) : (val_main_v23 (F := Ideal) x0 (ix2 r k) : EReal) = cosAt x0 r k := by
  refine (val_main_v23_apply x0 (ix2 r k)).trans ?_
  refine (four_at ![val_main_v17 (F := Ideal) x0, val_main_v17 (F := Ideal) x0, val_main_v17 (F := Ideal) x0, val_main_v17 (F := Ideal) x0] ⟨k.val / 32, by omega⟩ (idx_main_v23 (ix2 r k)) (lane k)
    (by show 32 * (k.val / 32) + k.val % 32 = (r.val * 128 + k.val) % 128; omega)).trans ?_
  have hv := v16_at x0 r (lane k) (ix3 (idx_main_v23 (ix2 r k) 0) (idx_main_v23 (ix2 r k) 1) (lane k))
    (by show (r.val * 128 + k.val) / 524288 = _; omega) (by show (r.val * 128 + k.val) / 128 % 4096 = _; omega) rfl
  unfold cosAt
  rw [← hv]
  obtain h | h | h | h : k.val / 32 = 0 ∨ k.val / 32 = 1 ∨ k.val / 32 = 2 ∨ k.val / 32 = 3 := by omega
  all_goals
    simp only [h]
    rfl

theorem v24_at (r : Fin 65536) (k : Fin 128) : (val_main_v24 (F := Ideal) x0 (ix2 r k) : EReal) = sinAt x0 r k := by
  refine (val_main_v24_apply x0 (ix2 r k)).trans ?_
  refine (four_at ![val_main_v20 (F := Ideal) x0, val_main_v18 (F := Ideal) x0, val_main_v21 (F := Ideal) x0, val_main_v18 (F := Ideal) x0] ⟨k.val / 32, by omega⟩ (idx_main_v24 (ix2 r k)) (lane k)
    (by show 32 * (k.val / 32) + k.val % 32 = (r.val * 128 + k.val) % 128; omega)).trans ?_
  have hv := v16_at x0 r (lane k) (ix3 (idx_main_v24 (ix2 r k) 0) (idx_main_v24 (ix2 r k) 1) (lane k))
    (by show (r.val * 128 + k.val) / 524288 = _; omega) (by show (r.val * 128 + k.val) / 128 % 4096 = _; omega) rfl
  unfold sinAt
  rw [← hv]
  obtain h | h | h | h : k.val / 32 = 0 ∨ k.val / 32 = 1 ∨ k.val / 32 = 2 ∨ k.val / 32 = 3 := by omega
  all_goals
    simp only [h]
    rfl

end Cert.Proof.TablesReferenceIdeal

end
-- ==== Proof.Tables.Result.lean ====
/- The rotation tables: both result arrays are the reference's, whatever the positions. -/
module

public import proofs.«01_k».proof.Proof.Tables.Reference
public import proofs.«01_k».proof.Proof.Post.Block
public import proofs.«01_k».proof.Proof.Gen.TablesIdeal
public import proofs.«01_k».proof.Proof.Gen.TablesIdeal.Frame
public import Idealize.ShloMosaic.Lib.Pipeline.Value
public import Idealize.ShloMosaic.Lib.Pipeline.Covers

@[expose] public section

set_option maxRecDepth 8192

noncomputable section

namespace Cert.Proof.TablesIdeal

open Cert.TablesIdeal Cert.TablesIdeal.Gen
open Idealize.ShloMosaic Idealize.ShloMosaic.TcCoe
open Idealize.SL.Sem
open Idealize.ShloMosaic.ValueIdx
open PostIdeal (rowOf tr_row)
open PostReferenceIdeal (ext2)
open TablesReferenceIdeal (angle cosAt sinAt place lane)

/-! ## A point's two blocks from its positions and the frequencies -/

section Block

variable (P0 : Vec Ideal S1024x1 .i32) (P1 : Vec Ideal S1x128 .f32) (p : Fin 1024) (k : Fin 128)

/-- A lane's angle. -/
def turn : EReal := FloatOps.mulf (F := Ideal) (φ := .f32) (FloatOps.sitofp .f32 (P0 (ix2 p 0))) (P1 (ix2 0 k))

theorem angles_at : (k0_pay1 P0 P1 (ix2 p k) : EReal) = turn P0 P1 p k := by
  refine congrArg₂ (fun a b : EReal => FloatOps.mulf (F := Ideal) (φ := .f32) a b) ?_ ?_
  · refine (broadcastTo_apply (s := S1024x1) (t := S1024x128) _ _ (ix2 p k) (ix2 p 0) (fun a => match a with
      | ⟨0, _⟩ => rfl
      | ⟨1, _⟩ => rfl)).trans ?_
    exact congrArg (FloatOps.sitofp (F := Ideal) .f32) (congrFun (shapeCast_self (s := S1024x1) P0 _) (ix2 p 0))
  · refine (broadcastTo_apply (s := S1x128) (t := S1024x128) _ _ (ix2 p k) (ix2 0 k) (fun a => match a with
      | ⟨0, _⟩ => rfl
      | ⟨1, _⟩ => rfl)).trans ?_
    exact congrFun (shapeCast_self (s := S1x128) P1 _) (ix2 0 k)

/-- Which lanes are in the first half of their 64. -/
def firstHalf : IVec S1024x128 1 := cmpi .eq (andi (iota .tc S1024x128 32 [1] iota_S1024x128_d1_w32) (broadcast S1024x128 32#32)) (broadcast S1024x128 0#32)

theorem firstHalf_at : firstHalf (ix2 p k) = if k.val / 32 % 2 = 0 then 1#1 else 0#1 := by
  have h : ∀ k : Fin 128, IntOp.cmpi .eq (BitVec.ofNat 32 (0 * 128 + k.val) &&& 32#32) 0#32 = if k.val / 32 % 2 = 0 then 1#1 else 0#1 := by decide +kernel
  exact h k

theorem off2 (a : Fin 2) : (![0, 0] : Fin 2 → ℕ) a = 0 := match a with
  | ⟨0, _⟩ => rfl
  | ⟨1, _⟩ => rfl

theorem cos_at : (out0_2 P0 P1 (ix2 p k) : EReal) = Ideal.cos (turn P0 P1 p k) := by
  have h : out0_2 P0 P1 = k0_pay2 P0 P1 := by
    unfold out0_2
    rw [View.ld_unit_lit _ P0 off2, View.ld_unit_lit _ P1 off2]
    exact View.canon_cons_unit_lit _ _ [] off2
  rw [h]
  exact congrArg Ideal.cos (angles_at P0 P1 p k)

theorem sin_at : (out0_3 P0 P1 (ix2 p k) : EReal) = if k.val / 32 % 2 = 0 then -Ideal.sin (turn P0 P1 p k) else Ideal.sin (turn P0 P1 p k) := by
  have h : out0_3 P0 P1 = k0_pay3 P0 P1 := by
    unfold out0_3
    rw [View.ld_unit_lit _ P0 off2, View.ld_unit_lit _ P1 off2]
    exact View.canon_cons_unit_lit _ _ [] off2
  rw [h]
  show (Scalar.select (firstHalf (ix2 p k)) (Ideal.ofBits .f32 0x00000000#32 - Ideal.sin (k0_pay1 P0 P1 (ix2 p k)) : EReal) (Ideal.sin (k0_pay1 P0 P1 (ix2 p k))) : EReal) = _
  rw [firstHalf_at, angles_at, Ideal.ofBits_zero_f32, zero_sub]
  by_cases h : k.val / 32 % 2 = 0
  · rw [if_pos h, if_pos h]
    rfl
  · rw [if_neg h, if_neg h]
    rfl

end Block

/-! ## The blocks at coordinates -/

variable (m : (ℓ : Loc nD τ sig) → Buf (Elt Ideal) ℓ) (ρ : Dev nD → PrngReg) (c : Dev nD)

theorem iblk0_at (t : Fin cfg0.N) (p : Fin 1024) : iblk m c 0 t (ix2 p 0) = m ((c.tc : Thread nD τ).loc main_arg0) (place (rowOf (grid0.coords t 0) p)) := by
  have hV : V m c main_v15 = shapeCast S65536x1 (m ((c.tc : Thread nD τ).loc main_arg0)) shapeCasts_S16x4096_S65536x1 := rfl
  have hz : ((cfg0.win 0).blk t).view.emb (ix2 p 0) = (ix2 (rowOf (grid0.coords t 0) p) 0 : S65536x1.Idx) := funext fun a => Fin.ext (by
    refine (Pipeline.Window.rect_emb_val (cfg0.win 0) t _ a).trans ?_
    match a with
    | ⟨0, _⟩ => exact tr_row (grid0.coords t 0) p
    | ⟨1, _⟩ => rfl)
  show V m c main_v15 (((cfg0.win 0).blk t).view.emb (ix2 p 0)) = _
  rw [hz, hV]
  refine shapeCast_apply _ _ _ (place (rowOf (grid0.coords t 0) p)) ?_
  rw [Shape.rowMajor_val_two, Shape.rowMajor_val_two]
  show (rowOf (grid0.coords t 0) p).val / 4096 * 4096 + (rowOf (grid0.coords t 0) p).val % 4096 = (rowOf (grid0.coords t 0) p).val * 1 + 0
  omega

/-- The 32 frequencies, four times over, are the reference's. -/
theorem freq_at (f : FVec Ideal S32 .f32) (k : Fin 128) :
    shapeCast S1x128 (shapeCast S128 (broadcastInDim S4x32 ![0, 1] bcast_S1x32_S4x32_0_1 (shapeCast S1x32 f shapeCasts_S32_S1x32)) shapeCasts_S4x32_S128) shapeCasts_S128_S1x128 (ix2 0 k) = f (ix1 (lane k)) := by
  refine (shapeCast_apply _ _ _ (ix1 k) ?_).trans ((shapeCast_apply _ _ _ (ix2 ⟨k.val / 32, by omega⟩ (lane k)) ?_).trans
    ((broadcastInDim_apply _ bcast_S1x32_S4x32_0_1 _ _ (ix2 0 (lane k)) (fun a => match a with
      | ⟨0, _⟩ => rfl
      | ⟨1, _⟩ => rfl)).trans (shapeCast_apply _ _ _ (ix1 (lane k)) ?_)))
  · rw [Shape.rowMajor_val_one, Shape.rowMajor_val_two]
    show k.val = 0 * 128 + k.val
    omega
  · rw [Shape.rowMajor_val_one, Shape.rowMajor_val_two]
    show k.val / 32 * 32 + k.val % 32 = k.val
    omega
  · rw [Shape.rowMajor_val_one, Shape.rowMajor_val_two]
    show (lane k).val = 0 * 32 + (lane k).val
    omega

theorem iblk1_at (t : Fin cfg0.N) (k : Fin 128) : (iblk m c 1 t (ix2 0 k) : EReal) = Cert.TablesReferenceIdeal.Read.val_main_v10 (F := Ideal) (ix1 (lane k)) := by
  have hV : V m c main_v14 = shapeCast S1x128 (shapeCast S128 (broadcastInDim S4x32 ![0, 1] bcast_S1x32_S4x32_0_1 (shapeCast S1x32 (Cert.TablesReferenceIdeal.Read.val_main_v10 (F := Ideal)) shapeCasts_S32_S1x32)) shapeCasts_S4x32_S128) shapeCasts_S128_S1x128 := rfl
  show (V m c main_v14 (((cfg0.win 1).blk t).view.emb (ix2 0 k)) : EReal) = _
  rw [hV]
  refine Eq.trans (congrArg _ (funext fun x => Fin.ext ?_)) (freq_at _ k)
  refine (Pipeline.Window.rect_emb_val_of_index_zero (cfg0.win 1) t x ?_ _).trans ?_ <;> (match x with | ⟨0, _⟩ => rfl | ⟨1, _⟩ => rfl)

theorem turn_at (t : Fin cfg0.N) (p : Fin 1024) (k : Fin 128) :
    turn (iblk m c 0 t) (iblk m c 1 t) p k = angle (m ((c.tc : Thread nD τ).loc main_arg0)) (rowOf (grid0.coords t 0) p) (lane k) :=
  congrArg₂ (fun a b => FloatOps.mulf (F := Ideal) (φ := .f32) (FloatOps.sitofp .f32 a) b) (iblk0_at m c t p) (iblk1_at m c t k)

/-! ## The result arrays -/

/-- What the reference makes of the positions. -/
def cosGoal : Buf (Elt Ideal) ((c.tc : Thread nD τ).loc main_v16_0) := Cert.TablesReferenceIdeal.Read.val_main_v23 (F := Ideal) (m ((c.tc : Thread nD τ).loc main_arg0))
def sinGoal : Buf (Elt Ideal) ((c.tc : Thread nD τ).loc main_v16_1) := Cert.TablesReferenceIdeal.Read.val_main_v24 (F := Ideal) (m ((c.tc : Thread nD τ).loc main_arg0))

/-- Where an element of a point's block of either table sits: the two windows move alike. -/
theorem emb2 (t : Fin cfg0.N) (p : Fin 1024) (k : Fin 128) :
    (((cfg0.win 2).blk t).view.emb (ix2 p k) : S65536x128.Idx) = ix2 (rowOf (grid0.coords t 0) p) k := by
  refine funext fun a => Fin.ext ?_
  refine (Pipeline.Window.rect_emb_val (cfg0.win 2) t _ a).trans ?_
  match a with
  | ⟨0, _⟩ => exact tr_row (grid0.coords t 0) p
  | ⟨1, _⟩ => show (0#32 : BitVec 32).toNat * 128 + k.val = k.val; simp

theorem emb3 (t : Fin cfg0.N) (p : Fin 1024) (k : Fin 128) :
    (((cfg0.win 3).blk t).view.emb (ix2 p k) : S65536x128.Idx) = ix2 (rowOf (grid0.coords t 0) p) k := emb2 t p k

/-- Every row is in some point's block. -/
theorem row_cover (z : S65536x128.Idx) : ∃ n : Fin 64, z = ix2 (rowOf n ⟨(z 0).val % 1024, Nat.mod_lt _ (by decide)⟩) (z 1) := by
  have hz0 : (z 0).val < 65536 := (z 0).isLt
  refine ⟨⟨(z 0).val / 1024, by omega⟩, ext2 ?_ rfl⟩
  show (z 0).val = 1024 * ((z 0).val / 1024) + (z 0).val % 1024
  omega

/-- Two points' blocks are different blocks. -/
theorem idx_inj : ∀ t t' : Fin cfg0.N, win0_2.index t = win0_2.index t' → t = t' :=
  (by decide +kernel : ∀ t t' : Fin grid0.N, win0_2.index t = win0_2.index t' → t = t')

theorem cover2 (z : S65536x128.Idx) : ∃ t : Fin cfg0.N, (cfg0.win 2).flush t = true ∧ z ∈ ((cfg0.win 2).blk t).view.set := by
  obtain ⟨n, hn⟩ := row_cover z
  obtain ⟨t₀, h₀⟩ := Pipeline.Grid.coords_surjective grid0 (fun a => match a with
    | ⟨0, _⟩ => n)
  obtain ⟨t, _, hf, hix⟩ := Pipeline.Window.exists_flush_same_index (cfg0.win 2) rfl t₀
  obtain rfl : t = t₀ := idx_inj t t₀ hix
  obtain rfl : grid0.coords t 0 = n := congrFun h₀ 0
  exact ⟨t, hf, Eq.mpr (congrArg (fun x => x ∈ ((cfg0.win 2).blk t).view.set) (hn.trans (emb2 t _ _).symm)) (((cfg0.win 2).blk t).view.emb_mem_set _)⟩

theorem cover3 (z : S65536x128.Idx) : ∃ t : Fin cfg0.N, (cfg0.win 3).flush t = true ∧ z ∈ ((cfg0.win 3).blk t).view.set := cover2 z

/-- What a point writes back is its block of the reference's tables. -/
theorem flushed2 (t : Fin cfg0.N) : (dats m 0 c).flushed 2 t = ((cfg0.win 2).blk t).view.read (Elt Ideal) (cosGoal m c) := by
  refine Eq.trans (congrArg ((cfg0.win 2).cut (grid0.coords t)) (after0_2 m c t)) ?_
  funext y
  obtain ⟨p, k, rfl⟩ : ∃ (p : Fin 1024) (k : Fin 128), y = ix2 p k := ⟨y 0, y 1, eq_ix2 y⟩
  refine (cos_at (iblk m c 0 t) (iblk m c 1 t) p k).trans ?_
  rw [turn_at]
  exact (TablesReferenceIdeal.v23_at (m ((c.tc : Thread nD τ).loc main_arg0)) (rowOf (grid0.coords t 0) p) k).symm.trans (congrArg (cosGoal m c) (emb2 t p k)).symm

theorem flushed3 (t : Fin cfg0.N) : (dats m 0 c).flushed 3 t = ((cfg0.win 3).blk t).view.read (Elt Ideal) (sinGoal m c) := by
  refine Eq.trans (congrArg ((cfg0.win 3).cut (grid0.coords t)) (after0_3 m c t)) ?_
  funext y
  obtain ⟨p, k, rfl⟩ : ∃ (p : Fin 1024) (k : Fin 128), y = ix2 p k := ⟨y 0, y 1, eq_ix2 y⟩
  refine (sin_at (iblk m c 0 t) (iblk m c 1 t) p k).trans ?_
  rw [turn_at]
  exact (TablesReferenceIdeal.v24_at (m ((c.tc : Thread nD τ).loc main_arg0)) (rowOf (grid0.coords t 0) p) k).symm.trans (congrArg (sinGoal m c) (emb3 t p k)).symm

/-- The run with both tables named. -/
theorem run_value :
    θ_run defs (onTc (τ := τ) (main (F := Ideal))) ⟨m, fun _ => 0, ρ⟩ fun r => ∀ c : Dev nD,
      r.2.mem ((c.tc : Thread nD τ).loc main_v16_0) = cosGoal m c
      ∧ r.2.mem ((c.tc : Thread nD τ).loc main_v16_1) = sinGoal m c
      ∧ r.2.mem ((c.tc : Thread nD τ).loc main_arg0) = m ((c.tc : Thread nD τ).loc main_arg0) :=
  (θ_run defs _ _).mono (fun _ h c => ⟨((h c).1 2).trans ((dats m 0 c).arrAt_eq_of_cover 2 (cosGoal m c) (fun t _ => flushed2 m c t) cover2),
      ((h c).1 3).trans ((dats m 0 c).arrAt_eq_of_cover 3 (sinGoal m c) (fun t _ => flushed3 m c t) cover3),
      ((h c).2 main_arg0 (Pipeline.mem_restRefs_of main_arg0 (by decide) (by decide))).trans (V_main_arg0 m c)⟩)
    (run_main m ρ)

end Cert.Proof.TablesIdeal

end
-- ==== Proof.lean ====
/- Every claim of the certificate, from the runs the modules under Proof/ state. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Post
public import proofs.«01_k».proof.Proof.Gen.PostIdeal
public import proofs.«01_k».proof.Proof.Gen.PostIdeal.Value
public import proofs.«01_k».proof.Proof.Gen.Post.Frame
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Gen.Pre_finite2
public import proofs.«01_k».proof.Proof.Gen.Mid
public import proofs.«01_k».proof.Proof.Gen.MidIdeal
public import proofs.«01_k».proof.Proof.Gen.MidIdeal.Value
public import proofs.«01_k».proof.Proof.Gen.Mid.Frame
public import proofs.«01_k».proof.Proof.Gen.MidReferenceIdeal
public import proofs.«01_k».proof.Proof.Gen.MidReferenceIdeal.Run
public import proofs.«01_k».proof.Proof.Gen.MidReferenceIdeal.Read
public import proofs.«01_k».proof.Proof.Gen.Pre_finite3
public import proofs.«01_k».proof.Proof.Gen.Proj
public import proofs.«01_k».proof.Proof.Gen.ProjIdeal
public import proofs.«01_k».proof.Proof.Gen.ProjIdeal.Value
public import proofs.«01_k».proof.Proof.Gen.Proj.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Rope
public import proofs.«01_k».proof.Proof.Gen.RopeIdeal
public import proofs.«01_k».proof.Proof.Gen.RopeIdeal.Value
public import proofs.«01_k».proof.Proof.Gen.Rope.Frame
public import proofs.«01_k».proof.Proof.Gen.RopeReferenceIdeal
public import proofs.«01_k».proof.Proof.Gen.RopeReferenceIdeal.Run
public import proofs.«01_k».proof.Proof.Gen.RopeReferenceIdeal.Read
public import proofs.«01_k».proof.Proof.Gen.Tables
public import proofs.«01_k».proof.Proof.Gen.TablesIdeal
public import proofs.«01_k».proof.Proof.Gen.TablesIdeal.Frame
public import proofs.«01_k».proof.Proof.Gen.Tables.Frame
public import proofs.«01_k».proof.Proof.Gen.TablesReferenceIdeal
public import proofs.«01_k».proof.Proof.Gen.TablesReferenceIdeal.Run
public import proofs.«01_k».proof.Proof.Gen.TablesReferenceIdeal.Read
public import proofs.«01_k».proof.Proof.Launch
public import proofs.«01_k».proof.Proof.Result
public import proofs.«01_k».proof.Proof.Post.Result
public import proofs.«01_k».proof.Proof.Mid.Result
public import proofs.«01_k».proof.Proof.Proj.Result
public import proofs.«01_k».proof.Proof.Rope.Result
public import proofs.«01_k».proof.Proof.Tables.Result
public import proofs.«01_k».proof.Proof.Bits.Launch
public import Idealize.ShloMosaic.Adequacy
public import Idealize.ShloMosaic.Init

@[expose] public section

noncomputable section

namespace Cert.Proof

open Idealize.ShloMosaic Idealize.SL.Sem

/-- The reference leaves its arguments alone; it has no semaphore that could be left set. -/
theorem reference_quiet : quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- With finite projections and parameters both programs end with the reference's function of the arguments. -/
theorem same_result [Cert.Pre_finite.Facts] : algebraic_KernelIdeal_ReferenceIdeal_pre_finite := fun m g m' g' hfin hargs => by
  refine ⟨fun c => Cert.Proof.KernelIdeal.goal m c, Cert.Proof.KernelIdeal.run_value m g hfin, ?_⟩
  refine (θ_run Cert.ReferenceIdeal.defs _ _).mono (fun r h c => ⟨?_, (h c).2⟩) (Cert.ReferenceIdeal.Value.run m' g')
  refine (h c).1.trans ((Cert.ReferenceIdeal.Read.val_main_v71_eq m' c).trans ?_)
  obtain ⟨h0, h1, h2⟩ := hargs c
  rw [h0, h1, h2]
  rfl

theorem post_reference_quiet : quiescent_PostReferenceIdeal := fun m ρ _ =>
  (θ_run Cert.PostReferenceIdeal.defs _ _).mono (fun r h => ⟨fun c => (h c).2, sem_eq_zero_of_no_sems (by decide) r.2⟩)
    (Cert.PostReferenceIdeal.Value.run m ρ)

/-- With finite norm weights and first projection both programs of the second call end with the reference's function of the arguments. -/
theorem post_same_result [Cert.Pre_finite2.Facts] : algebraic_PostIdeal_PostReferenceIdeal_pre_finite2 := fun m g m' g' hfin hargs => by
  refine ⟨fun c => Cert.Proof.PostIdeal.goal m c, Cert.Proof.PostIdeal.run_value m g hfin, ?_⟩
  refine (θ_run Cert.PostReferenceIdeal.defs _ _).mono (fun r h c => ⟨?_, (h c).2⟩) (Cert.PostReferenceIdeal.Value.run m' g')
  refine (h c).1.trans ((Cert.PostReferenceIdeal.Read.val_main_v35_eq m' c).trans ?_)
  obtain ⟨h0, h1, h2, h3, h4, h5, h6⟩ := hargs c
  rw [h0, h1, h2, h3, h4, h5, h6]
  rfl

theorem mid_reference_quiet : quiescent_MidReferenceIdeal := fun m ρ _ =>
  (θ_run Cert.MidReferenceIdeal.defs _ _).mono (fun r h => ⟨fun c => (h c).2, sem_eq_zero_of_no_sems (by decide) r.2⟩)
    (Cert.MidReferenceIdeal.Value.run m ρ)

/-- The same for the call without the last norm. -/
theorem mid_same_result [Cert.Pre_finite3.Facts] : algebraic_MidIdeal_MidReferenceIdeal_pre_finite3 := fun m g m' g' hfin hargs => by
  refine ⟨fun c => Cert.Proof.MidIdeal.goal m c, Cert.Proof.MidIdeal.run_value m g hfin, ?_⟩
  refine (θ_run Cert.MidReferenceIdeal.defs _ _).mono (fun r h c => ⟨?_, (h c).2⟩) (Cert.MidReferenceIdeal.Value.run m' g')
  refine (h c).1.trans ((Cert.MidReferenceIdeal.Read.val_main_v22_eq m' c).trans ?_)
  obtain ⟨h0, h1, h2, h3, h4, h5⟩ := hargs c
  rw [h0, h1, h2, h3, h4, h5]
  rfl

theorem proj_reference_quiet : quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run m ρ)

/-- Whatever the arguments, both programs of the input projection end with the reference's function of them. -/
theorem proj_same_result : algebraic_ProjIdeal_ProjReferenceIdeal := fun m g m' g' _ hargs => by
  refine ⟨fun c => Cert.Proof.ProjIdeal.goal m c, Cert.Proof.ProjIdeal.run_value m g, ?_⟩
  refine (θ_run Cert.ProjReferenceIdeal.defs _ _).mono (fun r h c => ⟨?_, (h c).2⟩) (Cert.ProjReferenceIdeal.Value.run m' g')
  refine (h c).1.trans ((Cert.ProjReferenceIdeal.Read.val_main_v14_eq _ _ _).trans ?_)
  obtain ⟨h0, h1, h2⟩ := hargs c
  rw [h0, h1, h2]
  rfl

/-- The reference of the projection with its rotation leaves its arguments alone. -/
theorem rope_reference_quiet : quiescent_RopeReferenceIdeal := fun m ρ _ =>
  (θ_run Cert.RopeReferenceIdeal.defs _ _).mono (fun r h => ⟨fun c => (h c).2, sem_eq_zero_of_no_sems (by decide) r.2⟩)
    (Cert.RopeReferenceIdeal.Value.run m ρ)

/-- Whatever the arguments, both programs of the projection with its rotation end with the reference's function of them. -/
theorem rope_same_result : algebraic_RopeIdeal_RopeReferenceIdeal := fun m g m' g' _ hargs => by
  refine ⟨fun c => Cert.Proof.RopeIdeal.goal m c, Cert.Proof.RopeIdeal.run_value m g, ?_⟩
  refine (θ_run Cert.RopeReferenceIdeal.defs _ _).mono (fun r h c => ⟨?_, (h c).2⟩) (Cert.RopeReferenceIdeal.Value.run m' g')
  refine (h c).1.trans ((Cert.RopeReferenceIdeal.Read.val_main_v57_eq m' c).trans ?_)
  obtain ⟨h0, h1, h2, h3, h4⟩ := hargs c
  rw [h0, h1, h2, h3, h4]
  rfl

/-- The reference of the rotation tables leaves its argument alone. -/
theorem tables_reference_quiet : quiescent_TablesReferenceIdeal := fun m ρ _ =>
  (θ_run Cert.TablesReferenceIdeal.defs _ _).mono (fun r h => ⟨fun c => (h c).2.2, sem_eq_zero_of_no_sems (by decide) r.2⟩)
    (Cert.TablesReferenceIdeal.Value.run m ρ)

/-- Whatever the positions, both programs of the rotation tables end with the reference's two tables. -/
theorem tables_same_result : algebraic_TablesIdeal_TablesReferenceIdeal := fun m g m' g' _ hargs => by
  refine ⟨fun c => Cert.Proof.TablesIdeal.cosGoal m c, fun c => Cert.Proof.TablesIdeal.sinGoal m c, Cert.Proof.TablesIdeal.run_value m g, ?_⟩
  refine (θ_run Cert.TablesReferenceIdeal.defs _ _).mono (fun r h c => ⟨?_, ?_, (h c).2.2⟩) (Cert.TablesReferenceIdeal.Value.run m' g')
  · refine (h c).1.trans ((Cert.TablesReferenceIdeal.Read.val_main_v23_eq _).trans ?_)
    rw [hargs c]
    rfl
  · refine (h c).2.1.trans ((Cert.TablesReferenceIdeal.Read.val_main_v24_eq _).trans ?_)
    rw [hargs c]
    rfl

theorem claim : Cert.Claim := ⟨Cert.Kernel.Gen.facts, Cert.KernelIdeal.Gen.facts, Cert.ReferenceIdeal.Gen.facts, Cert.Post.Gen.facts, Cert.PostIdeal.Gen.facts,
  Cert.PostReferenceIdeal.Gen.facts, Cert.Mid.Gen.facts, Cert.MidIdeal.Gen.facts, Cert.MidReferenceIdeal.Gen.facts, Cert.Proj.Gen.facts, Cert.ProjIdeal.Gen.facts,
  Cert.ProjReferenceIdeal.Gen.facts, Cert.Rope.Gen.facts, Cert.RopeIdeal.Gen.facts, Cert.RopeReferenceIdeal.Gen.facts,
  Cert.Tables.Gen.facts, Cert.TablesIdeal.Gen.facts, Cert.TablesReferenceIdeal.Gen.facts,
  Cert.Pre_finite.Gen.facts, Cert.Pre_finite2.Gen.facts, Cert.Pre_finite3.Gen.facts,
  fun m ρ _ => Cert.Proof.Kernel.quiet m ρ,
  fun m ρ _ => Cert.Proof.KernelIdeal.quiet m ρ,
  fun m ρ _ => Cert.Proof.KernelIdeal.quiet m ρ,
  reference_quiet,
  fun m ρ _ => reference_quiet m ρ trivial,
  fun m ρ _ => Cert.Post.Gen.frame m ρ,
  fun m ρ _ => Cert.PostIdeal.Gen.frame m ρ,
  fun m ρ _ => Cert.PostIdeal.Gen.frame m ρ,
  post_reference_quiet,
  fun m ρ _ => post_reference_quiet m ρ trivial,
  fun m ρ _ => Cert.Mid.Gen.frame m ρ,
  fun m ρ _ => Cert.MidIdeal.Gen.frame m ρ,
  fun m ρ _ => Cert.MidIdeal.Gen.frame m ρ,
  mid_reference_quiet,
  fun m ρ _ => mid_reference_quiet m ρ trivial,
  fun m ρ _ => Cert.Proj.Gen.frame m ρ,
  fun m ρ _ => Cert.ProjIdeal.Gen.frame m ρ,
  proj_reference_quiet,
  fun m ρ _ => Cert.Rope.Gen.frame m ρ,
  fun m ρ _ => Cert.RopeIdeal.Gen.frame m ρ,
  rope_reference_quiet,
  fun m ρ _ => Cert.Tables.Gen.frame m ρ,
  fun m ρ _ => Cert.TablesIdeal.Gen.frame m ρ,
  tables_reference_quiet,
  IdealRules.named_const.statement Cert.KernelIdeal.κ "mask" .f32 0xFF7F0000#32 ⊥ rfl,
  letI := Cert.Pre_finite.Gen.facts; same_result,
  trivial,
  letI := Cert.Pre_finite2.Gen.facts; post_same_result,
  trivial,
  letI := Cert.Pre_finite3.Gen.facts; mid_same_result,
  trivial,
  proj_same_result,
  IdealRules.named_const.statement Cert.RopeIdeal.κ "q_scale" .f32 0x3E38AA3B#32 (((8 * Real.log 2)⁻¹ : ℝ) : EReal) rfl,
  rope_same_result,
  trivial,
  tables_same_result⟩

end Cert.Proof

end
